-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v141) = v0 c
          ∧ r.2.mem ((c.tc : Thread Cert.Reference6Ideal.nD Cert.Reference6Ideal.τ).loc Cert.Reference6Ideal.main_v138) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_1)) (v1 : (c : Dev Cert.Kernel7Ideal.nD) → Buf (Elt Ideal) ((c.tc : Thread Cert.Kernel7Ideal.nD Cert.Kernel7Ideal.τ).loc Cert.Kernel7Ideal.main_v0_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_v0_0) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "c1" .f32 0x3FC48605#32 ((8388608 / 5463681 : ℝ) : EReal)
  ∧ IdealRules.named_const.Statement Cert.Kernel8Ideal.κ "c2" .f32 0x42C8E6D3#32 ((268435456 / 2672307 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  IdealRules.named_const.Statement Cert.Kernel9Ideal.κ "c1" .f32 0x3FC48605#32 ((8388608 / 5463681 : ℝ) : EReal)
  ∧ IdealRules.named_const.Statement Cert.Kernel9Ideal.κ "c2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "c1" .f32 0x3FC48605#32 ((8388608 / 5463681 : ℝ) : EReal)
  ∧ IdealRules.named_const.Statement Cert.Kernel10Ideal.κ "c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "c1" .f32 0x3FC48605#32 ((8388608 / 5463681 : ℝ) : EReal)
  ∧ IdealRules.named_const.Statement Cert.Kernel11Ideal.κ "c2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v144) = v0 c
          ∧ r.2.mem ((c.tc : Thread Cert.Reference14Ideal.nD Cert.Reference14Ideal.τ).loc Cert.Reference14Ideal.main_v136) = v1 c
          ∧ r.2.mem ((c.tc : Thread Cert.Reference14Ideal.nD Cert.Reference14Ideal.τ).loc Cert.Reference14Ideal.main_v145) = v2 c
          ∧ r.2.mem ((c.tc : Thread Cert.Reference14Ideal.nD Cert.Reference14Ideal.τ).loc Cert.Reference14Ideal.main_v147) = v3 c
          ∧ r.2.mem ((c.tc : Thread Cert.Reference14Ideal.nD Cert.Reference14Ideal.τ).loc Cert.Reference14Ideal.main_v146) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v58) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v84) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_v13) = v1 c
          ∧ r.2.mem ((c.tc : Thread Cert.Reference17Ideal.nD Cert.Reference17Ideal.τ).loc Cert.Reference17Ideal.main_v43) = v2 c
          ∧ r.2.mem ((c.tc : Thread Cert.Reference17Ideal.nD Cert.Reference17Ideal.τ).loc Cert.Reference17Ideal.main_v44) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v22) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Kernel.lean ====
abbrev S8x4096x128 : Shape := ⟨3, ![8, 4096, 128]⟩
abbrev S4096x1024 : Shape := ⟨2, ![4096, 1024]⟩
abbrev S8x32x128x128 : Shape := ⟨4, ![8, 32, 128, 128]⟩
abbrev S8x128x128 : Shape := ⟨3, ![8, 128, 128]⟩
abbrev S128x1024 : Shape := ⟨2, ![128, 1024]⟩
abbrev S8x1x128x128 : Shape := ⟨4, ![8, 1, 128, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x1x128x128 : Shape := ⟨4, ![1, 1, 128, 128]⟩

abbrev nBuf : Space → Nat
  | .hbm => 19
  | .vmem => 46
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S8x4096x128, .f32⟩
  | .hbm, ⟨4, _⟩ => ⟨S8x4096x128, .f32⟩
  | .hbm, ⟨5, _⟩ => ⟨S8x4096x128, .f32⟩
  | .hbm, ⟨6, _⟩ => ⟨S4096x1024, .f32⟩
  | .hbm, ⟨7, _⟩ => ⟨S8x4096x128, .bf16⟩
  | .hbm, ⟨8, _⟩ => ⟨S8x4096x128, .bf16⟩
  | .hbm, ⟨9, _⟩ => ⟨S8x4096x128, .bf16⟩
  | .hbm, ⟨10, _⟩ => ⟨S8x4096x128, .bf16⟩
  | .hbm, ⟨11, _⟩ => ⟨S4096x1024, .f32⟩
  | .hbm, ⟨12, _⟩ => ⟨S8x32x128x128, .f32⟩
  | .hbm, ⟨13, _⟩ => ⟨S8x4096x128, .f32⟩
  | .hbm, ⟨14, _⟩ => ⟨S8x4096x128, .f32⟩
  | .hbm, ⟨15, _⟩ => ⟨S8x4096x128, .f32⟩
  | .hbm, ⟨16, _⟩ => ⟨S8x4096x128, .f32⟩
  | .hbm, ⟨17, _⟩ => ⟨S8x4096x128, .f32⟩
  | .hbm, ⟨18, _⟩ => ⟨S8x4096x128, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .bf16⟩
  | .local _ .vmem, ⟨3, _⟩ => ⟨S8x128x128, .bf16⟩
  | .local _ .vmem, ⟨4, _⟩ => ⟨S8x128x128, .bf16⟩
  | .local _ .vmem, ⟨5, _⟩ => ⟨S8x128x128, .bf16⟩
  | .local _ .vmem, ⟨6, _⟩ => ⟨S8x128x128, .bf16⟩
  | .local _ .vmem, ⟨7, _⟩ => ⟨S8x128x128, .bf16⟩
  | .local _ .vmem, ⟨8, _⟩ => ⟨S8x128x128, .bf16⟩
  | .local _ .vmem, ⟨9, _⟩ => ⟨S8x128x128, .bf16⟩
  | .local _ .vmem, ⟨10, _⟩ => ⟨S8x128x128, .f32⟩
  | .local _ .vmem, ⟨11, _⟩ => ⟨S8x128x128, .f32⟩
  | .local _ .vmem, ⟨12, _⟩ => ⟨S128x1024, .f32⟩
  | .local _ .vmem, ⟨13, _⟩ => ⟨S128x1024, .f32⟩
  | .local _ .vmem, ⟨14, _⟩ => ⟨S8x1x128x128, .f32⟩
  | .local _ .vmem, ⟨15, _⟩ => ⟨S8x1x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .bf16⟩
  | .local _ .vmem, ⟨20, _⟩ => ⟨S8x128x128, .bf16⟩
  | .local _ .vmem, ⟨21, _⟩ => ⟨S8x128x128, .bf16⟩
  | .local _ .vmem, ⟨22, _⟩ => ⟨S8x128x128, .bf16⟩
  | .local _ .vmem, ⟨23, _⟩ => ⟨S8x128x128, .bf16⟩
  | .local _ .vmem, ⟨24, _⟩ => ⟨S8x128x128, .bf16⟩
  | .local _ .vmem, ⟨25, _⟩ => ⟨S8x128x128, .bf16⟩
  | .local _ .vmem, ⟨26, _⟩ => ⟨S8x128x128, .bf16⟩
  | .local _ .vmem, ⟨27, _⟩ => ⟨S8x128x128, .f32⟩
  | .local _ .vmem, ⟨28, _⟩ => ⟨S8x128x128, .f32⟩
  | .local _ .vmem, ⟨29, _⟩ => ⟨S8x1x128x128, .f32⟩
  | .local _ .vmem, ⟨30, _⟩ => ⟨S8x1x128x128, .f32⟩
  | .local _ .vmem, ⟨31, _⟩ => ⟨S128x1024, .f32⟩
  | .local _ .vmem, ⟨32, _⟩ => ⟨S128x1024, .f32⟩
  | .local _ .vmem, ⟨33, _⟩ => ⟨S8x128x128, .f32⟩
  | .local _ .vmem, ⟨34, _⟩ => ⟨S8x128x128, .f32⟩
  | .local _ .vmem, ⟨35, _⟩ => ⟨S8x128x128, .f32⟩
  | .local _ .vmem, ⟨36, _⟩ => ⟨S8x128x128, .f32⟩
  | .local _ .vmem, ⟨37, _⟩ => ⟨S8x128x128, .f32⟩
  | .local _ .vmem, ⟨38, _⟩ => ⟨S8x128x128, .f32⟩
  | .local _ .vmem, ⟨39, _⟩ => ⟨S8x128x128, .f32⟩
  | .local _ .vmem, ⟨40, _⟩ => ⟨S8x128x128, .f32⟩
  | .local _ .vmem, ⟨41, _⟩ => ⟨S8x128x128, .f32⟩
  | .local _ .vmem, ⟨42, _⟩ => ⟨S8x128x128, .f32⟩
  | .local _ .vmem, ⟨43, _⟩ => ⟨S8x128x128, .f32⟩
  | .local _ .vmem, ⟨44, _⟩ => ⟨S8x128x128, .f32⟩
  | .local _ .vmem, ⟨45, _⟩ => ⟨S8x128x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_7 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x128x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8x4096x128 : Shape := ⟨3, ![8, 4096, 128]⟩
abbrev S4096x1024 : Shape := ⟨2, ![4096, 1024]⟩
abbrev S8x32x128x128 : Shape := ⟨4, ![8, 32, 128, 128]⟩
abbrev S32x8x128x128 : Shape := ⟨4, ![32, 8, 128, 128]⟩
abbrev S32x8x1x128 : Shape := ⟨4, ![32, 8, 1, 128]⟩
abbrev S32x8x128 : Shape := ⟨3, ![32, 8, 128]⟩
abbrev S_ : Shape := ⟨0, ![]⟩
abbrev S8x128x128 : Shape := ⟨3, ![8, 128, 128]⟩
abbrev S1x8x128x128 : Shape := ⟨4, ![1, 8, 128, 128]⟩
abbrev S1x8x128 : Shape := ⟨3, ![1, 8, 128]⟩
abbrev S8x128 : Shape := ⟨2, ![8, 128]⟩
abbrev S8x1x128 : Shape := ⟨3, ![8, 1, 128]⟩
abbrev S1x8x1x128 : Shape := ⟨4, ![1, 8, 1, 128]⟩
abbrev S32x128x8x128 : Shape := ⟨4, ![32, 128, 8, 128]⟩

abbrev nBuf : Space → Nat
  | .hbm => 275
  | .vmem => 0
  | .smem => 0
  | _ => 0

abbrev hbmTy0_0 (i : Nat) : BufTy := match i % 128 with
  | 0 => ⟨S8x4096x128, .f32⟩
  | 1 => ⟨S8x4096x128, .f32⟩
  | 2 => ⟨S8x4096x128, .f32⟩
  | 3 => ⟨S8x4096x128, .f32⟩
  | 4 => ⟨S8x4096x128, .f32⟩
  | 5 => ⟨S8x4096x128, .f32⟩
  | 6 => ⟨S4096x1024, .f32⟩
  | 7 => ⟨S8x32x128x128, .f32⟩
  | 8 => ⟨S32x8x128x128, .f32⟩
  | 9 => ⟨S8x32x128x128, .f32⟩
  | 10 => ⟨S32x8x128x128, .f32⟩
  | 11 => ⟨S8x32x128x128, .f32⟩
  | 12 => ⟨S32x8x128x128, .f32⟩
  | 13 => ⟨S8x32x128x128, .f32⟩
  | 14 => ⟨S32x8x128x128, .f32⟩
  | 15 => ⟨S8x32x128x128, .f32⟩
  | 16 => ⟨S32x8x128x128, .f32⟩
  | 17 => ⟨S8x32x128x128, .f32⟩
  | 18 => ⟨S32x8x128x128, .f32⟩
  | 19 => ⟨S32x8x1x128, .f32⟩
  | 20 => ⟨S32x8x128, .f32⟩
  | 21 => ⟨S_, .f32⟩
  | 22 => ⟨S8x128x128, .f32⟩
  | 23 => ⟨S_, .f32⟩
  | 24 => ⟨S32x8x128x128, .f32⟩
  | 25 => ⟨S_, .f32⟩
  | 26 => ⟨S32x8x128x128, .f32⟩
  | 27 => ⟨S_, .f32⟩
  | 28 => ⟨S32x8x128x128, .f32⟩
  | 29 => ⟨S_, .f32⟩
  | 30 => ⟨S32x8x128, .f32⟩
  | 31 => ⟨S_, .f32⟩
  | 32 => ⟨S32x8x1x128, .f32⟩
  | 33 => ⟨S_, .i32⟩
  | 34 => ⟨S32x8x128x128, .f32⟩
  | 35 => ⟨S32x8x128x128, .f32⟩
  | 36 => ⟨S32x8x128x128, .f32⟩
  | 37 => ⟨S32x8x128x128, .f32⟩
  | 38 => ⟨S32x8x128x128, .f32⟩
  | 39 => ⟨S32x8x128, .f32⟩
  | 40 => ⟨S_, .i32⟩
  | 41 => ⟨S8x128x128, .f32⟩
  | 42 => ⟨S32x8x128x128, .f32⟩
  | 43 => ⟨S32x8x128x128, .f32⟩
  | 44 => ⟨S32x8x128x128, .f32⟩
  | 45 => ⟨S32x8x128, .f32⟩
  | 46 => ⟨S32x8x1x128, .f32⟩
  | 47 => ⟨S_, .i32⟩
  | 48 => ⟨S_, .i1⟩
  | 49 => ⟨S_, .i32⟩
  | 50 => ⟨S_, .i32⟩
  | 51 => ⟨S_, .i32⟩
  | 52 => ⟨S1x8x128x128, .f32⟩
  | 53 => ⟨S8x128x128, .f32⟩
  | 54 => ⟨S_, .i32⟩
  | 55 => ⟨S_, .i32⟩
  | 56 => ⟨S_, .i32⟩
  | 57 => ⟨S1x8x128x128, .f32⟩
  | 58 => ⟨S8x128x128, .f32⟩
  | 59 => ⟨S_, .i32⟩
  | 60 => ⟨S_, .i32⟩
  | 61 => ⟨S_, .i32⟩
  | 62 => ⟨S1x8x128x128, .f32⟩
  | 63 => ⟨S8x128x128, .f32⟩
  | 64 => ⟨S_, .i32⟩
  | 65 => ⟨S_, .i32⟩
  | 66 => ⟨S_, .i32⟩
  | 67 => ⟨S1x8x128x128, .f32⟩
  | 68 => ⟨S8x128x128, .f32⟩
  | 69 => ⟨S_, .i32⟩
  | 70 => ⟨S_, .i32⟩
  | 71 => ⟨S_, .i32⟩
  | 72 => ⟨S1x8x128x128, .f32⟩
  | 73 => ⟨S8x128x128, .f32⟩
  | 74 => ⟨S_, .i32⟩
  | 75 => ⟨S_, .i32⟩
  | 76 => ⟨S1x8x128, .f32⟩
  | 77 => ⟨S8x128, .f32⟩
  | 78 => ⟨S8x128x128, .f32⟩
  | 79 => ⟨S8x128x128, .f32⟩
  | 80 => ⟨S8x128x128, .f32⟩
  | 81 => ⟨S8x128x128, .f32⟩
  | 82 => ⟨S8x128x128, .f32⟩
  | 83 => ⟨S8x128, .f32⟩
  | 84 => ⟨S8x1x128, .f32⟩
  | 85 => ⟨S8x128x128, .f32⟩
  | 86 => ⟨S8x128x128, .f32⟩
  | 87 => ⟨S8x128x128, .f32⟩
  | 88 => ⟨S8x128x128, .f32⟩
  | 89 => ⟨S1x8x128x128, .f32⟩
  | 90 => ⟨S_, .i32⟩
  | 91 => ⟨S_, .i32⟩
  | 92 => ⟨S_, .i32⟩
  | 93 => ⟨S32x8x128x128, .f32⟩
  | 94 => ⟨S1x8x128x128, .f32⟩
  | 95 => ⟨S_, .i32⟩
  | 96 => ⟨S_, .i32⟩
  | 97 => ⟨S_, .i32⟩
  | 98 => ⟨S32x8x128x128, .f32⟩
  | 99 => ⟨S1x8x128x128, .f32⟩
  | 100 => ⟨S_, .i32⟩
  | 101 => ⟨S_, .i32⟩
  | 102 => ⟨S_, .i32⟩
  | 103 => ⟨S32x8x128x128, .f32⟩
  | 104 => ⟨S1x8x128, .f32⟩
  | 105 => ⟨S_, .i32⟩
  | 106 => ⟨S_, .i32⟩
  | 107 => ⟨S32x8x128, .f32⟩
  | 108 => ⟨S1x8x1x128, .f32⟩
  | 109 => ⟨S_, .i32⟩
  | 110 => ⟨S_, .i32⟩
  | 111 => ⟨S_, .i32⟩
  | 112 => ⟨S32x8x1x128, .f32⟩
  | 113 => ⟨S_, .i32⟩
  | 114 => ⟨S_, .i32⟩
  | 115 => ⟨S32x128x8x128, .f32⟩
  | 116 => ⟨S4096x1024, .f32⟩
  | 117 => ⟨S_, .f32⟩
  | 118 => ⟨S8x128x128, .f32⟩
  | 119 => ⟨S32x128x8x128, .f32⟩
  | 120 => ⟨S32x8x128x128, .f32⟩
  | 121 => ⟨S_, .f32⟩
  | 122 => ⟨S8x128x128, .f32⟩
  | 123 => ⟨S_, .f32⟩
  | 124 => ⟨S32x8x128x128, .f32⟩
  | 125 => ⟨S_, .f32⟩
  | 126 => ⟨S32x8x128x128, .f32⟩
  | 127 => ⟨S_, .f32⟩
  | _ => ⟨S8x4096x128, .f32⟩

abbrev hbmTy0_1 (i : Nat) : BufTy := match i % 128 with
  | 0 => ⟨S32x8x128x128, .f32⟩
  | 1 => ⟨S_, .f32⟩
  | 2 => ⟨S32x8x128x128, .f32⟩
  | 3 => ⟨S_, .f32⟩
  | 4 => ⟨S32x8x128x128, .f32⟩
  | 5 => ⟨S_, .f32⟩
  | 6 => ⟨S32x8x128, .f32⟩
  | 7 => ⟨S_, .i32⟩
  | 8 => ⟨S32x8x128x128, .f32⟩
  | 9 => ⟨S32x8x128x128, .f32⟩
  | 10 => ⟨S32x8x128x128, .f32⟩
  | 11 => ⟨S32x8x128x128, .f32⟩
  | 12 => ⟨S32x8x128x128, .f32⟩
  | 13 => ⟨S32x8x128x128, .f32⟩
  | 14 => ⟨S32x8x128, .f32⟩
  | 15 => ⟨S32x8x1x128, .f32⟩
  | 16 => ⟨S32x8x128x128, .f32⟩
  | 17 => ⟨S_, .i32⟩
  | 18 => ⟨S8x128x128, .f32⟩
  | 19 => ⟨S32x8x128x128, .f32⟩
  | 20 => ⟨S32x8x128x128, .f32⟩
  | 21 => ⟨S32x8x128x128, .f32⟩
  | 22 => ⟨S32x8x128x128, .f32⟩
  | 23 => ⟨S32x8x128x128, .f32⟩
  | 24 => ⟨S32x8x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S1x8x128x128, .f32⟩
  | 35 => ⟨S8x128x128, .f32⟩
  | 36 => ⟨S_, .i32⟩
  | 37 => ⟨S_, .i32⟩
  | 38 => ⟨S_, .i32⟩
  | 39 => ⟨S1x8x128x128, .f32⟩
  | 40 => ⟨S8x128x128, .f32⟩
  | 41 => ⟨S_, .i32⟩
  | 42 => ⟨S_, .i32⟩
  | 43 => ⟨S_, .i32⟩
  | 44 => ⟨S1x8x128x128, .f32⟩
  | 45 => ⟨S8x128x128, .f32⟩
  | 46 => ⟨S_, .i32⟩
  | 47 => ⟨S_, .i32⟩
  | 48 => ⟨S_, .i32⟩
  | 49 => ⟨S1x8x128x128, .f32⟩
  | 50 => ⟨S8x128x128, .f32⟩
  | 51 => ⟨S_, .i32⟩
  | 52 => ⟨S_, .i32⟩
  | 53 => ⟨S_, .i32⟩
  | 54 => ⟨S1x8x128x128, .f32⟩
  | 55 => ⟨S8x128x128, .f32⟩
  | 56 => ⟨S_, .i32⟩
  | 57 => ⟨S_, .i32⟩
  | 58 => ⟨S_, .i32⟩
  | 59 => ⟨S1x8x128x128, .f32⟩
  | 60 => ⟨S8x128x128, .f32⟩
  | 61 => ⟨S_, .i32⟩
  | 62 => ⟨S_, .i32⟩
  | 63 => ⟨S1x8x128, .f32⟩
  | 64 => ⟨S8x128, .f32⟩
  | 65 => ⟨S_, .i32⟩
  | 66 => ⟨S_, .i32⟩
  | 67 => ⟨S_, .i32⟩
  | 68 => ⟨S1x8x1x128, .f32⟩
  | 69 => ⟨S8x1x128, .f32⟩
  | 70 => ⟨S_, .i32⟩
  | 71 => ⟨S_, .i32⟩
  | 72 => ⟨S_, .i32⟩
  | 73 => ⟨S1x8x128x128, .f32⟩
  | 74 => ⟨S8x128x128, .f32⟩
  | 75 => ⟨S8x128x128, .f32⟩
  | 76 => ⟨S8x128x128, .f32⟩
  | 77 => ⟨S8x128x128, .f32⟩
  | 78 => ⟨S8x128x128, .f32⟩
  | 79 => ⟨S8x128x128, .f32⟩
  | 80 => ⟨S_, .f32⟩
  | 81 => ⟨S8x128, .f32⟩
  | 82 => ⟨S8x1x128, .f32⟩
  | 83 => ⟨S8x128x128, .f32⟩
  | 84 => ⟨S8x128x128, .f32⟩
  | 85 => ⟨S_, .f32⟩
  | 86 => ⟨S8x128, .f32⟩
  | 87 => ⟨S8x128, .f32⟩
  | 88 => ⟨S8x128x128, .f32⟩
  | 89 => ⟨S8x128x128, .f32⟩
  | 90 => ⟨S8x128x128, .f32⟩
  | 91 => ⟨S8x128x128, .f32⟩
  | 92 => ⟨S8x128x128, .f32⟩
  | 93 => ⟨S8x128x128, .f32⟩
  | 94 => ⟨S8x128x128, .f32⟩
  | 95 => ⟨S8x128x128, .f32⟩
  | 96 => ⟨S8x128x128, .f32⟩
  | 97 => ⟨S8x128x128, .f32⟩
  | 98 => ⟨S8x128x128, .f32⟩
  | 99 => ⟨S8x128x128, .f32⟩
  | 100 => ⟨S8x128x128, .f32⟩
  | 101 => ⟨S1x8x128x128, .f32⟩
  | 102 => ⟨S_, .i32⟩
  | 103 => ⟨S_, .i32⟩
  | 104 => ⟨S_, .i32⟩
  | 105 => ⟨S32x8x128x128, .f32⟩
  | 106 => ⟨S1x8x128x128, .f32⟩
  | 107 => ⟨S_, .i32⟩
  | 108 => ⟨S_, .i32⟩
  | 109 => ⟨S_, .i32⟩
  | 110 => ⟨S32x8x128x128, .f32⟩
  | 111 => ⟨S1x8x128x128, .f32⟩
  | 112 => ⟨S_, .i32⟩
  | 113 => ⟨S_, .i32⟩
  | 114 => ⟨S_, .i32⟩
  | 115 => ⟨S32x8x128x128, .f32⟩
  | 116 => ⟨S1x8x128x128, .f32⟩
  | 117 => ⟨S_, .i32⟩
  | 118 => ⟨S_, .i32⟩
  | 119 => ⟨S_, .i32⟩
  | 120 => ⟨S32x8x128x128, .f32⟩
  | 121 => ⟨S1x8x128x128, .f32⟩
  | 122 => ⟨S_, .i32⟩
  | 123 => ⟨S_, .i32⟩
  | 124 => ⟨S_, .i32⟩
  | 125 => ⟨S32x8x128x128, .f32⟩
  | 126 => ⟨S1x8x128, .f32⟩
  | 127 => ⟨S_, .i32⟩
  | _ => ⟨S8x4096x128, .f32⟩

abbrev hbmTy0_2 (i : Nat) : BufTy := match i % 128 with
  | 0 => ⟨S_, .i32⟩
  | 1 => ⟨S32x8x128, .f32⟩
  | 2 => ⟨S_, .i32⟩
  | 3 => ⟨S_, .i32⟩
  | 4 => ⟨S32x8x1x128, .f32⟩
  | 5 => ⟨S_, .f32⟩
  | 6 => ⟨S32x8x128x128, .f32⟩
  | 7 => ⟨S8x32x128x128, .f32⟩
  | 8 => ⟨S8x4096x128, .f32⟩
  | 9 => ⟨S8x32x128x128, .f32⟩
  | 10 => ⟨S8x4096x128, .f32⟩
  | 11 => ⟨S8x32x128x128, .f32⟩
  | 12 => ⟨S8x4096x128, .f32⟩
  | 13 => ⟨S8x32x128x128, .f32⟩
  | 14 => ⟨S8x4096x128, .f32⟩
  | 15 => ⟨S8x32x128x128, .f32⟩
  | 16 => ⟨S8x4096x128, .f32⟩
  | 17 => ⟨S8x32x128x128, .f32⟩
  | 18 => ⟨S8x4096x128, .f32⟩
  | _ => ⟨S8x4096x128, .f32⟩

abbrev hbmTy (i : Nat) : BufTy := match i / 128 with
  | 0 => hbmTy0_0 i
  | 1 => hbmTy0_1 i
  | 2 => hbmTy0_2 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_c : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev main_v20_5 : Ref sig .tc := ⟨.hbm, 39, rfl⟩
abbrev main_v20_6 : Ref sig .tc := ⟨.hbm, 40, rfl⟩
abbrev main_v20_7 : Ref sig .tc := ⟨.hbm, 41, rfl⟩
abbrev main_v20_8 : Ref sig .tc := ⟨.hbm, 42, rfl⟩
abbrev main_v20_9 : Ref sig .tc := ⟨.hbm, 43, rfl⟩
abbrev main_v20_10 : Ref sig .tc := ⟨.hbm, 44, rfl⟩
abbrev main_v20_11 : Ref sig .tc := ⟨.hbm, 45, rfl⟩
abbrev main_v20_12 : Ref sig .tc := ⟨.hbm, 46, rfl⟩
abbrev main_while0c_c_27 : Ref sig .tc := ⟨.hbm, 47, rfl⟩
abbrev main_while0c_v48 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_v0 : Ref sig .tc := ⟨.hbm, 52, rfl⟩
abbrev main_while0b_v48 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_v0 : Ref sig .tc := ⟨.hbm, 57, rfl⟩
abbrev main_while0b_v49 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_v0 : Ref sig .tc := ⟨.hbm, 62, rfl⟩
abbrev main_while0b_v50 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_v0 : Ref sig .tc := ⟨.hbm, 67, rfl⟩
abbrev main_while0b_v51 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_v0 : Ref sig .tc := ⟨.hbm, 72, rfl⟩
abbrev main_while0b_v52 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_v0 : Ref sig .tc := ⟨.hbm, 76, rfl⟩
abbrev main_while0b_v53 : Ref sig .tc := ⟨.hbm, 77, rfl⟩
abbrev main_while0b_v54 : Ref sig .tc := ⟨.hbm, 78, rfl⟩
abbrev main_while0b_v55 : Ref sig .tc := ⟨.hbm, 79, rfl⟩
abbrev main_while0b_v56 : Ref sig .tc := ⟨.hbm, 80, rfl⟩
abbrev main_while0b_v57 : Ref sig .tc := ⟨.hbm, 81, rfl⟩
abbrev main_while0b_v58 : Ref sig .tc := ⟨.hbm, 82, rfl⟩
abbrev main_while0b_v59 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_call6_v0 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_v65 : Ref sig .tc := ⟨.hbm, 93, rfl⟩
abbrev main_while0b_call7_v0 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_v66 : Ref sig .tc := ⟨.hbm, 98, rfl⟩
abbrev main_while0b_call8_v0 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_v67 : Ref sig .tc := ⟨.hbm, 103, rfl⟩
abbrev main_while0b_call9_v0 : Ref sig .tc := ⟨.hbm, 104, rfl⟩
abbrev main_while0b_call9_c : Ref sig .tc := ⟨.hbm, 105, rfl⟩
abbrev main_while0b_call9_c_0 : Ref sig .tc := ⟨.hbm, 106, rfl⟩
abbrev main_while0b_v68 : Ref sig .tc := ⟨.hbm, 107, rfl⟩
abbrev main_while0b_call10_v0 : Ref sig .tc := ⟨.hbm, 108, rfl⟩
abbrev main_while0b_call10_c : Ref sig .tc := ⟨.hbm, 109, rfl⟩
abbrev main_while0b_call10_c_0 : Ref sig .tc := ⟨.hbm, 110, rfl⟩
abbrev main_while0b_call10_c_1 : Ref sig .tc := ⟨.hbm, 111, rfl⟩
abbrev main_while0b_v69 : Ref sig .tc := ⟨.hbm, 112, rfl⟩
abbrev main_while0b_c_27 : Ref sig .tc := ⟨.hbm, 113, rfl⟩
abbrev main_while0b_v70 : Ref sig .tc := ⟨.hbm, 114, rfl⟩
abbrev main_v21 : Ref sig .tc := ⟨.hbm, 115, rfl⟩
abbrev main_v22 : Ref sig .tc := ⟨.hbm, 116, rfl⟩
abbrev main_cst_5 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_cst_6 : Ref sig .tc := ⟨.hbm, 121, rfl⟩
abbrev main_v26 : Ref sig .tc := ⟨.hbm, 122, rfl⟩
abbrev main_cst_7 : Ref sig .tc := ⟨.hbm, 123, rfl⟩
abbrev main_v27 : Ref sig .tc := ⟨.hbm, 124, rfl⟩
abbrev main_cst_8 : Ref sig .tc := ⟨.hbm, 125, rfl⟩
abbrev main_v28 : Ref sig .tc := ⟨.hbm, 126, rfl⟩
abbrev main_cst_9 : Ref sig .tc := ⟨.hbm, 127, rfl⟩
abbrev main_v29 : Ref sig .tc := ⟨.hbm, 128, rfl⟩
abbrev main_cst_10 : Ref sig .tc := ⟨.hbm, 129, rfl⟩
abbrev main_v30 : Ref sig .tc := ⟨.hbm, 130, rfl⟩
abbrev main_cst_11 : Ref sig .tc := ⟨.hbm, 131, rfl⟩
abbrev main_v31 : Ref sig .tc := ⟨.hbm, 132, rfl⟩
abbrev main_cst_12 : Ref sig .tc := ⟨.hbm, 133, rfl⟩
abbrev main_v32 : Ref sig .tc := ⟨.hbm, 134, rfl⟩
abbrev main_c_13 : Ref sig .tc := ⟨.hbm, 135, rfl⟩
abbrev main_v33_0 : Ref sig .tc := ⟨.hbm, 136, rfl⟩
abbrev main_v33_1 : Ref sig .tc := ⟨.hbm, 137, rfl⟩
abbrev main_v33_2 : Ref sig .tc := ⟨.hbm, 138, rfl⟩
abbrev main_v33_3 : Ref sig .tc := ⟨.hbm, 139, rfl⟩
abbrev main_v33_4 : Ref sig .tc := ⟨.hbm, 140, rfl⟩
abbrev main_v33_5 : Ref sig .tc := ⟨.hbm, 141, rfl⟩
abbrev main_v33_6 : Ref sig .tc := ⟨.hbm, 142, rfl⟩
abbrev main_v33_7 : Ref sig .tc := ⟨.hbm, 143, rfl⟩
abbrev main_v33_8 : Ref sig .tc := ⟨.hbm, 144, rfl⟩
abbrev main_v33_9 : Ref sig .tc := ⟨.hbm, 145, rfl⟩
abbrev main_v33_10 : Ref sig .tc := ⟨.hbm, 146, rfl⟩
abbrev main_v33_11 : Ref sig .tc := ⟨.hbm, 147, rfl⟩
abbrev main_v33_12 : Ref sig .tc := ⟨.hbm, 148, rfl⟩
abbrev main_v33_13 : Ref sig .tc := ⟨.hbm, 149, rfl⟩
abbrev main_v33_14 : Ref sig .tc := ⟨.hbm, 150, rfl⟩
abbrev main_v33_15 : Ref sig .tc := ⟨.hbm, 151, rfl⟩
abbrev main_v33_16 : Ref sig .tc := ⟨.hbm, 152, rfl⟩
abbrev main_while1c_c_31 : Ref sig .tc := ⟨.hbm, 153, rfl⟩
abbrev main_while1c_v48 : Ref sig .tc := ⟨.hbm, 154, rfl⟩
abbrev main_while1b_c_31 : Ref sig .tc := ⟨.hbm, 155, rfl⟩
abbrev main_while1b_v48 : Ref sig .tc := ⟨.hbm, 156, rfl⟩
abbrev main_while1b_c_32 : Ref sig .tc := ⟨.hbm, 157, rfl⟩
abbrev main_while1b_v49 : Ref sig .tc := ⟨.hbm, 158, rfl⟩
abbrev main_while1b_call11_c : Ref sig .tc := ⟨.hbm, 159, rfl⟩
abbrev main_while1b_call11_c_0 : Ref sig .tc := ⟨.hbm, 160, rfl⟩
abbrev main_while1b_call11_c_1 : Ref sig .tc := ⟨.hbm, 161, rfl⟩
abbrev main_while1b_call11_v0 : Ref sig .tc := ⟨.hbm, 162, rfl⟩
abbrev main_while1b_v50 : Ref sig .tc := ⟨.hbm, 163, rfl⟩
abbrev main_while1b_call12_c : Ref sig .tc := ⟨.hbm, 164, rfl⟩
abbrev main_while1b_call12_c_0 : Ref sig .tc := ⟨.hbm, 165, rfl⟩
abbrev main_while1b_call12_c_1 : Ref sig .tc := ⟨.hbm, 166, rfl⟩
abbrev main_while1b_call12_v0 : Ref sig .tc := ⟨.hbm, 167, rfl⟩
abbrev main_while1b_v51 : Ref sig .tc := ⟨.hbm, 168, rfl⟩
abbrev main_while1b_call13_c : Ref sig .tc := ⟨.hbm, 169, rfl⟩
abbrev main_while1b_call13_c_0 : Ref sig .tc := ⟨.hbm, 170, rfl⟩
abbrev main_while1b_call13_c_1 : Ref sig .tc := ⟨.hbm, 171, rfl⟩
abbrev main_while1b_call13_v0 : Ref sig .tc := ⟨.hbm, 172, rfl⟩
abbrev main_while1b_v52 : Ref sig .tc := ⟨.hbm, 173, rfl⟩
abbrev main_while1b_call14_c : Ref sig .tc := ⟨.hbm, 174, rfl⟩
abbrev main_while1b_call14_c_0 : Ref sig .tc := ⟨.hbm, 175, rfl⟩
abbrev main_while1b_call14_c_1 : Ref sig .tc := ⟨.hbm, 176, rfl⟩
abbrev main_while1b_call14_v0 : Ref sig .tc := ⟨.hbm, 177, rfl⟩
abbrev main_while1b_v53 : Ref sig .tc := ⟨.hbm, 178, rfl⟩
abbrev main_while1b_call15_c : Ref sig .tc := ⟨.hbm, 179, rfl⟩
abbrev main_while1b_call15_c_0 : Ref sig .tc := ⟨.hbm, 180, rfl⟩
abbrev main_while1b_call15_c_1 : Ref sig .tc := ⟨.hbm, 181, rfl⟩
abbrev main_while1b_call15_v0 : Ref sig .tc := ⟨.hbm, 182, rfl⟩
abbrev main_while1b_v54 : Ref sig .tc := ⟨.hbm, 183, rfl⟩
abbrev main_while1b_call16_c : Ref sig .tc := ⟨.hbm, 184, rfl⟩
abbrev main_while1b_call16_c_0 : Ref sig .tc := ⟨.hbm, 185, rfl⟩
abbrev main_while1b_call16_c_1 : Ref sig .tc := ⟨.hbm, 186, rfl⟩
abbrev main_while1b_call16_v0 : Ref sig .tc := ⟨.hbm, 187, rfl⟩
abbrev main_while1b_v55 : Ref sig .tc := ⟨.hbm, 188, rfl⟩
abbrev main_while1b_call17_c : Ref sig .tc := ⟨.hbm, 189, rfl⟩
abbrev main_while1b_call17_c_0 : Ref sig .tc := ⟨.hbm, 190, rfl⟩
abbrev main_while1b_call17_v0 : Ref sig .tc := ⟨.hbm, 191, rfl⟩
abbrev main_while1b_v56 : Ref sig .tc := ⟨.hbm, 192, rfl⟩
abbrev main_while1b_call18_c : Ref sig .tc := ⟨.hbm, 193, rfl⟩
abbrev main_while1b_call18_c_0 : Ref sig .tc := ⟨.hbm, 194, rfl⟩
abbrev main_while1b_call18_c_1 : Ref sig .tc := ⟨.hbm, 195, rfl⟩
abbrev main_while1b_call18_v0 : Ref sig .tc := ⟨.hbm, 196, rfl⟩
abbrev main_while1b_v57 : Ref sig .tc := ⟨.hbm, 197, rfl⟩
abbrev main_while1b_call19_c : Ref sig .tc := ⟨.hbm, 198, rfl⟩
abbrev main_while1b_call19_c_0 : Ref sig .tc := ⟨.hbm, 199, rfl⟩
abbrev main_while1b_call19_c_1 : Ref sig .tc := ⟨.hbm, 200, rfl⟩
abbrev main_while1b_call19_v0 : Ref sig .tc := ⟨.hbm, 201, rfl⟩
abbrev main_while1b_v58 : Ref sig .tc := ⟨.hbm, 202, rfl⟩
abbrev main_while1b_v59 : Ref sig .tc := ⟨.hbm, 203, rfl⟩
abbrev main_while1b_v60 : Ref sig .tc := ⟨.hbm, 204, rfl⟩
abbrev main_while1b_v61 : Ref sig .tc := ⟨.hbm, 205, rfl⟩
abbrev main_while1b_v62 : Ref sig .tc := ⟨.hbm, 206, rfl⟩
abbrev main_while1b_v63 : Ref sig .tc := ⟨.hbm, 207, rfl⟩
abbrev main_while1b_cst_33 : Ref sig .tc := ⟨.hbm, 208, rfl⟩
abbrev main_while1b_v64 : Ref sig .tc := ⟨.hbm, 209, rfl⟩
abbrev main_while1b_v65 : Ref sig .tc := ⟨.hbm, 210, rfl⟩
abbrev main_while1b_v66 : Ref sig .tc := ⟨.hbm, 211, rfl⟩
abbrev main_while1b_v67 : Ref sig .tc := ⟨.hbm, 212, rfl⟩
abbrev main_while1b_cst_34 : Ref sig .tc := ⟨.hbm, 213, rfl⟩
abbrev main_while1b_v68 : Ref sig .tc := ⟨.hbm, 214, rfl⟩
abbrev main_while1b_v69 : Ref sig .tc := ⟨.hbm, 215, rfl⟩
abbrev main_while1b_v70 : Ref sig .tc := ⟨.hbm, 216, rfl⟩
abbrev main_while1b_v71 : Ref sig .tc := ⟨.hbm, 217, rfl⟩
abbrev main_while1b_v72 : Ref sig .tc := ⟨.hbm, 218, rfl⟩
abbrev main_while1b_v73 : Ref sig .tc := ⟨.hbm, 219, rfl⟩
abbrev main_while1b_v74 : Ref sig .tc := ⟨.hbm, 220, rfl⟩
abbrev main_while1b_v75 : Ref sig .tc := ⟨.hbm, 221, rfl⟩
abbrev main_while1b_v76 : Ref sig .tc := ⟨.hbm, 222, rfl⟩
abbrev main_while1b_v77 : Ref sig .tc := ⟨.hbm, 223, rfl⟩
abbrev main_while1b_v78 : Ref sig .tc := ⟨.hbm, 224, rfl⟩
abbrev main_while1b_v79 : Ref sig .tc := ⟨.hbm, 225, rfl⟩
abbrev main_while1b_v80 : Ref sig .tc := ⟨.hbm, 226, rfl⟩
abbrev main_while1b_v81 : Ref sig .tc := ⟨.hbm, 227, rfl⟩
abbrev main_while1b_v82 : Ref sig .tc := ⟨.hbm, 228, rfl⟩
abbrev main_while1b_call20_v0 : Ref sig .tc := ⟨.hbm, 229, rfl⟩
abbrev main_while1b_call20_c : Ref sig .tc := ⟨.hbm, 230, rfl⟩
abbrev main_while1b_call20_c_0 : Ref sig .tc := ⟨.hbm, 231, rfl⟩
abbrev main_while1b_call20_c_1 : Ref sig .tc := ⟨.hbm, 232, rfl⟩
abbrev main_while1b_v83 : Ref sig .tc := ⟨.hbm, 233, rfl⟩
abbrev main_while1b_call21_v0 : Ref sig .tc := ⟨.hbm, 234, rfl⟩
abbrev main_while1b_call21_c : Ref sig .tc := ⟨.hbm, 235, rfl⟩
abbrev main_while1b_call21_c_0 : Ref sig .tc := ⟨.hbm, 236, rfl⟩
abbrev main_while1b_call21_c_1 : Ref sig .tc := ⟨.hbm, 237, rfl⟩
abbrev main_while1b_v84 : Ref sig .tc := ⟨.hbm, 238, rfl⟩
abbrev main_while1b_call22_v0 : Ref sig .tc := ⟨.hbm, 239, rfl⟩
abbrev main_while1b_call22_c : Ref sig .tc := ⟨.hbm, 240, rfl⟩
abbrev main_while1b_call22_c_0 : Ref sig .tc := ⟨.hbm, 241, rfl⟩
abbrev main_while1b_call22_c_1 : Ref sig .tc := ⟨.hbm, 242, rfl⟩
abbrev main_while1b_v85 : Ref sig .tc := ⟨.hbm, 243, rfl⟩
abbrev main_while1b_call23_v0 : Ref sig .tc := ⟨.hbm, 244, rfl⟩
abbrev main_while1b_call23_c : Ref sig .tc := ⟨.hbm, 245, rfl⟩
abbrev main_while1b_call23_c_0 : Ref sig .tc := ⟨.hbm, 246, rfl⟩
abbrev main_while1b_call23_c_1 : Ref sig .tc := ⟨.hbm, 247, rfl⟩
abbrev main_while1b_v86 : Ref sig .tc := ⟨.hbm, 248, rfl⟩
abbrev main_while1b_call24_v0 : Ref sig .tc := ⟨.hbm, 249, rfl⟩
abbrev main_while1b_call24_c : Ref sig .tc := ⟨.hbm, 250, rfl⟩
abbrev main_while1b_call24_c_0 : Ref sig .tc := ⟨.hbm, 251, rfl⟩
abbrev main_while1b_call24_c_1 : Ref sig .tc := ⟨.hbm, 252, rfl⟩
abbrev main_while1b_v87 : Ref sig .tc := ⟨.hbm, 253, rfl⟩
abbrev main_while1b_call25_v0 : Ref sig .tc := ⟨.hbm, 254, rfl⟩
abbrev main_while1b_call25_c : Ref sig .tc := ⟨.hbm, 255, rfl⟩
abbrev main_while1b_call25_c_0 : Ref sig .tc := ⟨.hbm, 256, rfl⟩
abbrev main_while1b_v88 : Ref sig .tc := ⟨.hbm, 257, rfl⟩
abbrev main_while1b_c_35 : Ref sig .tc := ⟨.hbm, 258, rfl⟩
abbrev main_while1b_v89 : Ref sig .tc := ⟨.hbm, 259, rfl⟩
abbrev main_v34 : Ref sig .tc := ⟨.hbm, 260, rfl⟩
abbrev main_cst_14 : Ref sig .tc := ⟨.hbm, 261, rfl⟩
abbrev main_v35 : Ref sig .tc := ⟨.hbm, 262, rfl⟩
abbrev main_v36 : Ref sig .tc := ⟨.hbm, 263, rfl⟩
abbrev main_v37 : Ref sig .tc := ⟨.hbm, 264, rfl⟩
abbrev main_v38 : Ref sig .tc := ⟨.hbm, 265, rfl⟩
abbrev main_v39 : Ref sig .tc := ⟨.hbm, 266, rfl⟩
abbrev main_v40 : Ref sig .tc := ⟨.hbm, 267, rfl⟩
abbrev main_v41 : Ref sig .tc := ⟨.hbm, 268, rfl⟩
abbrev main_v42 : Ref sig .tc := ⟨.hbm, 269, rfl⟩
abbrev main_v43 : Ref sig .tc := ⟨.hbm, 270, rfl⟩
abbrev main_v44 : Ref sig .tc := ⟨.hbm, 271, rfl⟩
abbrev main_v45 : Ref sig .tc := ⟨.hbm, 272, rfl⟩
abbrev main_v46 : Ref sig .tc := ⟨.hbm, 273, rfl⟩
abbrev main_v47 : Ref sig .tc := ⟨.hbm, 274, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S4096x1024 : Shape := ⟨2, ![4096, 1024]⟩
abbrev S4096x8320 : Shape := ⟨2, ![4096, 8320]⟩
abbrev S1024x8320 : Shape := ⟨2, ![1024, 8320]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S1024x8320, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4096x8320 : Shape := ⟨2, ![4096, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S_, .f32⟩
  | .hbm, ⟨3, _⟩ => ⟨S1024x8320, .f32⟩
  | .hbm, ⟨4, _⟩ => ⟨S4096x1024, .f32⟩
  | .hbm, ⟨5, _⟩ => ⟨S4096x8320, .f32⟩
  | .hbm, ⟨6, _⟩ => ⟨S4096x8320, .f32⟩
  | .hbm, ⟨7, _⟩ => ⟨S8320x1024, .f32⟩
  | .hbm, ⟨8, _⟩ => ⟨S1024x8320, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x8320 : Shape := ⟨2, ![4096, 8320]⟩
abbrev S1x1024x8320 : Shape := ⟨3, ![1, 1024, 8320]⟩
abbrev S4096x1024 : Shape := ⟨2, ![4096, 1024]⟩
abbrev S1x1024 : Shape := ⟨2, ![1, 1024]⟩
abbrev S1024x1664 : Shape := ⟨2, ![1024, 1664]⟩
abbrev S1x1024x1664 : Shape := ⟨3, ![1, 1024, 1664]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x8320, .bf16⟩
  | .hbm, ⟨1, _⟩ => ⟨S1x1024x8320, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_28 : BitVec 32 := 0#32
  let v54 : BitVec 1 := Scalar.cmpi .eq arg0 c0_i32_28
  let v55 : BitVec 32 := Scalar.extui v54
  let c0_i32_29 : BitVec 32 := 0#32
  let v56 : BitVec 1 := Scalar.cmpi .ne v55 c0_i32_29
  v56

def k0_cond4 (i : grid0.Coords) : BitVec 1 :=
  let arg0 : BitVec 32 := BitVec.ofNat 32 (i 0).val
  let c0_i32_30 : BitVec 32 := 0#32
  let v57 : BitVec 1 := Scalar.cmpi .sgt arg0 c0_i32_30
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S4096x8320 : Shape := ⟨2, ![4096, 8320]⟩
abbrev S1x1024x8320 : Shape := ⟨3, ![1, 1024, 8320]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x8320 : Shape := ⟨2, ![1024, 8320]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S1x1024x8320, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x8320, .bf16⟩
  | .hbm, ⟨25, _⟩ => ⟨S1024x8320, .f32⟩
  | .hbm, ⟨26, _⟩ => ⟨S4096x8320, .f32⟩
  | .hbm, ⟨27, _⟩ => ⟨S4096x8320, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1x1024x8320 : Shape := ⟨3, ![1, 1024, 8320]⟩
abbrev S4096x8320 : Shape := ⟨2, ![4096, 8320]⟩
abbrev S1024x1024 : Shape := ⟨2, ![1024, 1024]⟩
abbrev S1x1024x1664 : Shape := ⟨3, ![1, 1024, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8320, .bf16⟩
  | .hbm, ⟨3, _⟩ => ⟨S4096x8320, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1664, .bf16⟩
  | .local _ .vmem, ⟨4, _⟩ => ⟨S1x1024x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4096x1024 : Shape := ⟨2, ![4096, 1024]⟩
abbrev S1x1024 : Shape := ⟨2, ![1, 1024]⟩
abbrev S1x1024x8320 : Shape := ⟨3, ![1, 1024, 8320]⟩
abbrev S_ : Shape := ⟨0, ![]⟩
abbrev S4096 : Shape := ⟨1, ![4096]⟩
abbrev S4096x1 : Shape := ⟨2, ![4096, 1]⟩
abbrev S1024x8320 : Shape := ⟨2, ![1024, 8320]⟩
abbrev S4096x8320 : Shape := ⟨2, ![4096, 8320]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8320, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x8320, .bf16⟩
  | .hbm, ⟨19, _⟩ => ⟨S1024x8320, .f32⟩
  | .hbm, ⟨20, _⟩ => ⟨S4096x8320, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x8320 : Shape := ⟨2, ![4096, 8320]⟩
abbrev S4x3072 : Shape := ⟨2, ![4, 3072]⟩
abbrev S8x4096x128 : Shape := ⟨3, ![8, 4096, 128]⟩
abbrev S4096x3072 : Shape := ⟨2, ![4096, 3072]⟩
abbrev S4096x128 : Shape := ⟨2, ![4096, 128]⟩
abbrev S4x128 : Shape := ⟨2, ![4, 128]⟩
abbrev S1x4096x128 : Shape := ⟨3, ![1, 4096, 128]⟩
abbrev S1x128 : Shape := ⟨2, ![1, 128]⟩
abbrev S4096 : Shape := ⟨1, ![4096]⟩
abbrev S4096x1 : Shape := ⟨2, ![4096, 1]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S4096x8320, .f32⟩
  | .hbm, ⟨1, _⟩ => ⟨S4x3072, .f32⟩
  | .hbm, ⟨2, _⟩ => ⟨S8x4096x128, .f32⟩
  | .hbm, ⟨3, _⟩ => ⟨S8x4096x128, .f32⟩
  | .hbm, ⟨4, _⟩ => ⟨S8x4096x128, .f32⟩
  | .hbm, ⟨5, _⟩ => ⟨S4096x3072, .bf16⟩
  | .hbm, ⟨6, _⟩ => ⟨S4x3072, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S4096x128, .bf16⟩
  | .local _ .vmem, ⟨11, _⟩ => ⟨S4096x128, .bf16⟩
  | .local _ .vmem, ⟨12, _⟩ => ⟨S4x128, .f32⟩
  | .local _ .vmem, ⟨13, _⟩ => ⟨S4x128, .f32⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x8320 : Shape := ⟨2, ![4096, 8320]⟩
abbrev S4x3072 : Shape := ⟨2, ![4, 3072]⟩
abbrev S8x4096x128 : Shape := ⟨3, ![8, 4096, 128]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x1024 : Shape := ⟨2, ![4096, 1024]⟩
abbrev S4096x8x128 : Shape := ⟨3, ![4096, 8, 128]⟩
abbrev S8x4096 : Shape := ⟨2, ![8, 4096]⟩
abbrev S8x4096x1 : Shape := ⟨3, ![8, 4096, 1]⟩

abbrev nBuf : Space → Nat
  | .hbm => 191
  | .vmem => 0
  | .smem => 0
  | _ => 0

abbrev hbmTy0_0 (i : Nat) : BufTy := match i % 128 with
  | 0 => ⟨S4096x8320, .f32⟩
  | 1 => ⟨S4x3072, .f32⟩
  | 2 => ⟨S8x4096x128, .f32⟩
  | 3 => ⟨S8x4096x128, .f32⟩
  | 4 => ⟨S8x4096x128, .f32⟩
  | 5 => ⟨S4096x3072, .f32⟩
  | 6 => ⟨S_, .f32⟩
  | 7 => ⟨S3x3072, .f32⟩
  | 8 => ⟨S4099x3072, .f32⟩
  | 9 => ⟨S_, .f32⟩
  | 10 => ⟨S3x3072, .f32⟩
  | 11 => ⟨S1x3072, .f32⟩
  | 12 => ⟨S3072, .f32⟩
  | 13 => ⟨S4096x3072, .f32⟩
  | 14 => ⟨S1x3072, .f32⟩
  | 15 => ⟨S4096x3072, .f32⟩
  | 16 => ⟨S4096x3072, .f32⟩
  | 17 => ⟨S_, .f32⟩
  | 18 => ⟨S4096x3072, .f32⟩
  | 19 => ⟨S4096x3072, .f32⟩
  | 20 => ⟨S1x3072, .f32⟩
  | 21 => ⟨S3072, .f32⟩
  | 22 => ⟨S4096x3072, .f32⟩
  | 23 => ⟨S1x3072, .f32⟩
  | 24 => ⟨S4096x3072, .f32⟩
  | 25 => ⟨S4096x3072, .f32⟩
  | 26 => ⟨S4096x3072, .f32⟩
  | 27 => ⟨S1x3072, .f32⟩
  | 28 => ⟨S3072, .f32⟩
  | 29 => ⟨S4096x3072, .f32⟩
  | 30 => ⟨S1x3072, .f32⟩
  | 31 => ⟨S4096x3072, .f32⟩
  | 32 => ⟨S4096x3072, .f32⟩
  | 33 => ⟨S4096x3072, .f32⟩
  | 34 => ⟨S1x3072, .f32⟩
  | 35 => ⟨S3072, .f32⟩
  | 36 => ⟨S4096x3072, .f32⟩
  | 37 => ⟨S1x3072, .f32⟩
  | 38 => ⟨S4096x3072, .f32⟩
  | 39 => ⟨S4096x3072, .f32⟩
  | 40 => ⟨S4096x3072, .f32⟩
  | 41 => ⟨S4096x3072, .f32⟩
  | 42 => ⟨S4096x3072, .f32⟩
  | 43 => ⟨S_, .f32⟩
  | 44 => ⟨S4096x3072, .f32⟩
  | 45 => ⟨S4096x3072, .f32⟩
  | 46 => ⟨S_, .f32⟩
  | 47 => ⟨S4096x3072, .f32⟩
  | 48 => ⟨S4096x3072, .f32⟩
  | 49 => ⟨S_, .f32⟩
  | 50 => ⟨S4096x3072, .f32⟩
  | 51 => ⟨S4096x3072, .f32⟩
  | 52 => ⟨S4096x3072, .f32⟩
  | 53 => ⟨S4096x3072, .f32⟩
  | 54 => ⟨S4096x1024, .f32⟩
  | 55 => ⟨S4096x1024, .f32⟩
  | 56 => ⟨S4096x1024, .f32⟩
  | 57 => ⟨S4096x8x128, .f32⟩
  | 58 => ⟨S8x4096x128, .f32⟩
  | 59 => ⟨S8x4096x128, .f32⟩
  | 60 => ⟨S_, .f32⟩
  | 61 => ⟨S8x4096, .f32⟩
  | 62 => ⟨S8x4096x1, .f32⟩
  | 63 => ⟨S_, .f32⟩
  | 64 => ⟨S8x4096x1, .f32⟩
  | 65 => ⟨S8x4096x1, .f32⟩
  | 66 => ⟨S8x4096x1, .f32⟩
  | 67 => ⟨S8x4096x1, .f32⟩
  | 68 => ⟨S_, .f32⟩
  | 69 => ⟨S8x4096x1, .f32⟩
  | 70 => ⟨S8x4096x1, .f32⟩
  | 71 => ⟨S8x4096x128, .f32⟩
  | 72 => ⟨S8x4096x128, .f32⟩
  | 73 => ⟨S4096x8x128, .f32⟩
  | 74 => ⟨S8x4096x128, .f32⟩
  | 75 => ⟨S8x4096x128, .f32⟩
  | 76 => ⟨S_, .f32⟩
  | 77 => ⟨S8x4096, .f32⟩
  | 78 => ⟨S8x4096x1, .f32⟩
  | 79 => ⟨S_, .f32⟩
  | 80 => ⟨S8x4096x1, .f32⟩
  | 81 => ⟨S8x4096x1, .f32⟩
  | 82 => ⟨S8x4096x1, .f32⟩
  | 83 => ⟨S8x4096x1, .f32⟩
  | 84 => ⟨S_, .f32⟩
  | 85 => ⟨S8x4096x1, .f32⟩
  | 86 => ⟨S8x4096x1, .f32⟩
  | 87 => ⟨S8x4096x128, .f32⟩
  | 88 => ⟨S8x4096x128, .f32⟩
  | 89 => ⟨S4096x8x128, .f32⟩
  | 90 => ⟨S8x4096x128, .f32⟩
  | 91 => ⟨S4096x8x128, .f32⟩
  | 92 => ⟨S4096x1024, .f32⟩
  | 93 => ⟨S8x4096x128, .f32⟩
  | 94 => ⟨S_, .f32⟩
  | 95 => ⟨S8x4096, .f32⟩
  | 96 => ⟨S8x4096x1, .f32⟩
  | 97 => ⟨S8x4096x128, .f32⟩
  | 98 => ⟨S8x4096x128, .f32⟩
  | 99 => ⟨S8x4096x1, .f32⟩
  | 100 => ⟨S_, .f32⟩
  | 101 => ⟨S8x4096, .f32⟩
  | 102 => ⟨S8x4096x128, .f32⟩
  | 103 => ⟨S8x4096x128, .f32⟩
  | 104 => ⟨S8x4096x128, .f32⟩
  | 105 => ⟨S8x4096x128, .f32⟩
  | 106 => ⟨S8x4096x128, .f32⟩
  | 107 => ⟨S4096x8x128, .f32⟩
  | 108 => ⟨S4096x1024, .f32⟩
  | 109 => ⟨S8x4096x128, .f32⟩
  | 110 => ⟨S_, .f32⟩
  | 111 => ⟨S8x4096, .f32⟩
  | 112 => ⟨S8x4096x1, .f32⟩
  | 113 => ⟨S8x4096x128, .f32⟩
  | 114 => ⟨S8x4096x128, .f32⟩
  | 115 => ⟨S8x4096x1, .f32⟩
  | 116 => ⟨S_, .f32⟩
  | 117 => ⟨S8x4096, .f32⟩
  | 118 => ⟨S8x4096x128, .f32⟩
  | 119 => ⟨S8x4096x128, .f32⟩
  | 120 => ⟨S8x4096x128, .f32⟩
  | 121 => ⟨S8x4096x128, .f32⟩
  | 122 => ⟨S8x4096x128, .f32⟩
  | 123 => ⟨S4096x8x128, .f32⟩
  | 124 => ⟨S4096x1024, .f32⟩
  | 125 => ⟨S4096x3072, .f32⟩
  | 126 => ⟨S4096x3072, .f32⟩
  | 127 => ⟨S4096x3072, .f32⟩
  | _ => ⟨S4096x8320, .f32⟩

abbrev hbmTy0_1 (i : Nat) : BufTy := match i % 128 with
  | 0 => ⟨S4096x3072, .f32⟩
  | 1 => ⟨S4096x3072, .f32⟩
  | 2 => ⟨S4096x3072, .f32⟩
  | 3 => ⟨S4096x3072, .f32⟩
  | 4 => ⟨S4096x3072, .f32⟩
  | 5 => ⟨S_, .f32⟩
  | 6 => ⟨S3072, .f32⟩
  | 7 => ⟨S1x3072, .f32⟩
  | 8 => ⟨S_, .f32⟩
  | 9 => ⟨S3072, .f32⟩
  | 10 => ⟨S_, .f32⟩
  | 11 => ⟨S4099x3072, .f32⟩
  | 12 => ⟨S1x3072, .f32⟩
  | 13 => ⟨S_, .f32⟩
  | 14 => ⟨S4x3072, .f32⟩
  | 15 => ⟨S4096x3072, .f32⟩
  | 16 => ⟨S4096x3072, .f32⟩
  | 17 => ⟨S4096x3072, .f32⟩
  | 18 => ⟨S_, .f32⟩
  | 19 => ⟨S3072, .f32⟩
  | 20 => ⟨S1x3072, .f32⟩
  | 21 => ⟨S_, .f32⟩
  | 22 => ⟨S3072, .f32⟩
  | 23 => ⟨S_, .f32⟩
  | 24 => ⟨S4099x3072, .f32⟩
  | 25 => ⟨S4099x3072, .f32⟩
  | 26 => ⟨S1x3072, .f32⟩
  | 27 => ⟨S_, .f32⟩
  | 28 => ⟨S4x3072, .f32⟩
  | 29 => ⟨S4x3072, .f32⟩
  | 30 => ⟨S4096x3072, .f32⟩
  | 31 => ⟨S4096x3072, .f32⟩
  | 32 => ⟨S4096x3072, .f32⟩
  | 33 => ⟨S_, .f32⟩
  | 34 => ⟨S3072, .f32⟩
  | 35 => ⟨S1x3072, .f32⟩
  | 36 => ⟨S_, .f32⟩
  | 37 => ⟨S3072, .f32⟩
  | 38 => ⟨S_, .f32⟩
  | 39 => ⟨S4099x3072, .f32⟩
  | 40 => ⟨S4099x3072, .f32⟩
  | 41 => ⟨S1x3072, .f32⟩
  | 42 => ⟨S_, .f32⟩
  | 43 => ⟨S4x3072, .f32⟩
  | 44 => ⟨S4x3072, .f32⟩
  | 45 => ⟨S4096x3072, .f32⟩
  | 46 => ⟨S4096x3072, .f32⟩
  | 47 => ⟨S4096x3072, .f32⟩
  | 48 => ⟨S_, .f32⟩
  | 49 => ⟨S3072, .f32⟩
  | 50 => ⟨S1x3072, .f32⟩
  | 51 => ⟨S_, .f32⟩
  | 52 => ⟨S3072, .f32⟩
  | 53 => ⟨S_, .f32⟩
  | 54 => ⟨S4099x3072, .f32⟩
  | 55 => ⟨S4099x3072, .f32⟩
  | 56 => ⟨S1x3072, .f32⟩
  | 57 => ⟨S_, .f32⟩
  | 58 => ⟨S4x3072, .f32⟩
  | 59 => ⟨S4x3072, .f32⟩
  | 60 => ⟨S3x3072, .f32⟩
  | 61 => ⟨S4096x3072, .f32⟩
  | 62 => ⟨S4096x3072, .bf16⟩
  | _ => ⟨S4096x8320, .f32⟩

abbrev hbmTy (i : Nat) : BufTy := match i / 128 with
  | 0 => hbmTy0_0 i
  | 1 => hbmTy0_1 i
  | _ => ⟨S4096x8320, .f32⟩

abbrev bufTy : (tb : Table) → Fin (tcTables nBuf tb) → BufTy
  | .hbm, ⟨i, _⟩ => hbmTy i
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v33_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v33_1 : Ref sig .tc := ⟨.hbm, 52, rfl⟩
abbrev main_v33_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_9 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_10 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_11 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_12 : Ref sig .tc := ⟨.hbm, 133, rfl⟩
abbrev main_v100 : Ref sig .tc := ⟨.hbm, 134, rfl⟩
abbrev main_v101 : Ref sig .tc := ⟨.hbm, 135, rfl⟩
abbrev main_cst_13 : Ref sig .tc := ⟨.hbm, 136, rfl⟩
abbrev main_v102 : Ref sig .tc := ⟨.hbm, 137, rfl⟩
abbrev main_cst_14 : Ref sig .tc := ⟨.hbm, 138, rfl⟩
abbrev main_v103 : Ref sig .tc := ⟨.hbm, 139, rfl⟩
abbrev main_v104 : Ref sig .tc := ⟨.hbm, 140, rfl⟩
abbrev main_cst_15 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_16 : Ref sig .tc := ⟨.hbm, 146, rfl⟩
abbrev main_v109 : Ref sig .tc := ⟨.hbm, 147, rfl⟩
abbrev main_v110 : Ref sig .tc := ⟨.hbm, 148, rfl⟩
abbrev main_cst_17 : Ref sig .tc := ⟨.hbm, 149, rfl⟩
abbrev main_v111 : Ref sig .tc := ⟨.hbm, 150, rfl⟩
abbrev main_cst_18 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_19 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_20 : Ref sig .tc := ⟨.hbm, 161, rfl⟩
abbrev main_v120 : Ref sig .tc := ⟨.hbm, 162, rfl⟩
abbrev main_v121 : Ref sig .tc := ⟨.hbm, 163, rfl⟩
abbrev main_cst_21 : Ref sig .tc := ⟨.hbm, 164, rfl⟩
abbrev main_v122 : Ref sig .tc := ⟨.hbm, 165, rfl⟩
abbrev main_cst_22 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_23 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_24 : Ref sig .tc := ⟨.hbm, 176, rfl⟩
abbrev main_v131 : Ref sig .tc := ⟨.hbm, 177, rfl⟩
abbrev main_v132 : Ref sig .tc := ⟨.hbm, 178, rfl⟩
abbrev main_cst_25 : Ref sig .tc := ⟨.hbm, 179, rfl⟩
abbrev main_v133 : Ref sig .tc := ⟨.hbm, 180, rfl⟩
abbrev main_cst_26 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_27 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩

abbrev nD : Nat := 1
abbrev τ : Topo := Topo.v7x

variable {F : FTy → Type} [FloatOps F]
-- ==== Kernel7.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel8.lean ====
abbrev S4x1024x2052 : Shape := ⟨3, ![4, 1024, 2052]⟩
abbrev S4096x2052 : Shape := ⟨2, ![4096, 2052]⟩
abbrev S1x128x2052 : Shape := ⟨3, ![1, 128, 2052]⟩
abbrev S128x2052 : Shape := ⟨2, ![128, 2052]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x2052, .f32⟩
  | .hbm, ⟨1, _⟩ => ⟨S4096x2052, .f32⟩
  | .hbm, ⟨2, _⟩ => ⟨S4096x2052, .f32⟩
  | .hbm, ⟨3, _⟩ => ⟨S4x1024x2052, .f32⟩
  | .hbm, ⟨4, _⟩ => ⟨S4x1024x2052, .f32⟩
  | .hbm, ⟨5, _⟩ => ⟨S4x1024x2052, .f32⟩
  | .hbm, ⟨6, _⟩ => ⟨S4x1024x2052, .f32⟩
  | .hbm, ⟨7, _⟩ => ⟨S4x1024x2052, .f32⟩
  | .hbm, ⟨8, _⟩ => ⟨S4x1024x2052, .f32⟩
  | .local _ .vmem, ⟨0, _⟩ => ⟨S1x128x2052, .f32⟩
  | .local _ .vmem, ⟨1, _⟩ => ⟨S1x128x2052, .f32⟩
  | .local _ .vmem, ⟨2, _⟩ => ⟨S1x128x2052, .f32⟩
  | .local _ .vmem, ⟨3, _⟩ => ⟨S1x128x2052, .f32⟩
  | .local _ .vmem, ⟨4, _⟩ => ⟨S1x128x2052, .f32⟩
  | .local _ .vmem, ⟨5, _⟩ => ⟨S1x128x2052, .f32⟩
  | .local _ .vmem, ⟨6, _⟩ => ⟨S128x2052, .f32⟩
  | .local _ .vmem, ⟨7, _⟩ => ⟨S128x2052, .f32⟩
  | .local _ .vmem, ⟨8, _⟩ => ⟨S128x2052, .f32⟩
  | .local _ .vmem, ⟨9, _⟩ => ⟨S128x2052, .f32⟩
  | .local _ .vmem, ⟨10, _⟩ => ⟨S1x128x2052, .f32⟩
  | .local _ .vmem, ⟨11, _⟩ => ⟨S1x128x2052, .f32⟩
  | .local _ .vmem, ⟨12, _⟩ => ⟨S1x128x2052, .f32⟩
  | .local _ .vmem, ⟨13, _⟩ => ⟨S1x128x2052, .f32⟩
  | .local _ .vmem, ⟨14, _⟩ => ⟨S1x128x2052, .f32⟩
  | .local _ .vmem, ⟨15, _⟩ => ⟨S1x128x2052, .f32⟩
  | .local _ .vmem, ⟨16, _⟩ => ⟨S1x128x2052, .f32⟩
  | .local _ .vmem, ⟨17, _⟩ => ⟨S1x128x2052, .f32⟩
  | _, _ => ⟨S4x1024x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2052 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2052 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel8Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference8Ideal.lean ====
abbrev S4x1024x2052 : Shape := ⟨3, ![4, 1024, 2052]⟩
abbrev S4096x2052 : Shape := ⟨2, ![4096, 2052]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2052, .f32⟩
  | .hbm, ⟨1, _⟩ => ⟨S4096x2052, .f32⟩
  | .hbm, ⟨2, _⟩ => ⟨S4096x2052, .f32⟩
  | .hbm, ⟨3, _⟩ => ⟨S4x1024x2052, .f32⟩
  | .hbm, ⟨4, _⟩ => ⟨S4x1024x2052, .f32⟩
  | .hbm, ⟨5, _⟩ => ⟨S4096x2052, .f32⟩
  | .hbm, ⟨6, _⟩ => ⟨S4x1024x2052, .f32⟩
  | .hbm, ⟨7, _⟩ => ⟨S_, .f32⟩
  | .hbm, ⟨8, _⟩ => ⟨S4x1024x2052, .f32⟩
  | .hbm, ⟨9, _⟩ => ⟨S4x1024x2052, .f32⟩
  | .hbm, ⟨10, _⟩ => ⟨S_, .f32⟩
  | .hbm, ⟨11, _⟩ => ⟨S4x1024x2052, .f32⟩
  | .hbm, ⟨12, _⟩ => ⟨S4x1024x2052, .f32⟩
  | .hbm, ⟨13, _⟩ => ⟨S4x1024x2052, .f32⟩
  | .hbm, ⟨14, _⟩ => ⟨S_, .f32⟩
  | .hbm, ⟨15, _⟩ => ⟨S4x1024x2052, .f32⟩
  | .hbm, ⟨16, _⟩ => ⟨S4x1024x2052, .f32⟩
  | .hbm, ⟨17, _⟩ => ⟨S4x1024x2052, .f32⟩
  | .hbm, ⟨18, _⟩ => ⟨S_, .f32⟩
  | .hbm, ⟨19, _⟩ => ⟨S4x1024x2052, .f32⟩
  | .hbm, ⟨20, _⟩ => ⟨S4x1024x2052, .f32⟩
  | .hbm, ⟨21, _⟩ => ⟨S4x1024x2052, .f32⟩
  | .hbm, ⟨22, _⟩ => ⟨S_, .f32⟩
  | .hbm, ⟨23, _⟩ => ⟨S4x1024x2052, .f32⟩
  | .hbm, ⟨24, _⟩ => ⟨S4x1024x2052, .f32⟩
  | .hbm, ⟨25, _⟩ => ⟨S_, .f32⟩
  | .hbm, ⟨26, _⟩ => ⟨S4x1024x2052, .f32⟩
  | .hbm, ⟨27, _⟩ => ⟨S4x1024x2052, .f32⟩
  | .hbm, ⟨28, _⟩ => ⟨S4x1024x2052, .f32⟩
  | .hbm, ⟨29, _⟩ => ⟨S_, .f32⟩
  | .hbm, ⟨30, _⟩ => ⟨S4x1024x2052, .f32⟩
  | .hbm, ⟨31, _⟩ => ⟨S4x1024x2052, .f32⟩
  | .hbm, ⟨32, _⟩ => ⟨S4x1024x2052, .f32⟩
  | .hbm, ⟨33, _⟩ => ⟨S_, .f32⟩
  | .hbm, ⟨34, _⟩ => ⟨S4x1024x2052, .f32⟩
  | .hbm, ⟨35, _⟩ => ⟨S4x1024x2052, .f32⟩
  | .hbm, ⟨36, _⟩ => ⟨S4x1024x2052, .f32⟩
  | .hbm, ⟨37, _⟩ => ⟨S_, .f32⟩
  | .hbm, ⟨38, _⟩ => ⟨S4x1024x2052, .f32⟩
  | .hbm, ⟨39, _⟩ => ⟨S4x1024x2052, .f32⟩
  | _, _ => ⟨S4x1024x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S4x256x1024 : Shape := ⟨3, ![4, 256, 1024]⟩
abbrev S1024x1024 : Shape := ⟨2, ![1024, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel9Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference9Ideal.lean ====
abbrev S4x256x1024 : Shape := ⟨3, ![4, 256, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x256x1024, .f32⟩
  | .hbm, ⟨4, _⟩ => ⟨S4x256x1024, .f32⟩
  | .hbm, ⟨5, _⟩ => ⟨S1024x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S_, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S_, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S_, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S_, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S_, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S_, .f32⟩
  | .hbm, ⟨38, _⟩ => ⟨S4x256x1024, .f32⟩
  | .hbm, ⟨39, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S1x96x1024 : Shape := ⟨3, ![1, 96, 1024]⟩
abbrev S1216x1024 : Shape := ⟨2, ![1216, 1024]⟩
abbrev S96x1024 : Shape := ⟨2, ![96, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x96x1024, .f32⟩
  | .hbm, ⟨1, _⟩ => ⟨S1216x1024, .f32⟩
  | .hbm, ⟨2, _⟩ => ⟨S1x96x1024, .f32⟩
  | .hbm, ⟨3, _⟩ => ⟨S1x96x1024, .f32⟩
  | .hbm, ⟨4, _⟩ => ⟨S1x96x1024, .f32⟩
  | .hbm, ⟨5, _⟩ => ⟨S1x96x1024, .f32⟩
  | .hbm, ⟨6, _⟩ => ⟨S1x96x1024, .f32⟩
  | .hbm, ⟨7, _⟩ => ⟨S1x96x1024, .f32⟩
  | .local _ .vmem, ⟨0, _⟩ => ⟨S1x96x1024, .f32⟩
  | .local _ .vmem, ⟨1, _⟩ => ⟨S1x96x1024, .f32⟩
  | .local _ .vmem, ⟨2, _⟩ => ⟨S1x96x1024, .f32⟩
  | .local _ .vmem, ⟨3, _⟩ => ⟨S96x1024, .f32⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | _, _ => ⟨S1x96x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x96x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x96x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x96x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x96x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel10Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference10Ideal.lean ====
abbrev S1x96x1024 : Shape := ⟨3, ![1, 96, 1024]⟩
abbrev S1216x1024 : Shape := ⟨2, ![1216, 1024]⟩
abbrev S96x1024 : Shape := ⟨2, ![96, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x96x1024, .f32⟩
  | .hbm, ⟨1, _⟩ => ⟨S1216x1024, .f32⟩
  | .hbm, ⟨2, _⟩ => ⟨S1x96x1024, .f32⟩
  | .hbm, ⟨3, _⟩ => ⟨S1x96x1024, .f32⟩
  | .hbm, ⟨4, _⟩ => ⟨S96x1024, .f32⟩
  | .hbm, ⟨5, _⟩ => ⟨S1x96x1024, .f32⟩
  | .hbm, ⟨6, _⟩ => ⟨S_, .f32⟩
  | .hbm, ⟨7, _⟩ => ⟨S1x96x1024, .f32⟩
  | .hbm, ⟨8, _⟩ => ⟨S1x96x1024, .f32⟩
  | .hbm, ⟨9, _⟩ => ⟨S_, .f32⟩
  | .hbm, ⟨10, _⟩ => ⟨S1x96x1024, .f32⟩
  | .hbm, ⟨11, _⟩ => ⟨S1x96x1024, .f32⟩
  | .hbm, ⟨12, _⟩ => ⟨S1x96x1024, .f32⟩
  | .hbm, ⟨13, _⟩ => ⟨S_, .f32⟩
  | .hbm, ⟨14, _⟩ => ⟨S1x96x1024, .f32⟩
  | .hbm, ⟨15, _⟩ => ⟨S1x96x1024, .f32⟩
  | .hbm, ⟨16, _⟩ => ⟨S1x96x1024, .f32⟩
  | .hbm, ⟨17, _⟩ => ⟨S_, .f32⟩
  | .hbm, ⟨18, _⟩ => ⟨S1x96x1024, .f32⟩
  | .hbm, ⟨19, _⟩ => ⟨S1x96x1024, .f32⟩
  | .hbm, ⟨20, _⟩ => ⟨S1x96x1024, .f32⟩
  | .hbm, ⟨21, _⟩ => ⟨S_, .f32⟩
  | .hbm, ⟨22, _⟩ => ⟨S1x96x1024, .f32⟩
  | .hbm, ⟨23, _⟩ => ⟨S1x96x1024, .f32⟩
  | .hbm, ⟨24, _⟩ => ⟨S_, .f32⟩
  | .hbm, ⟨25, _⟩ => ⟨S1x96x1024, .f32⟩
  | .hbm, ⟨26, _⟩ => ⟨S1x96x1024, .f32⟩
  | .hbm, ⟨27, _⟩ => ⟨S1x96x1024, .f32⟩
  | .hbm, ⟨28, _⟩ => ⟨S_, .f32⟩
  | .hbm, ⟨29, _⟩ => ⟨S1x96x1024, .f32⟩
  | .hbm, ⟨30, _⟩ => ⟨S1x96x1024, .f32⟩
  | .hbm, ⟨31, _⟩ => ⟨S1x96x1024, .f32⟩
  | .hbm, ⟨32, _⟩ => ⟨S_, .f32⟩
  | .hbm, ⟨33, _⟩ => ⟨S1x96x1024, .f32⟩
  | .hbm, ⟨34, _⟩ => ⟨S1x96x1024, .f32⟩
  | .hbm, ⟨35, _⟩ => ⟨S1x96x1024, .f32⟩
  | .hbm, ⟨36, _⟩ => ⟨S_, .f32⟩
  | .hbm, ⟨37, _⟩ => ⟨S1x96x1024, .f32⟩
  | .hbm, ⟨38, _⟩ => ⟨S1x96x1024, .f32⟩
  | _, _ => ⟨S1x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel11.lean ====
abbrev S4x64x64x16 : Shape := ⟨4, ![4, 64, 64, 16]⟩
abbrev S1x64x64x16 : Shape := ⟨4, ![1, 64, 64, 16]⟩
abbrev S64x64x16 : Shape := ⟨3, ![64, 64, 16]⟩

abbrev nBuf : Space → Nat
  | .hbm => 7
  | .vmem => 14
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S4x64x64x16, .f32⟩
  | .hbm, ⟨5, _⟩ => ⟨S4x64x64x16, .f32⟩
  | .hbm, ⟨6, _⟩ => ⟨S4x64x64x16, .f32⟩
  | .local _ .vmem, ⟨0, _⟩ => ⟨S1x64x64x16, .f32⟩
  | .local _ .vmem, ⟨1, _⟩ => ⟨S1x64x64x16, .f32⟩
  | .local _ .vmem, ⟨2, _⟩ => ⟨S1x64x64x16, .f32⟩
  | .local _ .vmem, ⟨3, _⟩ => ⟨S1x64x64x16, .f32⟩
  | .local _ .vmem, ⟨4, _⟩ => ⟨S1x64x64x16, .f32⟩
  | .local _ .vmem, ⟨5, _⟩ => ⟨S1x64x64x16, .f32⟩
  | .local _ .vmem, ⟨6, _⟩ => ⟨S1x64x64x16, .f32⟩
  | .local _ .vmem, ⟨7, _⟩ => ⟨S1x64x64x16, .f32⟩
  | .local _ .vmem, ⟨8, _⟩ => ⟨S1x64x64x16, .f32⟩
  | .local _ .vmem, ⟨9, _⟩ => ⟨S1x64x64x16, .f32⟩
  | .local _ .vmem, ⟨10, _⟩ => ⟨S1x64x64x16, .f32⟩
  | .local _ .vmem, ⟨11, _⟩ => ⟨S1x64x64x16, .f32⟩
  | .local _ .vmem, ⟨12, _⟩ => ⟨S1x64x64x16, .f32⟩
  | .local _ .vmem, ⟨13, _⟩ => ⟨S1x64x64x16, .f32⟩
  | _, _ => ⟨S4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference11Ideal.lean ====
abbrev S4x64x64x16 : Shape := ⟨4, ![4, 64, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S_, .f32⟩
  | .hbm, ⟨5, _⟩ => ⟨S4x64x64x16, .f32⟩
  | .hbm, ⟨6, _⟩ => ⟨S4x64x64x16, .f32⟩
  | .hbm, ⟨7, _⟩ => ⟨S_, .f32⟩
  | .hbm, ⟨8, _⟩ => ⟨S4x64x64x16, .f32⟩
  | .hbm, ⟨9, _⟩ => ⟨S4x64x64x16, .f32⟩
  | .hbm, ⟨10, _⟩ => ⟨S4x64x64x16, .f32⟩
  | .hbm, ⟨11, _⟩ => ⟨S_, .f32⟩
  | .hbm, ⟨12, _⟩ => ⟨S4x64x64x16, .f32⟩
  | .hbm, ⟨13, _⟩ => ⟨S4x64x64x16, .f32⟩
  | .hbm, ⟨14, _⟩ => ⟨S4x64x64x16, .f32⟩
  | .hbm, ⟨15, _⟩ => ⟨S_, .f32⟩
  | .hbm, ⟨16, _⟩ => ⟨S4x64x64x16, .f32⟩
  | .hbm, ⟨17, _⟩ => ⟨S4x64x64x16, .f32⟩
  | .hbm, ⟨18, _⟩ => ⟨S4x64x64x16, .f32⟩
  | .hbm, ⟨19, _⟩ => ⟨S_, .f32⟩
  | .hbm, ⟨20, _⟩ => ⟨S4x64x64x16, .f32⟩
  | .hbm, ⟨21, _⟩ => ⟨S4x64x64x16, .f32⟩
  | .hbm, ⟨22, _⟩ => ⟨S_, .f32⟩
  | .hbm, ⟨23, _⟩ => ⟨S4x64x64x16, .f32⟩
  | .hbm, ⟨24, _⟩ => ⟨S4x64x64x16, .f32⟩
  | .hbm, ⟨25, _⟩ => ⟨S4x64x64x16, .f32⟩
  | .hbm, ⟨26, _⟩ => ⟨S_, .f32⟩
  | .hbm, ⟨27, _⟩ => ⟨S4x64x64x16, .f32⟩
  | .hbm, ⟨28, _⟩ => ⟨S4x64x64x16, .f32⟩
  | .hbm, ⟨29, _⟩ => ⟨S4x64x64x16, .f32⟩
  | .hbm, ⟨30, _⟩ => ⟨S_, .f32⟩
  | .hbm, ⟨31, _⟩ => ⟨S4x64x64x16, .f32⟩
  | .hbm, ⟨32, _⟩ => ⟨S4x64x64x16, .f32⟩
  | .hbm, ⟨33, _⟩ => ⟨S4x64x64x16, .f32⟩
  | .hbm, ⟨34, _⟩ => ⟨S_, .f32⟩
  | .hbm, ⟨35, _⟩ => ⟨S4x64x64x16, .f32⟩
  | .hbm, ⟨36, _⟩ => ⟨S4x64x64x16, .f32⟩
  | _, _ => ⟨S4x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4x64x16x64 : Shape := ⟨4, ![4, 64, 16, 64]⟩
abbrev S1x64x16x64 : Shape := ⟨4, ![1, 64, 16, 64]⟩
abbrev S64x16x64 : Shape := ⟨3, ![64, 16, 64]⟩

abbrev nBuf : Space → Nat
  | .hbm => 7
  | .vmem => 14
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S4x64x16x64, .f32⟩
  | .hbm, ⟨5, _⟩ => ⟨S4x64x16x64, .f32⟩
  | .hbm, ⟨6, _⟩ => ⟨S4x64x16x64, .f32⟩
  | .local _ .vmem, ⟨0, _⟩ => ⟨S1x64x16x64, .f32⟩
  | .local _ .vmem, ⟨1, _⟩ => ⟨S1x64x16x64, .f32⟩
  | .local _ .vmem, ⟨2, _⟩ => ⟨S1x64x16x64, .f32⟩
  | .local _ .vmem, ⟨3, _⟩ => ⟨S1x64x16x64, .f32⟩
  | .local _ .vmem, ⟨4, _⟩ => ⟨S1x64x16x64, .f32⟩
  | .local _ .vmem, ⟨5, _⟩ => ⟨S1x64x16x64, .f32⟩
  | .local _ .vmem, ⟨6, _⟩ => ⟨S1x64x16x64, .f32⟩
  | .local _ .vmem, ⟨7, _⟩ => ⟨S1x64x16x64, .f32⟩
  | .local _ .vmem, ⟨8, _⟩ => ⟨S1x64x16x64, .f32⟩
  | .local _ .vmem, ⟨9, _⟩ => ⟨S1x64x16x64, .f32⟩
  | .local _ .vmem, ⟨10, _⟩ => ⟨S1x64x16x64, .f32⟩
  | .local _ .vmem, ⟨11, _⟩ => ⟨S1x64x16x64, .f32⟩
  | .local _ .vmem, ⟨12, _⟩ => ⟨S1x64x16x64, .f32⟩
  | .local _ .vmem, ⟨13, _⟩ => ⟨S1x64x16x64, .f32⟩
  | _, _ => ⟨S4x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference12Ideal.lean ====
abbrev S4x64x16x64 : Shape := ⟨4, ![4, 64, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S_, .f32⟩
  | .hbm, ⟨5, _⟩ => ⟨S4x64x16x64, .f32⟩
  | .hbm, ⟨6, _⟩ => ⟨S4x64x16x64, .f32⟩
  | .hbm, ⟨7, _⟩ => ⟨S_, .f32⟩
  | .hbm, ⟨8, _⟩ => ⟨S4x64x16x64, .f32⟩
  | .hbm, ⟨9, _⟩ => ⟨S4x64x16x64, .f32⟩
  | .hbm, ⟨10, _⟩ => ⟨S4x64x16x64, .f32⟩
  | .hbm, ⟨11, _⟩ => ⟨S_, .f32⟩
  | .hbm, ⟨12, _⟩ => ⟨S4x64x16x64, .f32⟩
  | .hbm, ⟨13, _⟩ => ⟨S4x64x16x64, .f32⟩
  | .hbm, ⟨14, _⟩ => ⟨S4x64x16x64, .f32⟩
  | .hbm, ⟨15, _⟩ => ⟨S_, .f32⟩
  | .hbm, ⟨16, _⟩ => ⟨S4x64x16x64, .f32⟩
  | .hbm, ⟨17, _⟩ => ⟨S4x64x16x64, .f32⟩
  | .hbm, ⟨18, _⟩ => ⟨S4x64x16x64, .f32⟩
  | .hbm, ⟨19, _⟩ => ⟨S_, .f32⟩
  | .hbm, ⟨20, _⟩ => ⟨S4x64x16x64, .f32⟩
  | .hbm, ⟨21, _⟩ => ⟨S4x64x16x64, .f32⟩
  | .hbm, ⟨22, _⟩ => ⟨S_, .f32⟩
  | .hbm, ⟨23, _⟩ => ⟨S4x64x16x64, .f32⟩
  | .hbm, ⟨24, _⟩ => ⟨S4x64x16x64, .f32⟩
  | .hbm, ⟨25, _⟩ => ⟨S4x64x16x64, .f32⟩
  | .hbm, ⟨26, _⟩ => ⟨S_, .f32⟩
  | .hbm, ⟨27, _⟩ => ⟨S4x64x16x64, .f32⟩
  | .hbm, ⟨28, _⟩ => ⟨S4x64x16x64, .f32⟩
  | .hbm, ⟨29, _⟩ => ⟨S4x64x16x64, .f32⟩
  | .hbm, ⟨30, _⟩ => ⟨S_, .f32⟩
  | .hbm, ⟨31, _⟩ => ⟨S4x64x16x64, .f32⟩
  | .hbm, ⟨32, _⟩ => ⟨S4x64x16x64, .f32⟩
  | .hbm, ⟨33, _⟩ => ⟨S4x64x16x64, .f32⟩
  | .hbm, ⟨34, _⟩ => ⟨S_, .f32⟩
  | .hbm, ⟨35, _⟩ => ⟨S4x64x16x64, .f32⟩
  | .hbm, ⟨36, _⟩ => ⟨S4x64x16x64, .f32⟩
  | _, _ => ⟨S4x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x16x768 : Shape := ⟨3, ![1, 16, 768]⟩
abbrev S16x768 : Shape := ⟨2, ![16, 768]⟩

abbrev nBuf : Space → Nat
  | .hbm => 8
  | .vmem => 8
  | .smem => 0
  | _ => 0

abbrev bufTy : (tb : Table) → Fin (tcTables nBuf tb) → BufTy
  | .hbm, ⟨0, _⟩ => ⟨S1x16x768, .f32⟩
  | .hbm, ⟨1, _⟩ => ⟨S16x768, .f32⟩
  | .hbm, ⟨2, _⟩ => ⟨S1x16x768, .f32⟩
  | .hbm, ⟨3, _⟩ => ⟨S1x16x768, .f32⟩
  | .hbm, ⟨4, _⟩ => ⟨S1x16x768, .f32⟩
  | .hbm, ⟨5, _⟩ => ⟨S1x16x768, .f32⟩
  | .hbm, ⟨6, _⟩ => ⟨S1x16x768, .f32⟩
  | .hbm, ⟨7, _⟩ => ⟨S1x16x768, .f32⟩
  | .local _ .vmem, ⟨0, _⟩ => ⟨S1x16x768, .f32⟩
  | .local _ .vmem, ⟨1, _⟩ => ⟨S1x16x768, .f32⟩
  | .local _ .vmem, ⟨2, _⟩ => ⟨S1x16x768, .f32⟩
  | .local _ .vmem, ⟨3, _⟩ => ⟨S16x768, .f32⟩
  | .local _ .vmem, ⟨4, _⟩ => ⟨S1x16x768, .f32⟩
  | .local _ .vmem, ⟨5, _⟩ => ⟨S1x16x768, .f32⟩
  | .local _ .vmem, ⟨6, _⟩ => ⟨S1x16x768, .f32⟩
  | .local _ .vmem, ⟨7, _⟩ => ⟨S1x16x768, .f32⟩
  | _, _ => ⟨S1x16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel13Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference13Ideal.lean ====
abbrev S1x16x768 : Shape := ⟨3, ![1, 16, 768]⟩
abbrev S16x768 : Shape := ⟨2, ![16, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x16x768, .f32⟩
  | .hbm, ⟨1, _⟩ => ⟨S16x768, .f32⟩
  | .hbm, ⟨2, _⟩ => ⟨S1x16x768, .f32⟩
  | .hbm, ⟨3, _⟩ => ⟨S1x16x768, .f32⟩
  | .hbm, ⟨4, _⟩ => ⟨S1x16x768, .f32⟩
  | .hbm, ⟨5, _⟩ => ⟨S_, .f32⟩
  | .hbm, ⟨6, _⟩ => ⟨S1x16x768, .f32⟩
  | .hbm, ⟨7, _⟩ => ⟨S1x16x768, .f32⟩
  | .hbm, ⟨8, _⟩ => ⟨S_, .f32⟩
  | .hbm, ⟨9, _⟩ => ⟨S1x16x768, .f32⟩
  | .hbm, ⟨10, _⟩ => ⟨S1x16x768, .f32⟩
  | .hbm, ⟨11, _⟩ => ⟨S1x16x768, .f32⟩
  | .hbm, ⟨12, _⟩ => ⟨S_, .f32⟩
  | .hbm, ⟨13, _⟩ => ⟨S1x16x768, .f32⟩
  | .hbm, ⟨14, _⟩ => ⟨S1x16x768, .f32⟩
  | .hbm, ⟨15, _⟩ => ⟨S1x16x768, .f32⟩
  | .hbm, ⟨16, _⟩ => ⟨S_, .f32⟩
  | .hbm, ⟨17, _⟩ => ⟨S1x16x768, .f32⟩
  | .hbm, ⟨18, _⟩ => ⟨S1x16x768, .f32⟩
  | .hbm, ⟨19, _⟩ => ⟨S1x16x768, .f32⟩
  | .hbm, ⟨20, _⟩ => ⟨S_, .f32⟩
  | .hbm, ⟨21, _⟩ => ⟨S1x16x768, .f32⟩
  | .hbm, ⟨22, _⟩ => ⟨S1x16x768, .f32⟩
  | .hbm, ⟨23, _⟩ => ⟨S_, .f32⟩
  | .hbm, ⟨24, _⟩ => ⟨S1x16x768, .f32⟩
  | .hbm, ⟨25, _⟩ => ⟨S1x16x768, .f32⟩
  | .hbm, ⟨26, _⟩ => ⟨S1x16x768, .f32⟩
  | .hbm, ⟨27, _⟩ => ⟨S_, .f32⟩
  | .hbm, ⟨28, _⟩ => ⟨S1x16x768, .f32⟩
  | .hbm, ⟨29, _⟩ => ⟨S1x16x768, .f32⟩
  | .hbm, ⟨30, _⟩ => ⟨S1x16x768, .f32⟩
  | .hbm, ⟨31, _⟩ => ⟨S_, .f32⟩
  | .hbm, ⟨32, _⟩ => ⟨S1x16x768, .f32⟩
  | .hbm, ⟨33, _⟩ => ⟨S1x16x768, .f32⟩
  | .hbm, ⟨34, _⟩ => ⟨S1x16x768, .f32⟩
  | .hbm, ⟨35, _⟩ => ⟨S_, .f32⟩
  | .hbm, ⟨36, _⟩ => ⟨S1x16x768, .f32⟩
  | .hbm, ⟨37, _⟩ => ⟨S1x16x768, .f32⟩
  | _, _ => ⟨S1x16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel14.lean ====
abbrev S4x64x64 : Shape := ⟨3, ![4, 64, 64]⟩
abbrev S4x64x1 : Shape := ⟨3, ![4, 64, 1]⟩
abbrev S4x64x1024 : Shape := ⟨3, ![4, 64, 1024]⟩
abbrev S1x64x64 : Shape := ⟨3, ![1, 64, 64]⟩
abbrev S1x64x1 : Shape := ⟨3, ![1, 64, 1]⟩
abbrev S1x64x1024 : Shape := ⟨3, ![1, 64, 1024]⟩
abbrev S64x64 : Shape := ⟨2, ![64, 64]⟩
abbrev S64x1 : Shape := ⟨2, ![64, 1]⟩
abbrev S64x1024 : Shape := ⟨2, ![64, 1024]⟩
abbrev S64 : Shape := ⟨1, ![64]⟩

abbrev nBuf : Space → Nat
  | .hbm => 14
  | .vmem => 28
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x1, .f32⟩
  | .hbm, ⟨3, _⟩ => ⟨S4x64x1024, .f32⟩
  | .hbm, ⟨4, _⟩ => ⟨S4x64x1024, .f32⟩
  | .hbm, ⟨5, _⟩ => ⟨S4x64x64, .f32⟩
  | .hbm, ⟨6, _⟩ => ⟨S4x64x64, .f32⟩
  | .hbm, ⟨7, _⟩ => ⟨S4x64x1024, .f32⟩
  | .hbm, ⟨8, _⟩ => ⟨S4x64x1024, .f32⟩
  | .hbm, ⟨9, _⟩ => ⟨S4x64x64, .f32⟩
  | .hbm, ⟨10, _⟩ => ⟨S4x64x64, .f32⟩
  | .hbm, ⟨11, _⟩ => ⟨S4x64x1, .f32⟩
  | .hbm, ⟨12, _⟩ => ⟨S4x64x1024, .f32⟩
  | .hbm, ⟨13, _⟩ => ⟨S4x64x1024, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x1, .f32⟩
  | .local _ .vmem, ⟨5, _⟩ => ⟨S1x64x1, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x64, .f32⟩
  | .local _ .vmem, ⟨19, _⟩ => ⟨S1x64x64, .f32⟩
  | .local _ .vmem, ⟨20, _⟩ => ⟨S1x64x64, .f32⟩
  | .local _ .vmem, ⟨21, _⟩ => ⟨S1x64x64, .f32⟩
  | .local _ .vmem, ⟨22, _⟩ => ⟨S1x64x1, .f32⟩
  | .local _ .vmem, ⟨23, _⟩ => ⟨S1x64x1, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference14Ideal.lean ====
abbrev S4x64x64 : Shape := ⟨3, ![4, 64, 64]⟩
abbrev S4x64x1 : Shape := ⟨3, ![4, 64, 1]⟩
abbrev S4x64x1024 : Shape := ⟨3, ![4, 64, 1024]⟩
abbrev S4x64x64x16 : Shape := ⟨4, ![4, 64, 64, 16]⟩
abbrev S_ : Shape := ⟨0, ![]⟩
abbrev S4x64x64x1 : Shape := ⟨4, ![4, 64, 64, 1]⟩
abbrev S4x64 : Shape := ⟨2, ![4, 64]⟩

abbrev nBuf : Space → Nat
  | .hbm => 172
  | .vmem => 0
  | .smem => 0
  | _ => 0

abbrev hbmTy0_0 (i : Nat) : BufTy := match i % 128 with
  | 0 => ⟨S4x64x64, .f32⟩
  | 1 => ⟨S4x64x64, .f32⟩
  | 2 => ⟨S4x64x1, .f32⟩
  | 3 => ⟨S4x64x1024, .f32⟩
  | 4 => ⟨S4x64x1024, .f32⟩
  | 5 => ⟨S4x64x64, .f32⟩
  | 6 => ⟨S4x64x64, .f32⟩
  | 7 => ⟨S4x64x1024, .f32⟩
  | 8 => ⟨S4x64x1024, .f32⟩
  | 9 => ⟨S4x64x64x16, .f32⟩
  | 10 => ⟨S4x64x64x16, .f32⟩
  | 11 => ⟨S4x64x1, .f32⟩
  | 12 => ⟨S4x64x64, .f32⟩
  | 13 => ⟨S4x64x64, .f32⟩
  | 14 => ⟨S4x64x64, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S_, .f32⟩
  | 29 => ⟨S4x64x64, .f32⟩
  | 30 => ⟨S4x64x64, .f32⟩
  | 31 => ⟨S4x64x64, .f32⟩
  | 32 => ⟨S4x64x64, .f32⟩
  | 33 => ⟨S4x64x64, .f32⟩
  | 34 => ⟨S4x64x64, .f32⟩
  | 35 => ⟨S4x64x64, .f32⟩
  | 36 => ⟨S_, .f32⟩
  | 37 => ⟨S4x64x64, .f32⟩
  | 38 => ⟨S4x64x64, .f32⟩
  | 39 => ⟨S4x64x64, .f32⟩
  | 40 => ⟨S_, .f32⟩
  | 41 => ⟨S4x64x64, .f32⟩
  | 42 => ⟨S4x64x64, .f32⟩
  | 43 => ⟨S4x64x64, .f32⟩
  | 44 => ⟨S4x64x64, .f32⟩
  | 45 => ⟨S4x64x64, .f32⟩
  | 46 => ⟨S4x64x64, .f32⟩
  | 47 => ⟨S_, .f32⟩
  | 48 => ⟨S4x64x64, .f32⟩
  | 49 => ⟨S4x64x64, .f32⟩
  | 50 => ⟨S4x64x64x1, .f32⟩
  | 51 => ⟨S4x64x64x16, .f32⟩
  | 52 => ⟨S4x64x64x16, .f32⟩
  | 53 => ⟨S4x64x64x1, .f32⟩
  | 54 => ⟨S4x64x64x16, .f32⟩
  | 55 => ⟨S4x64x64x16, .f32⟩
  | 56 => ⟨S4x64x64x16, .f32⟩
  | 57 => ⟨S4x64x64x1, .f32⟩
  | 58 => ⟨S4x64x64x16, .f32⟩
  | 59 => ⟨S4x64x64x16, .f32⟩
  | 60 => ⟨S4x64x64x1, .f32⟩
  | 61 => ⟨S4x64x64x16, .f32⟩
  | 62 => ⟨S4x64x64x16, .f32⟩
  | 63 => ⟨S4x64x64x16, .f32⟩
  | 64 => ⟨S4x64x1024, .f32⟩
  | 65 => ⟨S4x64x1024, .f32⟩
  | 66 => ⟨S4x64x64x16, .f32⟩
  | 67 => ⟨S4x64x64x16, .f32⟩
  | 68 => ⟨S4x64x64x16, .f32⟩
  | 69 => ⟨S4x64x64x16, .f32⟩
  | 70 => ⟨S4x64x64x16, .f32⟩
  | 71 => ⟨S_, .f32⟩
  | 72 => ⟨S4x64x64, .f32⟩
  | 73 => ⟨S4x64x64x1, .f32⟩
  | 74 => ⟨S_, .f32⟩
  | 75 => ⟨S4x64x64, .f32⟩
  | 76 => ⟨S4x64x64x16, .f32⟩
  | 77 => ⟨S4x64x64x16, .f32⟩
  | 78 => ⟨S4x64x64x16, .f32⟩
  | 79 => ⟨S_, .f32⟩
  | 80 => ⟨S4x64x64, .f32⟩
  | 81 => ⟨S4x64x64x1, .f32⟩
  | 82 => ⟨S_, .f32⟩
  | 83 => ⟨S4x64x64, .f32⟩
  | 84 => ⟨S4x64x64x16, .f32⟩
  | 85 => ⟨S4x64x64x16, .f32⟩
  | 86 => ⟨S4x64x64x16, .f32⟩
  | 87 => ⟨S4x64x64x16, .f32⟩
  | 88 => ⟨S4x64x64x16, .f32⟩
  | 89 => ⟨S_, .f32⟩
  | 90 => ⟨S4x64x64, .f32⟩
  | 91 => ⟨S4x64x64x1, .f32⟩
  | 92 => ⟨S_, .f32⟩
  | 93 => ⟨S4x64x64, .f32⟩
  | 94 => ⟨S4x64x64, .f32⟩
  | 95 => ⟨S4x64x64x16, .f32⟩
  | 96 => ⟨S4x64x64x16, .f32⟩
  | 97 => ⟨S4x64x64x16, .f32⟩
  | 98 => ⟨S4x64x64x16, .f32⟩
  | 99 => ⟨S_, .f32⟩
  | 100 => ⟨S4x64x64, .f32⟩
  | 101 => ⟨S4x64x64x1, .f32⟩
  | 102 => ⟨S_, .f32⟩
  | 103 => ⟨S4x64x64, .f32⟩
  | 104 => ⟨S4x64x64, .f32⟩
  | 105 => ⟨S4x64x64, .f32⟩
  | 106 => ⟨S4x64x64, .f32⟩
  | 107 => ⟨S4x64x64, .f32⟩
  | 108 => ⟨S4x64x64, .f32⟩
  | 109 => ⟨S4x64x64, .f32⟩
  | 110 => ⟨S4x64x64, .f32⟩
  | 111 => ⟨S4x64x64, .f32⟩
  | 112 => ⟨S4x64x64, .f32⟩
  | 113 => ⟨S4x64x64, .f32⟩
  | 114 => ⟨S4x64x64, .f32⟩
  | 115 => ⟨S4x64x64, .f32⟩
  | 116 => ⟨S4x64x64, .f32⟩
  | 117 => ⟨S4x64x64, .f32⟩
  | 118 => ⟨S4x64x64, .f32⟩
  | 119 => ⟨S4x64x64, .f32⟩
  | 120 => ⟨S4x64x64, .f32⟩
  | 121 => ⟨S4x64x64, .f32⟩
  | 122 => ⟨S4x64x64, .f32⟩
  | 123 => ⟨S4x64x64, .f32⟩
  | 124 => ⟨S4x64x64, .f32⟩
  | 125 => ⟨S4x64x64, .f32⟩
  | 126 => ⟨S4x64x64, .f32⟩
  | 127 => ⟨S4x64x64, .f32⟩
  | _ => ⟨S4x64x64, .f32⟩

abbrev hbmTy0_1 (i : Nat) : BufTy := match i % 128 with
  | 0 => ⟨S4x64x64, .f32⟩
  | 1 => ⟨S4x64x64, .f32⟩
  | 2 => ⟨S4x64x64, .f32⟩
  | 3 => ⟨S4x64x64, .f32⟩
  | 4 => ⟨S4x64x64, .f32⟩
  | 5 => ⟨S4x64x64, .f32⟩
  | 6 => ⟨S4x64x64, .f32⟩
  | 7 => ⟨S4x64x64, .f32⟩
  | 8 => ⟨S4x64x64, .f32⟩
  | 9 => ⟨S4x64x64, .f32⟩
  | 10 => ⟨S4x64x64, .f32⟩
  | 11 => ⟨S4x64x64, .f32⟩
  | 12 => ⟨S4x64x64, .f32⟩
  | 13 => ⟨S_, .f32⟩
  | 14 => ⟨S4x64, .f32⟩
  | 15 => ⟨S4x64x1, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S_, .f32⟩
  | 26 => ⟨S4x64, .f32⟩
  | 27 => ⟨S4x64x1, .f32⟩
  | 28 => ⟨S4x64x1, .f32⟩
  | 29 => ⟨S4x64x64, .f32⟩
  | 30 => ⟨S4x64x64, .f32⟩
  | 31 => ⟨S4x64x64, .f32⟩
  | 32 => ⟨S4x64x64, .f32⟩
  | 33 => ⟨S4x64x64, .f32⟩
  | 34 => ⟨S_, .f32⟩
  | 35 => ⟨S4x64, .f32⟩
  | 36 => ⟨S4x64x1, .f32⟩
  | 37 => ⟨S4x64x1, .f32⟩
  | 38 => ⟨S4x64x64, .f32⟩
  | 39 => ⟨S4x64x64, .f32⟩
  | 40 => ⟨S4x64x64, .f32⟩
  | 41 => ⟨S4x64x1, .f32⟩
  | 42 => ⟨S4x64x1024, .f32⟩
  | 43 => ⟨S4x64x1024, .f32⟩
  | _ => ⟨S4x64x64, .f32⟩

abbrev hbmTy (i : Nat) : BufTy := match i / 128 with
  | 0 => hbmTy0_0 i
  | 1 => hbmTy0_1 i
  | _ => ⟨S4x64x64, .f32⟩

abbrev bufTy : (tb : Table) → Fin (tcTables nBuf tb) → BufTy
  | .hbm, ⟨i, _⟩ => hbmTy i
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_cst_4 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_11 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_12 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_cst_13 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩

abbrev nD : Nat := 1
abbrev τ : Topo := Topo.v7x

variable {F : FTy → Type} [FloatOps F]
-- ==== Kernel15.lean ====
abbrev S4096x8320 : Shape := ⟨2, ![4096, 8320]⟩
abbrev S4x3072 : Shape := ⟨2, ![4, 3072]⟩
abbrev S24x4096x128 : Shape := ⟨3, ![24, 4096, 128]⟩
abbrev S4096x128 : Shape := ⟨2, ![4096, 128]⟩
abbrev S4x128 : Shape := ⟨2, ![4, 128]⟩
abbrev S1x4096x128 : Shape := ⟨3, ![1, 4096, 128]⟩
abbrev S1x128 : Shape := ⟨2, ![1, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x8320, .f32⟩
  | .hbm, ⟨1, _⟩ => ⟨S4x3072, .f32⟩
  | .hbm, ⟨2, _⟩ => ⟨S24x4096x128, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x4096x128, .f32⟩
  | .local _ .vmem, ⟨5, _⟩ => ⟨S1x4096x128, .f32⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x8320 : Shape := ⟨2, ![4096, 8320]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096 : Shape := ⟨2, ![8, 4096]⟩
abbrev S8x4096x1 : Shape := ⟨3, ![8, 4096, 1]⟩
abbrev S24x4096x128 : Shape := ⟨3, ![24, 4096, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S4x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S1x3072, .f32⟩
  | .hbm, ⟨7, _⟩ => ⟨S3072, .f32⟩
  | .hbm, ⟨8, _⟩ => ⟨S4096x3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S1x3072, .f32⟩
  | .hbm, ⟨16, _⟩ => ⟨S3072, .f32⟩
  | .hbm, ⟨17, _⟩ => ⟨S4096x3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S4096x3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S4096x3072, .f32⟩
  | .hbm, ⟨32, _⟩ => ⟨S1x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x8x128, .f32⟩
  | .hbm, ⟨49, _⟩ => ⟨S8x4096x128, .f32⟩
  | .hbm, ⟨50, _⟩ => ⟨S8x4096x128, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1, .f32⟩
  | .hbm, ⟨58, _⟩ => ⟨S8x4096x128, .f32⟩
  | .hbm, ⟨59, _⟩ => ⟨S8x4096x128, .f32⟩
  | .hbm, ⟨60, _⟩ => ⟨S4096x8x128, .f32⟩
  | .hbm, ⟨61, _⟩ => ⟨S8x4096x128, .f32⟩
  | .hbm, ⟨62, _⟩ => ⟨S8x4096x128, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x128, .f32⟩
  | .hbm, ⟨71, _⟩ => ⟨S8x4096x128, .f32⟩
  | .hbm, ⟨72, _⟩ => ⟨S4096x8x128, .f32⟩
  | .hbm, ⟨73, _⟩ => ⟨S8x4096x128, .f32⟩
  | .hbm, ⟨74, _⟩ => ⟨S24x4096x128, .f32⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel16.lean ====
abbrev S4096x8320 : Shape := ⟨2, ![4096, 8320]⟩
abbrev S4096x1024 : Shape := ⟨2, ![4096, 1024]⟩
abbrev S1x128 : Shape := ⟨2, ![1, 128]⟩
abbrev S1x1024 : Shape := ⟨2, ![1, 1024]⟩
abbrev S1x1024x1024 : Shape := ⟨3, ![1, 1024, 1024]⟩
abbrev S256x1024 : Shape := ⟨2, ![256, 1024]⟩
abbrev S1024x1024 : Shape := ⟨2, ![1024, 1024]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 24
  | .smem => 0
  | _ => 0

abbrev bufTy : (tb : Table) → Fin (tcTables nBuf tb) → BufTy
  | .hbm, ⟨0, _⟩ => ⟨S4096x8320, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S1x1024, .f32⟩
  | .hbm, ⟨6, _⟩ => ⟨S1x1024x1024, .bf16⟩
  | .hbm, ⟨7, _⟩ => ⟨S1x1024, .f32⟩
  | .hbm, ⟨8, _⟩ => ⟨S1x1024x1024, .bf16⟩
  | .hbm, ⟨9, _⟩ => ⟨S1x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | .local _ .vmem, ⟨18, _⟩ => ⟨S1x1024x1024, .bf16⟩
  | .local _ .vmem, ⟨19, _⟩ => ⟨S1x1024, .f32⟩
  | .local _ .vmem, ⟨20, _⟩ => ⟨S1x1024x1024, .bf16⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference16Ideal.lean ====
abbrev S4096x8320 : Shape := ⟨2, ![4096, 8320]⟩
abbrev S4096x1024 : Shape := ⟨2, ![4096, 1024]⟩
abbrev S1x128 : Shape := ⟨2, ![1, 128]⟩
abbrev S1x1024 : Shape := ⟨2, ![1, 1024]⟩
abbrev S1x1024x1024 : Shape := ⟨3, ![1, 1024, 1024]⟩
abbrev S4096x5120 : Shape := ⟨2, ![4096, 5120]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1024x1024 : Shape := ⟨2, ![1024, 1024]⟩
abbrev S4096 : Shape := ⟨1, ![4096]⟩
abbrev S4096x1 : Shape := ⟨2, ![4096, 1]⟩

abbrev nBuf : Space → Nat
  | .hbm => 127
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S1x1024, .f32⟩
  | .hbm, ⟨6, _⟩ => ⟨S1x1024x1024, .bf16⟩
  | .hbm, ⟨7, _⟩ => ⟨S1x1024, .f32⟩
  | .hbm, ⟨8, _⟩ => ⟨S1x1024x1024, .bf16⟩
  | .hbm, ⟨9, _⟩ => ⟨S1x1024, .f32⟩
  | .hbm, ⟨10, _⟩ => ⟨S4096x5120, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x8x128, .f32⟩
  | .hbm, ⟨17, _⟩ => ⟨S128, .f32⟩
  | .hbm, ⟨18, _⟩ => ⟨S4096x8x128, .f32⟩
  | .hbm, ⟨19, _⟩ => ⟨S_, .f32⟩
  | .hbm, ⟨20, _⟩ => ⟨S4096x8, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S4096x8x1, .f32⟩
  | .hbm, ⟨29, _⟩ => ⟨S4096x8x128, .f32⟩
  | .hbm, ⟨30, _⟩ => ⟨S4096x8x128, .f32⟩
  | .hbm, ⟨31, _⟩ => ⟨S1x1x128, .f32⟩
  | .hbm, ⟨32, _⟩ => ⟨S4096x8x128, .f32⟩
  | .hbm, ⟨33, _⟩ => ⟨S4096x8x128, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S1024x1024, .bf16⟩
  | .hbm, ⟨66, _⟩ => ⟨S1024x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S1024x1024, .bf16⟩
  | .hbm, ⟨109, _⟩ => ⟨S1024x1024, .f32⟩
  | .hbm, ⟨110, _⟩ => ⟨S4096x1024, .f32⟩
  | .hbm, ⟨111, _⟩ => ⟨S4096x1024, .f32⟩
  | .hbm, ⟨112, _⟩ => ⟨S_, .f32⟩
  | .hbm, ⟨113, _⟩ => ⟨S4096, .f32⟩
  | .hbm, ⟨114, _⟩ => ⟨S4096x1, .f32⟩
  | .hbm, ⟨115, _⟩ => ⟨S_, .f32⟩
  | .hbm, ⟨116, _⟩ => ⟨S4096x1, .f32⟩
  | .hbm, ⟨117, _⟩ => ⟨S4096x1, .f32⟩
  | .hbm, ⟨118, _⟩ => ⟨S_, .f32⟩
  | .hbm, ⟨119, _⟩ => ⟨S4096x1, .f32⟩
  | .hbm, ⟨120, _⟩ => ⟨S4096x1, .f32⟩
  | .hbm, ⟨121, _⟩ => ⟨S4096x1, .f32⟩
  | .hbm, ⟨122, _⟩ => ⟨S4096x1024, .f32⟩
  | .hbm, ⟨123, _⟩ => ⟨S4096x1024, .f32⟩
  | .hbm, ⟨124, _⟩ => ⟨S4096x1024, .f32⟩
  | .hbm, ⟨125, _⟩ => ⟨S4096x1024, .f32⟩
  | .hbm, ⟨126, _⟩ => ⟨S4096x1024, .f32⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_8 : Ref sig .tc := ⟨.hbm, 91, rfl⟩
abbrev main_v56 : Ref sig .tc := ⟨.hbm, 92, rfl⟩
abbrev main_v57 : Ref sig .tc := ⟨.hbm, 93, rfl⟩
abbrev main_cst_9 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_cst_11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_cst_13 : Ref sig .tc := ⟨.hbm, 115, rfl⟩
abbrev main_v75 : Ref sig .tc := ⟨.hbm, 116, rfl⟩
abbrev main_v76 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]
-- ==== Kernel17.lean ====
abbrev S4x64x64 : Shape := ⟨3, ![4, 64, 64]⟩
abbrev S4x64x1 : Shape := ⟨3, ![4, 64, 1]⟩
abbrev S4x64x1024 : Shape := ⟨3, ![4, 64, 1024]⟩
abbrev S1x64x64 : Shape := ⟨3, ![1, 64, 64]⟩
abbrev S1x64x1 : Shape := ⟨3, ![1, 64, 1]⟩
abbrev S1x64x1024 : Shape := ⟨3, ![1, 64, 1024]⟩
abbrev S64x64 : Shape := ⟨2, ![64, 64]⟩
abbrev S64x1 : Shape := ⟨2, ![64, 1]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x1, .f32⟩
  | .hbm, ⟨3, _⟩ => ⟨S4x64x1024, .f32⟩
  | .hbm, ⟨4, _⟩ => ⟨S4x64x1024, .f32⟩
  | .hbm, ⟨5, _⟩ => ⟨S4x64x64, .f32⟩
  | .hbm, ⟨6, _⟩ => ⟨S4x64x64, .f32⟩
  | .hbm, ⟨7, _⟩ => ⟨S4x64x1024, .f32⟩
  | .hbm, ⟨8, _⟩ => ⟨S4x64x1024, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x1, .f32⟩
  | .local _ .vmem, ⟨5, _⟩ => ⟨S1x64x1, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S4x64x64 : Shape := ⟨3, ![4, 64, 64]⟩
abbrev S4x64x1 : Shape := ⟨3, ![4, 64, 1]⟩
abbrev S4x64x1024 : Shape := ⟨3, ![4, 64, 1024]⟩
abbrev S4x64x64x16 : Shape := ⟨4, ![4, 64, 64, 16]⟩
abbrev S_ : Shape := ⟨0, ![]⟩
abbrev S4x64x64x1 : Shape := ⟨4, ![4, 64, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x1, .f32⟩
  | .hbm, ⟨3, _⟩ => ⟨S4x64x1024, .f32⟩
  | .hbm, ⟨4, _⟩ => ⟨S4x64x1024, .f32⟩
  | .hbm, ⟨5, _⟩ => ⟨S4x64x64x16, .f32⟩
  | .hbm, ⟨6, _⟩ => ⟨S4x64x64x16, .f32⟩
  | .hbm, ⟨7, _⟩ => ⟨S4x64x1, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S4x64x64, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S4x64x64, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S4x64x64, .f32⟩
  | .hbm, ⟨20, _⟩ => ⟨S4x64x64, .f32⟩
  | .hbm, ⟨21, _⟩ => ⟨S4x64x64, .f32⟩
  | .hbm, ⟨22, _⟩ => ⟨S_, .f32⟩
  | .hbm, ⟨23, _⟩ => ⟨S4x64x64, .f32⟩
  | .hbm, ⟨24, _⟩ => ⟨S4x64x64, .f32⟩
  | .hbm, ⟨25, _⟩ => ⟨S4x64x64, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S_, .f32⟩
  | .hbm, ⟨31, _⟩ => ⟨S4x64x64, .f32⟩
  | .hbm, ⟨32, _⟩ => ⟨S4x64x64, .f32⟩
  | .hbm, ⟨33, _⟩ => ⟨S4x64x64, .f32⟩
  | .hbm, ⟨34, _⟩ => ⟨S4x64x64, .f32⟩
  | .hbm, ⟨35, _⟩ => ⟨S4x64x64, .f32⟩
  | .hbm, ⟨36, _⟩ => ⟨S4x64x64x1, .f32⟩
  | .hbm, ⟨37, _⟩ => ⟨S4x64x64x16, .f32⟩
  | .hbm, ⟨38, _⟩ => ⟨S4x64x64x16, .f32⟩
  | .hbm, ⟨39, _⟩ => ⟨S4x64x64x1, .f32⟩
  | .hbm, ⟨40, _⟩ => ⟨S4x64x64x16, .f32⟩
  | .hbm, ⟨41, _⟩ => ⟨S4x64x64x16, .f32⟩
  | .hbm, ⟨42, _⟩ => ⟨S4x64x64x16, .f32⟩
  | .hbm, ⟨43, _⟩ => ⟨S4x64x64x1, .f32⟩
  | .hbm, ⟨44, _⟩ => ⟨S4x64x64x16, .f32⟩
  | .hbm, ⟨45, _⟩ => ⟨S4x64x64x16, .f32⟩
  | .hbm, ⟨46, _⟩ => ⟨S4x64x64x1, .f32⟩
  | .hbm, ⟨47, _⟩ => ⟨S4x64x64x16, .f32⟩
  | .hbm, ⟨48, _⟩ => ⟨S4x64x64x16, .f32⟩
  | .hbm, ⟨49, _⟩ => ⟨S4x64x64x16, .f32⟩
  | .hbm, ⟨50, _⟩ => ⟨S4x64x1024, .f32⟩
  | .hbm, ⟨51, _⟩ => ⟨S4x64x1024, .f32⟩
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]
-- ==== Kernel18.lean ====
abbrev S4096x8320 : Shape := ⟨2, ![4096, 8320]⟩
abbrev S8 : Shape := ⟨1, ![8]⟩
abbrev S1x8 : Shape := ⟨2, ![1, 8]⟩
abbrev S2x8 : Shape := ⟨2, ![2, 8]⟩
abbrev S_ : Shape := ⟨0, ![]⟩
abbrev S8x128 : Shape := ⟨2, ![8, 128]⟩
abbrev S8x4096x128 : Shape := ⟨3, ![8, 4096, 128]⟩
abbrev S512x128 : Shape := ⟨2, ![512, 128]⟩
abbrev S8x512x128 : Shape := ⟨3, ![8, 512, 128]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩

abbrev nBuf : Space → Nat
  | .hbm => 11
  | .vmem => 7
  | .smem => 0
  | _ => 0

abbrev bufTy : (tb : Table) → Fin (tcTables nBuf tb) → BufTy
  | .hbm, ⟨0, _⟩ => ⟨S4096x8320, .f32⟩
  | .hbm, ⟨1, _⟩ => ⟨S8, .f32⟩
  | .hbm, ⟨2, _⟩ => ⟨S8, .f32⟩
  | .hbm, ⟨3, _⟩ => ⟨S1x8, .f32⟩
  | .hbm, ⟨4, _⟩ => ⟨S1x8, .f32⟩
  | .hbm, ⟨5, _⟩ => ⟨S2x8, .f32⟩
  | .hbm, ⟨6, _⟩ => ⟨S_, .i32⟩
  | .hbm, ⟨7, _⟩ => ⟨S_, .f32⟩
  | .hbm, ⟨8, _⟩ => ⟨S8x128, .f32⟩
  | .hbm, ⟨9, _⟩ => ⟨S8x4096x128, .f32⟩
  | .hbm, ⟨10, _⟩ => ⟨S8x4096x128, .f32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S8x512x128, .f32⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S4096x8320 : Shape := ⟨2, ![4096, 8320]⟩
abbrev S8 : Shape := ⟨1, ![8]⟩
abbrev S4096x8 : Shape := ⟨2, ![4096, 8]⟩
abbrev S_ : Shape := ⟨0, ![]⟩
abbrev S1x8 : Shape := ⟨2, ![1, 8]⟩
abbrev S32x128x8 : Shape := ⟨3, ![32, 128, 8]⟩
abbrev S8x4096 : Shape := ⟨2, ![8, 4096]⟩
abbrev S8x4096x1 : Shape := ⟨3, ![8, 4096, 1]⟩
abbrev S8x4096x128 : Shape := ⟨3, ![8, 4096, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S8, .f32⟩
  | .hbm, ⟨2, _⟩ => ⟨S8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S_, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S8, .f32⟩
  | .hbm, ⟨13, _⟩ => ⟨S8, .f32⟩
  | .hbm, ⟨14, _⟩ => ⟨S4096x8, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S_, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .i1⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S1x8, .f32⟩
  | .hbm, ⟨33, _⟩ => ⟨S4096x8, .f32⟩
  | .hbm, ⟨34, _⟩ => ⟨S4096x8, .f32⟩
  | .hbm, ⟨35, _⟩ => ⟨S32x128x8, .f32⟩
  | .hbm, ⟨36, _⟩ => ⟨S_, .f32⟩
  | .hbm, ⟨37, _⟩ => ⟨S_, .f32⟩
  | .hbm, ⟨38, _⟩ => ⟨S32x128x8, .f32⟩
  | .hbm, ⟨39, _⟩ => ⟨S4096x8, .f32⟩
  | .hbm, ⟨40, _⟩ => ⟨S8x4096, .f32⟩
  | .hbm, ⟨41, _⟩ => ⟨S8x4096x1, .f32⟩
  | .hbm, ⟨42, _⟩ => ⟨S8x4096x128, .f32⟩
  | .hbm, ⟨43, _⟩ => ⟨S8x4096, .f32⟩
  | .hbm, ⟨44, _⟩ => ⟨S8x4096x1, .f32⟩
  | .hbm, ⟨45, _⟩ => ⟨S8x4096x128, .f32⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_call0_cst : Ref sig .tc := ⟨.hbm, 36, rfl⟩
abbrev main_call1_call0_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.State.FwdBase.lean ====
/- What the runs of the body of the forward recurrence (`delta_state_fwd`) share: the windows' blocks at given entry contents `V`, the
   condition of its one branch, the staging memrefs and the carried scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- One staging buffer of each output window, through which its contents are stated (`View.read_writes_of_cover`: the
    choice does not matter). -/
abbrev VO0_6 : View sig .tc .vmem S128x1024 .f32 := (Memref.whole cc0_stg6_0 : Memref sig .tc .vmem S128x1024 .f32).view
abbrev VO0_7 : View sig .tc .vmem S8x1x128x128 .f32 := (Memref.whole cc0_stg7_0 : Memref sig .tc .vmem S8x1x128x128 .f32).view
/-- Each window's current staging memref at point `t`, spelled as the pipeline passes it (`bodyAt0`), and its wholeness. -/
abbrev ms0_0 (t : Fin cfg0.N) : Memref sig .tc .vmem S8x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1x128x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x128x128 .f32 := Memref.whole cc0_scratch0
/-- The scratch `arg9` the kernel carries between points, as a view: what it holds is stated through it. -/
abbrev VS0_0 : View sig .tc .vmem S8x128x128 .f32 := scM0_0.view

/-- What the region does not touch of the scoped buffers: all but its staging buffers and the scratch it carries. -/
abbrev Rest0 (c : Dev nD) : sProp 𝕄 := Pipeline.scopedRestBut (Ix := Unit) (Name := ℕ) (U := UR sig nD τ) (Lvl := ℕ) (Val := Elt F) spec0 c [cc0_scratch0]

/-- The class's invariant with the carried scratch taken out, as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [Pipeline.scopedRest_split_of_list spec0 c [cc0_scratch0] (by decide) (by decide)]; simp only [scM0_0, owns_whole]; try rfl

end Cert.KernelIdeal.State

end
-- ==== Proof.State.FwdRunA.lean ====
/- The body of the forward recurrence (`delta_state_fwd`) run as a whole, at the first grid point. -/
module

public import proofs.«01_k».proof.Proof.State.FwdBase

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8x128x128 .f32) (harg1 : arg1.IsWhole) (arg2 : Memref sig .tc .vmem S8x128x128 .bf16) (harg2 : arg2.IsWhole) (arg3 : Memref sig .tc .vmem S8x128x128 .bf16) (harg3 : arg3.IsWhole) (arg4 : Memref sig .tc .vmem S8x128x128 .bf16) (harg4 : arg4.IsWhole) (arg5 : Memref sig .tc .vmem S8x128x128 .bf16) (harg5 : arg5.IsWhole) (arg6 : Memref sig .tc .vmem S8x128x128 .f32) (harg6 : arg6.IsWhole) (arg7 : Memref sig .tc .vmem S128x1024 .f32) (harg7 : arg7.IsWhole) (arg8 : Memref sig .tc .vmem S8x1x128x128 .f32) (harg8 : arg8.IsWhole) (arg9 : Memref sig .tc .vmem S8x128x128 .f32) (harg9 : arg9.IsWhole) (hc0 : cond0_0 i)
    (x0 : Vec F S8x128x128 .f32) (x1 : Vec F S8x128x128 .bf16) (x2 : Vec F S8x128x128 .bf16) (x3 : Vec F S8x128x128 .bf16) (x4 : Vec F S8x128x128 .bf16) (x5 : Vec F S8x128x128 .f32) :
    Σ' (L6 : List (View.Piece (Elt F) S128x1024 .f32)), Σ' (L7 : List (View.Piece (Elt F) S8x1x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_delta_state_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_delta_state_fwd_eq_skeleton]; unfold cc0_delta_state_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.State

end
-- ==== Proof.State.FwdRunB.lean ====
/- The body of the forward recurrence (`delta_state_fwd`) run as a whole, at a later grid point. -/
module

public import proofs.«01_k».proof.Proof.State.FwdRunA

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8x128x128 .f32) (harg1 : arg1.IsWhole) (arg2 : Memref sig .tc .vmem S8x128x128 .bf16) (harg2 : arg2.IsWhole) (arg3 : Memref sig .tc .vmem S8x128x128 .bf16) (harg3 : arg3.IsWhole) (arg4 : Memref sig .tc .vmem S8x128x128 .bf16) (harg4 : arg4.IsWhole) (arg5 : Memref sig .tc .vmem S8x128x128 .bf16) (harg5 : arg5.IsWhole) (arg6 : Memref sig .tc .vmem S8x128x128 .f32) (harg6 : arg6.IsWhole) (arg7 : Memref sig .tc .vmem S128x1024 .f32) (harg7 : arg7.IsWhole) (arg8 : Memref sig .tc .vmem S8x1x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .bf16) (x2 : Vec F S8x128x128 .bf16) (x3 : Vec F S8x128x128 .bf16) (x4 : Vec F S8x128x128 .bf16) (x5 : Vec F S8x128x128 .f32) (xs0 : Vec F S8x128x128 .f32) :
    Σ' (L6 : List (View.Piece (Elt F) S128x1024 .f32)), Σ' (L7 : List (View.Piece (Elt F) S8x1x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_delta_state_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_delta_state_fwd_eq_skeleton]; unfold cc0_delta_state_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.State

end
-- ==== Proof.State.Fwd.lean ====
/- The region of the forward recurrence (`delta_state_fwd`): what its body leaves point by point, its proof data at given entry
   contents `V`, and its body obligation. -/
module

public import proofs.«01_k».proof.Proof.State.FwdRunB
public import Idealize.ShloMosaic.Lib.Claim

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the outputs hold after each point -/

/-- The outputs' buffers in window order, then the carried scratch. -/
abbrev Left0 (F : FTy → Type) := Vec F S128x1024 .f32 × Vec F S8x1x128x128 .f32 × Vec F S8x128x128 .f32

/-- What case A leaves at point `t`. -/
abbrev at0_A (c : Dev nD) (t : Fin cfg0.N) (hc0 : cond0_0 (grid0.coords t)) : Left0 F :=
  let r := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 (iblk0 V c 0 t) (iblk0 V c 1 t) (iblk0 V c 2 t) (iblk0 V c 3 t) (iblk0 V c 4 t) (iblk0 V c 5 t)
  (VO0_6.read (Elt F) (VO0_6.writes (Elt F) VO0_6.junk r.1),
    VO0_7.read (Elt F) (VO0_7.writes (Elt F) VO0_7.junk r.2.1),
    VS0_0.read (Elt F) (VS0_0.writes (Elt F) VS0_0.junk r.2.2.1))

/-- What case B leaves at point `t` over the scratch's contents `xs`. -/
abbrev at0_B (c : Dev nD) (t : Fin cfg0.N) (hc0 : ¬cond0_0 (grid0.coords t)) (xs : Vec F S8x128x128 .f32) : Left0 F :=
  let r := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 (iblk0 V c 0 t) (iblk0 V c 1 t) (iblk0 V c 2 t) (iblk0 V c 3 t) (iblk0 V c 4 t) (iblk0 V c 5 t) xs
  (VO0_6.read (Elt F) (VO0_6.writes (Elt F) VO0_6.junk r.1),
    VO0_7.read (Elt F) (VO0_7.writes (Elt F) VO0_7.junk r.2.1),
    VS0_0.read (Elt F) (VS0_0.writes (Elt F) VS0_0.junk r.2.2.1))

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Left0 F
  | 0, hn => at0_A V c ⟨0, hn⟩ ((hcond0_0 ⟨0, hn⟩).mpr (Nat.zero_mod _))
  | n + 1, hn =>
    if h0 : (n + 1) % 32 = 0 then
      at0_A V c ⟨n + 1, hn⟩ ((hcond0_0 ⟨n + 1, hn⟩).mpr h0)
    else
      at0_B V c ⟨n + 1, hn⟩ (fun h => h0 ((hcond0_0 ⟨n + 1, hn⟩).mp h)) (outsAt0 c n (Nat.lt_of_succ_lt hn)).2.2

/-- `outsAt0` at a point of case A: that case's contents. -/
theorem outsAt0_A (c : Dev nD) (t : Fin cfg0.N) (h0 : t.val % 32 = 0) :
    outsAt0 V c t.val t.isLt = at0_A V c t ((hcond0_0 t).mpr h0) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 V c t.val t.isLt = at0_B V c t (fun h => h0 ((hcond0_0 t).mp h)) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS_zero0 (c : Dev nD) (n : ℕ) (h : n ≤ cfg0.N) (hz : n = 0) : PhiS0 V c n h = Pipeline.ΦA spec0 c := by
  subst hz; rfl

/-- After point `n` (before point `n + 1`): the carried scratch at that point's contents. -/
theorem PhiS_succ0 (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

/-- Before a point that is not the first: the carried scratch at what the point before left. -/
theorem PhiS_pos0 (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos0`; at anything at the first point, `PhiS_zero0`), the other scratch buffers and the generator register at some state, and takes the carried scratch back at this point's contents (`PhiS_succ0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = PhiS0 V c (t.val + 1) t.isLt from rfl, PhiS_succ0]
  have hN : t.val < 32 := lt_of_lt_of_eq t.isLt (show cfg0.N = 32 from N_0)
  by_cases h0 : t.val % 32 = 0
  · by_cases hz : t.val = 0
    · rw [PhiS_castSucc0 V c t, PhiS_zero0 V c _ _ hz, PhiA0_eq]
      rw [outsAt0_A V c t h0, at0_A]
      dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (View.cover_of_wholeMem _ (by sl_whole_mem))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (View.cover_of_tiledL _ S128x128.size (by sl_kernel_rfl))
      unfold owns; iexists _; isplitr
      swap; · iexact H7
      ipureintro; exact View.read_writes_of_cover _ _ _ _ _ (View.cover_of_tiledL _ S8x1x128x128.size (by sl_kernel_rfl))
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc0 V c t, PhiS_pos0 V c _ _ hz]
      rw [outsAt0_B V c t h0, at0_B]
      dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (View.cover_of_tiledL _ S1x128x128.size (by sl_kernel_rfl))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (View.cover_of_tiledL _ S128x128.size (by sl_kernel_rfl))
      unfold owns; iexists _; isplitr
      swap; · iexact H7
      ipureintro; exact View.read_writes_of_cover _ _ _ _ _ (View.cover_of_tiledL _ S8x1x128x128.size (by sl_kernel_rfl))

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.State

end
-- ==== Proof.State.BwdBase.lean ====
/- What the runs of the body of the gradient of the recurrence (`delta_state_bwd`) share: the windows' blocks at given entry contents `V`, the
   condition of its one branch, the staging memrefs and the carried scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-! ## The kernel body on any staging memrefs: a subtype the run finds -/

/-- One staging buffer of each output window, through which its contents are stated (`View.read_writes_of_cover`: the
    choice does not matter). -/
abbrev VO1_8 : View sig .tc .vmem S8x128x128 .f32 := (Memref.whole cc1_stg8_0 : Memref sig .tc .vmem S8x128x128 .f32).view
abbrev VO1_9 : View sig .tc .vmem S8x128x128 .f32 := (Memref.whole cc1_stg9_0 : Memref sig .tc .vmem S8x128x128 .f32).view
abbrev VO1_10 : View sig .tc .vmem S8x128x128 .f32 := (Memref.whole cc1_stg10_0 : Memref sig .tc .vmem S8x128x128 .f32).view
abbrev VO1_11 : View sig .tc .vmem S8x128x128 .f32 := (Memref.whole cc1_stg11_0 : Memref sig .tc .vmem S8x128x128 .f32).view
abbrev VO1_12 : View sig .tc .vmem S8x128x128 .f32 := (Memref.whole cc1_stg12_0 : Memref sig .tc .vmem S8x128x128 .f32).view
abbrev VO1_13 : View sig .tc .vmem S8x128x128 .f32 := (Memref.whole cc1_stg13_0 : Memref sig .tc .vmem S8x128x128 .f32).view
/-- Each window's current staging memref at point `t`, spelled as the pipeline passes it (`bodyAt1`), and its wholeness. -/
abbrev ms1_0 (t : Fin cfg1.N) : Memref sig .tc .vmem S8x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x1x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x128x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x128x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8x128x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x128x128 .f32 := win1_13.stage (cfg1.slots t 13)
abbrev hs1_13 (t : Fin cfg1.N) : (ms1_13 t).IsWhole := hstage1_13 ((cfg1.slots t 13).cast nbuf1_13)
/-- The scratch operands: whole scoped buffers of the kernel's own, passed beside the windows. -/
abbrev scM1_0 : Memref sig .tc .vmem S8x128x128 .f32 := Memref.whole cc1_scratch0
/-- The scratch `arg15` the kernel carries between points, as a view: what it holds is stated through it. -/
abbrev VS1_0 : View sig .tc .vmem S8x128x128 .f32 := scM1_0.view

/-- What the region does not touch of the scoped buffers: all but its staging buffers and the scratch it carries. -/
abbrev Rest1 (c : Dev nD) : sProp 𝕄 := Pipeline.scopedRestBut (Ix := Unit) (Name := ℕ) (U := UR sig nD τ) (Lvl := ℕ) (Val := Elt F) spec1 c [cc1_scratch0]

/-- The class's invariant with the carried scratch taken out, as a memref owned at some contents. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [Pipeline.scopedRest_split_of_list spec1 c [cc1_scratch0] (by decide) (by decide)]; simp only [scM1_0, owns_whole]; try rfl

end Cert.KernelIdeal.State

end
-- ==== Proof.State.BwdRunA.lean ====
/- The body of the gradient of the recurrence (`delta_state_bwd`) run as a whole, at the first grid point. -/
module

public import proofs.«01_k».proof.Proof.State.BwdBase

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1324000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S8x128x128 .f32) (harg1 : arg1.IsWhole) (arg2 : Memref sig .tc .vmem S8x128x128 .bf16) (harg2 : arg2.IsWhole) (arg3 : Memref sig .tc .vmem S8x128x128 .bf16) (harg3 : arg3.IsWhole) (arg4 : Memref sig .tc .vmem S8x128x128 .bf16) (harg4 : arg4.IsWhole) (arg5 : Memref sig .tc .vmem S8x128x128 .bf16) (harg5 : arg5.IsWhole) (arg6 : Memref sig .tc .vmem S8x128x128 .f32) (harg6 : arg6.IsWhole) (arg7 : Memref sig .tc .vmem S8x1x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x128 .f32) (harg14 : arg14.IsWhole) (arg15 : Memref sig .tc .vmem S8x128x128 .f32) (harg15 : arg15.IsWhole) (hc0 : cond1_0 i)
    (x0 : Vec F S8x128x128 .f32) (x1 : Vec F S8x128x128 .bf16) (x2 : Vec F S8x128x128 .bf16) (x3 : Vec F S8x128x128 .bf16) (x4 : Vec F S8x128x128 .bf16) (x5 : Vec F S8x128x128 .f32) (x6 : Vec F S8x1x128x128 .f32) (x7 : Vec F S128x1024 .f32) :
    Σ' (L8 : List (View.Piece (Elt F) S8x128x128 .f32)), Σ' (L9 : List (View.Piece (Elt F) S8x128x128 .f32)), Σ' (L10 : List (View.Piece (Elt F) S8x128x128 .f32)), Σ' (L11 : List (View.Piece (Elt F) S8x128x128 .f32)), Σ' (L12 : List (View.Piece (Elt F) S8x128x128 .f32)), Σ' (L13 : List (View.Piece (Elt F) S8x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_delta_state_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_delta_state_bwd_eq_skeleton]; unfold cc1_delta_state_bwd_skel
    simp only [k1_part23_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.State

end
-- ==== Proof.State.BwdRunB.lean ====
/- The body of the gradient of the recurrence (`delta_state_bwd`) run as a whole, at a later grid point. -/
module

public import proofs.«01_k».proof.Proof.State.BwdRunA

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1312000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S8x128x128 .f32) (harg1 : arg1.IsWhole) (arg2 : Memref sig .tc .vmem S8x128x128 .bf16) (harg2 : arg2.IsWhole) (arg3 : Memref sig .tc .vmem S8x128x128 .bf16) (harg3 : arg3.IsWhole) (arg4 : Memref sig .tc .vmem S8x128x128 .bf16) (harg4 : arg4.IsWhole) (arg5 : Memref sig .tc .vmem S8x128x128 .bf16) (harg5 : arg5.IsWhole) (arg6 : Memref sig .tc .vmem S8x128x128 .f32) (harg6 : arg6.IsWhole) (arg7 : Memref sig .tc .vmem S8x1x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x128 .f32) (harg14 : arg14.IsWhole) (arg15 : Memref sig .tc .vmem S8x128x128 .f32) (harg15 : arg15.IsWhole) (hc0 : ¬cond1_0 i)
    (x0 : Vec F S8x128x128 .f32) (x1 : Vec F S8x128x128 .bf16) (x2 : Vec F S8x128x128 .bf16) (x3 : Vec F S8x128x128 .bf16) (x4 : Vec F S8x128x128 .bf16) (x5 : Vec F S8x128x128 .f32) (x6 : Vec F S8x1x128x128 .f32) (x7 : Vec F S128x1024 .f32) (xs0 : Vec F S8x128x128 .f32) :
    Σ' (L8 : List (View.Piece (Elt F) S8x128x128 .f32)), Σ' (L9 : List (View.Piece (Elt F) S8x128x128 .f32)), Σ' (L10 : List (View.Piece (Elt F) S8x128x128 .f32)), Σ' (L11 : List (View.Piece (Elt F) S8x128x128 .f32)), Σ' (L12 : List (View.Piece (Elt F) S8x128x128 .f32)), Σ' (L13 : List (View.Piece (Elt F) S8x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_delta_state_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_delta_state_bwd_eq_skeleton]; unfold cc1_delta_state_bwd_skel
    simp only [k1_part23_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.State

end
-- ==== Proof.State.Bwd.lean ====
/- The region of the gradient of the recurrence (`delta_state_bwd`): what its body leaves point by point, its proof data at given entry
   contents `V`, and its body obligation. -/
module

public import proofs.«01_k».proof.Proof.State.BwdRunB
public import Idealize.ShloMosaic.Lib.Claim

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the outputs hold after each point -/

/-- The outputs' buffers in window order, then the carried scratch. -/
abbrev Left1 (F : FTy → Type) := Vec F S8x128x128 .f32 × Vec F S8x128x128 .f32 × Vec F S8x128x128 .f32 × Vec F S8x128x128 .f32 × Vec F S8x128x128 .f32 × Vec F S8x128x128 .f32 × Vec F S8x128x128 .f32

/-- What case A leaves at point `t`. -/
abbrev at1_A (c : Dev nD) (t : Fin cfg1.N) (hc0 : cond1_0 (grid1.coords t)) : Left1 F :=
  let r := kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) hc0 (iblk1 V c 0 t) (iblk1 V c 1 t) (iblk1 V c 2 t) (iblk1 V c 3 t) (iblk1 V c 4 t) (iblk1 V c 5 t) (iblk1 V c 6 t) (iblk1 V c 7 t)
  (VO1_8.read (Elt F) (VO1_8.writes (Elt F) VO1_8.junk r.1),
    VO1_9.read (Elt F) (VO1_9.writes (Elt F) VO1_9.junk r.2.1),
    VO1_10.read (Elt F) (VO1_10.writes (Elt F) VO1_10.junk r.2.2.1),
    VO1_11.read (Elt F) (VO1_11.writes (Elt F) VO1_11.junk r.2.2.2.1),
    VO1_12.read (Elt F) (VO1_12.writes (Elt F) VO1_12.junk r.2.2.2.2.1),
    VO1_13.read (Elt F) (VO1_13.writes (Elt F) VO1_13.junk r.2.2.2.2.2.1),
    VS1_0.read (Elt F) (VS1_0.writes (Elt F) VS1_0.junk r.2.2.2.2.2.2.1))

/-- What case B leaves at point `t` over the scratch's contents `xs`. -/
abbrev at1_B (c : Dev nD) (t : Fin cfg1.N) (hc0 : ¬cond1_0 (grid1.coords t)) (xs : Vec F S8x128x128 .f32) : Left1 F :=
  let r := kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) hc0 (iblk1 V c 0 t) (iblk1 V c 1 t) (iblk1 V c 2 t) (iblk1 V c 3 t) (iblk1 V c 4 t) (iblk1 V c 5 t) (iblk1 V c 6 t) (iblk1 V c 7 t) xs
  (VO1_8.read (Elt F) (VO1_8.writes (Elt F) VO1_8.junk r.1),
    VO1_9.read (Elt F) (VO1_9.writes (Elt F) VO1_9.junk r.2.1),
    VO1_10.read (Elt F) (VO1_10.writes (Elt F) VO1_10.junk r.2.2.1),
    VO1_11.read (Elt F) (VO1_11.writes (Elt F) VO1_11.junk r.2.2.2.1),
    VO1_12.read (Elt F) (VO1_12.writes (Elt F) VO1_12.junk r.2.2.2.2.1),
    VO1_13.read (Elt F) (VO1_13.writes (Elt F) VO1_13.junk r.2.2.2.2.2.1),
    VS1_0.read (Elt F) (VS1_0.writes (Elt F) VS1_0.junk r.2.2.2.2.2.2.1))

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Left1 F
  | 0, hn => at1_A V c ⟨0, hn⟩ ((hcond1_0 ⟨0, hn⟩).mpr (Nat.zero_mod _))
  | n + 1, hn =>
    if h0 : (n + 1) % 32 = 0 then
      at1_A V c ⟨n + 1, hn⟩ ((hcond1_0 ⟨n + 1, hn⟩).mpr h0)
    else
      at1_B V c ⟨n + 1, hn⟩ (fun h => h0 ((hcond1_0 ⟨n + 1, hn⟩).mp h)) (outsAt1 c n (Nat.lt_of_succ_lt hn)).2.2.2.2.2.2

/-- `outsAt1` at a point of case A: that case's contents. -/
theorem outsAt1_A (c : Dev nD) (t : Fin cfg1.N) (h0 : t.val % 32 = 0) :
    outsAt1 V c t.val t.isLt = at1_A V c t ((hcond1_0 t).mpr h0) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 32 = 0) :
    outsAt1 V c t.val t.isLt = at1_B V c t (fun h => h0 ((hcond1_0 t).mp h)) (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2.2.2) ∗ Rest1 c) ∗ (∃ r, prngReg c r))

theorem PhiS_zero1 (c : Dev nD) (n : ℕ) (h : n ≤ cfg1.N) (hz : n = 0) : PhiS1 V c n h = Pipeline.ΦA spec1 c := by
  subst hz; rfl

/-- After point `n` (before point `n + 1`): the carried scratch at that point's contents. -/
theorem PhiS_succ1 (c : Dev nD) (n : ℕ) (hn : n < cfg1.N) :
    PhiS1 V c (n + 1) hn = iprop(iprop(owns (c : Thread nD τ) scM1_0 fullShare ((outsAt1 V c n hn).2.2.2.2.2.2) ∗ Rest1 c) ∗ (∃ r, prngReg c r)) := rfl

/-- Before a point that is not the first: the carried scratch at what the point before left. -/
theorem PhiS_pos1 (c : Dev nD) (n : ℕ) (h : n ≤ cfg1.N) (hz : n ≠ 0) :
    PhiS1 V c n h = iprop(iprop(owns (c : Thread nD τ) scM1_0 fullShare ((outsAt1 V c (n - 1) (by omega)).2.2.2.2.2.2) ∗ Rest1 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
    | ⟨10, _⟩ => (outsAt1 V c t.val t.isLt).2.2.1
    | ⟨11, _⟩ => (outsAt1 V c t.val t.isLt).2.2.2.1
    | ⟨12, _⟩ => (outsAt1 V c t.val t.isLt).2.2.2.2.1
    | ⟨13, _⟩ => (outsAt1 V c t.val t.isLt).2.2.2.2.2.1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc1 (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]
theorem after1_10 (c : Dev nD) (t : Fin cfg1.N) : (dat1 V c).after 10 t = (outsAt1 V c t.val t.isLt).2.2.1 := by dsimp only [dat1]
theorem after1_11 (c : Dev nD) (t : Fin cfg1.N) : (dat1 V c).after 11 t = (outsAt1 V c t.val t.isLt).2.2.2.1 := by dsimp only [dat1]
theorem after1_12 (c : Dev nD) (t : Fin cfg1.N) : (dat1 V c).after 12 t = (outsAt1 V c t.val t.isLt).2.2.2.2.1 := by dsimp only [dat1]
theorem after1_13 (c : Dev nD) (t : Fin cfg1.N) : (dat1 V c).after 13 t = (outsAt1 V c t.val t.isLt).2.2.2.2.2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

omit [FloatOps F] in
/-- Stores of a head's matrix each that tile a block leave the same whatever was there and through whichever buffer. -/
theorem covered {v v' : View sig .tc .vmem S8x128x128 .f32} {f f'} {L : List (View.Piece (Elt F) S8x128x128 .f32)}
    (h : View.Piece.tiledL L S1x128x128.size = true) : v.read (Elt F) (v.writes (Elt F) f L) = v'.read (Elt F) (v'.writes (Elt F) f' L) :=
  View.read_writes_of_cover _ _ _ _ _ (View.cover_of_tiledL _ S1x128x128.size h)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos1`; at anything at the first point, `PhiS_zero1`), the other scratch buffers and the generator register at some state, and takes the carried scratch back at this point's contents (`PhiS_succ1`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = PhiS1 V c (t.val + 1) t.isLt from rfl, PhiS_succ1]
  have hN : t.val < 32 := lt_of_lt_of_eq t.isLt (show cfg1.N = 32 from N_1)
  by_cases h0 : t.val % 32 = 0
  on_goal 1 =>
    rw [PhiS_castSucc1 V c t, PhiS_zero1 V c _ _ (by omega), PhiA1_eq]
    rw [outsAt1_A V c t h0, at1_A]
    dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun1_A c (grid1.coords t) _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2.2.2.2.2 Set.univ _)
  on_goal 2 =>
    rw [PhiS_castSucc1 V c t, PhiS_pos1 V c _ _ (by omega)]
    rw [outsAt1_B V c t h0, at1_B]
    dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun1_B c (grid1.coords t) _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _).2.2.2.2.2.2.2 Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
    isplitl [HS0 HR Hg]
    · isplitl [HS0 HR]
      · isplitl [HS0]
        · unfold owns; iexists _; isplitr
          swap; · iexact HS0
          ipureintro; first | exact View.read_writes_of_cover _ _ _ _ _ (View.cover_of_wholeMem _ (by sl_whole_mem)) | exact covered (by sl_kernel_rfl)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact covered (by sl_kernel_rfl)
    isplitl [H9]
    · unfold owns; iexists _; isplitr
      swap; · iexact H9
      ipureintro; exact covered (by sl_kernel_rfl)
    isplitl [H10]
    · unfold owns; iexists _; isplitr
      swap; · iexact H10
      ipureintro; exact covered (by sl_kernel_rfl)
    isplitl [H11]
    · unfold owns; iexists _; isplitr
      swap; · iexact H11
      ipureintro; exact covered (by sl_kernel_rfl)
    isplitl [H12]
    · unfold owns; iexists _; isplitr
      swap; · iexact H12
      ipureintro; exact covered (by sl_kernel_rfl)
    unfold owns; iexists _; isplitr
    swap; · iexact H13
    ipureintro; exact covered (by sl_kernel_rfl)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS_pos1 V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.State

end
-- ==== Proof.State.Run.lean ====
/- The run of @main: the host casts, the forward recurrence's region, the gradient's region; the contents of
   every buffer at each boundary (`W0` … `W3`), and the frame. -/
module

public import proofs.«01_k».proof.Proof.State.Fwd
public import proofs.«01_k».proof.Proof.State.Bwd
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin0 (V1 m ρ) c)
    unfold Pipeline.ΦA
    iintro ⟨Hp, -, Hr⟩
    isplitl [Hr]; · iexact Hr
    iexact Hp
  hout c := by
    refine BI.BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin1 (V2 m ρ) c)
    unfold Pipeline.ΦA
    iintro ⟨Hp, -, Hr⟩
    isplitl [Hr]; · iexact Hr
    iexact Hp
  hout c := by
    refine BI.BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one, which takes unfolding plain
-- definitions in a metavariable's type
set_option backward.isDefEq.respectTransparency.types false in
/-- THE RUN, over any float values: from any memory with zero counters every execution of @main terminates without fault, and
    ends with every unscoped buffer at the last boundary's contents `W3` and every semaphore counter at zero. -/
theorem run_held : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- An argument array ends as launched. -/
theorem arg_end (c : Dev nD) {r : (ℓ : Loc nD τ sig) → Buf (Elt F) ℓ} (h : ∀ b ∈ Pipeline.ucRefs τ sig, r (((c : Thread nD τ)).1, b) = W3 m ρ c b)
    (a : Ref sig .tc) (ha : a ∈ argRefs) (hu : ¬ (Proc.devRef .tc a : DevRef τ sig).isScoped) :
    r ((c.tc : Thread nD τ).loc a) = m ((c.tc : Thread nD τ).loc a) :=
  (h _ (mem_uc a hu)).trans (W3_args m ρ c a ha)

/-- THE FRAME, over any float values: @main terminates without fault, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨arg_end m ρ c (h.1 c) main_arg0 (by decide) (by decide),
    arg_end m ρ c (h.1 c) main_arg1 (by decide) (by decide),
    arg_end m ρ c (h.1 c) main_arg2 (by decide) (by decide),
    arg_end m ρ c (h.1 c) main_arg3 (by decide) (by decide),
    arg_end m ρ c (h.1 c) main_arg4 (by decide) (by decide),
    arg_end m ρ c (h.1 c) main_arg5 (by decide) (by decide),
    arg_end m ρ c (h.1 c) main_arg6 (by decide) (by decide)⟩, h.2⟩) (run_held m ρ)

end Cert.KernelIdeal.State

end
-- ==== Proof.State.Table.lean ====
/- The two programs' body tables over the machine's words are one and the same: the kernel's text is the same in both, and each of its two
   bodies is compared on its own. -/
module

public import proofs.«01_k».proof.Defs
public import proofs.«01_k».proof.Proof.Gen.Kernel
public import proofs.«01_k».proof.Proof.Gen.KernelIdeal

public section

set_option maxRecDepth 16384
set_option maxHeartbeats 1000000

namespace Cert.KernelIdeal.State

open Idealize.ShloMosaic

/-- The forward call's body is the same in both programs. -/
theorem body_fwd (a) : Cert.Kernel.defs₀ (F := Bits) .tc (0 : Fin 2) a = Cert.KernelIdeal.defs₀ (F := Bits) .tc (0 : Fin 2) a := rfl

/-- The backward call's body is the same in both programs. -/
theorem body_bwd (a) : Cert.Kernel.defs₀ (F := Bits) .tc (1 : Fin 2) a = Cert.KernelIdeal.defs₀ (F := Bits) .tc (1 : Fin 2) a := rfl

/-- The kernels' tables are equal, label by label. -/
theorem bodies : Cert.Kernel.defs₀ (F := Bits) = Cert.KernelIdeal.defs₀ (F := Bits) := by
  funext κ l
  cases κ with
  | tc =>
    exact Fin.cases
      (motive := fun l => Cert.Kernel.defs₀ (F := Bits) .tc l = Cert.KernelIdeal.defs₀ (F := Bits) .tc l)
      (funext body_fwd) (fun l => by obtain rfl : l = 0 := Subsingleton.elim _ _; exact funext body_bwd) l
  | scScalar _ => rfl
  | scVector _ _ => rfl

/-- With the pipelines around them too. -/
theorem table : Cert.Kernel.defs (F := Bits) = Cert.KernelIdeal.defs (F := Bits) :=
  congrArg (Idealize.ShloMosaic.Pipeline.defs (Cert.KernelIdeal.pcfgs (F := Bits))) bodies

end Cert.KernelIdeal.State

end
-- ==== Proof.Spec.lean ====
/- The mathematics that both programs compute: one head of the gated delta rule's recurrence over chunks, its state, and
   the gradient with respect to everything that a chunk reads, over the extended reals. -/
module

public import Idealize.ShloMosaic.PureOps.Ideal
public import Idealize.ShloMosaic.Lib.ValueIdxCore

@[expose] public section

noncomputable section

namespace Cert.Delta

open Idealize.ShloMosaic

/-- A block `[128, 128]`. -/
abbrev M := Fin 128 → Fin 128 → EReal

/-- What one head reads of one chunk: the pseudo-values `u`, the decayed keys `w`, the queries `q`, the keys `k`, the chunk's
    attention `a`, the cumulated log-gates `g` and the cotangent `o` of its output. -/
structure Chunk where
  (u w q k a g o : M)

variable (x : Chunk) (S D : M)

/-- The values that the chunk writes: `u - w S`. -/
def vnew : M := fun c e => x.u c e - ∑ d, x.w c d * S d e
/-- The chunk's whole decay, from its last row. -/
def decay (e : Fin 128) : EReal := Ideal.exp (x.g 127 e)
/-- The state after the chunk. -/
def next : M := fun d e => S d e * decay x e + ∑ c, x.k c d * vnew x S c e

/-- The gradient of `u`. `D` is the gradient of the state after the chunk. -/
def gu : M := fun c e => ∑ d, D d e * x.k c d + ∑ i, x.o i e * x.a i c
/-- The gradient of `w`. -/
def gw : M := fun c d => ∑ e, -gu x D c e * S d e
/-- The gradient of `q`. -/
def gq : M := fun c d => ∑ e, x.o c e * S d e
/-- The gradient of `k`. -/
def gk : M := fun c d => ∑ e, D d e * vnew x S c e
/-- The gradient of `a`. -/
def ga : M := fun i c => ∑ e, x.o i e * vnew x S c e
/-- The gradient of the last row of `g`. -/
def gg (e : Fin 128) : EReal := (∑ d, S d e * D d e) * decay x e
/-- The gradient of the state before the chunk. -/
def back : M := fun d e => (D d e * decay x e + ∑ c, x.o c e * x.q c d) + ∑ c, -gu x D c e * x.w c d

/-- The state before chunk `n`. -/
def state (x : ℕ → Chunk) : ℕ → M
  | 0 => fun _ _ => 0
  | n + 1 => next (x n) (state x n)

/-- The gradient of the state after chunk `31 - t`: what the `t`-th step of the backward scan starts from. -/
def cost (x : ℕ → Chunk) : ℕ → M
  | 0 => fun _ _ => 0
  | t + 1 => back (x (31 - t)) (cost x t)

/-- Row `c` of chunk `n` among the 4096 tokens. -/
def row (n : ℕ) (c : Fin 128) : Fin 4096 := ⟨(n * 128 + c.val) % 4096, Nat.mod_lt _ (by decide)⟩
/-- Column `e` of head `h` among the 1024 columns of the output's cotangent. -/
def col (h : Fin 8) (e : Fin 128) : Fin 1024 := ⟨h.val * 128 + e.val, by omega⟩

theorem row_eq (n : Fin 32) (c : Fin 128) (hr : n.val * 128 + c.val < 4096) : (⟨n.val * 128 + c.val, hr⟩ : Fin 4096) = row n.val c :=
  Fin.ext (Nat.mod_eq_of_lt hr).symm

/-- Chunk `n` of head `h`, cut out of the seven arguments. -/
def chunkOf (u w q k a g : (⟨3, ![8, 4096, 128]⟩ : Shape).Idx → EReal) (o : (⟨2, ![4096, 1024]⟩ : Shape).Idx → EReal) (h : Fin 8) (n : ℕ) : Chunk where
  u c e := u (ValueIdx.ix3 h (row n c) e)
  w c e := w (ValueIdx.ix3 h (row n c) e)
  q c e := q (ValueIdx.ix3 h (row n c) e)
  k c e := k (ValueIdx.ix3 h (row n c) e)
  a c e := a (ValueIdx.ix3 h (row n c) e)
  g c e := g (ValueIdx.ix3 h (row n c) e)
  o c e := o (ValueIdx.ix2 (row n c) (col h e))

end Cert.Delta

end
-- ==== Proof.Val.Heads.lean ====
/- The blocks of the two chunk recurrences, head by head: each body stores one 1 × 128 × 128 piece a head into an 8 × 128 × 128
   block, and the piece of every head is the same function of that head's pieces of the inputs. Here are those functions — the
   next state (forward), and the six chunk cotangents and the next state cotangent (backward) — with their values over the
   extended reals, and what eight such stores leave in a block. -/
module

public import proofs.«01_k».proof.Proof.State.Run
public import proofs.«01_k».proof.Proof.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.State

open Idealize.ShloMosaic Idealize.ShloMosaic.TcCoe Idealize.ShloMosaic.Tactic
open Cert.KernelIdeal.Gen Cert.Delta

section
variable {Val : EltTy → Type} [∀ e, Nonempty (Val e)] {e : EltTy}

/-- A store of head `n` covers head `n`. -/
theorem canon_head (n : Fin 8) (inb : ∀ a, (![n.val, 0, 0] : Fin 3 → ℕ) a + (![1, 128, 128] : Fin 3 → ℕ) a ≤ S8x128x128.size a)
    (w : (⟨3, ![1, 128, 128]⟩ : Shape).Idx → Val e) (L : List (View.Piece Val S8x128x128 e)) (i j : Fin 128) :
    View.canon (⟨Rect.unit ![n.val, 0, 0] ![1, 128, 128] inb, w⟩ :: L) (ix3 n i j) = w (ix3 (0 : Fin 1) i j) := by
  have he : (Rect.unit (s := S8x128x128) ![n.val, 0, 0] ![1, 128, 128] inb).emb (ix3 (0 : Fin 1) i j) = ix3 n i j := by
    funext a; apply Fin.ext
    fin_cases a
    · show n.val + 1 * 0 = n.val; omega
    · show 0 + 1 * i.val = i.val; omega
    · show 0 + 1 * j.val = j.val; omega
  rw [← he]; exact View.canon_cons_emb (Rect.unit (s := S8x128x128) ![n.val, 0, 0] ![1, 128, 128] inb) w L _
/-- A store of head `n` leaves the other heads. -/
theorem canon_head_ne (n h : Fin 8) (hn : h.val ≠ n.val) (inb : ∀ a, (![n.val, 0, 0] : Fin 3 → ℕ) a + (![1, 128, 128] : Fin 3 → ℕ) a ≤ S8x128x128.size a)
    (w : (⟨3, ![1, 128, 128]⟩ : Shape).Idx → Val e) (L : List (View.Piece Val S8x128x128 e)) (i j : Fin 128) :
    View.canon (⟨Rect.unit ![n.val, 0, 0] ![1, 128, 128] inb, w⟩ :: L) (ix3 h i j) = View.canon L (ix3 h i j) := by
  refine View.canon_cons_of_not_mem _ L ?_
  intro hm
  have hm' : ix3 h i j ∈ (Rect.unit (s := S8x128x128) ![n.val, 0, 0] ![1, 128, 128] inb).set := hm
  have := (Rect.mem_set_unit.mp hm') 0
  have h1 : n.val ≤ h.val := this.1
  have h2 : h.val < n.val + 1 := this.2
  omega
/-- What eight stores, one a head, leave in a block. -/
theorem canon_heads (inb0 inb1 inb2 inb3 inb4 inb5 inb6 inb7) (w0 w1 w2 w3 w4 w5 w6 w7 : (⟨3, ![1, 128, 128]⟩ : Shape).Idx → Val e)
    (L : List (View.Piece Val S8x128x128 e)) (h : Fin 8) (i j : Fin 128) :
    View.canon (⟨Rect.unit ![7, 0, 0] ![1, 128, 128] inb7, w7⟩ :: ⟨Rect.unit ![6, 0, 0] ![1, 128, 128] inb6, w6⟩ :: ⟨Rect.unit ![5, 0, 0] ![1, 128, 128] inb5, w5⟩
      :: ⟨Rect.unit ![4, 0, 0] ![1, 128, 128] inb4, w4⟩ :: ⟨Rect.unit ![3, 0, 0] ![1, 128, 128] inb3, w3⟩ :: ⟨Rect.unit ![2, 0, 0] ![1, 128, 128] inb2, w2⟩
      :: ⟨Rect.unit ![1, 0, 0] ![1, 128, 128] inb1, w1⟩ :: ⟨Rect.unit ![0, 0, 0] ![1, 128, 128] inb0, w0⟩ :: L) (ix3 h i j)
      = (![w0, w1, w2, w3, w4, w5, w6, w7] : Fin 8 → _) h (ix3 (0 : Fin 1) i j) := by
  fin_cases h
  · exact (canon_head_ne 7 0 (by decide) inb7 _ _ i j).trans ((canon_head_ne 6 0 (by decide) inb6 _ _ i j).trans ((canon_head_ne 5 0 (by decide) inb5 _ _ i j).trans ((canon_head_ne 4 0 (by decide) inb4 _ _ i j).trans ((canon_head_ne 3 0 (by decide) inb3 _ _ i j).trans ((canon_head_ne 2 0 (by decide) inb2 _ _ i j).trans ((canon_head_ne 1 0 (by decide) inb1 _ _ i j).trans (canon_head 0 inb0 w0 L i j)))))))
  · exact (canon_head_ne 7 1 (by decide) inb7 _ _ i j).trans ((canon_head_ne 6 1 (by decide) inb6 _ _ i j).trans ((canon_head_ne 5 1 (by decide) inb5 _ _ i j).trans ((canon_head_ne 4 1 (by decide) inb4 _ _ i j).trans ((canon_head_ne 3 1 (by decide) inb3 _ _ i j).trans ((canon_head_ne 2 1 (by decide) inb2 _ _ i j).trans (canon_head 1 inb1 w1 _ i j))))))
  · exact (canon_head_ne 7 2 (by decide) inb7 _ _ i j).trans ((canon_head_ne 6 2 (by decide) inb6 _ _ i j).trans ((canon_head_ne 5 2 (by decide) inb5 _ _ i j).trans ((canon_head_ne 4 2 (by decide) inb4 _ _ i j).trans ((canon_head_ne 3 2 (by decide) inb3 _ _ i j).trans (canon_head 2 inb2 w2 _ i j)))))
  · exact (canon_head_ne 7 3 (by decide) inb7 _ _ i j).trans ((canon_head_ne 6 3 (by decide) inb6 _ _ i j).trans ((canon_head_ne 5 3 (by decide) inb5 _ _ i j).trans ((canon_head_ne 4 3 (by decide) inb4 _ _ i j).trans (canon_head 3 inb3 w3 _ i j))))
  · exact (canon_head_ne 7 4 (by decide) inb7 _ _ i j).trans ((canon_head_ne 6 4 (by decide) inb6 _ _ i j).trans ((canon_head_ne 5 4 (by decide) inb5 _ _ i j).trans (canon_head 4 inb4 w4 _ i j)))
  · exact (canon_head_ne 7 5 (by decide) inb7 _ _ i j).trans ((canon_head_ne 6 5 (by decide) inb6 _ _ i j).trans (canon_head 5 inb5 w5 _ i j))
  · exact (canon_head_ne 7 6 (by decide) inb7 _ _ i j).trans (canon_head 6 inb6 w6 _ i j)
  · exact canon_head 7 inb7 w7 _ i j
end

/-- One head's piece of a block: in f32, in bf16, of the kept states, and of the output's cotangent. -/
abbrev B32 := Vec Ideal S1x128x128 .f32
abbrev B16 := Vec Ideal S1x128x128 .bf16
abbrev BS := Vec Ideal S1x1x128x128 .f32
abbrev BO := Vec Ideal S128x128 .f32

/-- The last row, picked out of a block by comparing the row's number with 127 and summing. -/
theorem sum_last_row (f : Fin 128 → EReal) :
    (∑ x : Fin 128, Scalar.select (IntOp.cmpi CmpIPredicate.eq (BitVec.ofNat 32 x.val) 127#32) (f x) (0 : EReal)) = f 127 := by
  rw [Finset.sum_eq_single (127 : Fin 128)]
  · rfl
  · intro b _ hb
    have : ∀ b : Fin 128, b ≠ 127 → IntOp.cmpi CmpIPredicate.eq (BitVec.ofNat 32 b.val) 127#32 = 0#1 := by decide
    rw [this b hb]; rfl
  · intro h; exact absurd (Finset.mem_univ _) h

/-- The next state, as the body computes it. -/
def nextBlk (U : B32) (W K : B16) (G S : B32) : B32 := k0_pay88 (k0_pay79 (k0_pay8 K) (k0_pay10 G) (k0_pay11 S) (k0_pay61 (k0_pay5 U) (k0_pay6 W) (k0_pay11 S)))
/-- The gradient of `u`, as the body computes it. -/
def guBlk (A : B16) (O : BO) (K : B16) (D : B32) : B32 := k1_pay223 (k1_pay194 (k1_pay6 A) O (k1_pay140 (k1_pay5 K) (k1_pay58 D)))
/-- The gradient of `w`, as the body computes it. -/
def gwBlk (A : B16) (O : BO) (K : B16) (D : B32) (S : BS) : B32 := k1_pay224 (k1_pay221 (k1_pay194 (k1_pay6 A) O (k1_pay140 (k1_pay5 K) (k1_pay58 D)))) (k1_pay222 (k1_pay8 S))
/-- The gradient of `q`, as the body computes it. -/
def gqBlk (O : BO) (S : BS) : B32 := k1_pay225 (k1_pay195 (k1_pay8 S) O)
/-- The gradient of `k`, as the body computes it. -/
def gkBlk (U : B32) (W : B16) (D : B32) (S : BS) : B32 := k1_pay226 (k1_pay139 (k1_pay58 D) (k1_pay66 (k1_pay2 U) (k1_pay3 W) (k1_pay8 S)))
/-- The gradient of `a`, as the body computes it. -/
def gaBlk (U : B32) (W : B16) (O : BO) (S : BS) : B32 := k1_pay227 (k1_pay193 O (k1_pay66 (k1_pay2 U) (k1_pay3 W) (k1_pay8 S)))
/-- The gradient of `g`, as the body computes it. -/
def ggBlk (G D : B32) (S : BS) : B32 := k1_pay228 (k1_pay142 (k1_pay8 S) (k1_pay58 D) k1_pay75 (k1_pay76 (k1_pay7 G)))
/-- The gradient of the state before the chunk, as the body computes it. -/
def backBlk (W Q K A : B16) (G : B32) (O : BO) (D : B32) : B32 :=
  k1_pay229 (k1_pay3 W) (k1_pay196 (k1_pay4 Q) O (k1_pay141 (k1_pay58 D) (k1_pay76 (k1_pay7 G)))) (k1_pay220 (k1_pay194 (k1_pay6 A) O (k1_pay140 (k1_pay5 K) (k1_pay58 D))))

/-- The pieces of one head at one chunk hold the chunk's arrays. -/
structure Holds (x : Chunk) (U : B32) (W Q K A : B16) (G : B32) : Prop where
  u : ∀ i j, U (ix3 0 i j) = x.u i j
  w : ∀ i j, W (ix3 0 i j) = x.w i j
  q : ∀ i j, Q (ix3 0 i j) = x.q i j
  k : ∀ i j, K (ix3 0 i j) = x.k i j
  a : ∀ i j, A (ix3 0 i j) = x.a i j
  g : ∀ i j, G (ix3 0 i j) = x.g i j

section
variable {x : Chunk} {S D : M} {U : B32} {W Q K A : B16} {G Sb Db : B32} {O : BO} {Z : BS}
variable (H : Holds x U W Q K A G) (hS : ∀ i j, Sb (ix3 0 i j) = S i j) (hD : ∀ i j, Db (ix3 0 i j) = D i j)
variable (hZ : ∀ i j, Z (ix4 0 0 i j) = S i j) (hO : ∀ i j, O (ix2 i j) = x.o i j) (i j : Fin 128)
include H

include hS in
theorem nextBlk_apply : nextBlk U W K G Sb (ix3 0 i j) = next x S i j := by
  unfold nextBlk; unfold_payloads; pointwise
  simp only [sum_last_row, H.u, H.w, H.k, H.g, hS]; rfl

include hD hO in
theorem guBlk_apply : guBlk A O K Db (ix3 0 i j) = gu x D i j := by
  unfold guBlk; unfold_payloads; pointwise
  simp only [H.k, H.a, hD, hO, mul_comm (x.k _ _), mul_comm (x.a _ _)]; rfl

include hD hO hZ in
theorem gwBlk_apply : gwBlk A O K Db Z (ix3 0 i j) = gw x S D i j := by
  unfold gwBlk; unfold_payloads; pointwise
  simp only [H.k, H.a, hD, hO, hZ, mul_comm (x.k _ _), mul_comm (x.a _ _), zero_sub]; rfl

omit H in
include hO hZ in
theorem gqBlk_apply : gqBlk O Z (ix3 0 i j) = gq x S i j := by
  unfold gqBlk; unfold_payloads; pointwise
  simp only [hO, hZ]; rfl

include hD hZ in
theorem gkBlk_apply : gkBlk U W Db Z (ix3 0 i j) = gk x S D i j := by
  unfold gkBlk; unfold_payloads; pointwise
  simp only [H.u, H.w, hD, hZ, mul_comm _ (D _ _)]; rfl

include hO hZ in
theorem gaBlk_apply : gaBlk U W O Z (ix3 0 i j) = ga x S i j := by
  unfold gaBlk; unfold_payloads; pointwise
  simp only [H.u, H.w, hO, hZ]; rfl

include hD hZ in
theorem ggBlk_apply : ggBlk G Db Z (ix3 0 i j) = if i = 127 then gg x S D j else (0 : EReal) := by
  unfold ggBlk; unfold_payloads; pointwise
  simp only [sum_last_row, H.g, hD, hZ]
  by_cases hi : i = 127
  · subst hi; rw [if_pos rfl]
    refine (show _ = (∑ x_1 : Fin 1, gg x S D j) from rfl).trans (by simp)
  · rw [if_neg hi]
    have : ∀ b : Fin 128, b ≠ 127 → IntOp.cmpi CmpIPredicate.eq (BitVec.ofNat 32 b.val) 127#32 = 0#1 := by decide
    rw [this i hi]; rfl

include hD hO in
theorem backBlk_apply : backBlk W Q K A G O Db (ix3 0 i j) = back x D i j := by
  unfold backBlk; unfold_payloads; pointwise
  simp only [sum_last_row, H.g, H.w, H.q, H.k, H.a, hD, hO, mul_comm (x.k _ _), mul_comm (x.a _ _), mul_comm (x.q _ _), mul_comm (x.w _ _), zero_sub]; rfl

end

/-- The one store of the whole scratch, read back through any box. -/
theorem readCov_whole {Val : EltTy → Type} [∀ e, Nonempty (Val e)] {e : EltTy} {sig : RefSig} {κ : Kind} {sp : Space} (v : View sig κ sp S8x128x128 e)
    (inb : ∀ a, (![0, 0, 0] : Fin 3 → ℕ) a + (![8, 128, 128] : Fin 3 → ℕ) a ≤ S8x128x128.size a) (w : S8x128x128.Idx → Val e) (r : Rect S8x128x128) :
    v.readCov [(⟨Rect.unit (s := S8x128x128) ![0, 0, 0] ![8, 128, 128] inb, w⟩ : View.Piece Val S8x128x128 e)] r.toLoadRect = View.ld w r := by
  rw [View.readCov_eq_canon']
  funext y
  exact congrFun (View.canon_cons_unit_lit inb w [] (by decide)) _
/-- The scratch is filled with zeros at the first point. -/
theorem zero0 (y) : (k0_pay3 (F := Ideal)) y = (0 : EReal) := by unfold_payloads; pointwise
theorem zero1 (y) : (k1_pay1 (F := Ideal)) y = (0 : EReal) := by unfold_payloads; pointwise

theorem inb_hd (h : Fin 8) : ∀ a, (![h.val, 0, 0] : Fin 3 → ℕ) a + (![1, 128, 128] : Fin 3 → ℕ) a ≤ S8x128x128.size a := by
  revert h; decide
/-- Head `h` of a block. -/
def hd (h : Fin 8) : Rect S8x128x128 := Rect.unit ![h.val, 0, 0] ![1, 128, 128] (inb_hd h)

theorem ld_hd {α : EltTy → Type} {e : EltTy} (X : S8x128x128.Idx → α e) (h : Fin 8) (i j : Fin 128) :
    View.ld X (hd h) (ix3 (0 : Fin 1) i j : S1x128x128.Idx) = X (ix3 h i j) := by
  refine congrArg X ?_
  funext a; apply Fin.ext
  fin_cases a
  · show h.val + 1 * 0 = h.val; omega
  · show 0 + 1 * i.val = i.val; omega
  · show 0 + 1 * j.val = j.val; omega

theorem inb_hs (h : Fin 8) : ∀ a, (![h.val, 0, 0, 0] : Fin 4 → ℕ) a + (![1, 1, 128, 128] : Fin 4 → ℕ) a ≤ S8x1x128x128.size a := by
  revert h; decide
/-- Head `h` of a block of the kept states. -/
def hs (h : Fin 8) : Rect S8x1x128x128 := Rect.unit ![h.val, 0, 0, 0] ![1, 1, 128, 128] (inb_hs h)

theorem ld_hs {α : EltTy → Type} {e : EltTy} (X : S8x1x128x128.Idx → α e) (h : Fin 8) (i j : Fin 128) :
    View.ld X (hs h) (ix4 (0 : Fin 1) (0 : Fin 1) i j : S1x1x128x128.Idx) = X (ix4 h (0 : Fin 1) i j) := by
  refine congrArg X ?_
  funext a; apply Fin.ext
  fin_cases a
  · show h.val + 1 * 0 = h.val; omega
  · rfl
  · show 0 + 1 * i.val = i.val; omega
  · show 0 + 1 * j.val = j.val; omega

theorem inb_ho (h : Fin 8) : ∀ a, (![0, h.val * 128] : Fin 2 → ℕ) a + (![128, 128] : Fin 2 → ℕ) a ≤ S128x1024.size a := by
  revert h; decide
/-- Head `h` of a block of the output's cotangent. -/
def ho (h : Fin 8) : Rect S128x1024 := Rect.unit ![0, h.val * 128] ![128, 128] (inb_ho h)

theorem ld_ho {α : EltTy → Type} {e : EltTy} (X : S128x1024.Idx → α e) (h : Fin 8) (i j : Fin 128) :
    View.ld X (ho h) (ix2 i j : S128x128.Idx) = X (ix2 i (col h j)) := by
  refine congrArg X ?_
  funext a; apply Fin.ext
  fin_cases a
  · show 0 + 1 * i.val = i.val; omega
  · show h.val * 128 + 1 * j.val = h.val * 128 + j.val; omega

/-- The six blocks of a point hold the eight heads' chunks. -/
structure HoldsAll (X : Fin 8 → Chunk) (x0 : Vec Ideal S8x128x128 .f32) (x1 x2 x3 x4 : Vec Ideal S8x128x128 .bf16) (x5 : Vec Ideal S8x128x128 .f32) : Prop where
  u : ∀ h i j, x0 (ix3 h i j) = (X h).u i j
  w : ∀ h i j, x1 (ix3 h i j) = (X h).w i j
  q : ∀ h i j, x2 (ix3 h i j) = (X h).q i j
  k : ∀ h i j, x3 (ix3 h i j) = (X h).k i j
  a : ∀ h i j, x4 (ix3 h i j) = (X h).a i j
  g : ∀ h i j, x5 (ix3 h i j) = (X h).g i j

theorem HoldsAll.head {X : Fin 8 → Chunk} {x0 x1 x2 x3 x4 x5} (H : HoldsAll X x0 x1 x2 x3 x4 x5) (h : Fin 8) :
    Holds (X h) (View.ld x0 (hd h)) (View.ld x1 (hd h)) (View.ld x2 (hd h)) (View.ld x3 (hd h)) (View.ld x4 (hd h)) (View.ld x5 (hd h)) where
  u i j := (ld_hd x0 h i j).trans (H.u h i j)
  w i j := (ld_hd x1 h i j).trans (H.w h i j)
  q i j := (ld_hd x2 h i j).trans (H.q h i j)
  k i j := (ld_hd x3 h i j).trans (H.k h i j)
  a i j := (ld_hd x4 h i j).trans (H.a h i j)
  g i j := (ld_hd x5 h i j).trans (H.g h i j)

end Cert.KernelIdeal.State

end
-- ==== Proof.Val.Fwd.lean ====
/- What one point of the forward recurrence leaves: the block of kept states is the state the point started from, and the scratch is
   the state after the point's chunk — for every head. -/
module

public import proofs.«01_k».proof.Proof.Val.Heads

@[expose] public section

set_option maxRecDepth 16384

noncomputable section

namespace Cert.KernelIdeal.State

open Idealize.ShloMosaic Idealize.ShloMosaic.TcCoe Idealize.ShloMosaic.Tactic
open Cert.KernelIdeal.Gen Cert.Delta

variable (V : (c : Dev nD) → (b : Ref sig .tc) → Buf (Elt Ideal) ((c : Thread nD τ).loc b)) (c : Dev nD)

/-- The scratch after a point that finds `S` in it. -/
theorem fwd_scratch_B (t : Fin cfg0.N) (h0 : ¬t.val % 32 = 0) {X : Fin 8 → Chunk} {S : Fin 8 → M}
    (H : HoldsAll X (iblk0 V c 0 t) (iblk0 V c 1 t) (iblk0 V c 2 t) (iblk0 V c 3 t) (iblk0 V c 4 t) (iblk0 V c 5 t))
    (hS : ∀ h i j, (outsAt0 V c (t.val - 1) (by have := t.isLt; omega)).2.2 (ix3 h i j) = S h i j) (h : Fin 8) (i j : Fin 128) :
    (outsAt0 V c t.val t.isLt).2.2 (ix3 h i j) = next (X h) (S h) i j := by
  rw [outsAt0_B V c t h0, at0_B]
  dsimp only
  frame_out
  rw [canon_heads]
  simp only [read_unread_whole]
  generalize iblk0 V c 0 t = x0 at H ⊢
  generalize iblk0 V c 1 t = x1 at H ⊢
  generalize iblk0 V c 2 t = x2 at H ⊢
  generalize iblk0 V c 3 t = x3 at H ⊢
  generalize iblk0 V c 4 t = x4 at H ⊢
  generalize iblk0 V c 5 t = x5 at H ⊢
  generalize (outsAt0 V c (t.val - 1) _).2.2 = xs at hS ⊢
  have f : ∀ h : Fin 8, nextBlk (View.ld x0 (hd h)) (View.ld x1 (hd h)) (View.ld x3 (hd h)) (View.ld x5 (hd h)) (View.ld xs (hd h)) (ix3 0 i j)
      = next (X h) (S h) i j :=
    fun h => nextBlk_apply (H.head h) (fun i j => (ld_hd xs h i j).trans (hS h i j)) i j
  fin_cases h
  exacts [f 0, f 1, f 2, f 3, f 4, f 5, f 6, f 7]

/-- The scratch after the first point, which starts from zeros. -/
theorem fwd_scratch_A (t : Fin cfg0.N) (h0 : t.val % 32 = 0) {X : Fin 8 → Chunk}
    (H : HoldsAll X (iblk0 V c 0 t) (iblk0 V c 1 t) (iblk0 V c 2 t) (iblk0 V c 3 t) (iblk0 V c 4 t) (iblk0 V c 5 t)) (h : Fin 8) (i j : Fin 128) :
    (outsAt0 V c t.val t.isLt).2.2 (ix3 h i j) = next (X h) (fun _ _ => 0) i j := by
  rw [outsAt0_A V c t h0, at0_A]
  dsimp only
  frame_out
  rw [canon_heads]
  simp only [read_unread_whole, readCov_whole]
  generalize iblk0 V c 0 t = x0 at H ⊢
  generalize iblk0 V c 1 t = x1 at H ⊢
  generalize iblk0 V c 2 t = x2 at H ⊢
  generalize iblk0 V c 3 t = x3 at H ⊢
  generalize iblk0 V c 4 t = x4 at H ⊢
  generalize iblk0 V c 5 t = x5 at H ⊢
  have f : ∀ h : Fin 8, nextBlk (View.ld x0 (hd h)) (View.ld x1 (hd h)) (View.ld x3 (hd h)) (View.ld x5 (hd h)) (View.ld (k0_pay3 (F := Ideal)) (hd h)) (ix3 0 i j)
      = next (X h) (fun _ _ => 0) i j :=
    fun h => nextBlk_apply (H.head h) (fun i j => (ld_hd _ h i j).trans (zero0 _)) i j
  fin_cases h
  exacts [f 0, f 1, f 2, f 3, f 4, f 5, f 6, f 7]

/-- The states kept by a point that finds `S` in the scratch. -/
theorem fwd_state_B (t : Fin cfg0.N) (h0 : ¬t.val % 32 = 0) {S : Fin 8 → M}
    (hS : ∀ h i j, (outsAt0 V c (t.val - 1) (by have := t.isLt; omega)).2.2 (ix3 h i j) = S h i j) (h : Fin 8) (i j : Fin 128) :
    (outsAt0 V c t.val t.isLt).2.1 (ix4 h (0 : Fin 1) i j) = S h i j := by
  rw [outsAt0_B V c t h0, at0_B]
  dsimp only
  frame_out
  try simp only [read_unread_whole]
  generalize (outsAt0 V c (t.val - 1) _).2.2 = xs at hS ⊢
  refine Eq.trans ?_ (hS h i j)
  unfold_payloads; pointwise

/-- The states kept by the first point. -/
theorem fwd_state_A (t : Fin cfg0.N) (h0 : t.val % 32 = 0) (h : Fin 8) (i j : Fin 128) :
    (outsAt0 V c t.val t.isLt).2.1 (ix4 h (0 : Fin 1) i j) = (0 : EReal) := by
  rw [outsAt0_A V c t h0, at0_A]
  dsimp only
  frame_out
  unfold_payloads; pointwise

end Cert.KernelIdeal.State

end
-- ==== Proof.Val.Bwd.lean ====
/- What one point of the backward recurrence leaves: the six blocks of gradients and, in the scratch, the gradient of the state before
   the point's chunk — for every head, from the chunk, the kept state and the scratch it found. -/
module

public import proofs.«01_k».proof.Proof.Val.Heads

@[expose] public section

set_option maxRecDepth 16384

noncomputable section

namespace Cert.KernelIdeal.State

open Idealize.ShloMosaic Idealize.ShloMosaic.TcCoe Idealize.ShloMosaic.Tactic
open Cert.KernelIdeal.Gen Cert.Delta

variable (V : (c : Dev nD) → (b : Ref sig .tc) → Buf (Elt Ideal) ((c : Thread nD τ).loc b)) (c : Dev nD)

/-- What a point of the backward recurrence reads: its eight chunks, the states kept before them, the output's cotangent. -/
structure HoldsBwd (t : Fin cfg1.N) (X : Fin 8 → Chunk) (S : Fin 8 → M) : Prop where
  ins : HoldsAll X (iblk1 V c 0 t) (iblk1 V c 1 t) (iblk1 V c 2 t) (iblk1 V c 3 t) (iblk1 V c 4 t) (iblk1 V c 5 t)
  st : ∀ h i j, (iblk1 V c 6 t : Vec Ideal S8x1x128x128 .f32) (ix4 h (0 : Fin 1) i j) = S h i j
  ct : ∀ h i j, (iblk1 V c 7 t : Vec Ideal S128x1024 .f32) (ix2 i (col h j)) = (X h).o i j

/-- What a point of the backward recurrence leaves of chunks `X`, states `S` before them and gradients `D` of the states after them. -/
structure Leaves (t : Fin cfg1.N) (X : Fin 8 → Chunk) (S D : Fin 8 → M) : Prop where
  u : ∀ h i j, (outsAt1 V c t.val t.isLt).1 (ix3 h i j) = gu (X h) (D h) i j
  w : ∀ h i j, (outsAt1 V c t.val t.isLt).2.1 (ix3 h i j) = gw (X h) (S h) (D h) i j
  q : ∀ h i j, (outsAt1 V c t.val t.isLt).2.2.1 (ix3 h i j) = gq (X h) (S h) i j
  k : ∀ h i j, (outsAt1 V c t.val t.isLt).2.2.2.1 (ix3 h i j) = gk (X h) (S h) (D h) i j
  a : ∀ h i j, (outsAt1 V c t.val t.isLt).2.2.2.2.1 (ix3 h i j) = ga (X h) (S h) i j
  g : ∀ h i j, (outsAt1 V c t.val t.isLt).2.2.2.2.2.1 (ix3 h i j) = if i = 127 then gg (X h) (S h) (D h) j else (0 : EReal)
  back : ∀ h i j, (outsAt1 V c t.val t.isLt).2.2.2.2.2.2 (ix3 h i j) = back (X h) (D h) i j

set_option maxHeartbeats 1000000 in
/-- A point with a neighbour after it: the scratch it finds holds the gradients `D`. -/
theorem bwd_B (t : Fin cfg1.N) (h0 : ¬t.val % 32 = 0) {X : Fin 8 → Chunk} {S : Fin 8 → M} {D : Fin 8 → M} (H : HoldsBwd V c t X S)
    (hD : ∀ h i j, (outsAt1 V c (t.val - 1) (by have := t.isLt; omega)).2.2.2.2.2.2 (ix3 h i j) = D h i j) :
    Leaves V c t X S D := by
  constructor
  all_goals
    intro h i j
    rw [outsAt1_B V c t h0, at1_B]
    dsimp only
    frame_out
    rw [canon_heads]
    try simp only [read_unread_whole]
    obtain ⟨H1, H6, H7⟩ := H
    generalize iblk1 V c 0 t = x0, iblk1 V c 1 t = x1, iblk1 V c 2 t = x2, iblk1 V c 3 t = x3, iblk1 V c 4 t = x4, iblk1 V c 5 t = x5, iblk1 V c 6 t = x6, iblk1 V c 7 t = x7 at H1 H6 H7 ⊢
    try generalize (outsAt1 V c (t.val - 1) _).2.2.2.2.2.2 = xs at hD ⊢
    have a6 := fun h i j => (ld_hs x6 h i j).trans (H6 h i j)
    have a7 := fun h i j => (ld_ho x7 h i j).trans (H7 h i j)
    have aS := fun h i j => (ld_hd xs h i j).trans (hD h i j)
  · have f : ∀ h : Fin 8, guBlk (View.ld x4 (hd h)) (View.ld x7 (ho h)) (View.ld x3 (hd h)) (View.ld xs (hd h)) (ix3 0 i j) = gu (X h) (D h) i j :=
      fun h => guBlk_apply (H1.head h) (aS h) (a7 h) i j
    fin_cases h
    exacts [f 0, f 1, f 2, f 3, f 4, f 5, f 6, f 7]
  · have f : ∀ h : Fin 8, gwBlk (View.ld x4 (hd h)) (View.ld x7 (ho h)) (View.ld x3 (hd h)) (View.ld xs (hd h)) (View.ld x6 (hs h)) (ix3 0 i j) = gw (X h) (S h) (D h) i j :=
      fun h => gwBlk_apply (H1.head h) (aS h) (a6 h) (a7 h) i j
    fin_cases h
    exacts [f 0, f 1, f 2, f 3, f 4, f 5, f 6, f 7]
  · have f : ∀ h : Fin 8, gqBlk (View.ld x7 (ho h)) (View.ld x6 (hs h)) (ix3 0 i j) = gq (X h) (S h) i j :=
      fun h => gqBlk_apply (a6 h) (a7 h) i j
    fin_cases h
    exacts [f 0, f 1, f 2, f 3, f 4, f 5, f 6, f 7]
  · have f : ∀ h : Fin 8, gkBlk (View.ld x0 (hd h)) (View.ld x1 (hd h)) (View.ld xs (hd h)) (View.ld x6 (hs h)) (ix3 0 i j) = gk (X h) (S h) (D h) i j :=
      fun h => gkBlk_apply (H1.head h) (aS h) (a6 h) i j
    fin_cases h
    exacts [f 0, f 1, f 2, f 3, f 4, f 5, f 6, f 7]
  · have f : ∀ h : Fin 8, gaBlk (View.ld x0 (hd h)) (View.ld x1 (hd h)) (View.ld x7 (ho h)) (View.ld x6 (hs h)) (ix3 0 i j) = ga (X h) (S h) i j :=
      fun h => gaBlk_apply (H1.head h) (a6 h) (a7 h) i j
    fin_cases h
    exacts [f 0, f 1, f 2, f 3, f 4, f 5, f 6, f 7]
  · have f : ∀ h : Fin 8, ggBlk (View.ld x5 (hd h)) (View.ld xs (hd h)) (View.ld x6 (hs h)) (ix3 0 i j) = if i = 127 then gg (X h) (S h) (D h) j else (0 : EReal) :=
      fun h => ggBlk_apply (H1.head h) (aS h) (a6 h) i j
    fin_cases h
    exacts [f 0, f 1, f 2, f 3, f 4, f 5, f 6, f 7]
  · have f : ∀ h : Fin 8, backBlk (View.ld x1 (hd h)) (View.ld x2 (hd h)) (View.ld x3 (hd h)) (View.ld x4 (hd h)) (View.ld x5 (hd h)) (View.ld x7 (ho h)) (View.ld xs (hd h)) (ix3 0 i j) = back (X h) (D h) i j :=
      fun h => backBlk_apply (H1.head h) (aS h) (a7 h) i j
    fin_cases h
    exacts [f 0, f 1, f 2, f 3, f 4, f 5, f 6, f 7]

set_option maxHeartbeats 1000000 in
/-- The last chunk's point: it starts from a zero gradient of the state. -/
theorem bwd_A (t : Fin cfg1.N) (h0 : t.val % 32 = 0) {X : Fin 8 → Chunk} {S : Fin 8 → M} (H : HoldsBwd V c t X S) :
    Leaves V c t X S (fun _ _ _ => 0) := by
  constructor
  all_goals
    intro h i j
    rw [outsAt1_A V c t h0, at1_A]
    dsimp only
    frame_out
    rw [canon_heads]
    try simp only [read_unread_whole, readCov_whole]
    obtain ⟨H1, H6, H7⟩ := H
    generalize iblk1 V c 0 t = x0, iblk1 V c 1 t = x1, iblk1 V c 2 t = x2, iblk1 V c 3 t = x3, iblk1 V c 4 t = x4, iblk1 V c 5 t = x5, iblk1 V c 6 t = x6, iblk1 V c 7 t = x7 at H1 H6 H7 ⊢
    have a6 := fun h i j => (ld_hs x6 h i j).trans (H6 h i j)
    have a7 := fun h i j => (ld_ho x7 h i j).trans (H7 h i j)
  · have f : ∀ h : Fin 8, guBlk (View.ld x4 (hd h)) (View.ld x7 (ho h)) (View.ld x3 (hd h)) (View.ld (k1_pay1 (F := Ideal)) (hd h)) (ix3 0 i j) = gu (X h) (fun _ _ => 0) i j :=
      fun h => guBlk_apply (H1.head h) (fun i j => (ld_hd _ h i j).trans (zero1 _)) (a7 h) i j
    fin_cases h
    exacts [f 0, f 1, f 2, f 3, f 4, f 5, f 6, f 7]
  · have f : ∀ h : Fin 8, gwBlk (View.ld x4 (hd h)) (View.ld x7 (ho h)) (View.ld x3 (hd h)) (View.ld (k1_pay1 (F := Ideal)) (hd h)) (View.ld x6 (hs h)) (ix3 0 i j) = gw (X h) (S h) (fun _ _ => 0) i j :=
      fun h => gwBlk_apply (H1.head h) (fun i j => (ld_hd _ h i j).trans (zero1 _)) (a6 h) (a7 h) i j
    fin_cases h
    exacts [f 0, f 1, f 2, f 3, f 4, f 5, f 6, f 7]
  · have f : ∀ h : Fin 8, gqBlk (View.ld x7 (ho h)) (View.ld x6 (hs h)) (ix3 0 i j) = gq (X h) (S h) i j :=
      fun h => gqBlk_apply (a6 h) (a7 h) i j
    fin_cases h
    exacts [f 0, f 1, f 2, f 3, f 4, f 5, f 6, f 7]
  · have f : ∀ h : Fin 8, gkBlk (View.ld x0 (hd h)) (View.ld x1 (hd h)) (View.ld (k1_pay1 (F := Ideal)) (hd h)) (View.ld x6 (hs h)) (ix3 0 i j) = gk (X h) (S h) (fun _ _ => 0) i j :=
      fun h => gkBlk_apply (H1.head h) (fun i j => (ld_hd _ h i j).trans (zero1 _)) (a6 h) i j
    fin_cases h
    exacts [f 0, f 1, f 2, f 3, f 4, f 5, f 6, f 7]
  · have f : ∀ h : Fin 8, gaBlk (View.ld x0 (hd h)) (View.ld x1 (hd h)) (View.ld x7 (ho h)) (View.ld x6 (hs h)) (ix3 0 i j) = ga (X h) (S h) i j :=
      fun h => gaBlk_apply (H1.head h) (a6 h) (a7 h) i j
    fin_cases h
    exacts [f 0, f 1, f 2, f 3, f 4, f 5, f 6, f 7]
  · have f : ∀ h : Fin 8, ggBlk (View.ld x5 (hd h)) (View.ld (k1_pay1 (F := Ideal)) (hd h)) (View.ld x6 (hs h)) (ix3 0 i j) = if i = 127 then gg (X h) (S h) (fun _ _ => 0) j else (0 : EReal) :=
      fun h => ggBlk_apply (H1.head h) (fun i j => (ld_hd _ h i j).trans (zero1 _)) (a6 h) i j
    fin_cases h
    exacts [f 0, f 1, f 2, f 3, f 4, f 5, f 6, f 7]
  · have f : ∀ h : Fin 8, backBlk (View.ld x1 (hd h)) (View.ld x2 (hd h)) (View.ld x3 (hd h)) (View.ld x4 (hd h)) (View.ld x5 (hd h)) (View.ld x7 (ho h)) (View.ld (k1_pay1 (F := Ideal)) (hd h)) (ix3 0 i j) = back (X h) (fun _ _ => 0) i j :=
      fun h => backBlk_apply (H1.head h) (fun i j => (ld_hd _ h i j).trans (zero1 _)) (a7 h) i j
    fin_cases h
    exacts [f 0, f 1, f 2, f 3, f 4, f 5, f 6, f 7]

end Cert.KernelIdeal.State

end
-- ==== Proof.Val.Scan.lean ====
/- The two recurrences over the chunks: after point `t` of the forward one the scratch holds the state after chunk `t`, and the point has
   kept the state before it; after point `t` of the backward one, which takes the chunks from the last to the first, the scratch holds
   the gradient of the state before chunk `31 - t`. -/
module

public import proofs.«01_k».proof.Proof.Val.Fwd
public import proofs.«01_k».proof.Proof.Val.Bwd

@[expose] public section

set_option maxRecDepth 16384

noncomputable section

namespace Cert.KernelIdeal.State

open Idealize.ShloMosaic Idealize.ShloMosaic.TcCoe Idealize.ShloMosaic.Tactic
open Cert.KernelIdeal.Gen Cert.Delta

variable (V : (c : Dev nD) → (b : Ref sig .tc) → Buf (Elt Ideal) ((c : Thread nD τ).loc b)) (c : Dev nD) (X : Fin 8 → ℕ → Chunk)

section
variable (H : ∀ t : Fin cfg0.N, HoldsAll (fun h => X h t.val) (iblk0 V c 0 t) (iblk0 V c 1 t) (iblk0 V c 2 t) (iblk0 V c 3 t) (iblk0 V c 4 t) (iblk0 V c 5 t))
include H

/-- The forward recurrence's scratch after point `n`. -/
theorem fwd_scratch : ∀ (n : ℕ) (hn : n < cfg0.N) (h : Fin 8) (i j : Fin 128), (outsAt0 V c n hn).2.2 (ix3 h i j) = state (X h) (n + 1) i j
  | 0, hn, h, i, j => fwd_scratch_A V c ⟨0, hn⟩ rfl (H ⟨0, hn⟩) h i j
  | n + 1, hn, h, i, j => by
    have h32 : cfg0.N = 32 := rfl
    exact fwd_scratch_B V c ⟨n + 1, hn⟩ (by show ¬ (n + 1) % 32 = 0; omega) (H ⟨n + 1, hn⟩) (S := fun h => state (X h) (n + 1))
      (fun h i j => fwd_scratch n (by omega) h i j) h i j

/-- The states that point `t` keeps. -/
theorem fwd_state (t : Fin cfg0.N) (h : Fin 8) (i j : Fin 128) : (outsAt0 V c t.val t.isLt).2.1 (ix4 h (0 : Fin 1) i j) = state (X h) t.val i j := by
  have h32 : cfg0.N = 32 := rfl
  by_cases h0 : t.val % 32 = 0
  · have : t.val = 0 := by have := t.isLt; omega
    refine (fwd_state_A V c t h0 h i j).trans ?_
    rw [this]; rfl
  · refine (fwd_state_B V c t h0 (S := fun h => state (X h) t.val) (fun h i j => ?_) h i j)
    refine (fwd_scratch V c X H (t.val - 1) (by have := t.isLt; omega) h i j).trans ?_
    rw [Nat.sub_add_cancel (by omega)]
end

section
variable (H : ∀ t : Fin cfg1.N, HoldsBwd V c t (fun h => X h (31 - t.val)) (fun h => state (X h) (31 - t.val)))
include H

/-- The backward recurrence's scratch after point `n`. -/
theorem bwd_scratch : ∀ (n : ℕ) (hn : n < cfg1.N) (h : Fin 8) (i j : Fin 128), (outsAt1 V c n hn).2.2.2.2.2.2 (ix3 h i j) = cost (X h) (n + 1) i j
  | 0, hn, h, i, j => (bwd_A V c ⟨0, hn⟩ rfl (H ⟨0, hn⟩)).back h i j
  | n + 1, hn, h, i, j => by
    have h32 : cfg1.N = 32 := rfl
    exact (bwd_B V c ⟨n + 1, hn⟩ (by show ¬ (n + 1) % 32 = 0; omega) (D := fun h => cost (X h) (n + 1)) (H ⟨n + 1, hn⟩)
      (fun h i j => bwd_scratch n (by omega) h i j)).back h i j

/-- What a point that is not the first finds in the scratch. -/
theorem bwd_found (t : Fin cfg1.N) (h0 : ¬t.val % 32 = 0) (h : Fin 8) (i j : Fin 128) :
    (outsAt1 V c (t.val - 1) (by have := t.isLt; omega)).2.2.2.2.2.2 (ix3 h i j) = cost (X h) t.val i j := by
  refine (bwd_scratch V c X H (t.val - 1) (by have := t.isLt; omega) h i j).trans ?_
  rw [Nat.sub_add_cancel (by omega)]

/-- What a point that is not the first leaves. -/
theorem bwd_at (t : Fin cfg1.N) (h0 : ¬t.val % 32 = 0) :
    Leaves V c t (fun h => X h (31 - t.val)) (fun h => state (X h) (31 - t.val)) (fun h => cost (X h) t.val) :=
  bwd_B V c t h0 (H t) fun h i j => bwd_found V c X H t h0 h i j

omit H in
/-- The first point of the grid is point 0. -/
theorem first_point {t : Fin cfg1.N} (h0 : t.val % 32 = 0) : t.val = 0 := by
  have h32 : cfg1.N = 32 := rfl
  have := t.isLt; omega

/-- The block of gradients of `u` that point `t` leaves. -/
theorem blk_u (t : Fin cfg1.N) (h : Fin 8) (i j : Fin 128) : (outsAt1 V c t.val t.isLt).1 (ix3 h i j) = gu (X h (31 - t.val)) (cost (X h) t.val) i j := by
  by_cases h0 : t.val % 32 = 0
  · have e := first_point h0
    refine ((bwd_A V c t h0 (H t)).u h i j).trans ?_
    rw [e]; rfl
  · exact (bwd_at V c X H t h0).u h i j

/-- The block of gradients of `w` that point `t` leaves. -/
theorem blk_w (t : Fin cfg1.N) (h : Fin 8) (i j : Fin 128) : (outsAt1 V c t.val t.isLt).2.1 (ix3 h i j) = gw (X h (31 - t.val)) (state (X h) (31 - t.val)) (cost (X h) t.val) i j := by
  by_cases h0 : t.val % 32 = 0
  · have e := first_point h0
    refine ((bwd_A V c t h0 (H t)).w h i j).trans ?_
    rw [e]; rfl
  · exact (bwd_at V c X H t h0).w h i j

/-- The block of gradients of `q` that point `t` leaves. -/
theorem blk_q (t : Fin cfg1.N) (h : Fin 8) (i j : Fin 128) : (outsAt1 V c t.val t.isLt).2.2.1 (ix3 h i j) = gq (X h (31 - t.val)) (state (X h) (31 - t.val)) i j := by
  by_cases h0 : t.val % 32 = 0
  · exact (bwd_A V c t h0 (H t)).q h i j
  · exact (bwd_at V c X H t h0).q h i j

/-- The block of gradients of `k` that point `t` leaves. -/
theorem blk_k (t : Fin cfg1.N) (h : Fin 8) (i j : Fin 128) : (outsAt1 V c t.val t.isLt).2.2.2.1 (ix3 h i j) = gk (X h (31 - t.val)) (state (X h) (31 - t.val)) (cost (X h) t.val) i j := by
  by_cases h0 : t.val % 32 = 0
  · have e := first_point h0
    refine ((bwd_A V c t h0 (H t)).k h i j).trans ?_
    rw [e]; rfl
  · exact (bwd_at V c X H t h0).k h i j

/-- The block of gradients of `a` that point `t` leaves. -/
theorem blk_a (t : Fin cfg1.N) (h : Fin 8) (i j : Fin 128) : (outsAt1 V c t.val t.isLt).2.2.2.2.1 (ix3 h i j) = ga (X h (31 - t.val)) (state (X h) (31 - t.val)) i j := by
  by_cases h0 : t.val % 32 = 0
  · exact (bwd_A V c t h0 (H t)).a h i j
  · exact (bwd_at V c X H t h0).a h i j

/-- The block of gradients of `g` that point `t` leaves. -/
theorem blk_g (t : Fin cfg1.N) (h : Fin 8) (i j : Fin 128) : (outsAt1 V c t.val t.isLt).2.2.2.2.2.1 (ix3 h i j) = if i = 127 then gg (X h (31 - t.val)) (state (X h) (31 - t.val)) (cost (X h) t.val) j else (0 : EReal) := by
  by_cases h0 : t.val % 32 = 0
  · have e := first_point h0
    refine ((bwd_A V c t h0 (H t)).g h i j).trans ?_
    rw [e]; rfl
  · exact (bwd_at V c X H t h0).g h i j
end

end Cert.KernelIdeal.State

end
-- ==== Proof.Val.Arrays.lean ====
/- The arrays: chunk `n` of an argument is block `n` of its array, so the forward recurrence leaves the states of the scan in the array
   of kept states, and the backward one the gradients of every chunk in the six results. -/
module

public import proofs.«01_k».proof.Proof.Val.Scan

@[expose] public section

set_option maxRecDepth 16384

noncomputable section

namespace Cert.KernelIdeal.State

open Idealize.ShloMosaic Idealize.ShloMosaic.TcCoe Idealize.ShloMosaic.Tactic
open Cert.KernelIdeal.Gen Cert.Delta

variable (V : (c : Dev nD) → (b : Ref sig .tc) → Buf (Elt Ideal) ((c : Thread nD τ).loc b)) (c : Dev nD)

/-- The block of each window at a point of the forward recurrence. -/
theorem idx0 : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_7.index t = ![0, t.val, 0, 0] := by
  decide +kernel

/-- The block of each window at a point of the backward recurrence. -/
theorem idx1 : ∀ t : Fin cfg1.N, win1_0.index t = ![0, 31 - t.val, 0] ∧ win1_1.index t = ![0, 31 - t.val, 0] ∧ win1_2.index t = ![0, 31 - t.val, 0]
    ∧ win1_3.index t = ![0, 31 - t.val, 0] ∧ win1_4.index t = ![0, 31 - t.val, 0] ∧ win1_5.index t = ![0, 31 - t.val, 0]
    ∧ win1_6.index t = ![0, 31 - t.val, 0, 0] ∧ win1_7.index t = ![31 - t.val, 0] := by
  decide +kernel
theorem idx1' : ∀ t : Fin cfg1.N, win1_8.index t = ![0, 31 - t.val, 0] ∧ win1_9.index t = ![0, 31 - t.val, 0] ∧ win1_10.index t = ![0, 31 - t.val, 0]
    ∧ win1_11.index t = ![0, 31 - t.val, 0] ∧ win1_12.index t = ![0, 31 - t.val, 0] ∧ win1_13.index t = ![0, 31 - t.val, 0] := by
  decide +kernel

/-! ## What the windows read -/

/-! ## What the windows read -/

theorem iblk0_0_apply (t : Fin cfg0.N) (h : Fin 8) (i j : Fin 128) :
    (iblk0 V c 0 t : Vec Ideal S8x128x128 .f32) (ix3 h i j) = (V c main_arg0 : S8x4096x128.Idx → Elt Ideal .f32) (ix3 h (row t.val i) j) := by
  have e := (idx0 t).1
  blk_ext [iblk0, e]
  show _ = (t.val * 128 + i.val) % 4096; omega
theorem iblk0_1_apply (t : Fin cfg0.N) (h : Fin 8) (i j : Fin 128) :
    (iblk0 V c 1 t : Vec Ideal S8x128x128 .bf16) (ix3 h i j) = (V c main_v0 : S8x4096x128.Idx → Elt Ideal .bf16) (ix3 h (row t.val i) j) := by
  have e := (idx0 t).2.1
  blk_ext [iblk0, e]
  show _ = (t.val * 128 + i.val) % 4096; omega
theorem iblk0_2_apply (t : Fin cfg0.N) (h : Fin 8) (i j : Fin 128) :
    (iblk0 V c 2 t : Vec Ideal S8x128x128 .bf16) (ix3 h i j) = (V c main_v1 : S8x4096x128.Idx → Elt Ideal .bf16) (ix3 h (row t.val i) j) := by
  have e := (idx0 t).2.2.1
  blk_ext [iblk0, e]
  show _ = (t.val * 128 + i.val) % 4096; omega
theorem iblk0_3_apply (t : Fin cfg0.N) (h : Fin 8) (i j : Fin 128) :
    (iblk0 V c 3 t : Vec Ideal S8x128x128 .bf16) (ix3 h i j) = (V c main_v2 : S8x4096x128.Idx → Elt Ideal .bf16) (ix3 h (row t.val i) j) := by
  have e := (idx0 t).2.2.2.1
  blk_ext [iblk0, e]
  show _ = (t.val * 128 + i.val) % 4096; omega
theorem iblk0_4_apply (t : Fin cfg0.N) (h : Fin 8) (i j : Fin 128) :
    (iblk0 V c 4 t : Vec Ideal S8x128x128 .bf16) (ix3 h i j) = (V c main_v3 : S8x4096x128.Idx → Elt Ideal .bf16) (ix3 h (row t.val i) j) := by
  have e := (idx0 t).2.2.2.2.1
  blk_ext [iblk0, e]
  show _ = (t.val * 128 + i.val) % 4096; omega
theorem iblk0_5_apply (t : Fin cfg0.N) (h : Fin 8) (i j : Fin 128) :
    (iblk0 V c 5 t : Vec Ideal S8x128x128 .f32) (ix3 h i j) = (V c main_arg5 : S8x4096x128.Idx → Elt Ideal .f32) (ix3 h (row t.val i) j) := by
  have e := (idx0 t).2.2.2.2.2.1
  blk_ext [iblk0, e]
  show _ = (t.val * 128 + i.val) % 4096; omega
theorem iblk1_0_apply (t : Fin cfg1.N) (h : Fin 8) (i j : Fin 128) :
    (iblk1 V c 0 t : Vec Ideal S8x128x128 .f32) (ix3 h i j) = (V c main_arg0 : S8x4096x128.Idx → Elt Ideal .f32) (ix3 h (row (31 - t.val) i) j) := by
  have e := (idx1 t).1
  blk_ext [iblk1, e]
  show _ = ((31 - t.val) * 128 + i.val) % 4096; omega
theorem iblk1_1_apply (t : Fin cfg1.N) (h : Fin 8) (i j : Fin 128) :
    (iblk1 V c 1 t : Vec Ideal S8x128x128 .bf16) (ix3 h i j) = (V c main_v0 : S8x4096x128.Idx → Elt Ideal .bf16) (ix3 h (row (31 - t.val) i) j) := by
  have e := (idx1 t).2.1
  blk_ext [iblk1, e]
  show _ = ((31 - t.val) * 128 + i.val) % 4096; omega
theorem iblk1_2_apply (t : Fin cfg1.N) (h : Fin 8) (i j : Fin 128) :
    (iblk1 V c 2 t : Vec Ideal S8x128x128 .bf16) (ix3 h i j) = (V c main_v1 : S8x4096x128.Idx → Elt Ideal .bf16) (ix3 h (row (31 - t.val) i) j) := by
  have e := (idx1 t).2.2.1
  blk_ext [iblk1, e]
  show _ = ((31 - t.val) * 128 + i.val) % 4096; omega
theorem iblk1_3_apply (t : Fin cfg1.N) (h : Fin 8) (i j : Fin 128) :
    (iblk1 V c 3 t : Vec Ideal S8x128x128 .bf16) (ix3 h i j) = (V c main_v2 : S8x4096x128.Idx → Elt Ideal .bf16) (ix3 h (row (31 - t.val) i) j) := by
  have e := (idx1 t).2.2.2.1
  blk_ext [iblk1, e]
  show _ = ((31 - t.val) * 128 + i.val) % 4096; omega
theorem iblk1_4_apply (t : Fin cfg1.N) (h : Fin 8) (i j : Fin 128) :
    (iblk1 V c 4 t : Vec Ideal S8x128x128 .bf16) (ix3 h i j) = (V c main_v3 : S8x4096x128.Idx → Elt Ideal .bf16) (ix3 h (row (31 - t.val) i) j) := by
  have e := (idx1 t).2.2.2.2.1
  blk_ext [iblk1, e]
  show _ = ((31 - t.val) * 128 + i.val) % 4096; omega
theorem iblk1_5_apply (t : Fin cfg1.N) (h : Fin 8) (i j : Fin 128) :
    (iblk1 V c 5 t : Vec Ideal S8x128x128 .f32) (ix3 h i j) = (V c main_arg5 : S8x4096x128.Idx → Elt Ideal .f32) (ix3 h (row (31 - t.val) i) j) := by
  have e := (idx1 t).2.2.2.2.2.1
  blk_ext [iblk1, e]
  show _ = ((31 - t.val) * 128 + i.val) % 4096; omega
theorem iblk1_6_apply (t : Fin cfg1.N) (h : Fin 8) (i j : Fin 128) :
    (iblk1 V c 6 t : Vec Ideal S8x1x128x128 .f32) (ix4 h (0 : Fin 1) i j)
      = (V c main_v4_1 : S8x32x128x128.Idx → Elt Ideal .f32) (ix4 h (⟨31 - t.val, by omega⟩ : Fin 32) i j) := by
  have e := (idx1 t).2.2.2.2.2.2.1
  blk_ext [iblk1, e]
theorem iblk1_7_apply (t : Fin cfg1.N) (h : Fin 8) (i j : Fin 128) :
    (iblk1 V c 7 t : Vec Ideal S128x1024 .f32) (ix2 i (col h j)) = (V c main_arg6 : S4096x1024.Idx → Elt Ideal .f32) (ix2 (row (31 - t.val) i) (col h j)) := by
  have e := (idx1 t).2.2.2.2.2.2.2
  blk_ext [iblk1, e]
  show _ = ((31 - t.val) * 128 + i.val) % 4096; omega

/-! ## What the regions leave -/

/-- The states kept, one for every chunk. -/
def kept (f : Fin 8 → ℕ → M) : S8x32x128x128.Idx → EReal := fun y => f (y 0) (y 1).val (y 2) (y 3)

/-- An array of the results' shape, from what each head has at each chunk. -/
def spread (f : Fin 8 → ℕ → M) : S8x4096x128.Idx → EReal := fun y =>
  f (y 0) ((y 1).val / 128) ⟨(y 1).val % 128, Nat.mod_lt _ (by decide)⟩ (y 2)

theorem spread_row (f : Fin 8 → ℕ → M) (h : Fin 8) (n : ℕ) (hn : n < 32) (i j : Fin 128) : spread f (ix3 h (row n i) j) = f h n i j := by
  have h1 : (row n i).val / 128 = n := by show (n * 128 + i.val) % 4096 / 128 = n; omega
  have h2 : (⟨(row n i).val % 128, Nat.mod_lt _ (by decide)⟩ : Fin 128) = i := by
    apply Fin.ext; show (n * 128 + i.val) % 4096 % 128 = i.val; omega
  show f h ((row n i).val / 128) ⟨(row n i).val % 128, _⟩ j = f h n i j
  rw [h1, h2]

theorem arr_kept (X : Fin 8 → ℕ → Chunk)
    (H : ∀ t : Fin cfg0.N, HoldsAll (fun h => X h t.val) (iblk0 V c 0 t) (iblk0 V c 1 t) (iblk0 V c 2 t) (iblk0 V c 3 t) (iblk0 V c 4 t) (iblk0 V c 5 t)) :
    ((dat0 V c).arrAt 7 cfg0.N : S8x32x128x128.Idx → EReal) = kept fun h n => state (X h) n := by
  refine (dat0 V c).arrAt_eq_of_covers 7 _ (by decide +kernel) fun t hf y => ?_
  have e := (idx0 t).2.2.2.2.2.2
  blk_simp
  rw [after0_7]
  have hy : y = (ix4 (y 0) (0 : Fin 1) (y 2) (y 3) : S8x1x128x128.Idx) := by
    funext a; fin_cases a
    · rfl
    · exact Subsingleton.elim (α := Fin 1) _ _
    · rfl
    · rfl
  have he : (win0_7.blk t).view.emb y = (ix4 (y 0) (⟨t.val, t.isLt⟩ : Fin 32) (y 2) (y 3) : S8x32x128x128.Idx) := by
    rw [hy]; blk_ext [e]
  refine Eq.trans ?_ (congrArg _ he).symm
  exact (congrArg _ hy).trans (fwd_state V c X H t (y 0) (y 2) (y 3))

section
variable (X : Fin 8 → ℕ → Chunk) (H : ∀ t : Fin cfg1.N, HoldsBwd V c t (fun h => X h (31 - t.val)) (fun h => state (X h) (31 - t.val)))
include H

theorem arr_u : ((dat1 V c).arrAt 8 cfg1.N : S8x4096x128.Idx → EReal) = spread fun h n => gu (X h n) (cost (X h) (31 - n)) := by
  refine (dat1 V c).arrAt_eq_of_covers 8 _ (by decide +kernel) fun t hf y => ?_
  have e := (idx1' t).1
  have ht : 31 - (31 - t.val) = t.val := by have : t.val < 32 := t.isLt; omega
  blk_simp
  rw [after1_8]
  have he : (win1_8.blk t).view.emb y = (ix3 (y 0) (row (31 - t.val) (y 1)) (y 2) : S8x4096x128.Idx) := by
    blk_ext [e]
    have h1 : (y 1).val < 128 := (y 1).isLt
    show _ = ((31 - t.val) * 128 + (y 1).val) % 4096; omega
  have hy : y = (ix3 (y 0) (y 1) (y 2) : S8x128x128.Idx) := by funext a; fin_cases a <;> rfl
  have hs : ∀ (h : Fin 8) (i j : Fin 128), spread (fun h n => gu (X h n) (cost (X h) (31 - n))) (ix3 h (row (31 - t.val) i) j) = (outsAt1 V c t.val t.isLt).1 (ix3 h i j) := by
    intro h i j
    rw [spread_row _ _ _ (by omega), blk_u V c X H t h i j]
    try rw [ht]
  exact (congrArg _ hy).trans ((congrArg _ he).trans (hs (y 0) (y 1) (y 2))).symm

theorem arr_w : ((dat1 V c).arrAt 9 cfg1.N : S8x4096x128.Idx → EReal) = spread fun h n => gw (X h n) (state (X h) n) (cost (X h) (31 - n)) := by
  refine (dat1 V c).arrAt_eq_of_covers 9 _ (by decide +kernel) fun t hf y => ?_
  have e := (idx1' t).2.1
  have ht : 31 - (31 - t.val) = t.val := by have : t.val < 32 := t.isLt; omega
  blk_simp
  rw [after1_9]
  have he : (win1_9.blk t).view.emb y = (ix3 (y 0) (row (31 - t.val) (y 1)) (y 2) : S8x4096x128.Idx) := by
    blk_ext [e]
    have h1 : (y 1).val < 128 := (y 1).isLt
    show _ = ((31 - t.val) * 128 + (y 1).val) % 4096; omega
  have hy : y = (ix3 (y 0) (y 1) (y 2) : S8x128x128.Idx) := by funext a; fin_cases a <;> rfl
  have hs : ∀ (h : Fin 8) (i j : Fin 128), spread (fun h n => gw (X h n) (state (X h) n) (cost (X h) (31 - n))) (ix3 h (row (31 - t.val) i) j) = (outsAt1 V c t.val t.isLt).2.1 (ix3 h i j) := by
    intro h i j
    rw [spread_row _ _ _ (by omega), blk_w V c X H t h i j]
    try rw [ht]
  exact (congrArg _ hy).trans ((congrArg _ he).trans (hs (y 0) (y 1) (y 2))).symm

theorem arr_q : ((dat1 V c).arrAt 10 cfg1.N : S8x4096x128.Idx → EReal) = spread fun h n => gq (X h n) (state (X h) n) := by
  refine (dat1 V c).arrAt_eq_of_covers 10 _ (by decide +kernel) fun t hf y => ?_
  have e := (idx1' t).2.2.1
  have ht : 31 - (31 - t.val) = t.val := by have : t.val < 32 := t.isLt; omega
  blk_simp
  rw [after1_10]
  have he : (win1_10.blk t).view.emb y = (ix3 (y 0) (row (31 - t.val) (y 1)) (y 2) : S8x4096x128.Idx) := by
    blk_ext [e]
    have h1 : (y 1).val < 128 := (y 1).isLt
    show _ = ((31 - t.val) * 128 + (y 1).val) % 4096; omega
  have hy : y = (ix3 (y 0) (y 1) (y 2) : S8x128x128.Idx) := by funext a; fin_cases a <;> rfl
  have hs : ∀ (h : Fin 8) (i j : Fin 128), spread (fun h n => gq (X h n) (state (X h) n)) (ix3 h (row (31 - t.val) i) j) = (outsAt1 V c t.val t.isLt).2.2.1 (ix3 h i j) := by
    intro h i j
    rw [spread_row _ _ _ (by omega), blk_q V c X H t h i j]
    try rw [ht]
  exact (congrArg _ hy).trans ((congrArg _ he).trans (hs (y 0) (y 1) (y 2))).symm

theorem arr_k : ((dat1 V c).arrAt 11 cfg1.N : S8x4096x128.Idx → EReal) = spread fun h n => gk (X h n) (state (X h) n) (cost (X h) (31 - n)) := by
  refine (dat1 V c).arrAt_eq_of_covers 11 _ (by decide +kernel) fun t hf y => ?_
  have e := (idx1' t).2.2.2.1
  have ht : 31 - (31 - t.val) = t.val := by have : t.val < 32 := t.isLt; omega
  blk_simp
  rw [after1_11]
  have he : (win1_11.blk t).view.emb y = (ix3 (y 0) (row (31 - t.val) (y 1)) (y 2) : S8x4096x128.Idx) := by
    blk_ext [e]
    have h1 : (y 1).val < 128 := (y 1).isLt
    show _ = ((31 - t.val) * 128 + (y 1).val) % 4096; omega
  have hy : y = (ix3 (y 0) (y 1) (y 2) : S8x128x128.Idx) := by funext a; fin_cases a <;> rfl
  have hs : ∀ (h : Fin 8) (i j : Fin 128), spread (fun h n => gk (X h n) (state (X h) n) (cost (X h) (31 - n))) (ix3 h (row (31 - t.val) i) j) = (outsAt1 V c t.val t.isLt).2.2.2.1 (ix3 h i j) := by
    intro h i j
    rw [spread_row _ _ _ (by omega), blk_k V c X H t h i j]
    try rw [ht]
  exact (congrArg _ hy).trans ((congrArg _ he).trans (hs (y 0) (y 1) (y 2))).symm

theorem arr_a : ((dat1 V c).arrAt 12 cfg1.N : S8x4096x128.Idx → EReal) = spread fun h n => ga (X h n) (state (X h) n) := by
  refine (dat1 V c).arrAt_eq_of_covers 12 _ (by decide +kernel) fun t hf y => ?_
  have e := (idx1' t).2.2.2.2.1
  have ht : 31 - (31 - t.val) = t.val := by have : t.val < 32 := t.isLt; omega
  blk_simp
  rw [after1_12]
  have he : (win1_12.blk t).view.emb y = (ix3 (y 0) (row (31 - t.val) (y 1)) (y 2) : S8x4096x128.Idx) := by
    blk_ext [e]
    have h1 : (y 1).val < 128 := (y 1).isLt
    show _ = ((31 - t.val) * 128 + (y 1).val) % 4096; omega
  have hy : y = (ix3 (y 0) (y 1) (y 2) : S8x128x128.Idx) := by funext a; fin_cases a <;> rfl
  have hs : ∀ (h : Fin 8) (i j : Fin 128), spread (fun h n => ga (X h n) (state (X h) n)) (ix3 h (row (31 - t.val) i) j) = (outsAt1 V c t.val t.isLt).2.2.2.2.1 (ix3 h i j) := by
    intro h i j
    rw [spread_row _ _ _ (by omega), blk_a V c X H t h i j]
    try rw [ht]
  exact (congrArg _ hy).trans ((congrArg _ he).trans (hs (y 0) (y 1) (y 2))).symm

theorem arr_g : ((dat1 V c).arrAt 13 cfg1.N : S8x4096x128.Idx → EReal) = spread fun h n => fun i j => if i = 127 then gg (X h n) (state (X h) n) (cost (X h) (31 - n)) j else (0 : EReal) := by
  refine (dat1 V c).arrAt_eq_of_covers 13 _ (by decide +kernel) fun t hf y => ?_
  have e := (idx1' t).2.2.2.2.2
  have ht : 31 - (31 - t.val) = t.val := by have : t.val < 32 := t.isLt; omega
  blk_simp
  rw [after1_13]
  have he : (win1_13.blk t).view.emb y = (ix3 (y 0) (row (31 - t.val) (y 1)) (y 2) : S8x4096x128.Idx) := by
    blk_ext [e]
    have h1 : (y 1).val < 128 := (y 1).isLt
    show _ = ((31 - t.val) * 128 + (y 1).val) % 4096; omega
  have hy : y = (ix3 (y 0) (y 1) (y 2) : S8x128x128.Idx) := by funext a; fin_cases a <;> rfl
  have hs : ∀ (h : Fin 8) (i j : Fin 128), spread (fun h n => fun i j => if i = 127 then gg (X h n) (state (X h) n) (cost (X h) (31 - n)) j else (0 : EReal)) (ix3 h (row (31 - t.val) i) j) = (outsAt1 V c t.val t.isLt).2.2.2.2.2.1 (ix3 h i j) := by
    intro h i j
    rw [spread_row _ _ _ (by omega), blk_g V c X H t h i j]
    try rw [ht]
  exact (congrArg _ hy).trans ((congrArg _ he).trans (hs (y 0) (y 1) (y 2))).symm
end

end Cert.KernelIdeal.State

end
-- ==== Proof.Val.Result.lean ====
/- The kernel's six results over the extended reals: for every chunk, the gradients of the scan (`Proof/Spec.lean`) at the launch's
   arguments. -/
module

public import proofs.«01_k».proof.Proof.Val.Arrays
public import Idealize.ShloMosaic.Lib.StableHlo.Run

@[expose] public section

set_option maxRecDepth 16384

noncomputable section

namespace Cert.KernelIdeal.State

open Idealize.ShloMosaic Idealize.ShloMosaic.TcCoe Idealize.ShloMosaic.Tactic
open Cert.KernelIdeal.Gen Cert.Delta

variable (m : (ℓ : Loc nD τ sig) → Buf (Elt Ideal) ℓ) (ρ : Dev nD → PrngReg) (c : Dev nD)

/-- Chunk `n` of head `h` of the arguments. -/
abbrev ch (h : Fin 8) (n : ℕ) : Chunk :=
  chunkOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) h n

/-- The host casts change nothing over the extended reals. -/
theorem cast_w (y : S8x4096x128.Idx) : (V1 m ρ c main_v0 : S8x4096x128.Idx → Elt Ideal .bf16) y = (m ((c.tc : Thread nD τ).loc main_arg1) : S8x4096x128.Idx → Elt Ideal .f32) y := by
  show (StableHlo.after hostOps0 (W0 m ρ c) (Proc.devRef .tc main_v0) : S8x4096x128.Idx → Elt Ideal .bf16) y = _
  after_results; pointwise
theorem cast_q (y : S8x4096x128.Idx) : (V1 m ρ c main_v1 : S8x4096x128.Idx → Elt Ideal .bf16) y = (m ((c.tc : Thread nD τ).loc main_arg2) : S8x4096x128.Idx → Elt Ideal .f32) y := by
  show (StableHlo.after hostOps0 (W0 m ρ c) (Proc.devRef .tc main_v1) : S8x4096x128.Idx → Elt Ideal .bf16) y = _
  after_results; pointwise
theorem cast_k (y : S8x4096x128.Idx) : (V1 m ρ c main_v2 : S8x4096x128.Idx → Elt Ideal .bf16) y = (m ((c.tc : Thread nD τ).loc main_arg3) : S8x4096x128.Idx → Elt Ideal .f32) y := by
  show (StableHlo.after hostOps0 (W0 m ρ c) (Proc.devRef .tc main_v2) : S8x4096x128.Idx → Elt Ideal .bf16) y = _
  after_results; pointwise
theorem cast_a (y : S8x4096x128.Idx) : (V1 m ρ c main_v3 : S8x4096x128.Idx → Elt Ideal .bf16) y = (m ((c.tc : Thread nD τ).loc main_arg4) : S8x4096x128.Idx → Elt Ideal .f32) y := by
  show (StableHlo.after hostOps0 (W0 m ρ c) (Proc.devRef .tc main_v3) : S8x4096x128.Idx → Elt Ideal .bf16) y = _
  after_results; pointwise

/-- The forward recurrence reads chunk `t` at point `t`. -/
theorem holds0 (t : Fin cfg0.N) : HoldsAll (fun h => ch m c h t.val) (iblk0 (V1 m ρ) c 0 t) (iblk0 (V1 m ρ) c 1 t) (iblk0 (V1 m ρ) c 2 t)
    (iblk0 (V1 m ρ) c 3 t) (iblk0 (V1 m ρ) c 4 t) (iblk0 (V1 m ρ) c 5 t) where
  u h i j := (iblk0_0_apply _ c t h i j).trans (congrFun (W1_args m ρ c main_arg0 (by decide)) _)
  w h i j := (iblk0_1_apply _ c t h i j).trans (cast_w m ρ c _)
  q h i j := (iblk0_2_apply _ c t h i j).trans (cast_q m ρ c _)
  k h i j := (iblk0_3_apply _ c t h i j).trans (cast_k m ρ c _)
  a h i j := (iblk0_4_apply _ c t h i j).trans (cast_a m ρ c _)
  g h i j := (iblk0_5_apply _ c t h i j).trans (congrFun (W1_args m ρ c main_arg5 (by decide)) _)

/-- The backward recurrence reads chunk `31 - t` and the state kept before it at point `t`. -/
theorem holds1 (t : Fin cfg1.N) : HoldsBwd (V2 m ρ) c t (fun h => ch m c h (31 - t.val)) (fun h => state (ch m c h) (31 - t.val)) where
  ins := {
    u := fun h i j => (iblk1_0_apply _ c t h i j).trans (congrFun (W2_args m ρ c main_arg0 (by decide)) _)
    w := fun h i j => (iblk1_1_apply _ c t h i j).trans ((congrFun (W2_of m ρ c main_v0 (by decide +kernel)) _).trans (cast_w m ρ c _))
    q := fun h i j => (iblk1_2_apply _ c t h i j).trans ((congrFun (W2_of m ρ c main_v1 (by decide +kernel)) _).trans (cast_q m ρ c _))
    k := fun h i j => (iblk1_3_apply _ c t h i j).trans ((congrFun (W2_of m ρ c main_v2 (by decide +kernel)) _).trans (cast_k m ρ c _))
    a := fun h i j => (iblk1_4_apply _ c t h i j).trans ((congrFun (W2_of m ρ c main_v3 (by decide +kernel)) _).trans (cast_a m ρ c _))
    g := fun h i j => (iblk1_5_apply _ c t h i j).trans (congrFun (W2_args m ρ c main_arg5 (by decide)) _) }
  st := fun h i j => (iblk1_6_apply _ c t h i j).trans
    ((congrFun (W2_arr m ρ c 7) _).trans (congrFun (arr_kept (V1 m ρ) c (ch m c) (holds0 m ρ c)) _))
  ct := fun h i j => (iblk1_7_apply _ c t h i j).trans (congrFun (W2_args m ρ c main_arg6 (by decide)) _)

/-- The gradient of `u`. -/
theorem res_u (n : Fin 32) (h : Fin 8) (i j : Fin 128) : (W3 m ρ c (Proc.devRef .tc main_v5_0) : S8x4096x128.Idx → Elt Ideal .f32) (ix3 h (row n.val i) j)
    = gu (ch m c h n.val) (cost (ch m c h) (31 - n.val)) i j :=
  (congrFun (W3_arr m ρ c 8) _).trans ((congrFun (arr_u (V2 m ρ) c (ch m c) (holds1 m ρ c)) _).trans (spread_row _ h n.val n.isLt i j))
/-- The gradient of `w`. -/
theorem res_w (n : Fin 32) (h : Fin 8) (i j : Fin 128) : (W3 m ρ c (Proc.devRef .tc main_v5_1) : S8x4096x128.Idx → Elt Ideal .f32) (ix3 h (row n.val i) j)
    = gw (ch m c h n.val) (state (ch m c h) n.val) (cost (ch m c h) (31 - n.val)) i j :=
  (congrFun (W3_arr m ρ c 9) _).trans ((congrFun (arr_w (V2 m ρ) c (ch m c) (holds1 m ρ c)) _).trans (spread_row _ h n.val n.isLt i j))
/-- The gradient of `q`. -/
theorem res_q (n : Fin 32) (h : Fin 8) (i j : Fin 128) : (W3 m ρ c (Proc.devRef .tc main_v5_2) : S8x4096x128.Idx → Elt Ideal .f32) (ix3 h (row n.val i) j)
    = gq (ch m c h n.val) (state (ch m c h) n.val) i j :=
  (congrFun (W3_arr m ρ c 10) _).trans ((congrFun (arr_q (V2 m ρ) c (ch m c) (holds1 m ρ c)) _).trans (spread_row _ h n.val n.isLt i j))
/-- The gradient of `k`. -/
theorem res_k (n : Fin 32) (h : Fin 8) (i j : Fin 128) : (W3 m ρ c (Proc.devRef .tc main_v5_3) : S8x4096x128.Idx → Elt Ideal .f32) (ix3 h (row n.val i) j)
    = gk (ch m c h n.val) (state (ch m c h) n.val) (cost (ch m c h) (31 - n.val)) i j :=
  (congrFun (W3_arr m ρ c 11) _).trans ((congrFun (arr_k (V2 m ρ) c (ch m c) (holds1 m ρ c)) _).trans (spread_row _ h n.val n.isLt i j))
/-- The gradient of `a`. -/
theorem res_a (n : Fin 32) (h : Fin 8) (i j : Fin 128) : (W3 m ρ c (Proc.devRef .tc main_v5_4) : S8x4096x128.Idx → Elt Ideal .f32) (ix3 h (row n.val i) j)
    = ga (ch m c h n.val) (state (ch m c h) n.val) i j :=
  (congrFun (W3_arr m ρ c 12) _).trans ((congrFun (arr_a (V2 m ρ) c (ch m c) (holds1 m ρ c)) _).trans (spread_row _ h n.val n.isLt i j))
/-- The gradient of `g`. -/
theorem res_g (n : Fin 32) (h : Fin 8) (i j : Fin 128) : (W3 m ρ c (Proc.devRef .tc main_v5_5) : S8x4096x128.Idx → Elt Ideal .f32) (ix3 h (row n.val i) j)
    = if i = 127 then gg (ch m c h n.val) (state (ch m c h) n.val) (cost (ch m c h) (31 - n.val)) j else (0 : EReal) :=
  (congrFun (W3_arr m ρ c 13) _).trans ((congrFun (arr_g (V2 m ρ) c (ch m c) (holds1 m ρ c)) _).trans (spread_row _ h n.val n.isLt i j))

end Cert.KernelIdeal.State

end
-- ==== Proof.Ref.Index.lean ====
/- A stack of chunks read and written at a loop's counter. -/
module

public import proofs.«01_k».proof.Proof.Gen.ReferenceIdeal
public import Idealize.ShloMosaic.Lib.Pointwise
public import Idealize.ShloMosaic.Lib.DynamicIndex
public import Idealize.ShloMosaic.Lib.ValueIdx
public import Idealize.ShloMosaic.Lib.Pipeline.Value

@[expose] public section

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-! ## One member of a stack, read and written at a counter -/

variable {α : Type}

/-- The block at `k` lies inside. -/
theorem fits4 (k : Fin 32) : S32x8x128x128.Slices (![k.val, 0, 0, 0] : Fin 4 → Nat) S1x8x128x128 :=
  ⟨rfl, fun a => by have := k.isLt; fin_cases a; exacts [this, le_refl 8, le_refl 128, le_refl 128]⟩

/-- Member `k` of a stack. -/
theorem slice4 (x : S32x8x128x128.Idx → α) (st : Fin 4 → Int) (k : Fin 32) (h0 : st 0 = k.val) (h1 : st 1 = 0) (h2 : st 2 = 0) (h3 : st 3 = 0)
    (h : Fin 8) (i j : Fin 128) :
    shapeCast S8x128x128 (Host.dynamicSlice S1x8x128x128 x st sliceFits_S32x8x128x128_S1x8x128x128) shapeCasts_S1x8x128x128_S8x128x128 (ix3 h i j)
      = x (ix4 k h i j) := by
  rw [Host.dynamicSlice_eq_extractStridedSlice_of_clamp S1x8x128x128 x st _ ![k.val, 0, 0, 0]
    (fun a => by
      have := k.isLt
      fin_cases a
      · show (min (max (st 0) 0) ((32 - 1 : Nat) : Int)).toNat = k.val; rw [h0]; omega
      · show (min (max (st 1) 0) ((8 - 8 : Nat) : Int)).toNat = 0; rw [h1]; omega
      · show (min (max (st 2) 0) ((128 - 128 : Nat) : Int)).toNat = 0; rw [h2]; omega
      · show (min (max (st 3) 0) ((128 - 128 : Nat) : Int)).toNat = 0; rw [h3]; omega)
    (fits4 k)]
  pointwise

/-- Member `k` of a stack replaced by `u`. -/
theorem update4 (x : S32x8x128x128.Idx → α) (u : S8x128x128.Idx → α) (st : Fin 4 → Int) (k : Fin 32) (h0 : st 0 = k.val) (h1 : st 1 = 0) (h2 : st 2 = 0) (h3 : st 3 = 0)
    (n : Fin 32) (h : Fin 8) (i j : Fin 128) :
    Host.dynamicUpdateSlice x (broadcastInDim S1x8x128x128 ![1, 2, 3] bcast_S8x128x128_S1x8x128x128_1_2_3 u) st sliceFits_S32x8x128x128_S1x8x128x128 (ix4 n h i j)
      = if n = k then u (ix3 h i j) else x (ix4 n h i j) := by
  refine (congrFun (Host.dynamicUpdateSlice_eq_updateSlice x (broadcastInDim S1x8x128x128 ![1, 2, 3] bcast_S8x128x128_S1x8x128x128_1_2_3 u) st sliceFits_S32x8x128x128_S1x8x128x128 ![k.val, 0, 0, 0]
    (fun a => by
      have := k.isLt
      fin_cases a
      · show (min (max (st 0) 0) ((32 - 1 : Nat) : Int)).toNat = k.val; rw [h0]; omega
      · show (min (max (st 1) 0) ((8 - 8 : Nat) : Int)).toNat = 0; rw [h1]; omega
      · show (min (max (st 2) 0) ((128 - 128 : Nat) : Int)).toNat = 0; rw [h2]; omega
      · show (min (max (st 3) 0) ((128 - 128 : Nat) : Int)).toNat = 0; rw [h3]; omega)
    (fits4 k)) _).trans ?_
  refine (updateSlice_apply _ _ _ _ _).trans ?_
  by_cases hn : n = k
  · rw [if_pos hn, dif_pos (fun a => by
      subst hn
      fin_cases a
      · exact ⟨le_refl n.val, by show n.val < n.val + 1; omega⟩
      · have := h.isLt; exact ⟨Nat.zero_le _, by show h.val < 0 + 8; omega⟩
      · have := i.isLt; exact ⟨Nat.zero_le _, by show i.val < 0 + 128; omega⟩
      · have := j.isLt; exact ⟨Nat.zero_le _, by show j.val < 0 + 128; omega⟩)]
    subst hn
    pointwise
  · rw [if_neg hn, dif_neg (fun hin => by
      have h' := hin 0
      have h1 : k.val ≤ n.val := h'.1
      have h2 : n.val < k.val + 1 := h'.2
      exact hn (Fin.ext (by omega)))]

/-- The block at `k` lies inside. -/
theorem fits3 (k : Fin 32) : S32x8x128.Slices (![k.val, 0, 0] : Fin 3 → Nat) S1x8x128 :=
  ⟨rfl, fun a => by have := k.isLt; fin_cases a; exacts [this, le_refl 8, le_refl 128]⟩

/-- Member `k` of a stack. -/
theorem slice3 (x : S32x8x128.Idx → α) (st : Fin 3 → Int) (k : Fin 32) (h0 : st 0 = k.val) (h1 : st 1 = 0) (h2 : st 2 = 0)
    (h : Fin 8) (j : Fin 128) :
    shapeCast S8x128 (Host.dynamicSlice S1x8x128 x st sliceFits_S32x8x128_S1x8x128) shapeCasts_S1x8x128_S8x128 (ix2 h j)
      = x (ix3 k h j) := by
  rw [Host.dynamicSlice_eq_extractStridedSlice_of_clamp S1x8x128 x st _ ![k.val, 0, 0]
    (fun a => by
      have := k.isLt
      fin_cases a
      · show (min (max (st 0) 0) ((32 - 1 : Nat) : Int)).toNat = k.val; rw [h0]; omega
      · show (min (max (st 1) 0) ((8 - 8 : Nat) : Int)).toNat = 0; rw [h1]; omega
      · show (min (max (st 2) 0) ((128 - 128 : Nat) : Int)).toNat = 0; rw [h2]; omega)
    (fits3 k)]
  pointwise

/-- Member `k` of a stack replaced by `u`. -/
theorem update3 (x : S32x8x128.Idx → α) (u : S8x128.Idx → α) (st : Fin 3 → Int) (k : Fin 32) (h0 : st 0 = k.val) (h1 : st 1 = 0) (h2 : st 2 = 0)
    (n : Fin 32) (h : Fin 8) (j : Fin 128) :
    Host.dynamicUpdateSlice x (broadcastInDim S1x8x128 ![1, 2] bcast_S8x128_S1x8x128_1_2 u) st sliceFits_S32x8x128_S1x8x128 (ix3 n h j)
      = if n = k then u (ix2 h j) else x (ix3 n h j) := by
  refine (congrFun (Host.dynamicUpdateSlice_eq_updateSlice x (broadcastInDim S1x8x128 ![1, 2] bcast_S8x128_S1x8x128_1_2 u) st sliceFits_S32x8x128_S1x8x128 ![k.val, 0, 0]
    (fun a => by
      have := k.isLt
      fin_cases a
      · show (min (max (st 0) 0) ((32 - 1 : Nat) : Int)).toNat = k.val; rw [h0]; omega
      · show (min (max (st 1) 0) ((8 - 8 : Nat) : Int)).toNat = 0; rw [h1]; omega
      · show (min (max (st 2) 0) ((128 - 128 : Nat) : Int)).toNat = 0; rw [h2]; omega)
    (fits3 k)) _).trans ?_
  refine (updateSlice_apply _ _ _ _ _).trans ?_
  by_cases hn : n = k
  · rw [if_pos hn, dif_pos (fun a => by
      subst hn
      fin_cases a
      · exact ⟨le_refl n.val, by show n.val < n.val + 1; omega⟩
      · have := h.isLt; exact ⟨Nat.zero_le _, by show h.val < 0 + 8; omega⟩
      · have := j.isLt; exact ⟨Nat.zero_le _, by show j.val < 0 + 128; omega⟩)]
    subst hn
    pointwise
  · rw [if_neg hn, dif_neg (fun hin => by
      have h' := hin 0
      have h1 : k.val ≤ n.val := h'.1
      have h2 : n.val < k.val + 1 := h'.2
      exact hn (Fin.ext (by omega)))]

/-- The block at `k` lies inside. -/
theorem fitsM (k : Fin 32) : S32x8x1x128.Slices (![k.val, 0, 0, 0] : Fin 4 → Nat) S1x8x1x128 :=
  ⟨rfl, fun a => by have := k.isLt; fin_cases a; exacts [this, le_refl 8, le_refl 1, le_refl 128]⟩

/-- Member `k` of a stack. -/
theorem sliceM (x : S32x8x1x128.Idx → α) (st : Fin 4 → Int) (k : Fin 32) (h0 : st 0 = k.val) (h1 : st 1 = 0) (h2 : st 2 = 0) (h3 : st 3 = 0)
    (h : Fin 8) (i : Fin 1) (j : Fin 128) :
    shapeCast S8x1x128 (Host.dynamicSlice S1x8x1x128 x st sliceFits_S32x8x1x128_S1x8x1x128) shapeCasts_S1x8x1x128_S8x1x128 (ix3 h i j)
      = x (ix4 k h i j) := by
  rw [Host.dynamicSlice_eq_extractStridedSlice_of_clamp S1x8x1x128 x st _ ![k.val, 0, 0, 0]
    (fun a => by
      have := k.isLt
      fin_cases a
      · show (min (max (st 0) 0) ((32 - 1 : Nat) : Int)).toNat = k.val; rw [h0]; omega
      · show (min (max (st 1) 0) ((8 - 8 : Nat) : Int)).toNat = 0; rw [h1]; omega
      · show (min (max (st 2) 0) ((1 - 1 : Nat) : Int)).toNat = 0; rw [h2]; omega
      · show (min (max (st 3) 0) ((128 - 128 : Nat) : Int)).toNat = 0; rw [h3]; omega)
    (fitsM k)]
  pointwise
  rw [Subsingleton.elim i 0]

/-- Member `k` of a stack replaced by `u`. -/
theorem updateM (x : S32x8x1x128.Idx → α) (u : S8x1x128.Idx → α) (st : Fin 4 → Int) (k : Fin 32) (h0 : st 0 = k.val) (h1 : st 1 = 0) (h2 : st 2 = 0) (h3 : st 3 = 0)
    (n : Fin 32) (h : Fin 8) (i : Fin 1) (j : Fin 128) :
    Host.dynamicUpdateSlice x (broadcastInDim S1x8x1x128 ![1, 2, 3] bcast_S8x1x128_S1x8x1x128_1_2_3 u) st sliceFits_S32x8x1x128_S1x8x1x128 (ix4 n h i j)
      = if n = k then u (ix3 h i j) else x (ix4 n h i j) := by
  refine (congrFun (Host.dynamicUpdateSlice_eq_updateSlice x (broadcastInDim S1x8x1x128 ![1, 2, 3] bcast_S8x1x128_S1x8x1x128_1_2_3 u) st sliceFits_S32x8x1x128_S1x8x1x128 ![k.val, 0, 0, 0]
    (fun a => by
      have := k.isLt
      fin_cases a
      · show (min (max (st 0) 0) ((32 - 1 : Nat) : Int)).toNat = k.val; rw [h0]; omega
      · show (min (max (st 1) 0) ((8 - 8 : Nat) : Int)).toNat = 0; rw [h1]; omega
      · show (min (max (st 2) 0) ((1 - 1 : Nat) : Int)).toNat = 0; rw [h2]; omega
      · show (min (max (st 3) 0) ((128 - 128 : Nat) : Int)).toNat = 0; rw [h3]; omega)
    (fitsM k)) _).trans ?_
  refine (updateSlice_apply _ _ _ _ _).trans ?_
  by_cases hn : n = k
  · rw [if_pos hn, dif_pos (fun a => by
      subst hn
      fin_cases a
      · exact ⟨le_refl n.val, by show n.val < n.val + 1; omega⟩
      · have := h.isLt; exact ⟨Nat.zero_le _, by show h.val < 0 + 8; omega⟩
      · have := i.isLt; exact ⟨Nat.zero_le _, by show i.val < 0 + 1; omega⟩
      · have := j.isLt; exact ⟨Nat.zero_le _, by show j.val < 0 + 128; omega⟩)]
    subst hn
    pointwise
    rw [Subsingleton.elim i 0]
  · rw [if_neg hn, dif_neg (fun hin => by
      have h' := hin 0
      have h1 : k.val ≤ n.val := h'.1
      have h2 : n.val < k.val + 1 := h'.2
      exact hn (Fin.ext (by omega)))]

/-- Where a block starts in a stack of blocks: at the counter `c`, and at zero in the other dimensions. -/
abbrev starts4 (c : S_.Idx → BitVec 32) : Fin 4 → Int := fun a =>
  (((![c, constantI S_ 32 0#32, constantI S_ 32 0#32, constantI S_ 32 0#32] : Fin 4 → (⟨S_, .i32⟩ : BufTy).Contents (Elt F))) a (Shape.Idx.first h_S_)).toInt

/-- Where a block starts in a stack of rows. -/
abbrev starts3 (c : S_.Idx → BitVec 32) : Fin 3 → Int := fun a =>
  (((![c, constantI S_ 32 0#32, constantI S_ 32 0#32] : Fin 3 → (⟨S_, .i32⟩ : BufTy).Contents (Elt F))) a (Shape.Idx.first h_S_)).toInt

/-- The member of a stack at a counter, and the stack with that member replaced. -/
abbrev member4 (x : S32x8x128x128.Idx → Elt F .f32) (c : S_.Idx → BitVec 32) : S8x128x128.Idx → Elt F .f32 :=
  shapeCast S8x128x128 (Host.dynamicSlice S1x8x128x128 x (starts4 (F := F) c) sliceFits_S32x8x128x128_S1x8x128x128) shapeCasts_S1x8x128x128_S8x128x128
abbrev member3 (x : S32x8x128.Idx → Elt F .f32) (c : S_.Idx → BitVec 32) : S8x128.Idx → Elt F .f32 :=
  shapeCast S8x128 (Host.dynamicSlice S1x8x128 x (starts3 (F := F) c) sliceFits_S32x8x128_S1x8x128) shapeCasts_S1x8x128_S8x128
abbrev memberM (x : S32x8x1x128.Idx → Elt F .f32) (c : S_.Idx → BitVec 32) : S8x1x128.Idx → Elt F .f32 :=
  shapeCast S8x1x128 (Host.dynamicSlice S1x8x1x128 x (starts4 (F := F) c) sliceFits_S32x8x1x128_S1x8x1x128) shapeCasts_S1x8x1x128_S8x1x128
abbrev replaced4 (x : S32x8x128x128.Idx → Elt F .f32) (u : S8x128x128.Idx → Elt F .f32) (c : S_.Idx → BitVec 32) : S32x8x128x128.Idx → Elt F .f32 :=
  Host.dynamicUpdateSlice x (broadcastInDim S1x8x128x128 ![1, 2, 3] bcast_S8x128x128_S1x8x128x128_1_2_3 u) (starts4 (F := F) c) updateFits_S32x8x128x128_S1x8x128x128
abbrev replaced3 (x : S32x8x128.Idx → Elt F .f32) (u : S8x128.Idx → Elt F .f32) (c : S_.Idx → BitVec 32) : S32x8x128.Idx → Elt F .f32 :=
  Host.dynamicUpdateSlice x (broadcastInDim S1x8x128 ![1, 2] bcast_S8x128_S1x8x128_1_2 u) (starts3 (F := F) c) updateFits_S32x8x128_S1x8x128
abbrev replacedM (x : S32x8x1x128.Idx → Elt F .f32) (u : S8x1x128.Idx → Elt F .f32) (c : S_.Idx → BitVec 32) : S32x8x1x128.Idx → Elt F .f32 :=
  Host.dynamicUpdateSlice x (broadcastInDim S1x8x1x128 ![1, 2, 3] bcast_S8x1x128_S1x8x1x128_1_2_3 u) (starts4 (F := F) c) updateFits_S32x8x1x128_S1x8x1x128

end Cert.ReferenceIdeal.Scan
-- ==== Proof.Ref.Lists.lean ====
/- The reference's @main and the bodies of its two loops (the forward scan and its transpose) as chains of stretches of
   operations, and what each stretch writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

/-- The contents of an array of a shape. -/
abbrev Arr (F : FTy → Type) (s : Shape) (e : EltTy) : Type := (⟨s, e⟩ : BufTy).Contents (Elt F)

variable {F : FTy → Type} [FloatOps F]

/-- A list's operations write the given references only. -/
abbrev Writes (l : List (HloOp τ sig (Elt F))) (W : List (Ref sig .tc)) : Prop :=
  l.Forall fun op => op.writes ⊆ (W.map (Proc.devRef (τ := τ) .tc)).toFinset

/-- Member `i` of a stack of matrices, into `r`. -/
abbrev take4 (x : TRef sig ⟨S32x8x128x128, .f32⟩) (i c₀ c₁ c₂ : TRef sig ⟨S_, .i32⟩) (v : TRef sig ⟨S1x8x128x128, .f32⟩)
    (r : TRef sig ⟨S8x128x128, .f32⟩) : List (HloOp τ sig (Elt F)) :=
  [ TRef.nullary c₀ (constantI S_ 32 0#32),
    TRef.nullary c₁ (constantI S_ 32 0#32),
    TRef.nullary c₂ (constantI S_ 32 0#32),
    TRef.unaryIndexed x ![i, c₀, c₁, c₂] v (fun x i => Host.dynamicSlice S1x8x128x128 x (fun k => (i k (Shape.Idx.first h_S_)).toInt) sliceFits_S32x8x128x128_S1x8x128x128),
    TRef.reshape v r rfl shapeCasts_S1x8x128x128_S8x128x128 ]

/-- Member `i` of a stack of rows, into `r`. -/
abbrev take3 (x : TRef sig ⟨S32x8x128, .f32⟩) (i c₀ c₁ : TRef sig ⟨S_, .i32⟩) (v : TRef sig ⟨S1x8x128, .f32⟩)
    (r : TRef sig ⟨S8x128, .f32⟩) : List (HloOp τ sig (Elt F)) :=
  [ TRef.nullary c₀ (constantI S_ 32 0#32),
    TRef.nullary c₁ (constantI S_ 32 0#32),
    TRef.unaryIndexed x ![i, c₀, c₁] v (fun x i => Host.dynamicSlice S1x8x128 x (fun k => (i k (Shape.Idx.first h_S_)).toInt) sliceFits_S32x8x128_S1x8x128),
    TRef.reshape v r rfl shapeCasts_S1x8x128_S8x128 ]

/-- The stack `x` with `u` as its member `i`, into `r`. -/
abbrev put4 (u : TRef sig ⟨S8x128x128, .f32⟩) (v : TRef sig ⟨S1x8x128x128, .f32⟩) (c₀ c₁ c₂ : TRef sig ⟨S_, .i32⟩)
    (x : TRef sig ⟨S32x8x128x128, .f32⟩) (i : TRef sig ⟨S_, .i32⟩) (r : TRef sig ⟨S32x8x128x128, .f32⟩) : List (HloOp τ sig (Elt F)) :=
  [ TRef.unary u v (broadcastInDim S1x8x128x128 ![1, 2, 3] bcast_S8x128x128_S1x8x128x128_1_2_3),
    TRef.nullary c₀ (constantI S_ 32 0#32),
    TRef.nullary c₁ (constantI S_ 32 0#32),
    TRef.nullary c₂ (constantI S_ 32 0#32),
    TRef.binaryIndexed x v ![i, c₀, c₁, c₂] r (fun x u i => Host.dynamicUpdateSlice x u (fun k => (i k (Shape.Idx.first h_S_)).toInt) updateFits_S32x8x128x128_S1x8x128x128) ]

/-- The stack `x` of rows with `u` as its member `i`, into `r`. -/
abbrev put3 (u : TRef sig ⟨S8x128, .f32⟩) (v : TRef sig ⟨S1x8x128, .f32⟩) (c₀ c₁ : TRef sig ⟨S_, .i32⟩)
    (x : TRef sig ⟨S32x8x128, .f32⟩) (i : TRef sig ⟨S_, .i32⟩) (r : TRef sig ⟨S32x8x128, .f32⟩) : List (HloOp τ sig (Elt F)) :=
  [ TRef.unary u v (broadcastInDim S1x8x128 ![1, 2] bcast_S8x128_S1x8x128_1_2),
    TRef.nullary c₀ (constantI S_ 32 0#32),
    TRef.nullary c₁ (constantI S_ 32 0#32),
    TRef.binaryIndexed x v ![i, c₀, c₁] r (fun x u i => Host.dynamicUpdateSlice x u (fun k => (i k (Shape.Idx.first h_S_)).toInt) updateFits_S32x8x128_S1x8x128) ]

/-! The operations that the two loops repeat. -/

abbrev stack : Arr F S_ .f32 → Arr F S32x8x128x128 .f32 := broadcastInDim S32x8x128x128 ![] bcast_S_S32x8x128x128
abbrev toChunks : Arr F S8x32x128x128 .f32 → Arr F S32x8x128x128 .f32 := (transpose S32x8x128x128 [1, 0, 2, 3] · transposes_S8x32x128x128_S32x8x128x128_1_0_2_3)
abbrev toHeads : Arr F S32x8x128x128 .f32 → Arr F S8x32x128x128 .f32 := (transpose S8x32x128x128 [1, 0, 2, 3] · transposes_S32x8x128x128_S8x32x128x128_1_0_2_3)
abbrev add8 : Arr F S8x128x128 .f32 → Arr F S8x128x128 .f32 → Arr F S8x128x128 .f32 := addf
abbrev mul8 : Arr F S8x128x128 .f32 → Arr F S8x128x128 .f32 → Arr F S8x128x128 .f32 := mulf
abbrev flip8 : Arr F S8x128x128 .f32 → Arr F S8x128x128 .f32 := (transpose S8x128x128 [0, 2, 1] · transposes_S8x128x128_S8x128x128_0_2_1)
abbrev dotTN : Arr F S8x128x128 .f32 → Arr F S8x128x128 .f32 → Arr F S8x128x128 .f32 := fun l r => Host.dotGeneral dot_S8x128x128_S8x128x128_S8x128x128_1_1_2_2_0_0 none l r
abbrev dotNT : Arr F S8x128x128 .f32 → Arr F S8x128x128 .f32 → Arr F S8x128x128 .f32 := fun l r => Host.dotGeneral dot_S8x128x128_S8x128x128_S8x128x128_2_2_1_1_0_0 none l r
abbrev dotNN : Arr F S8x128x128 .f32 → Arr F S8x128x128 .f32 → Arr F S8x128x128 .f32 := fun l r => Host.dotGeneral dot_S8x128x128_S8x128x128_S8x128x128_2_1_1_2_0_0 none l r

/-- 40 host operations of @main, window 0 (statements 1 … 60), in order. -/
abbrev main_part0_ops0 : List (HloOp τ sig (Elt F)) :=
  ( reshape main_arg0 main_v0 rfl shapeCasts_S8x4096x128_S8x32x128x128
  :: unary main_v0 main_v1 toChunks
  :: reshape main_arg1 main_v2 rfl shapeCasts_S8x4096x128_S8x32x128x128
  :: unary main_v2 main_v3 toChunks
  :: reshape main_arg2 main_v4 rfl shapeCasts_S8x4096x128_S8x32x128x128
  :: unary main_v4 main_v5 toChunks
  :: reshape main_arg3 main_v6 rfl shapeCasts_S8x4096x128_S8x32x128x128
  :: unary main_v6 main_v7 toChunks
  :: reshape main_arg4 main_v8 rfl shapeCasts_S8x4096x128_S8x32x128x128
  :: unary main_v8 main_v9 toChunks
  :: reshape main_arg5 main_v10 rfl shapeCasts_S8x4096x128_S8x32x128x128
  :: unary main_v10 main_v11 toChunks
  :: unary main_v11 main_v12 ((extractStridedSlice S32x8x1x128 ![0, 0, 127, 0] · slices_S32x8x128x128_S32x8x1x128_0_0_127_0) : Arr F S32x8x128x128 .f32 → Arr F S32x8x1x128 .f32)
  :: reshape main_v12 main_v13 rfl shapeCasts_S32x8x1x128_S32x8x128
  :: nullary main_cst (constant S_ .f32 0x00000000#32)
  :: unary main_cst main_v14 (broadcastInDim S8x128x128 ![] bcast_S_S8x128x128 : Arr F S_ .f32 → Arr F S8x128x128 .f32)
  :: nullary main_cst_0 (constant S_ .f32 0x00000000#32)
  :: unary main_cst_0 main_v15 stack
  :: nullary main_cst_1 (constant S_ .f32 0x00000000#32)
  :: unary main_cst_1 main_v16 stack
  :: nullary main_cst_2 (constant S_ .f32 0x00000000#32)
  :: unary main_cst_2 main_v17 stack
  :: nullary main_cst_3 (constant S_ .f32 0x00000000#32)
  :: unary main_cst_3 main_v18 (broadcastInDim S32x8x128 ![] bcast_S_S32x8x128 : Arr F S_ .f32 → Arr F S32x8x128 .f32)
  :: nullary main_cst_4 (constant S_ .f32 0x00000000#32)
  :: unary main_cst_4 main_v19 (broadcastInDim S32x8x1x128 ![] bcast_S_S32x8x1x128 : Arr F S_ .f32 → Arr F S32x8x1x128 .f32)
  :: nullary main_c (constantI S_ 32 0#32)
  :: unary main_v1 main_v20_0 id
  :: unary main_v3 main_v20_1 id
  :: unary main_v5 main_v20_2 id
  :: unary main_v7 main_v20_3 id
  :: unary main_v9 main_v20_4 id
  :: unary main_v13 main_v20_5 id
  :: unary main_c main_v20_6 id
  :: unary main_v14 main_v20_7 id
  :: unary main_v15 main_v20_8 id
  :: unary main_v16 main_v20_9 id
  :: unary main_v17 main_v20_10 id
  :: unary main_v18 main_v20_11 id
  :: unary main_v19 main_v20_12 id
  :: [] )
/-- 19 host operations of @main, window 0 (statements 1 … 60), in order. -/
abbrev main_part0_ops1 : List (HloOp τ sig (Elt F)) :=
  [ unary main_v20_8 main_v21 ((transpose S32x128x8x128 [0, 2, 1, 3] · transposes_S32x8x128x128_S32x128x8x128_0_2_1_3) : Arr F S32x8x128x128 .f32 → Arr F S32x128x8x128 .f32),
    reshape main_v21 main_v22 rfl shapeCasts_S32x128x8x128_S4096x1024,
    nullary main_cst_5 (constant S_ .f32 0x00000000#32),
    unary main_cst_5 main_v23 (broadcastInDim S8x128x128 ![] bcast_S_S8x128x128 : Arr F S_ .f32 → Arr F S8x128x128 .f32),
    reshape main_arg6 main_v24 rfl shapeCasts_S4096x1024_S32x128x8x128,
    unary main_v24 main_v25 ((transpose S32x8x128x128 [0, 2, 1, 3] · transposes_S32x128x8x128_S32x8x128x128_0_2_1_3) : Arr F S32x128x8x128 .f32 → Arr F S32x8x128x128 .f32),
    nullary main_cst_6 (constant S_ .f32 0x00000000#32),
    unary main_cst_6 main_v26 (broadcastInDim S8x128x128 ![] bcast_S_S8x128x128 : Arr F S_ .f32 → Arr F S8x128x128 .f32),
    nullary main_cst_7 (constant S_ .f32 0x00000000#32),
    unary main_cst_7 main_v27 stack,
    nullary main_cst_8 (constant S_ .f32 0x00000000#32),
    unary main_cst_8 main_v28 stack,
    nullary main_cst_9 (constant S_ .f32 0x00000000#32),
    unary main_cst_9 main_v29 stack,
    nullary main_cst_10 (constant S_ .f32 0x00000000#32),
    unary main_cst_10 main_v30 stack,
    nullary main_cst_11 (constant S_ .f32 0x00000000#32),
    unary main_cst_11 main_v31 stack,
    nullary main_cst_12 (constant S_ .f32 0x00000000#32) ]
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ seq main_part0_ops0,
    HostLoop.enter 0 ]
  (seq main_part0_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 19 host operations of @main, window 1 (statements 61 … 96), in order. -/
abbrev main_part1_ops0 : List (HloOp τ sig (Elt F)) :=
  [ unary main_cst_12 main_v32 (broadcastInDim S32x8x128 ![] bcast_S_S32x8x128 : Arr F S_ .f32 → Arr F S32x8x128 .f32),
    nullary main_c_13 (constantI S_ 32 0#32),
    unary main_v25 main_v33_0 id,
    unary main_v20_9 main_v33_1 id,
    unary main_v3 main_v33_2 id,
    unary main_v5 main_v33_3 id,
    unary main_v20_10 main_v33_4 id,
    unary main_v9 main_v33_5 id,
    unary main_v20_11 main_v33_6 id,
    unary main_v20_12 main_v33_7 id,
    unary main_v7 main_v33_8 id,
    unary main_c_13 main_v33_9 id,
    unary main_v26 main_v33_10 id,
    unary main_v27 main_v33_11 id,
    unary main_v28 main_v33_12 id,
    unary main_v29 main_v33_13 id,
    unary main_v30 main_v33_14 id,
    unary main_v31 main_v33_15 id,
    unary main_v32 main_v33_16 id ]
/-- 15 host operations of @main, window 1 (statements 61 … 96), in order. -/
abbrev main_part1_ops1 : List (HloOp τ sig (Elt F)) :=
  [ unary main_v33_16 main_v34 (broadcastInDim S32x8x1x128 ![0, 1, 3] bcast_S32x8x128_S32x8x1x128_0_1_3 : Arr F S32x8x128 .f32 → Arr F S32x8x1x128 .f32),
    nullary main_cst_14 (constant S_ .f32 0x00000000#32),
    binary main_v34 main_cst_14 main_v35 ((fun x v => pad S32x8x128x128 ![0, 0, 127, 0] ![0, 0, 0, 0] ![0, 0, 0, 0] x v pads_S32x8x1x128_S32x8x128x128_000_000_12700_000 h_S_) : Arr F S32x8x1x128 .f32 → Arr F S_ .f32 → Arr F S32x8x128x128 .f32),
    unary main_v35 main_v36 toHeads,
    reshape main_v36 main_v37 rfl shapeCasts_S8x32x128x128_S8x4096x128,
    unary main_v33_15 main_v38 toHeads,
    reshape main_v38 main_v39 rfl shapeCasts_S8x32x128x128_S8x4096x128,
    unary main_v33_14 main_v40 toHeads,
    reshape main_v40 main_v41 rfl shapeCasts_S8x32x128x128_S8x4096x128,
    unary main_v33_13 main_v42 toHeads,
    reshape main_v42 main_v43 rfl shapeCasts_S8x32x128x128_S8x4096x128,
    unary main_v33_12 main_v44 toHeads,
    reshape main_v44 main_v45 rfl shapeCasts_S8x32x128x128_S8x4096x128,
    unary main_v33_11 main_v46 toHeads,
    reshape main_v46 main_v47 rfl shapeCasts_S8x32x128x128_S8x4096x128 ]
/-- The last window of `main` (`main_part1`, statements 61 … 96) is the chain of ITS items, each item aligned with the window's
    statements, then `chain_rfl`. -/
theorem main_part1_chain (c : Dev nD) : main_part1 (F := F) c = (Pipeline.chain
  [ seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ seq main_part0_ops0,
    HostLoop.enter 0,
    seq main_part0_ops1,
    seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- 5 host operations of @dynamic_index_in_dim (main_while0b_call0), in order. -/
abbrev while0Ops0 : List (HloOp τ sig (Elt F)) :=
  take4 (.of main_v20_0) (.of main_v20_6) (.of main_while0b_call0_c) (.of main_while0b_call0_c_0) (.of main_while0b_call0_c_1) (.of main_while0b_call0_v0) (.of main_while0b_v48)
/-- 5 host operations of @dynamic_index_in_dim (main_while0b_call1), in order. -/
abbrev while0Ops0_1 : List (HloOp τ sig (Elt F)) :=
  take4 (.of main_v20_1) (.of main_v20_6) (.of main_while0b_call1_c) (.of main_while0b_call1_c_0) (.of main_while0b_call1_c_1) (.of main_while0b_call1_v0) (.of main_while0b_v49)
/-- 5 host operations of @dynamic_index_in_dim (main_while0b_call2), in order. -/
abbrev while0Ops0_2 : List (HloOp τ sig (Elt F)) :=
  take4 (.of main_v20_2) (.of main_v20_6) (.of main_while0b_call2_c) (.of main_while0b_call2_c_0) (.of main_while0b_call2_c_1) (.of main_while0b_call2_v0) (.of main_while0b_v50)
/-- 5 host operations of @dynamic_index_in_dim (main_while0b_call3), in order. -/
abbrev while0Ops0_3 : List (HloOp τ sig (Elt F)) :=
  take4 (.of main_v20_3) (.of main_v20_6) (.of main_while0b_call3_c) (.of main_while0b_call3_c_0) (.of main_while0b_call3_c_1) (.of main_while0b_call3_v0) (.of main_while0b_v51)
/-- 5 host operations of @dynamic_index_in_dim (main_while0b_call4), in order. -/
abbrev while0Ops0_4 : List (HloOp τ sig (Elt F)) :=
  take4 (.of main_v20_4) (.of main_v20_6) (.of main_while0b_call4_c) (.of main_while0b_call4_c_0) (.of main_while0b_call4_c_1) (.of main_while0b_call4_v0) (.of main_while0b_v52)
/-- 4 host operations of @dynamic_index_in_dim_0 (main_while0b_call5), in order. -/
abbrev while0Ops0_5 : List (HloOp τ sig (Elt F)) :=
  take3 (.of main_v20_5) (.of main_v20_6) (.of main_while0b_call5_c) (.of main_while0b_call5_c_0) (.of main_while0b_call5_v0) (.of main_while0b_v53)
/-- 11 host operations of host loop 0's body region, in order. -/
abbrev while0Ops0_6 : List (HloOp τ sig (Elt F)) :=
  [ binary main_while0b_v49 main_v20_7 main_while0b_v54 dotNN,
    binary main_while0b_v48 main_while0b_v54 main_while0b_v55 (subf : Arr F S8x128x128 .f32 → Arr F S8x128x128 .f32 → Arr F S8x128x128 .f32),
    binary main_while0b_v50 main_v20_7 main_while0b_v56 dotNN,
    binary main_while0b_v52 main_while0b_v55 main_while0b_v57 dotNN,
    binary main_while0b_v56 main_while0b_v57 main_while0b_v58 add8,
    unary main_while0b_v53 main_while0b_v59 (Host.exp : Arr F S8x128 .f32 → Arr F S8x128 .f32),
    unary main_while0b_v59 main_while0b_v60 (broadcastInDim S8x1x128 ![0, 2] bcast_S8x128_S8x1x128_0_2 : Arr F S8x128 .f32 → Arr F S8x1x128 .f32),
    unary main_while0b_v60 main_while0b_v61 (broadcastInDim S8x128x128 ![0, 1, 2] bcast_S8x1x128_S8x128x128_0_1_2 : Arr F S8x1x128 .f32 → Arr F S8x128x128 .f32),
    binary main_v20_7 main_while0b_v61 main_while0b_v62 mul8,
    binary main_while0b_v51 main_while0b_v55 main_while0b_v63 dotTN,
    binary main_while0b_v62 main_while0b_v63 main_while0b_v64 add8 ]
/-- 5 host operations of @dynamic_update_index_in_dim (main_while0b_call6), in order. -/
abbrev while0Ops0_7 : List (HloOp τ sig (Elt F)) :=
  put4 (.of main_while0b_v58) (.of main_while0b_call6_v0) (.of main_while0b_call6_c) (.of main_while0b_call6_c_0) (.of main_while0b_call6_c_1) (.of main_v20_8) (.of main_v20_6) (.of main_while0b_v65)
/-- 5 host operations of @dynamic_update_index_in_dim (main_while0b_call7), in order. -/
abbrev while0Ops0_8 : List (HloOp τ sig (Elt F)) :=
  put4 (.of main_v20_7) (.of main_while0b_call7_v0) (.of main_while0b_call7_c) (.of main_while0b_call7_c_0) (.of main_while0b_call7_c_1) (.of main_v20_9) (.of main_v20_6) (.of main_while0b_v66)
/-- 5 host operations of @dynamic_update_index_in_dim (main_while0b_call8), in order. -/
abbrev while0Ops0_9 : List (HloOp τ sig (Elt F)) :=
  put4 (.of main_while0b_v55) (.of main_while0b_call8_v0) (.of main_while0b_call8_c) (.of main_while0b_call8_c_0) (.of main_while0b_call8_c_1) (.of main_v20_10) (.of main_v20_6) (.of main_while0b_v67)
/-- 4 host operations of @dynamic_update_index_in_dim_1 (main_while0b_call9), in order. -/
abbrev while0Ops0_10 : List (HloOp τ sig (Elt F)) :=
  put3 (.of main_while0b_v59) (.of main_while0b_call9_v0) (.of main_while0b_call9_c) (.of main_while0b_call9_c_0) (.of main_v20_11) (.of main_v20_6) (.of main_while0b_v68)
/-- 5 host operations of @dynamic_update_index_in_dim_2 (main_while0b_call10), in order. -/
abbrev while0Ops0_11 : List (HloOp τ sig (Elt F)) :=
  [ TRef.unary (.of main_while0b_v60 : TRef sig ⟨S8x1x128, .f32⟩) (.of main_while0b_call10_v0 : TRef sig ⟨S1x8x1x128, .f32⟩) (broadcastInDim S1x8x1x128 ![1, 2, 3] bcast_S8x1x128_S1x8x1x128_1_2_3),
    TRef.nullary (.of main_while0b_call10_c : TRef sig ⟨S_, .i32⟩) (constantI S_ 32 0#32),
    TRef.nullary (.of main_while0b_call10_c_0 : TRef sig ⟨S_, .i32⟩) (constantI S_ 32 0#32),
    TRef.nullary (.of main_while0b_call10_c_1 : TRef sig ⟨S_, .i32⟩) (constantI S_ 32 0#32),
    TRef.binaryIndexed (.of main_v20_12 : TRef sig ⟨S32x8x1x128, .f32⟩) (.of main_while0b_call10_v0 : TRef sig ⟨S1x8x1x128, .f32⟩) ![(.of main_v20_6 : TRef sig ⟨S_, .i32⟩), (.of main_while0b_call10_c : TRef sig ⟨S_, .i32⟩), (.of main_while0b_call10_c_0 : TRef sig ⟨S_, .i32⟩), (.of main_while0b_call10_c_1 : TRef sig ⟨S_, .i32⟩)] (.of main_while0b_v69 : TRef sig ⟨S32x8x1x128, .f32⟩) (fun x u i => Host.dynamicUpdateSlice x u (fun k => (i k (Shape.Idx.first h_S_)).toInt) updateFits_S32x8x1x128_S1x8x1x128) ]
/-- 9 host operations of host loop 0's body region, in order. -/
abbrev while0Ops0_12 : List (HloOp τ sig (Elt F)) :=
  [ nullary main_while0b_c_27 (constantI S_ 32 1#32),
    binary main_v20_6 main_while0b_c_27 main_while0b_v70 (addi : Arr F S_ .i32 → Arr F S_ .i32 → Arr F S_ .i32),
    unary main_while0b_v70 main_v20_6 id,
    unary main_while0b_v64 main_v20_7 id,
    unary main_while0b_v65 main_v20_8 id,
    unary main_while0b_v66 main_v20_9 id,
    unary main_while0b_v67 main_v20_10 id,
    unary main_while0b_v68 main_v20_11 id,
    unary main_while0b_v69 main_v20_12 id ]
/-- `main_while0_body` is the chain of its items (`Pipeline.chain`): operation stretches, regions, loops and branches in
    order, a module-local function called from it a stretch of its own. Each item aligned with the block's
    statements (`chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10,
    seq while0Ops0_11,
    seq while0Ops0_12 ] : Prog (TpuEff nD τ sig (Elt F) (HostLoop.Sig (Pipeline.Sig Λ₀ (Fin 0) fun p => (pcfgs (F := F) p).Adm) 2) .tc) PUnit) := by
  iterate 6 rewrite [Pipeline.chain_cons]
  rewrite [chain_seq_cons]
  iterate 5 rewrite [Pipeline.chain_cons]
  rewrite [chain_seq_cons]
  chain_rfl

/-- 4 host operations of host loop 1's body region, in order. -/
abbrev while1Ops0 : List (HloOp τ sig (Elt F)) :=
  [ nullary main_while1b_c_31 (constantI S_ 32 32#32),
    binary main_while1b_c_31 main_v33_9 main_while1b_v48 (subi : Arr F S_ .i32 → Arr F S_ .i32 → Arr F S_ .i32),
    nullary main_while1b_c_32 (constantI S_ 32 1#32),
    binary main_while1b_v48 main_while1b_c_32 main_while1b_v49 (subi : Arr F S_ .i32 → Arr F S_ .i32 → Arr F S_ .i32) ]
/-- 5 host operations of @dynamic_index_in_dim (main_while1b_call11), in order. -/
abbrev while1Ops0_1 : List (HloOp τ sig (Elt F)) :=
  take4 (.of main_v33_0) (.of main_while1b_v49) (.of main_while1b_call11_c) (.of main_while1b_call11_c_0) (.of main_while1b_call11_c_1) (.of main_while1b_call11_v0) (.of main_while1b_v50)
/-- 5 host operations of @dynamic_index_in_dim (main_while1b_call12), in order. -/
abbrev while1Ops0_2 : List (HloOp τ sig (Elt F)) :=
  take4 (.of main_v33_1) (.of main_while1b_v49) (.of main_while1b_call12_c) (.of main_while1b_call12_c_0) (.of main_while1b_call12_c_1) (.of main_while1b_call12_v0) (.of main_while1b_v51)
/-- 5 host operations of @dynamic_index_in_dim (main_while1b_call13), in order. -/
abbrev while1Ops0_3 : List (HloOp τ sig (Elt F)) :=
  take4 (.of main_v33_2) (.of main_while1b_v49) (.of main_while1b_call13_c) (.of main_while1b_call13_c_0) (.of main_while1b_call13_c_1) (.of main_while1b_call13_v0) (.of main_while1b_v52)
/-- 5 host operations of @dynamic_index_in_dim (main_while1b_call14), in order. -/
abbrev while1Ops0_4 : List (HloOp τ sig (Elt F)) :=
  take4 (.of main_v33_3) (.of main_while1b_v49) (.of main_while1b_call14_c) (.of main_while1b_call14_c_0) (.of main_while1b_call14_c_1) (.of main_while1b_call14_v0) (.of main_while1b_v53)
/-- 5 host operations of @dynamic_index_in_dim (main_while1b_call15), in order. -/
abbrev while1Ops0_5 : List (HloOp τ sig (Elt F)) :=
  take4 (.of main_v33_4) (.of main_while1b_v49) (.of main_while1b_call15_c) (.of main_while1b_call15_c_0) (.of main_while1b_call15_c_1) (.of main_while1b_call15_v0) (.of main_while1b_v54)
/-- 5 host operations of @dynamic_index_in_dim (main_while1b_call16), in order. -/
abbrev while1Ops0_6 : List (HloOp τ sig (Elt F)) :=
  take4 (.of main_v33_5) (.of main_while1b_v49) (.of main_while1b_call16_c) (.of main_while1b_call16_c_0) (.of main_while1b_call16_c_1) (.of main_while1b_call16_v0) (.of main_while1b_v55)
/-- 4 host operations of @dynamic_index_in_dim_0 (main_while1b_call17), in order. -/
abbrev while1Ops0_7 : List (HloOp τ sig (Elt F)) :=
  take3 (.of main_v33_6) (.of main_while1b_v49) (.of main_while1b_call17_c) (.of main_while1b_call17_c_0) (.of main_while1b_call17_v0) (.of main_while1b_v56)
/-- 5 host operations of @dynamic_index_in_dim_3 (main_while1b_call18), in order. -/
abbrev while1Ops0_8 : List (HloOp τ sig (Elt F)) :=
  [ TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.unaryIndexed (.of main_v33_7 : TRef sig ⟨S32x8x1x128, .f32⟩) ![(.of main_while1b_v49 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_call18_v0 : TRef sig ⟨S1x8x1x128, .f32⟩) (fun x i => Host.dynamicSlice S1x8x1x128 x (fun k => (i k (Shape.Idx.first h_S_)).toInt) sliceFits_S32x8x1x128_S1x8x1x128),
    TRef.reshape (.of main_while1b_call18_v0 : TRef sig ⟨S1x8x1x128, .f32⟩) (.of main_while1b_v57 : TRef sig ⟨S8x1x128, .f32⟩) rfl shapeCasts_S1x8x1x128_S8x1x128 ]
/-- 5 host operations of @dynamic_index_in_dim (main_while1b_call19), in order. -/
abbrev while1Ops0_9 : List (HloOp τ sig (Elt F)) :=
  take4 (.of main_v33_8) (.of main_while1b_v49) (.of main_while1b_call19_c) (.of main_while1b_call19_c_0) (.of main_while1b_call19_c_1) (.of main_while1b_call19_v0) (.of main_while1b_v58)
/-- 26 host operations of host loop 1's body region, in order. -/
abbrev while1Ops0_10 : List (HloOp τ sig (Elt F)) :=
  [ binary main_v33_10 main_while1b_v58 main_while1b_v59 ((fun l r => Host.dotGeneral dot_S8x128x128_S8x128x128_S8x128x128_1_2_2_1_0_0 none l r) : Arr F S8x128x128 .f32 → Arr F S8x128x128 .f32 → Arr F S8x128x128 .f32),
    unary main_while1b_v59 main_while1b_v60 flip8,
    binary main_v33_10 main_while1b_v54 main_while1b_v61 dotNT,
    unary main_while1b_v61 main_while1b_v62 flip8,
    binary main_while1b_v51 main_v33_10 main_while1b_v63 mul8,
    nullary main_while1b_cst_33 (constant S_ .f32 0x00000000#32),
    binary main_while1b_v63 main_while1b_cst_33 main_while1b_v64 ((fun x v => Host.reduceAdd x v reducesTo_S8x128x128_S8x128_d1 h_S_) : Arr F S8x128x128 .f32 → Arr F S_ .f32 → Arr F S8x128 .f32),
    reshape main_while1b_v64 main_while1b_v65 rfl shapeCasts_S8x128_S8x1x128,
    unary main_while1b_v57 main_while1b_v66 (broadcastInDim S8x128x128 ![0, 1, 2] bcast_S8x1x128_S8x128x128_0_1_2 : Arr F S8x1x128 .f32 → Arr F S8x128x128 .f32),
    binary main_v33_10 main_while1b_v66 main_while1b_v67 mul8,
    nullary main_while1b_cst_34 (constant S_ .f32 0x00000000#32),
    binary main_while1b_v65 main_while1b_cst_34 main_while1b_v68 ((fun x v => Host.reduceAdd x v reducesTo_S8x1x128_S8x128_d1 h_S_) : Arr F S8x1x128 .f32 → Arr F S_ .f32 → Arr F S8x128 .f32),
    binary main_while1b_v68 main_while1b_v56 main_while1b_v69 (mulf : Arr F S8x128 .f32 → Arr F S8x128 .f32 → Arr F S8x128 .f32),
    binary main_while1b_v50 main_while1b_v55 main_while1b_v70 dotTN,
    unary main_while1b_v70 main_while1b_v71 flip8,
    binary main_while1b_v60 main_while1b_v71 main_while1b_v72 add8,
    binary main_while1b_v50 main_while1b_v54 main_while1b_v73 dotNT,
    binary main_while1b_v50 main_while1b_v53 main_while1b_v74 dotTN,
    unary main_while1b_v74 main_while1b_v75 flip8,
    binary main_while1b_v67 main_while1b_v75 main_while1b_v76 add8,
    binary main_while1b_v50 main_while1b_v51 main_while1b_v77 dotNT,
    unary main_while1b_v72 main_while1b_v78 (Host.negf : Arr F S8x128x128 .f32 → Arr F S8x128x128 .f32),
    binary main_while1b_v78 main_while1b_v52 main_while1b_v79 dotTN,
    unary main_while1b_v79 main_while1b_v80 flip8,
    binary main_while1b_v76 main_while1b_v80 main_while1b_v81 add8,
    binary main_while1b_v78 main_while1b_v51 main_while1b_v82 dotNT ]
/-- 5 host operations of @dynamic_update_index_in_dim (main_while1b_call20), in order. -/
abbrev while1Ops0_11 : List (HloOp τ sig (Elt F)) :=
  put4 (.of main_while1b_v72) (.of main_while1b_call20_v0) (.of main_while1b_call20_c) (.of main_while1b_call20_c_0) (.of main_while1b_call20_c_1) (.of main_v33_11) (.of main_while1b_v49) (.of main_while1b_v83)
/-- 5 host operations of @dynamic_update_index_in_dim (main_while1b_call21), in order. -/
abbrev while1Ops0_12 : List (HloOp τ sig (Elt F)) :=
  put4 (.of main_while1b_v82) (.of main_while1b_call21_v0) (.of main_while1b_call21_c) (.of main_while1b_call21_c_0) (.of main_while1b_call21_c_1) (.of main_v33_12) (.of main_while1b_v49) (.of main_while1b_v84)
/-- 5 host operations of @dynamic_update_index_in_dim (main_while1b_call22), in order. -/
abbrev while1Ops0_13 : List (HloOp τ sig (Elt F)) :=
  put4 (.of main_while1b_v77) (.of main_while1b_call22_v0) (.of main_while1b_call22_c) (.of main_while1b_call22_c_0) (.of main_while1b_call22_c_1) (.of main_v33_13) (.of main_while1b_v49) (.of main_while1b_v85)
/-- 5 host operations of @dynamic_update_index_in_dim (main_while1b_call23), in order. -/
abbrev while1Ops0_14 : List (HloOp τ sig (Elt F)) :=
  put4 (.of main_while1b_v62) (.of main_while1b_call23_v0) (.of main_while1b_call23_c) (.of main_while1b_call23_c_0) (.of main_while1b_call23_c_1) (.of main_v33_14) (.of main_while1b_v49) (.of main_while1b_v86)
/-- 5 host operations of @dynamic_update_index_in_dim (main_while1b_call24), in order. -/
abbrev while1Ops0_15 : List (HloOp τ sig (Elt F)) :=
  put4 (.of main_while1b_v73) (.of main_while1b_call24_v0) (.of main_while1b_call24_c) (.of main_while1b_call24_c_0) (.of main_while1b_call24_c_1) (.of main_v33_15) (.of main_while1b_v49) (.of main_while1b_v87)
/-- 4 host operations of @dynamic_update_index_in_dim_1 (main_while1b_call25), in order. -/
abbrev while1Ops0_16 : List (HloOp τ sig (Elt F)) :=
  put3 (.of main_while1b_v69) (.of main_while1b_call25_v0) (.of main_while1b_call25_c) (.of main_while1b_call25_c_0) (.of main_v33_16) (.of main_while1b_v49) (.of main_while1b_v88)
/-- 10 host operations of host loop 1's body region, in order. -/
abbrev while1Ops0_17 : List (HloOp τ sig (Elt F)) :=
  [ nullary main_while1b_c_35 (constantI S_ 32 1#32),
    binary main_v33_9 main_while1b_c_35 main_while1b_v89 (addi : Arr F S_ .i32 → Arr F S_ .i32 → Arr F S_ .i32),
    unary main_while1b_v89 main_v33_9 id,
    unary main_while1b_v81 main_v33_10 id,
    unary main_while1b_v83 main_v33_11 id,
    unary main_while1b_v84 main_v33_12 id,
    unary main_while1b_v85 main_v33_13 id,
    unary main_while1b_v86 main_v33_14 id,
    unary main_while1b_v87 main_v33_15 id,
    unary main_while1b_v88 main_v33_16 id ]
/-- `main_while1_body` is the chain of its items (`Pipeline.chain`): operation stretches, regions, loops and branches in
    order, a module-local function called from it a stretch of its own. Each item aligned with the block's
    statements (`chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16,
    seq while1Ops0_17 ] : Prog (TpuEff nD τ sig (Elt F) (HostLoop.Sig (Pipeline.Sig Λ₀ (Fin 0) fun p => (pcfgs (F := F) p).Adm) 2) .tc) PUnit) := by
  rewrite [chain_seq_cons]
  iterate 9 rewrite [Pipeline.chain_cons]
  rewrite [chain_seq_cons]
  iterate 6 rewrite [Pipeline.chain_cons]
  rewrite [chain_seq_cons]
  chain_rfl

/-! ## What each stretch writes: `_W` lists the references, in order -/

abbrev main_part0_ops0_W : List (Ref sig .tc) := [main_v0, main_v1, main_v2, main_v3, main_v4, main_v5, main_v6, main_v7, main_v8, main_v9, main_v10, main_v11, main_v12, main_v13, main_cst, main_v14, main_cst_0, main_v15, main_cst_1, main_v16, main_cst_2, main_v17, main_cst_3, main_v18, main_cst_4, main_v19, main_c, main_v20_0, main_v20_1, main_v20_2, main_v20_3, main_v20_4, main_v20_5, main_v20_6, main_v20_7, main_v20_8, main_v20_9, main_v20_10, main_v20_11, main_v20_12]
theorem main_part0_ops0_writes : Writes (F := F) main_part0_ops0 main_part0_ops0_W := forall_writes_sub_of_map rfl
abbrev main_part0_ops1_W : List (Ref sig .tc) := [main_v21, main_v22, main_cst_5, main_v23, main_v24, main_v25, main_cst_6, main_v26, main_cst_7, main_v27, main_cst_8, main_v28, main_cst_9, main_v29, main_cst_10, main_v30, main_cst_11, main_v31, main_cst_12]
theorem main_part0_ops1_writes : Writes (F := F) main_part0_ops1 main_part0_ops1_W := forall_writes_sub_of_map rfl
abbrev main_part1_ops0_W : List (Ref sig .tc) := [main_v32, main_c_13, main_v33_0, main_v33_1, main_v33_2, main_v33_3, main_v33_4, main_v33_5, main_v33_6, main_v33_7, main_v33_8, main_v33_9, main_v33_10, main_v33_11, main_v33_12, main_v33_13, main_v33_14, main_v33_15, main_v33_16]
theorem main_part1_ops0_writes : Writes (F := F) main_part1_ops0 main_part1_ops0_W := forall_writes_sub_of_map rfl
abbrev main_part1_ops1_W : List (Ref sig .tc) := [main_v34, main_cst_14, main_v35, main_v36, main_v37, main_v38, main_v39, main_v40, main_v41, main_v42, main_v43, main_v44, main_v45, main_v46, main_v47]
theorem main_part1_ops1_writes : Writes (F := F) main_part1_ops1 main_part1_ops1_W := forall_writes_sub_of_map rfl
abbrev while0Ops0_W : List (Ref sig .tc) := [main_while0b_call0_c, main_while0b_call0_c_0, main_while0b_call0_c_1, main_while0b_call0_v0, main_while0b_v48]
theorem while0Ops0_writes : Writes (F := F) while0Ops0 while0Ops0_W := forall_writes_sub_of_map rfl
abbrev while0Ops0_1_W : List (Ref sig .tc) := [main_while0b_call1_c, main_while0b_call1_c_0, main_while0b_call1_c_1, main_while0b_call1_v0, main_while0b_v49]
theorem while0Ops0_1_writes : Writes (F := F) while0Ops0_1 while0Ops0_1_W := forall_writes_sub_of_map rfl
abbrev while0Ops0_2_W : List (Ref sig .tc) := [main_while0b_call2_c, main_while0b_call2_c_0, main_while0b_call2_c_1, main_while0b_call2_v0, main_while0b_v50]
theorem while0Ops0_2_writes : Writes (F := F) while0Ops0_2 while0Ops0_2_W := forall_writes_sub_of_map rfl
abbrev while0Ops0_3_W : List (Ref sig .tc) := [main_while0b_call3_c, main_while0b_call3_c_0, main_while0b_call3_c_1, main_while0b_call3_v0, main_while0b_v51]
theorem while0Ops0_3_writes : Writes (F := F) while0Ops0_3 while0Ops0_3_W := forall_writes_sub_of_map rfl
abbrev while0Ops0_4_W : List (Ref sig .tc) := [main_while0b_call4_c, main_while0b_call4_c_0, main_while0b_call4_c_1, main_while0b_call4_v0, main_while0b_v52]
theorem while0Ops0_4_writes : Writes (F := F) while0Ops0_4 while0Ops0_4_W := forall_writes_sub_of_map rfl
abbrev while0Ops0_5_W : List (Ref sig .tc) := [main_while0b_call5_c, main_while0b_call5_c_0, main_while0b_call5_v0, main_while0b_v53]
theorem while0Ops0_5_writes : Writes (F := F) while0Ops0_5 while0Ops0_5_W := forall_writes_sub_of_map rfl
abbrev while0Ops0_6_W : List (Ref sig .tc) := [main_while0b_v54, main_while0b_v55, main_while0b_v56, main_while0b_v57, main_while0b_v58, main_while0b_v59, main_while0b_v60, main_while0b_v61, main_while0b_v62, main_while0b_v63, main_while0b_v64]
theorem while0Ops0_6_writes : Writes (F := F) while0Ops0_6 while0Ops0_6_W := forall_writes_sub_of_map rfl
abbrev while0Ops0_7_W : List (Ref sig .tc) := [main_while0b_call6_v0, main_while0b_call6_c, main_while0b_call6_c_0, main_while0b_call6_c_1, main_while0b_v65]
theorem while0Ops0_7_writes : Writes (F := F) while0Ops0_7 while0Ops0_7_W := forall_writes_sub_of_map rfl
abbrev while0Ops0_8_W : List (Ref sig .tc) := [main_while0b_call7_v0, main_while0b_call7_c, main_while0b_call7_c_0, main_while0b_call7_c_1, main_while0b_v66]
theorem while0Ops0_8_writes : Writes (F := F) while0Ops0_8 while0Ops0_8_W := forall_writes_sub_of_map rfl
abbrev while0Ops0_9_W : List (Ref sig .tc) := [main_while0b_call8_v0, main_while0b_call8_c, main_while0b_call8_c_0, main_while0b_call8_c_1, main_while0b_v67]
theorem while0Ops0_9_writes : Writes (F := F) while0Ops0_9 while0Ops0_9_W := forall_writes_sub_of_map rfl
abbrev while0Ops0_10_W : List (Ref sig .tc) := [main_while0b_call9_v0, main_while0b_call9_c, main_while0b_call9_c_0, main_while0b_v68]
theorem while0Ops0_10_writes : Writes (F := F) while0Ops0_10 while0Ops0_10_W := forall_writes_sub_of_map rfl
abbrev while0Ops0_11_W : List (Ref sig .tc) := [main_while0b_call10_v0, main_while0b_call10_c, main_while0b_call10_c_0, main_while0b_call10_c_1, main_while0b_v69]
theorem while0Ops0_11_writes : Writes (F := F) while0Ops0_11 while0Ops0_11_W := forall_writes_sub_of_map rfl
abbrev while0Ops0_12_W : List (Ref sig .tc) := [main_while0b_c_27, main_while0b_v70, main_v20_6, main_v20_7, main_v20_8, main_v20_9, main_v20_10, main_v20_11, main_v20_12]
theorem while0Ops0_12_writes : Writes (F := F) while0Ops0_12 while0Ops0_12_W := forall_writes_sub_of_map rfl
abbrev while1Ops0_W : List (Ref sig .tc) := [main_while1b_c_31, main_while1b_v48, main_while1b_c_32, main_while1b_v49]
theorem while1Ops0_writes : Writes (F := F) while1Ops0 while1Ops0_W := forall_writes_sub_of_map rfl
abbrev while1Ops0_1_W : List (Ref sig .tc) := [main_while1b_call11_c, main_while1b_call11_c_0, main_while1b_call11_c_1, main_while1b_call11_v0, main_while1b_v50]
theorem while1Ops0_1_writes : Writes (F := F) while1Ops0_1 while1Ops0_1_W := forall_writes_sub_of_map rfl
abbrev while1Ops0_2_W : List (Ref sig .tc) := [main_while1b_call12_c, main_while1b_call12_c_0, main_while1b_call12_c_1, main_while1b_call12_v0, main_while1b_v51]
theorem while1Ops0_2_writes : Writes (F := F) while1Ops0_2 while1Ops0_2_W := forall_writes_sub_of_map rfl
abbrev while1Ops0_3_W : List (Ref sig .tc) := [main_while1b_call13_c, main_while1b_call13_c_0, main_while1b_call13_c_1, main_while1b_call13_v0, main_while1b_v52]
theorem while1Ops0_3_writes : Writes (F := F) while1Ops0_3 while1Ops0_3_W := forall_writes_sub_of_map rfl
abbrev while1Ops0_4_W : List (Ref sig .tc) := [main_while1b_call14_c, main_while1b_call14_c_0, main_while1b_call14_c_1, main_while1b_call14_v0, main_while1b_v53]
theorem while1Ops0_4_writes : Writes (F := F) while1Ops0_4 while1Ops0_4_W := forall_writes_sub_of_map rfl
abbrev while1Ops0_5_W : List (Ref sig .tc) := [main_while1b_call15_c, main_while1b_call15_c_0, main_while1b_call15_c_1, main_while1b_call15_v0, main_while1b_v54]
theorem while1Ops0_5_writes : Writes (F := F) while1Ops0_5 while1Ops0_5_W := forall_writes_sub_of_map rfl
abbrev while1Ops0_6_W : List (Ref sig .tc) := [main_while1b_call16_c, main_while1b_call16_c_0, main_while1b_call16_c_1, main_while1b_call16_v0, main_while1b_v55]
theorem while1Ops0_6_writes : Writes (F := F) while1Ops0_6 while1Ops0_6_W := forall_writes_sub_of_map rfl
abbrev while1Ops0_7_W : List (Ref sig .tc) := [main_while1b_call17_c, main_while1b_call17_c_0, main_while1b_call17_v0, main_while1b_v56]
theorem while1Ops0_7_writes : Writes (F := F) while1Ops0_7 while1Ops0_7_W := forall_writes_sub_of_map rfl
abbrev while1Ops0_8_W : List (Ref sig .tc) := [main_while1b_call18_c, main_while1b_call18_c_0, main_while1b_call18_c_1, main_while1b_call18_v0, main_while1b_v57]
theorem while1Ops0_8_writes : Writes (F := F) while1Ops0_8 while1Ops0_8_W := forall_writes_sub_of_map rfl
abbrev while1Ops0_9_W : List (Ref sig .tc) := [main_while1b_call19_c, main_while1b_call19_c_0, main_while1b_call19_c_1, main_while1b_call19_v0, main_while1b_v58]
theorem while1Ops0_9_writes : Writes (F := F) while1Ops0_9 while1Ops0_9_W := forall_writes_sub_of_map rfl
abbrev while1Ops0_10_W : List (Ref sig .tc) := [main_while1b_v59, main_while1b_v60, main_while1b_v61, main_while1b_v62, main_while1b_v63, main_while1b_cst_33, main_while1b_v64, main_while1b_v65, main_while1b_v66, main_while1b_v67, main_while1b_cst_34, main_while1b_v68, main_while1b_v69, main_while1b_v70, main_while1b_v71, main_while1b_v72, main_while1b_v73, main_while1b_v74, main_while1b_v75, main_while1b_v76, main_while1b_v77, main_while1b_v78, main_while1b_v79, main_while1b_v80, main_while1b_v81, main_while1b_v82]
theorem while1Ops0_10_writes : Writes (F := F) while1Ops0_10 while1Ops0_10_W := forall_writes_sub_of_map rfl
abbrev while1Ops0_11_W : List (Ref sig .tc) := [main_while1b_call20_v0, main_while1b_call20_c, main_while1b_call20_c_0, main_while1b_call20_c_1, main_while1b_v83]
theorem while1Ops0_11_writes : Writes (F := F) while1Ops0_11 while1Ops0_11_W := forall_writes_sub_of_map rfl
abbrev while1Ops0_12_W : List (Ref sig .tc) := [main_while1b_call21_v0, main_while1b_call21_c, main_while1b_call21_c_0, main_while1b_call21_c_1, main_while1b_v84]
theorem while1Ops0_12_writes : Writes (F := F) while1Ops0_12 while1Ops0_12_W := forall_writes_sub_of_map rfl
abbrev while1Ops0_13_W : List (Ref sig .tc) := [main_while1b_call22_v0, main_while1b_call22_c, main_while1b_call22_c_0, main_while1b_call22_c_1, main_while1b_v85]
theorem while1Ops0_13_writes : Writes (F := F) while1Ops0_13 while1Ops0_13_W := forall_writes_sub_of_map rfl
abbrev while1Ops0_14_W : List (Ref sig .tc) := [main_while1b_call23_v0, main_while1b_call23_c, main_while1b_call23_c_0, main_while1b_call23_c_1, main_while1b_v86]
theorem while1Ops0_14_writes : Writes (F := F) while1Ops0_14 while1Ops0_14_W := forall_writes_sub_of_map rfl
abbrev while1Ops0_15_W : List (Ref sig .tc) := [main_while1b_call24_v0, main_while1b_call24_c, main_while1b_call24_c_0, main_while1b_call24_c_1, main_while1b_v87]
theorem while1Ops0_15_writes : Writes (F := F) while1Ops0_15 while1Ops0_15_W := forall_writes_sub_of_map rfl
abbrev while1Ops0_16_W : List (Ref sig .tc) := [main_while1b_call25_v0, main_while1b_call25_c, main_while1b_call25_c_0, main_while1b_v88]
theorem while1Ops0_16_writes : Writes (F := F) while1Ops0_16 while1Ops0_16_W := forall_writes_sub_of_map rfl
abbrev while1Ops0_17_W : List (Ref sig .tc) := [main_while1b_c_35, main_while1b_v89, main_v33_9, main_v33_10, main_v33_11, main_v33_12, main_v33_13, main_v33_14, main_v33_15, main_v33_16]
theorem while1Ops0_17_writes : Writes (F := F) while1Ops0_17 while1Ops0_17_W := forall_writes_sub_of_map rfl

end Cert.ReferenceIdeal.Scan
-- ==== Proof.Ref.Steps0.lean ====
/- The stretches of the forward loop's body: what each reads out of its stacks and writes into them. -/
module

public import proofs.«01_k».proof.Proof.Ref.Index
public import proofs.«01_k».proof.Proof.Ref.Lists

@[expose] public section

set_option maxRecDepth 8192

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F] (V : Valuation τ sig (Elt F)) (k : Fin 32)

/-- The loop's counter is `k`. -/
abbrev Counts0 : Prop := ((V (Proc.devRef .tc main_v20_6) : S_.Idx → BitVec 32) (Shape.Idx.first h_S_)).toInt = k.val

/-- Stretch 0 of loop 0's body, applied. -/
def s0_0 : Valuation τ sig (Elt F) := after while0Ops0 V
theorem s0_0_keep (r : Ref sig .tc) (h : r ∉ while0Ops0_W := by decide) : s0_0 V (Proc.devRef .tc r) = V (Proc.devRef .tc r) :=
  after_of_writes_sub while0Ops0 V while0Ops0_writes h

theorem s0_0_get (hc : Counts0 V k) (h : Fin 8) (i j : Fin 128) :
    (s0_0 V (Proc.devRef .tc main_while0b_v48) : S8x128x128.Idx → Elt F .f32) (ix3 h i j) = (V (Proc.devRef .tc main_v20_0) : S32x8x128x128.Idx → Elt F .f32) (ix4 k h i j) := by
  refine (congrFun (?_ : _ = member4 (V (Proc.devRef .tc main_v20_0)) (V (Proc.devRef .tc main_v20_6))) _).trans (slice4 _ _ k hc rfl rfl rfl h i j)
  unfold s0_0 while0Ops0
  after_results_entrywise [cast_eq]

/-- Stretch 1 of loop 0's body, applied. -/
def s0_1 : Valuation τ sig (Elt F) := after while0Ops0_1 V
theorem s0_1_keep (r : Ref sig .tc) (h : r ∉ while0Ops0_1_W := by decide) : s0_1 V (Proc.devRef .tc r) = V (Proc.devRef .tc r) :=
  after_of_writes_sub while0Ops0_1 V while0Ops0_1_writes h

theorem s0_1_get (hc : Counts0 V k) (h : Fin 8) (i j : Fin 128) :
    (s0_1 V (Proc.devRef .tc main_while0b_v49) : S8x128x128.Idx → Elt F .f32) (ix3 h i j) = (V (Proc.devRef .tc main_v20_1) : S32x8x128x128.Idx → Elt F .f32) (ix4 k h i j) := by
  refine (congrFun (?_ : _ = member4 (V (Proc.devRef .tc main_v20_1)) (V (Proc.devRef .tc main_v20_6))) _).trans (slice4 _ _ k hc rfl rfl rfl h i j)
  unfold s0_1 while0Ops0_1
  after_results_entrywise [cast_eq]

/-- Stretch 2 of loop 0's body, applied. -/
def s0_2 : Valuation τ sig (Elt F) := after while0Ops0_2 V
theorem s0_2_keep (r : Ref sig .tc) (h : r ∉ while0Ops0_2_W := by decide) : s0_2 V (Proc.devRef .tc r) = V (Proc.devRef .tc r) :=
  after_of_writes_sub while0Ops0_2 V while0Ops0_2_writes h

theorem s0_2_get (hc : Counts0 V k) (h : Fin 8) (i j : Fin 128) :
    (s0_2 V (Proc.devRef .tc main_while0b_v50) : S8x128x128.Idx → Elt F .f32) (ix3 h i j) = (V (Proc.devRef .tc main_v20_2) : S32x8x128x128.Idx → Elt F .f32) (ix4 k h i j) := by
  refine (congrFun (?_ : _ = member4 (V (Proc.devRef .tc main_v20_2)) (V (Proc.devRef .tc main_v20_6))) _).trans (slice4 _ _ k hc rfl rfl rfl h i j)
  unfold s0_2 while0Ops0_2
  after_results_entrywise [cast_eq]

/-- Stretch 3 of loop 0's body, applied. -/
def s0_3 : Valuation τ sig (Elt F) := after while0Ops0_3 V
theorem s0_3_keep (r : Ref sig .tc) (h : r ∉ while0Ops0_3_W := by decide) : s0_3 V (Proc.devRef .tc r) = V (Proc.devRef .tc r) :=
  after_of_writes_sub while0Ops0_3 V while0Ops0_3_writes h

theorem s0_3_get (hc : Counts0 V k) (h : Fin 8) (i j : Fin 128) :
    (s0_3 V (Proc.devRef .tc main_while0b_v51) : S8x128x128.Idx → Elt F .f32) (ix3 h i j) = (V (Proc.devRef .tc main_v20_3) : S32x8x128x128.Idx → Elt F .f32) (ix4 k h i j) := by
  refine (congrFun (?_ : _ = member4 (V (Proc.devRef .tc main_v20_3)) (V (Proc.devRef .tc main_v20_6))) _).trans (slice4 _ _ k hc rfl rfl rfl h i j)
  unfold s0_3 while0Ops0_3
  after_results_entrywise [cast_eq]

/-- Stretch 4 of loop 0's body, applied. -/
def s0_4 : Valuation τ sig (Elt F) := after while0Ops0_4 V
theorem s0_4_keep (r : Ref sig .tc) (h : r ∉ while0Ops0_4_W := by decide) : s0_4 V (Proc.devRef .tc r) = V (Proc.devRef .tc r) :=
  after_of_writes_sub while0Ops0_4 V while0Ops0_4_writes h

theorem s0_4_get (hc : Counts0 V k) (h : Fin 8) (i j : Fin 128) :
    (s0_4 V (Proc.devRef .tc main_while0b_v52) : S8x128x128.Idx → Elt F .f32) (ix3 h i j) = (V (Proc.devRef .tc main_v20_4) : S32x8x128x128.Idx → Elt F .f32) (ix4 k h i j) := by
  refine (congrFun (?_ : _ = member4 (V (Proc.devRef .tc main_v20_4)) (V (Proc.devRef .tc main_v20_6))) _).trans (slice4 _ _ k hc rfl rfl rfl h i j)
  unfold s0_4 while0Ops0_4
  after_results_entrywise [cast_eq]

/-- Stretch 5 of loop 0's body, applied. -/
def s0_5 : Valuation τ sig (Elt F) := after while0Ops0_5 V
theorem s0_5_keep (r : Ref sig .tc) (h : r ∉ while0Ops0_5_W := by decide) : s0_5 V (Proc.devRef .tc r) = V (Proc.devRef .tc r) :=
  after_of_writes_sub while0Ops0_5 V while0Ops0_5_writes h

theorem s0_5_get (hc : Counts0 V k) (h : Fin 8) (j : Fin 128) :
    (s0_5 V (Proc.devRef .tc main_while0b_v53) : S8x128.Idx → Elt F .f32) (ix2 h j) = (V (Proc.devRef .tc main_v20_5) : S32x8x128.Idx → Elt F .f32) (ix3 k h j) := by
  refine (congrFun (?_ : _ = member3 (V (Proc.devRef .tc main_v20_5)) (V (Proc.devRef .tc main_v20_6))) _).trans (slice3 _ _ k hc rfl rfl h j)
  unfold s0_5 while0Ops0_5
  after_results_entrywise [cast_eq]

/-- Stretch 6 of loop 0's body, applied. -/
def s0_6 : Valuation τ sig (Elt F) := after while0Ops0_6 V
theorem s0_6_keep (r : Ref sig .tc) (h : r ∉ while0Ops0_6_W := by decide) : s0_6 V (Proc.devRef .tc r) = V (Proc.devRef .tc r) :=
  after_of_writes_sub while0Ops0_6 V while0Ops0_6_writes h

/-- Stretch 7 of loop 0's body, applied. -/
def s0_7 : Valuation τ sig (Elt F) := after while0Ops0_7 V
theorem s0_7_keep (r : Ref sig .tc) (h : r ∉ while0Ops0_7_W := by decide) : s0_7 V (Proc.devRef .tc r) = V (Proc.devRef .tc r) :=
  after_of_writes_sub while0Ops0_7 V while0Ops0_7_writes h

theorem s0_7_put (hc : Counts0 V k) (n : Fin 32) (h : Fin 8) (i j : Fin 128) :
    (s0_7 V (Proc.devRef .tc main_while0b_v65) : S32x8x128x128.Idx → Elt F .f32) (ix4 n h i j) = if n = k then (V (Proc.devRef .tc main_while0b_v58) : S8x128x128.Idx → Elt F .f32) (ix3 h i j) else (V (Proc.devRef .tc main_v20_8) : S32x8x128x128.Idx → Elt F .f32) (ix4 n h i j) := by
  refine (congrFun (?_ : _ = replaced4 (V (Proc.devRef .tc main_v20_8)) (V (Proc.devRef .tc main_while0b_v58)) (V (Proc.devRef .tc main_v20_6))) _).trans (update4 _ _ _ k hc rfl rfl rfl n h i j)
  unfold s0_7 while0Ops0_7
  after_results_entrywise [cast_eq]

/-- Stretch 8 of loop 0's body, applied. -/
def s0_8 : Valuation τ sig (Elt F) := after while0Ops0_8 V
theorem s0_8_keep (r : Ref sig .tc) (h : r ∉ while0Ops0_8_W := by decide) : s0_8 V (Proc.devRef .tc r) = V (Proc.devRef .tc r) :=
  after_of_writes_sub while0Ops0_8 V while0Ops0_8_writes h

theorem s0_8_put (hc : Counts0 V k) (n : Fin 32) (h : Fin 8) (i j : Fin 128) :
    (s0_8 V (Proc.devRef .tc main_while0b_v66) : S32x8x128x128.Idx → Elt F .f32) (ix4 n h i j) = if n = k then (V (Proc.devRef .tc main_v20_7) : S8x128x128.Idx → Elt F .f32) (ix3 h i j) else (V (Proc.devRef .tc main_v20_9) : S32x8x128x128.Idx → Elt F .f32) (ix4 n h i j) := by
  refine (congrFun (?_ : _ = replaced4 (V (Proc.devRef .tc main_v20_9)) (V (Proc.devRef .tc main_v20_7)) (V (Proc.devRef .tc main_v20_6))) _).trans (update4 _ _ _ k hc rfl rfl rfl n h i j)
  unfold s0_8 while0Ops0_8
  after_results_entrywise [cast_eq]

/-- Stretch 9 of loop 0's body, applied. -/
def s0_9 : Valuation τ sig (Elt F) := after while0Ops0_9 V
theorem s0_9_keep (r : Ref sig .tc) (h : r ∉ while0Ops0_9_W := by decide) : s0_9 V (Proc.devRef .tc r) = V (Proc.devRef .tc r) :=
  after_of_writes_sub while0Ops0_9 V while0Ops0_9_writes h

theorem s0_9_put (hc : Counts0 V k) (n : Fin 32) (h : Fin 8) (i j : Fin 128) :
    (s0_9 V (Proc.devRef .tc main_while0b_v67) : S32x8x128x128.Idx → Elt F .f32) (ix4 n h i j) = if n = k then (V (Proc.devRef .tc main_while0b_v55) : S8x128x128.Idx → Elt F .f32) (ix3 h i j) else (V (Proc.devRef .tc main_v20_10) : S32x8x128x128.Idx → Elt F .f32) (ix4 n h i j) := by
  refine (congrFun (?_ : _ = replaced4 (V (Proc.devRef .tc main_v20_10)) (V (Proc.devRef .tc main_while0b_v55)) (V (Proc.devRef .tc main_v20_6))) _).trans (update4 _ _ _ k hc rfl rfl rfl n h i j)
  unfold s0_9 while0Ops0_9
  after_results_entrywise [cast_eq]

/-- Stretch 10 of loop 0's body, applied. -/
def s0_10 : Valuation τ sig (Elt F) := after while0Ops0_10 V
theorem s0_10_keep (r : Ref sig .tc) (h : r ∉ while0Ops0_10_W := by decide) : s0_10 V (Proc.devRef .tc r) = V (Proc.devRef .tc r) :=
  after_of_writes_sub while0Ops0_10 V while0Ops0_10_writes h

theorem s0_10_put (hc : Counts0 V k) (n : Fin 32) (h : Fin 8) (j : Fin 128) :
    (s0_10 V (Proc.devRef .tc main_while0b_v68) : S32x8x128.Idx → Elt F .f32) (ix3 n h j) = if n = k then (V (Proc.devRef .tc main_while0b_v59) : S8x128.Idx → Elt F .f32) (ix2 h j) else (V (Proc.devRef .tc main_v20_11) : S32x8x128.Idx → Elt F .f32) (ix3 n h j) := by
  refine (congrFun (?_ : _ = replaced3 (V (Proc.devRef .tc main_v20_11)) (V (Proc.devRef .tc main_while0b_v59)) (V (Proc.devRef .tc main_v20_6))) _).trans (update3 _ _ _ k hc rfl rfl n h j)
  unfold s0_10 while0Ops0_10
  after_results_entrywise [cast_eq]

/-- Stretch 11 of loop 0's body, applied. -/
def s0_11 : Valuation τ sig (Elt F) := after while0Ops0_11 V
theorem s0_11_keep (r : Ref sig .tc) (h : r ∉ while0Ops0_11_W := by decide) : s0_11 V (Proc.devRef .tc r) = V (Proc.devRef .tc r) :=
  after_of_writes_sub while0Ops0_11 V while0Ops0_11_writes h

theorem s0_11_put (hc : Counts0 V k) (n : Fin 32) (h : Fin 8) (i : Fin 1) (j : Fin 128) :
    (s0_11 V (Proc.devRef .tc main_while0b_v69) : S32x8x1x128.Idx → Elt F .f32) (ix4 n h i j) = if n = k then (V (Proc.devRef .tc main_while0b_v60) : S8x1x128.Idx → Elt F .f32) (ix3 h i j) else (V (Proc.devRef .tc main_v20_12) : S32x8x1x128.Idx → Elt F .f32) (ix4 n h i j) := by
  refine (congrFun (?_ : _ = replacedM (V (Proc.devRef .tc main_v20_12)) (V (Proc.devRef .tc main_while0b_v60)) (V (Proc.devRef .tc main_v20_6))) _).trans (updateM _ _ _ k hc rfl rfl rfl n h i j)
  unfold s0_11 while0Ops0_11
  after_results_entrywise [cast_eq]

/-- Stretch 12 of loop 0's body, applied. -/
def s0_12 : Valuation τ sig (Elt F) := after while0Ops0_12 V
theorem s0_12_keep (r : Ref sig .tc) (h : r ∉ while0Ops0_12_W := by decide) : s0_12 V (Proc.devRef .tc r) = V (Proc.devRef .tc r) :=
  after_of_writes_sub while0Ops0_12 V while0Ops0_12_writes h
theorem s0_12_main_v20_7 : s0_12 V (Proc.devRef .tc main_v20_7) = V (Proc.devRef .tc main_while0b_v64) := by
  unfold s0_12 while0Ops0_12
  after_results
  rfl
theorem s0_12_main_v20_8 : s0_12 V (Proc.devRef .tc main_v20_8) = V (Proc.devRef .tc main_while0b_v65) := by
  unfold s0_12 while0Ops0_12
  after_results
  rfl
theorem s0_12_main_v20_9 : s0_12 V (Proc.devRef .tc main_v20_9) = V (Proc.devRef .tc main_while0b_v66) := by
  unfold s0_12 while0Ops0_12
  after_results
  rfl
theorem s0_12_main_v20_10 : s0_12 V (Proc.devRef .tc main_v20_10) = V (Proc.devRef .tc main_while0b_v67) := by
  unfold s0_12 while0Ops0_12
  after_results
  rfl
theorem s0_12_main_v20_11 : s0_12 V (Proc.devRef .tc main_v20_11) = V (Proc.devRef .tc main_while0b_v68) := by
  unfold s0_12 while0Ops0_12
  after_results
  rfl
theorem s0_12_main_v20_12 : s0_12 V (Proc.devRef .tc main_v20_12) = V (Proc.devRef .tc main_while0b_v69) := by
  unfold s0_12 while0Ops0_12
  after_results
  rfl

end Cert.ReferenceIdeal.Scan
-- ==== Proof.Ref.Run.lean ====
/- The reference's run: @main is a stretch of operations, the forward scan's loop, two stretches, the backward scan's loop,
   and a last stretch. It terminates with every buffer at the fold of these (`run_fold`), and leaves its arguments unchanged
   (`frame`). -/
module

public import proofs.«01_k».proof.Proof.Ref.Lists
public import Idealize.ShloMosaic.Lib.Pipeline.RegionsLoop

@[expose] public section

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

abbrev preI : List (List (HloOp τ sig (Elt F))) := [main_part0_ops0]
abbrev midI : List (List (HloOp τ sig (Elt F))) := [main_part0_ops1, main_part1_ops0]
abbrev postI : List (List (HloOp τ sig (Elt F))) := [main_part1_ops1]
abbrev bodyI0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12]
abbrev bodyI1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16, while1Ops0_17]
set_option maxHeartbeats 2000000 in
theorem all_plain : Plain (F := F) (preI ++ (midI ++ (postI ++ (bodyI0 ++ bodyI1)))) := by
  repeat' first
    | exact Plain.nil
    | refine Plain.cons ?_ ?_ (List.forall_iff_forall_mem.mp (forall_fresh_of_map rfl))
  all_goals
    repeat' first
      | with_reducible exact nullary_bufs_sub ..
      | with_reducible exact unary_bufs_sub ..
      | with_reducible exact binary_bufs_sub ..
      | with_reducible exact reshape_bufs_sub ..
      | with_reducible exact unaryIndexed_bufs_sub ..
      | with_reducible exact binaryIndexed_bufs_sub ..
      | apply And.intro
      | change HloOp.bufs _ ⊆ _

theorem plain_split {A B : List (List (HloOp τ sig (Elt F)))} (h : Plain (A ++ B)) : Plain A ∧ Plain B :=
  ⟨fun o m => h o (List.mem_append_left _ m), fun o m => h o (List.mem_append_right _ m)⟩

theorem preI_plain : Plain (preI (F := F)) := (plain_split all_plain).1
theorem midI_plain : Plain (midI (F := F)) := (plain_split (plain_split all_plain).2).1
theorem postI_plain : Plain (postI (F := F)) := (plain_split (plain_split (plain_split all_plain).2).2).1
theorem bodyI0_plain : Plain (bodyI0 (F := F)) := (plain_split (plain_split (plain_split (plain_split all_plain).2).2).2).1
theorem bodyI1_plain : Plain (bodyI1 (F := F)) := (plain_split (plain_split (plain_split (plain_split all_plain).2).2).2).2

/-- Loop 0's condition as operations: the bound 32, and the counter below it. -/
abbrev condOps0 : List (HloOp τ sig (Elt F)) :=
  [ StableHlo.nullary main_while0c_c_27 (constantI S_ 32 32#32),
    StableHlo.binary main_v20_6 main_while0c_c_27 main_while0c_v48 (cmpi .slt : (⟨S_, .i32⟩ : BufTy).Contents (Elt F) → (⟨S_, .i32⟩ : BufTy).Contents (Elt F) → (⟨S_, .i1⟩ : BufTy).Contents (Elt F)) ]
abbrev condOps0_W : List (Ref sig .tc) := [main_while0c_c_27, main_while0c_v48]
theorem condOps0_writes : (condOps0 : List (HloOp τ sig (Elt F))).Forall fun op => op.writes ⊆ (condOps0_W.map (Proc.devRef (τ := τ) .tc)).toFinset :=
  StableHlo.forall_writes_sub_of_map rfl

/-- Loop 1's condition as operations: the bound 32, and the counter below it. -/
abbrev condOps1 : List (HloOp τ sig (Elt F)) :=
  [ StableHlo.nullary main_while1c_c_31 (constantI S_ 32 32#32),
    StableHlo.binary main_v33_9 main_while1c_c_31 main_while1c_v48 (cmpi .slt : (⟨S_, .i32⟩ : BufTy).Contents (Elt F) → (⟨S_, .i32⟩ : BufTy).Contents (Elt F) → (⟨S_, .i1⟩ : BufTy).Contents (Elt F)) ]
abbrev condOps1_W : List (Ref sig .tc) := [main_while1c_c_31, main_while1c_v48]
theorem condOps1_writes : (condOps1 : List (HloOp τ sig (Elt F))).Forall fun op => op.writes ⊆ (condOps1_W.map (Proc.devRef (τ := τ) .tc)).toFinset :=
  StableHlo.forall_writes_sub_of_map rfl

variable (m : (ℓ : Loc nD τ sig) → Buf (Elt F) ℓ) (ρ : Dev nD → PrngReg)

/-- The buffers when the forward loop is entered. -/
abbrev E0 (c : Dev nD) : Valuation τ sig (Elt F) := entryContents preI m c
/-- The buffers before the forward loop's `k`-th condition. -/
abbrev A0 (k : ℕ) (c : Dev nD) : Valuation τ sig (Elt F) := atTrip condOps0 bodyI0 (E0 m) k c
/-- The buffers when the backward loop is entered. -/
abbrev E1 (c : Dev nD) : Valuation τ sig (Elt F) := afterL midI (after condOps0 (A0 m 32 c))
/-- The buffers before the backward loop's `k`-th condition. -/
abbrev A1 (k : ℕ) (c : Dev nD) : Valuation τ sig (Elt F) := atTrip condOps1 bodyI1 (E1 m) k c
/-- The buffers at @main's end. -/
abbrev Fin1 (c : Dev nD) : Valuation τ sig (Elt F) := afterL postI (after condOps1 (A1 m 32 c))

/-! ## Loop 0's counter -/

set_option maxRecDepth 100000 in
theorem ctr0_step (X : Valuation τ sig (Elt F)) :
    after while0Ops0_12 X (Proc.devRef .tc main_v20_6) = addi (X (Proc.devRef .tc main_v20_6)) (constantI S_ 32 1#32) := by
  after_results
  rfl
theorem ctr0_cond (V : Valuation τ sig (Elt F)) : after condOps0 V (Proc.devRef .tc main_v20_6) = V (Proc.devRef .tc main_v20_6) :=
  after_of_writes_sub condOps0 V condOps0_writes (by decide +kernel)
theorem kept0 {l : List (HloOp τ sig (Elt F))} {W : List (Ref sig .tc)} (hw : Writes l W) (V : Valuation τ sig (Elt F))
    (h : main_v20_6 ∉ W := by decide +kernel) : after l V (Proc.devRef .tc main_v20_6) = V (Proc.devRef .tc main_v20_6) :=
  after_of_writes_sub l V hw h
theorem ctr0_entry (c : Dev nD) : E0 m c (Proc.devRef .tc main_v20_6) = fun _ => (0#32 : BitVec 32) := by
  simp only [E0, entryContents, afterL_cons, afterL_nil]
  after_reads_simp
  rfl

/-- Before the `k`-th condition the counter is `k`. -/
theorem A0_ctr (c : Dev nD) : ∀ k, A0 m k c (Proc.devRef .tc main_v20_6) = fun _ => Scf.iv 0#32 1#32 k
  | 0 => by rw [show A0 m 0 c = E0 m c from rfl, ctr0_entry, Scf.iv_zero]
  | k + 1 => by
    rw [show A0 m (k + 1) c = afterL bodyI0 (after condOps0 (A0 m k c)) from rfl]
    simp only [afterL_cons, afterL_nil]
    rw [ctr0_step, kept0 while0Ops0_11_writes, kept0 while0Ops0_10_writes, kept0 while0Ops0_9_writes, kept0 while0Ops0_8_writes, kept0 while0Ops0_7_writes, kept0 while0Ops0_6_writes, kept0 while0Ops0_5_writes, kept0 while0Ops0_4_writes, kept0 while0Ops0_3_writes, kept0 while0Ops0_2_writes, kept0 while0Ops0_1_writes, kept0 while0Ops0_writes, ctr0_cond, A0_ctr c k, Scf.iv_succ]
    rfl

section Cond0

variable {Ix : Type} [DecidableEq Ix] {Name : Type} [DecidableEq Name] {U : Type} [URA U] {Lvl : Type} [Preorder Lvl]

set_option backward.isDefEq.respectTransparency.types false in
/-- Loop 0's condition: true exactly for the trips before 32. -/
theorem cond0_spec (Rc : Dev nD → sProp (MT nD τ sig Ix (Elt F) Name U Lvl)) :
    LoopCond (pcfgs (F := F)) defs₀ Variants.none loops Rc (main_while0_cond (F := F)) condOps0 bodyI0 (E0 m) 32 := by
  intro k hk c bd
  have hctr := A0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A0 m k c) main_v20_6 HostLoop.idx0)
        (HloOp.result _ (A0 m k c) main_while0c_c_27 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

end Cond0

/-! ## Loop 1's counter -/

set_option maxRecDepth 100000 in
theorem ctr1_step (X : Valuation τ sig (Elt F)) :
    after while1Ops0_17 X (Proc.devRef .tc main_v33_9) = addi (X (Proc.devRef .tc main_v33_9)) (constantI S_ 32 1#32) := by
  after_results
  rfl
theorem ctr1_cond (V : Valuation τ sig (Elt F)) : after condOps1 V (Proc.devRef .tc main_v33_9) = V (Proc.devRef .tc main_v33_9) :=
  after_of_writes_sub condOps1 V condOps1_writes (by decide +kernel)
theorem kept1 {l : List (HloOp τ sig (Elt F))} {W : List (Ref sig .tc)} (hw : Writes l W) (V : Valuation τ sig (Elt F))
    (h : main_v33_9 ∉ W := by decide +kernel) : after l V (Proc.devRef .tc main_v33_9) = V (Proc.devRef .tc main_v33_9) :=
  after_of_writes_sub l V hw h
theorem ctr1_entry (c : Dev nD) : E1 m c (Proc.devRef .tc main_v33_9) = fun _ => (0#32 : BitVec 32) := by
  simp only [E1, afterL_cons, afterL_nil]
  after_reads_simp
  rfl

/-- Before the `k`-th condition the counter is `k`. -/
theorem A1_ctr (c : Dev nD) : ∀ k, A1 m k c (Proc.devRef .tc main_v33_9) = fun _ => Scf.iv 0#32 1#32 k
  | 0 => by rw [show A1 m 0 c = E1 m c from rfl, ctr1_entry, Scf.iv_zero]
  | k + 1 => by
    rw [show A1 m (k + 1) c = afterL bodyI1 (after condOps1 (A1 m k c)) from rfl]
    simp only [afterL_cons, afterL_nil]
    rw [ctr1_step, kept1 while1Ops0_16_writes, kept1 while1Ops0_15_writes, kept1 while1Ops0_14_writes, kept1 while1Ops0_13_writes, kept1 while1Ops0_12_writes, kept1 while1Ops0_11_writes, kept1 while1Ops0_10_writes, kept1 while1Ops0_9_writes, kept1 while1Ops0_8_writes, kept1 while1Ops0_7_writes, kept1 while1Ops0_6_writes, kept1 while1Ops0_5_writes, kept1 while1Ops0_4_writes, kept1 while1Ops0_3_writes, kept1 while1Ops0_2_writes, kept1 while1Ops0_1_writes, kept1 while1Ops0_writes, ctr1_cond, A1_ctr c k, Scf.iv_succ]
    rfl

section Cond1

variable {Ix : Type} [DecidableEq Ix] {Name : Type} [DecidableEq Name] {U : Type} [URA U] {Lvl : Type} [Preorder Lvl]

set_option backward.isDefEq.respectTransparency.types false in
/-- Loop 1's condition: true exactly for the trips before 32. -/
theorem cond1_spec (Rc : Dev nD → sProp (MT nD τ sig Ix (Elt F) Name U Lvl)) :
    LoopCond (pcfgs (F := F)) defs₀ Variants.none loops Rc (main_while1_cond (F := F)) condOps1 bodyI1 (E1 m) 32 := by
  intro k hk c bd
  have hctr := A1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A1 m k c) main_v33_9 HostLoop.idx0)
        (HloOp.result _ (A1 m k c) main_while1c_c_31 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

end Cond1

/-! ## The run -/

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) (adm (F := F)) :=
  fun j => j.elim0
abbrev Ls : GSem nD τ sig → Finset Unit := fun _ => ∅
abbrev lv : GSem nD τ sig → Unit → ℕ := fun _ _ => 0

/-- What rides beside the buffers: the core's `owes`. -/
abbrev Rw (c : Dev nD) : sProp 𝕄 := iprop(∃ W, owes (c : Thread nD τ) (0 : CellTallies nD τ sig Unit) W)

/-- @main's segments. -/
def segs : List (Pipeline.CSeg (pcfgs (F := F)) (adm (F := F)) defs₀ Variants.none Ls lv loops (tk (F := F))) :=
  segsOf _ _ _ _ _ _ _ _ Rw preI preI_plain (launchContents m)
    ++ loopSeg _ _ _ _ _ _ _ _ 0 main_while0_cond main_while0_body rfl condOps0 bodyI0 bodyI0_plain
        (by rw [while0_body_chain]; rfl) 32 (E0 m) Rw (cond0_spec m Rw)
      :: (segsOf _ _ _ _ _ _ _ _ Rw midI midI_plain (fun c => after condOps0 (A0 m 32 c))
        ++ loopSeg _ _ _ _ _ _ _ _ 1 main_while1_cond main_while1_body rfl condOps1 bodyI1 bodyI1_plain
            (by rw [while1_body_chain]; rfl) 32 (E1 m) Rw (cond1_spec m Rw)
          :: segsOf _ _ _ _ _ _ _ _ Rw postI postI_plain (fun c => after condOps1 (A1 m 32 c)))

/-- The segments' fragments are @main's items. -/
theorem segs_prog : (segs (F := F) m).map Pipeline.CSeg.prog
    = [ StableHlo.seq main_part0_ops0, HostLoop.enter 0, StableHlo.seq main_part0_ops1, StableHlo.seq main_part1_ops0,
        HostLoop.enter 1, StableHlo.seq main_part1_ops1 ] := by
  unfold segs
  rw [List.map_append, List.map_cons, List.map_append, List.map_cons, segsOf_prog, segsOf_prog, segsOf_prog]
  rfl

/-- The segments chain from the launch's buffers to @main's end. -/
theorem segs_chains : Pipeline.CSeg.Chains (fun c => iprop(held (c : Thread nD τ) (ucRefs τ sig) (launchContents m c) ∗ Rw (F := F) c))
    (segs (F := F) m)
    (fun c => iprop(iprop(held (c : Thread nD τ) (ucRefs τ sig) (Fin1 m c)) ∗ ∃ W, owes (c : Thread nD τ) (0 : CellTallies nD τ sig Unit) W)) := by
  unfold segs
  exact Pipeline.CSeg.Chains.append (segsOf_chains _ _ _ _ _ _ _ _ Rw preI preI_plain _)
    ⟨fun _ => .rfl, Pipeline.CSeg.Chains.append (segsOf_chains _ _ _ _ _ _ _ _ Rw midI midI_plain _)
      ⟨fun _ => .rfl, segsOf_chains _ _ _ _ _ _ _ _ Rw postI postI_plain _⟩⟩

set_option maxRecDepth 100000 in
/-- Every weakly fair execution of @main terminates with every unscoped buffer at the fold `Fin1`. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Fin1 m c (Proc.devRef .tc b)) :=
  Pipeline.θ_run_regions_loop_kit (Ix := Unit) (Name := ℕ) (U := Option PUnit) (Lvl := ℕ) (J := Fin 0) (P := Fin 0) (Val := Elt F)
    (pcfgs (F := F)) (adm (F := F)) (fun k => k.1.elim0) defs₀ Variants.none Ls lv loops (tk (F := F)) m ρ main
    (segs m)
    (fun c Q => by
      rw [main_chain_windows c]
      show wp _ _ _ (Pipeline.chain ((segs (F := F) m).map Pipeline.CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Fin1 m c)))
    (hch := segs_chains m)
    (hinit := by
      refine Pipeline.initEach Ls lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin1 m c b)
    (hfin := fun c s' => by
      unfold held
      iintro ⟨Hh, HSI⟩
      ihave Hr := (pointsTo_read_all (ucRefs τ sig) (fun b => ((c : Dev nD), b)) (fun b => Fin1 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Scan
-- ==== Proof.Ref.Trip0.lean ====
/- One trip of the forward loop: from what the carried arrays hold to what they hold after it. -/
module

public import proofs.«01_k».proof.Proof.Ref.Steps0
public import proofs.«01_k».proof.Proof.Ref.Run
public import proofs.«01_k».proof.Proof.Spec

@[expose] public section

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]
open Cert.Delta

variable (V : Valuation τ sig (Elt Ideal)) (k : Fin 32) (x : Fin 8 → Chunk) (S : Fin 8 → M)

theorem iv_toInt : ∀ k : Fin 32, (Scf.iv 0#32 1#32 k.val).toInt = k.val := by decide +kernel

/-- What a trip of the forward loop finds in the carried arrays: the counter, chunk `k` of every stack, and the state. -/
structure Reads0 : Prop where
  ctr : V (Proc.devRef .tc main_v20_6) = fun _ => Scf.iv 0#32 1#32 k.val
  u : ∀ h i j, (V (Proc.devRef .tc main_v20_0) : S32x8x128x128.Idx → Elt Ideal .f32) (ix4 k h i j) = (x h).u i j
  w : ∀ h i j, (V (Proc.devRef .tc main_v20_1) : S32x8x128x128.Idx → Elt Ideal .f32) (ix4 k h i j) = (x h).w i j
  q : ∀ h i j, (V (Proc.devRef .tc main_v20_2) : S32x8x128x128.Idx → Elt Ideal .f32) (ix4 k h i j) = (x h).q i j
  key : ∀ h i j, (V (Proc.devRef .tc main_v20_3) : S32x8x128x128.Idx → Elt Ideal .f32) (ix4 k h i j) = (x h).k i j
  a : ∀ h i j, (V (Proc.devRef .tc main_v20_4) : S32x8x128x128.Idx → Elt Ideal .f32) (ix4 k h i j) = (x h).a i j
  g : ∀ h j, (V (Proc.devRef .tc main_v20_5) : S32x8x128.Idx → Elt Ideal .f32) (ix3 k h j) = (x h).g 127 j
  s : ∀ h i j, (V (Proc.devRef .tc main_v20_7) : S8x128x128.Idx → Elt Ideal .f32) (ix3 h i j) = S h i j

/-- The chunk's blocks, as the arithmetic finds them. -/
structure At0 : Prop where
  u : ∀ h i j, (V (Proc.devRef .tc main_while0b_v48) : S8x128x128.Idx → Elt Ideal .f32) (ix3 h i j) = (x h).u i j
  w : ∀ h i j, (V (Proc.devRef .tc main_while0b_v49) : S8x128x128.Idx → Elt Ideal .f32) (ix3 h i j) = (x h).w i j
  q : ∀ h i j, (V (Proc.devRef .tc main_while0b_v50) : S8x128x128.Idx → Elt Ideal .f32) (ix3 h i j) = (x h).q i j
  key : ∀ h i j, (V (Proc.devRef .tc main_while0b_v51) : S8x128x128.Idx → Elt Ideal .f32) (ix3 h i j) = (x h).k i j
  a : ∀ h i j, (V (Proc.devRef .tc main_while0b_v52) : S8x128x128.Idx → Elt Ideal .f32) (ix3 h i j) = (x h).a i j
  g : ∀ h j, (V (Proc.devRef .tc main_while0b_v53) : S8x128.Idx → Elt Ideal .f32) (ix2 h j) = (x h).g 127 j
  s : ∀ h i j, (V (Proc.devRef .tc main_v20_7) : S8x128x128.Idx → Elt Ideal .f32) (ix3 h i j) = S h i j

variable {V k x S}

set_option maxRecDepth 16384 in
theorem s0_6_v64 (H : At0 V x S) (h : Fin 8) (i j : Fin 128) : (s0_6 V (Proc.devRef .tc main_while0b_v64) : S8x128x128.Idx → Elt Ideal .f32) (ix3 h i j) = next (x h) (S h) i j := by
  unfold s0_6 while0Ops0_6
  after_results
  pointwise
  simp only [H.u, H.w, H.key, H.g, H.s]
  rfl

set_option maxRecDepth 16384 in
theorem s0_6_v55 (H : At0 V x S) (h : Fin 8) (i j : Fin 128) : (s0_6 V (Proc.devRef .tc main_while0b_v55) : S8x128x128.Idx → Elt Ideal .f32) (ix3 h i j) = vnew (x h) (S h) i j := by
  unfold s0_6 while0Ops0_6
  after_results
  pointwise
  simp only [H.u, H.w, H.s]
  rfl

set_option maxRecDepth 16384 in
theorem s0_6_v59 (H : At0 V x S) (h : Fin 8) (j : Fin 128) : (s0_6 V (Proc.devRef .tc main_while0b_v59) : S8x128.Idx → Elt Ideal .f32) (ix2 h j) = decay (x h) j := by
  unfold s0_6 while0Ops0_6
  after_results
  pointwise
  simp only [H.g]
  rfl

set_option maxRecDepth 16384 in
theorem s0_6_v60 (H : At0 V x S) (h : Fin 8) (i : Fin 1) (j : Fin 128) : (s0_6 V (Proc.devRef .tc main_while0b_v60) : S8x1x128.Idx → Elt Ideal .f32) (ix3 h i j) = decay (x h) j := by
  unfold s0_6 while0Ops0_6
  after_results
  pointwise
  simp only [H.g]
  rfl

/-- What each stretch of the trip's operations leaves alone. -/
theorem keeps0 (V : Valuation τ sig (Elt Ideal)) (r : Ref sig .tc) :
    (r ∉ while0Ops0_W → s0_0 V (Proc.devRef .tc r) = V (Proc.devRef .tc r))
      ∧ (r ∉ while0Ops0_1_W → s0_1 V (Proc.devRef .tc r) = V (Proc.devRef .tc r))
      ∧ (r ∉ while0Ops0_2_W → s0_2 V (Proc.devRef .tc r) = V (Proc.devRef .tc r))
      ∧ (r ∉ while0Ops0_3_W → s0_3 V (Proc.devRef .tc r) = V (Proc.devRef .tc r))
      ∧ (r ∉ while0Ops0_4_W → s0_4 V (Proc.devRef .tc r) = V (Proc.devRef .tc r))
      ∧ (r ∉ while0Ops0_5_W → s0_5 V (Proc.devRef .tc r) = V (Proc.devRef .tc r))
      ∧ (r ∉ while0Ops0_6_W → s0_6 V (Proc.devRef .tc r) = V (Proc.devRef .tc r))
      ∧ (r ∉ while0Ops0_7_W → s0_7 V (Proc.devRef .tc r) = V (Proc.devRef .tc r))
      ∧ (r ∉ while0Ops0_8_W → s0_8 V (Proc.devRef .tc r) = V (Proc.devRef .tc r))
      ∧ (r ∉ while0Ops0_9_W → s0_9 V (Proc.devRef .tc r) = V (Proc.devRef .tc r))
      ∧ (r ∉ while0Ops0_10_W → s0_10 V (Proc.devRef .tc r) = V (Proc.devRef .tc r))
      ∧ (r ∉ while0Ops0_11_W → s0_11 V (Proc.devRef .tc r) = V (Proc.devRef .tc r))
      ∧ (r ∉ while0Ops0_12_W → s0_12 V (Proc.devRef .tc r) = V (Proc.devRef .tc r)) :=
  ⟨(s0_0_keep V r ·), (s0_1_keep V r ·), (s0_2_keep V r ·), (s0_3_keep V r ·), (s0_4_keep V r ·), (s0_5_keep V r ·), (s0_6_keep V r ·), (s0_7_keep V r ·), (s0_8_keep V r ·), (s0_9_keep V r ·), (s0_10_keep V r ·), (s0_11_keep V r ·), (s0_12_keep V r ·)⟩

theorem reads0_at (H : Reads0 V k x S) : At0 (s0_5 (s0_4 (s0_3 (s0_2 (s0_1 (s0_0 V)))))) x S := by
  have hc : ∀ X : Valuation τ sig (Elt Ideal), X (Proc.devRef .tc main_v20_6) = V (Proc.devRef .tc main_v20_6) →
      ((X (Proc.devRef .tc main_v20_6) : S_.Idx → BitVec 32) (Shape.Idx.first h_S_)).toInt = k.val := fun X e => by
    rw [e, H.ctr]; exact iv_toInt k
  refine ⟨?_, ?_, ?_, ?_, ?_, ?_, ?_⟩
  · intro h i j; simp (disch := decide) only [keeps0 _ _]; rw [s0_0_get _ k (hc _ (by rfl))]; exact H.u h i j
  · intro h i j; simp (disch := decide) only [keeps0 _ _]; rw [s0_1_get _ k (hc _ (by simp (disch := decide) only [keeps0 _ _]))]; simp (disch := decide) only [keeps0 _ _]; exact H.w h i j
  · intro h i j; simp (disch := decide) only [keeps0 _ _]; rw [s0_2_get _ k (hc _ (by simp (disch := decide) only [keeps0 _ _]))]; simp (disch := decide) only [keeps0 _ _]; exact H.q h i j
  · intro h i j; simp (disch := decide) only [keeps0 _ _]; rw [s0_3_get _ k (hc _ (by simp (disch := decide) only [keeps0 _ _]))]; simp (disch := decide) only [keeps0 _ _]; exact H.key h i j
  · intro h i j; simp (disch := decide) only [keeps0 _ _]; rw [s0_4_get _ k (hc _ (by simp (disch := decide) only [keeps0 _ _]))]; simp (disch := decide) only [keeps0 _ _]; exact H.a h i j
  · intro h j; rw [s0_5_get _ k (hc _ (by simp (disch := decide) only [keeps0 _ _]))]; simp (disch := decide) only [keeps0 _ _]; exact H.g h j
  · intro h i j; simp (disch := decide) only [keeps0 _ _]; exact H.s h i j

theorem body0_eq (V : Valuation τ sig (Elt Ideal)) : afterL bodyI0 V = (s0_12 (s0_11 (s0_10 (s0_9 (s0_8 (s0_7 (s0_6 (s0_5 (s0_4 (s0_3 (s0_2 (s0_1 (s0_0 V))))))))))))) := rfl

/-- The state after the trip. -/
theorem trip0_state (H : Reads0 V k x S) (h : Fin 8) (i j : Fin 128) : (afterL bodyI0 V (Proc.devRef .tc main_v20_7) : S8x128x128.Idx → Elt Ideal .f32) (ix3 h i j) = next (x h) (S h) i j := by
  rw [body0_eq, s0_12_main_v20_7]; simp (disch := decide) only [keeps0 _ _]
  exact s0_6_v64 (reads0_at H) h i j

theorem ctr0 (H : Reads0 V k x S) : ((V (Proc.devRef .tc main_v20_6) : S_.Idx → BitVec 32) (Shape.Idx.first h_S_)).toInt = k.val := by
  rw [H.ctr]; exact iv_toInt k

/-- The stack of the states before each chunk. -/
theorem trip0_9 (H : Reads0 V k x S) (n : Fin 32) (h : Fin 8) (i j : Fin 128) : (afterL bodyI0 V (Proc.devRef .tc main_v20_9) : S32x8x128x128.Idx → Elt Ideal .f32) (ix4 n h i j)
    = if n = k then S h i j else (V (Proc.devRef .tc main_v20_9) : S32x8x128x128.Idx → Elt Ideal .f32) (ix4 n h i j) := by
  rw [body0_eq, s0_12_main_v20_9]; simp (disch := decide) only [keeps0 _ _]; rw [s0_8_put _ k (by unfold Counts0; simp (disch := decide) only [keeps0 _ _]; exact ctr0 H)]
  refine if_congr Iff.rfl ?_ ?_
  · simp (disch := decide) only [keeps0 _ _]; exact H.s h i j
  · simp (disch := decide) only [keeps0 _ _]

/-- The stack of the values that each chunk writes. -/
theorem trip0_10 (H : Reads0 V k x S) (n : Fin 32) (h : Fin 8) (i j : Fin 128) : (afterL bodyI0 V (Proc.devRef .tc main_v20_10) : S32x8x128x128.Idx → Elt Ideal .f32) (ix4 n h i j)
    = if n = k then vnew (x h) (S h) i j else (V (Proc.devRef .tc main_v20_10) : S32x8x128x128.Idx → Elt Ideal .f32) (ix4 n h i j) := by
  rw [body0_eq, s0_12_main_v20_10]; simp (disch := decide) only [keeps0 _ _]; rw [s0_9_put _ k (by unfold Counts0; simp (disch := decide) only [keeps0 _ _]; exact ctr0 H)]
  refine if_congr Iff.rfl ?_ ?_
  · simp (disch := decide) only [keeps0 _ _]; exact s0_6_v55 (reads0_at H) h i j
  · simp (disch := decide) only [keeps0 _ _]

/-- The stack of the decays. -/
theorem trip0_11 (H : Reads0 V k x S) (n : Fin 32) (h : Fin 8) (j : Fin 128) : (afterL bodyI0 V (Proc.devRef .tc main_v20_11) : S32x8x128.Idx → Elt Ideal .f32) (ix3 n h j)
    = if n = k then decay (x h) j else (V (Proc.devRef .tc main_v20_11) : S32x8x128.Idx → Elt Ideal .f32) (ix3 n h j) := by
  rw [body0_eq, s0_12_main_v20_11]; simp (disch := decide) only [keeps0 _ _]; rw [s0_10_put _ k (by unfold Counts0; simp (disch := decide) only [keeps0 _ _]; exact ctr0 H)]
  refine if_congr Iff.rfl ?_ ?_
  · simp (disch := decide) only [keeps0 _ _]; exact s0_6_v59 (reads0_at H) h j
  · simp (disch := decide) only [keeps0 _ _]

/-- The stack of the decays, with an axis more. -/
theorem trip0_12 (H : Reads0 V k x S) (n : Fin 32) (h : Fin 8) (i : Fin 1) (j : Fin 128) : (afterL bodyI0 V (Proc.devRef .tc main_v20_12) : S32x8x1x128.Idx → Elt Ideal .f32) (ix4 n h i j)
    = if n = k then decay (x h) j else (V (Proc.devRef .tc main_v20_12) : S32x8x1x128.Idx → Elt Ideal .f32) (ix4 n h i j) := by
  rw [body0_eq, s0_12_main_v20_12, s0_11_put _ k (by unfold Counts0; simp (disch := decide) only [keeps0 _ _]; exact ctr0 H)]
  refine if_congr Iff.rfl ?_ ?_
  · simp (disch := decide) only [keeps0 _ _]; exact s0_6_v60 (reads0_at H) h i j
  · simp (disch := decide) only [keeps0 _ _]

/-- A trip leaves every buffer alone that none of its operations writes. -/
theorem body0_keep (V : Valuation τ sig (Elt Ideal)) (r : Ref sig .tc) (h : r ∉ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W) :
    afterL bodyI0 V (Proc.devRef .tc r) = V (Proc.devRef .tc r) := by
  simp only [List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  rw [body0_eq, s0_12_keep _ r h12, s0_11_keep _ r h11, s0_10_keep _ r h10, s0_9_keep _ r h9, s0_8_keep _ r h8, s0_7_keep _ r h7, s0_6_keep _ r h6, s0_5_keep _ r h5, s0_4_keep _ r h4, s0_3_keep _ r h3, s0_2_keep _ r h2, s0_1_keep _ r h1, s0_0_keep _ r h0]

end Cert.ReferenceIdeal.Scan
-- ==== Proof.Ref.Steps1.lean ====
/- The stretches of the backward loop's body: what each reads out of its stacks and writes into them. -/
module

public import proofs.«01_k».proof.Proof.Ref.Index
public import proofs.«01_k».proof.Proof.Ref.Lists

@[expose] public section

set_option maxRecDepth 8192

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F] (V : Valuation τ sig (Elt F)) (k : Fin 32)

/-- The loop's counter is `k`. -/
abbrev Counts1 : Prop := ((V (Proc.devRef .tc main_while1b_v49) : S_.Idx → BitVec 32) (Shape.Idx.first h_S_)).toInt = k.val

/-- Stretch 0 of loop 1's body, applied. -/
def s1_0 : Valuation τ sig (Elt F) := after while1Ops0 V
theorem s1_0_keep (r : Ref sig .tc) (h : r ∉ while1Ops0_W := by decide) : s1_0 V (Proc.devRef .tc r) = V (Proc.devRef .tc r) :=
  after_of_writes_sub while1Ops0 V while1Ops0_writes h

/-- Stretch 1 of loop 1's body, applied. -/
def s1_1 : Valuation τ sig (Elt F) := after while1Ops0_1 V
theorem s1_1_keep (r : Ref sig .tc) (h : r ∉ while1Ops0_1_W := by decide) : s1_1 V (Proc.devRef .tc r) = V (Proc.devRef .tc r) :=
  after_of_writes_sub while1Ops0_1 V while1Ops0_1_writes h

theorem s1_1_get (hc : Counts1 V k) (h : Fin 8) (i j : Fin 128) :
    (s1_1 V (Proc.devRef .tc main_while1b_v50) : S8x128x128.Idx → Elt F .f32) (ix3 h i j) = (V (Proc.devRef .tc main_v33_0) : S32x8x128x128.Idx → Elt F .f32) (ix4 k h i j) := by
  refine (congrFun (?_ : _ = member4 (V (Proc.devRef .tc main_v33_0)) (V (Proc.devRef .tc main_while1b_v49))) _).trans (slice4 _ _ k hc rfl rfl rfl h i j)
  unfold s1_1 while1Ops0_1
  after_results_entrywise [cast_eq]

/-- Stretch 2 of loop 1's body, applied. -/
def s1_2 : Valuation τ sig (Elt F) := after while1Ops0_2 V
theorem s1_2_keep (r : Ref sig .tc) (h : r ∉ while1Ops0_2_W := by decide) : s1_2 V (Proc.devRef .tc r) = V (Proc.devRef .tc r) :=
  after_of_writes_sub while1Ops0_2 V while1Ops0_2_writes h

theorem s1_2_get (hc : Counts1 V k) (h : Fin 8) (i j : Fin 128) :
    (s1_2 V (Proc.devRef .tc main_while1b_v51) : S8x128x128.Idx → Elt F .f32) (ix3 h i j) = (V (Proc.devRef .tc main_v33_1) : S32x8x128x128.Idx → Elt F .f32) (ix4 k h i j) := by
  refine (congrFun (?_ : _ = member4 (V (Proc.devRef .tc main_v33_1)) (V (Proc.devRef .tc main_while1b_v49))) _).trans (slice4 _ _ k hc rfl rfl rfl h i j)
  unfold s1_2 while1Ops0_2
  after_results_entrywise [cast_eq]

/-- Stretch 3 of loop 1's body, applied. -/
def s1_3 : Valuation τ sig (Elt F) := after while1Ops0_3 V
theorem s1_3_keep (r : Ref sig .tc) (h : r ∉ while1Ops0_3_W := by decide) : s1_3 V (Proc.devRef .tc r) = V (Proc.devRef .tc r) :=
  after_of_writes_sub while1Ops0_3 V while1Ops0_3_writes h

theorem s1_3_get (hc : Counts1 V k) (h : Fin 8) (i j : Fin 128) :
    (s1_3 V (Proc.devRef .tc main_while1b_v52) : S8x128x128.Idx → Elt F .f32) (ix3 h i j) = (V (Proc.devRef .tc main_v33_2) : S32x8x128x128.Idx → Elt F .f32) (ix4 k h i j) := by
  refine (congrFun (?_ : _ = member4 (V (Proc.devRef .tc main_v33_2)) (V (Proc.devRef .tc main_while1b_v49))) _).trans (slice4 _ _ k hc rfl rfl rfl h i j)
  unfold s1_3 while1Ops0_3
  after_results_entrywise [cast_eq]

/-- Stretch 4 of loop 1's body, applied. -/
def s1_4 : Valuation τ sig (Elt F) := after while1Ops0_4 V
theorem s1_4_keep (r : Ref sig .tc) (h : r ∉ while1Ops0_4_W := by decide) : s1_4 V (Proc.devRef .tc r) = V (Proc.devRef .tc r) :=
  after_of_writes_sub while1Ops0_4 V while1Ops0_4_writes h

theorem s1_4_get (hc : Counts1 V k) (h : Fin 8) (i j : Fin 128) :
    (s1_4 V (Proc.devRef .tc main_while1b_v53) : S8x128x128.Idx → Elt F .f32) (ix3 h i j) = (V (Proc.devRef .tc main_v33_3) : S32x8x128x128.Idx → Elt F .f32) (ix4 k h i j) := by
  refine (congrFun (?_ : _ = member4 (V (Proc.devRef .tc main_v33_3)) (V (Proc.devRef .tc main_while1b_v49))) _).trans (slice4 _ _ k hc rfl rfl rfl h i j)
  unfold s1_4 while1Ops0_4
  after_results_entrywise [cast_eq]

/-- Stretch 5 of loop 1's body, applied. -/
def s1_5 : Valuation τ sig (Elt F) := after while1Ops0_5 V
theorem s1_5_keep (r : Ref sig .tc) (h : r ∉ while1Ops0_5_W := by decide) : s1_5 V (Proc.devRef .tc r) = V (Proc.devRef .tc r) :=
  after_of_writes_sub while1Ops0_5 V while1Ops0_5_writes h

theorem s1_5_get (hc : Counts1 V k) (h : Fin 8) (i j : Fin 128) :
    (s1_5 V (Proc.devRef .tc main_while1b_v54) : S8x128x128.Idx → Elt F .f32) (ix3 h i j) = (V (Proc.devRef .tc main_v33_4) : S32x8x128x128.Idx → Elt F .f32) (ix4 k h i j) := by
  refine (congrFun (?_ : _ = member4 (V (Proc.devRef .tc main_v33_4)) (V (Proc.devRef .tc main_while1b_v49))) _).trans (slice4 _ _ k hc rfl rfl rfl h i j)
  unfold s1_5 while1Ops0_5
  after_results_entrywise [cast_eq]

/-- Stretch 6 of loop 1's body, applied. -/
def s1_6 : Valuation τ sig (Elt F) := after while1Ops0_6 V
theorem s1_6_keep (r : Ref sig .tc) (h : r ∉ while1Ops0_6_W := by decide) : s1_6 V (Proc.devRef .tc r) = V (Proc.devRef .tc r) :=
  after_of_writes_sub while1Ops0_6 V while1Ops0_6_writes h

theorem s1_6_get (hc : Counts1 V k) (h : Fin 8) (i j : Fin 128) :
    (s1_6 V (Proc.devRef .tc main_while1b_v55) : S8x128x128.Idx → Elt F .f32) (ix3 h i j) = (V (Proc.devRef .tc main_v33_5) : S32x8x128x128.Idx → Elt F .f32) (ix4 k h i j) := by
  refine (congrFun (?_ : _ = member4 (V (Proc.devRef .tc main_v33_5)) (V (Proc.devRef .tc main_while1b_v49))) _).trans (slice4 _ _ k hc rfl rfl rfl h i j)
  unfold s1_6 while1Ops0_6
  after_results_entrywise [cast_eq]

/-- Stretch 7 of loop 1's body, applied. -/
def s1_7 : Valuation τ sig (Elt F) := after while1Ops0_7 V
theorem s1_7_keep (r : Ref sig .tc) (h : r ∉ while1Ops0_7_W := by decide) : s1_7 V (Proc.devRef .tc r) = V (Proc.devRef .tc r) :=
  after_of_writes_sub while1Ops0_7 V while1Ops0_7_writes h

theorem s1_7_get (hc : Counts1 V k) (h : Fin 8) (j : Fin 128) :
    (s1_7 V (Proc.devRef .tc main_while1b_v56) : S8x128.Idx → Elt F .f32) (ix2 h j) = (V (Proc.devRef .tc main_v33_6) : S32x8x128.Idx → Elt F .f32) (ix3 k h j) := by
  refine (congrFun (?_ : _ = member3 (V (Proc.devRef .tc main_v33_6)) (V (Proc.devRef .tc main_while1b_v49))) _).trans (slice3 _ _ k hc rfl rfl h j)
  unfold s1_7 while1Ops0_7
  after_results_entrywise [cast_eq]

/-- Stretch 8 of loop 1's body, applied. -/
def s1_8 : Valuation τ sig (Elt F) := after while1Ops0_8 V
theorem s1_8_keep (r : Ref sig .tc) (h : r ∉ while1Ops0_8_W := by decide) : s1_8 V (Proc.devRef .tc r) = V (Proc.devRef .tc r) :=
  after_of_writes_sub while1Ops0_8 V while1Ops0_8_writes h

theorem s1_8_get (hc : Counts1 V k) (h : Fin 8) (i : Fin 1) (j : Fin 128) :
    (s1_8 V (Proc.devRef .tc main_while1b_v57) : S8x1x128.Idx → Elt F .f32) (ix3 h i j) = (V (Proc.devRef .tc main_v33_7) : S32x8x1x128.Idx → Elt F .f32) (ix4 k h i j) := by
  refine (congrFun (?_ : _ = memberM (V (Proc.devRef .tc main_v33_7)) (V (Proc.devRef .tc main_while1b_v49))) _).trans (sliceM _ _ k hc rfl rfl rfl h i j)
  unfold s1_8 while1Ops0_8
  after_results_entrywise [cast_eq]

/-- Stretch 9 of loop 1's body, applied. -/
def s1_9 : Valuation τ sig (Elt F) := after while1Ops0_9 V
theorem s1_9_keep (r : Ref sig .tc) (h : r ∉ while1Ops0_9_W := by decide) : s1_9 V (Proc.devRef .tc r) = V (Proc.devRef .tc r) :=
  after_of_writes_sub while1Ops0_9 V while1Ops0_9_writes h

theorem s1_9_get (hc : Counts1 V k) (h : Fin 8) (i j : Fin 128) :
    (s1_9 V (Proc.devRef .tc main_while1b_v58) : S8x128x128.Idx → Elt F .f32) (ix3 h i j) = (V (Proc.devRef .tc main_v33_8) : S32x8x128x128.Idx → Elt F .f32) (ix4 k h i j) := by
  refine (congrFun (?_ : _ = member4 (V (Proc.devRef .tc main_v33_8)) (V (Proc.devRef .tc main_while1b_v49))) _).trans (slice4 _ _ k hc rfl rfl rfl h i j)
  unfold s1_9 while1Ops0_9
  after_results_entrywise [cast_eq]

/-- Stretch 10 of loop 1's body, applied. -/
def s1_10 : Valuation τ sig (Elt F) := after while1Ops0_10 V
theorem s1_10_keep (r : Ref sig .tc) (h : r ∉ while1Ops0_10_W := by decide) : s1_10 V (Proc.devRef .tc r) = V (Proc.devRef .tc r) :=
  after_of_writes_sub while1Ops0_10 V while1Ops0_10_writes h

/-- Stretch 11 of loop 1's body, applied. -/
def s1_11 : Valuation τ sig (Elt F) := after while1Ops0_11 V
theorem s1_11_keep (r : Ref sig .tc) (h : r ∉ while1Ops0_11_W := by decide) : s1_11 V (Proc.devRef .tc r) = V (Proc.devRef .tc r) :=
  after_of_writes_sub while1Ops0_11 V while1Ops0_11_writes h

theorem s1_11_put (hc : Counts1 V k) (n : Fin 32) (h : Fin 8) (i j : Fin 128) :
    (s1_11 V (Proc.devRef .tc main_while1b_v83) : S32x8x128x128.Idx → Elt F .f32) (ix4 n h i j) = if n = k then (V (Proc.devRef .tc main_while1b_v72) : S8x128x128.Idx → Elt F .f32) (ix3 h i j) else (V (Proc.devRef .tc main_v33_11) : S32x8x128x128.Idx → Elt F .f32) (ix4 n h i j) := by
  refine (congrFun (?_ : _ = replaced4 (V (Proc.devRef .tc main_v33_11)) (V (Proc.devRef .tc main_while1b_v72)) (V (Proc.devRef .tc main_while1b_v49))) _).trans (update4 _ _ _ k hc rfl rfl rfl n h i j)
  unfold s1_11 while1Ops0_11
  after_results_entrywise [cast_eq]

/-- Stretch 12 of loop 1's body, applied. -/
def s1_12 : Valuation τ sig (Elt F) := after while1Ops0_12 V
theorem s1_12_keep (r : Ref sig .tc) (h : r ∉ while1Ops0_12_W := by decide) : s1_12 V (Proc.devRef .tc r) = V (Proc.devRef .tc r) :=
  after_of_writes_sub while1Ops0_12 V while1Ops0_12_writes h

theorem s1_12_put (hc : Counts1 V k) (n : Fin 32) (h : Fin 8) (i j : Fin 128) :
    (s1_12 V (Proc.devRef .tc main_while1b_v84) : S32x8x128x128.Idx → Elt F .f32) (ix4 n h i j) = if n = k then (V (Proc.devRef .tc main_while1b_v82) : S8x128x128.Idx → Elt F .f32) (ix3 h i j) else (V (Proc.devRef .tc main_v33_12) : S32x8x128x128.Idx → Elt F .f32) (ix4 n h i j) := by
  refine (congrFun (?_ : _ = replaced4 (V (Proc.devRef .tc main_v33_12)) (V (Proc.devRef .tc main_while1b_v82)) (V (Proc.devRef .tc main_while1b_v49))) _).trans (update4 _ _ _ k hc rfl rfl rfl n h i j)
  unfold s1_12 while1Ops0_12
  after_results_entrywise [cast_eq]

/-- Stretch 13 of loop 1's body, applied. -/
def s1_13 : Valuation τ sig (Elt F) := after while1Ops0_13 V
theorem s1_13_keep (r : Ref sig .tc) (h : r ∉ while1Ops0_13_W := by decide) : s1_13 V (Proc.devRef .tc r) = V (Proc.devRef .tc r) :=
  after_of_writes_sub while1Ops0_13 V while1Ops0_13_writes h

theorem s1_13_put (hc : Counts1 V k) (n : Fin 32) (h : Fin 8) (i j : Fin 128) :
    (s1_13 V (Proc.devRef .tc main_while1b_v85) : S32x8x128x128.Idx → Elt F .f32) (ix4 n h i j) = if n = k then (V (Proc.devRef .tc main_while1b_v77) : S8x128x128.Idx → Elt F .f32) (ix3 h i j) else (V (Proc.devRef .tc main_v33_13) : S32x8x128x128.Idx → Elt F .f32) (ix4 n h i j) := by
  refine (congrFun (?_ : _ = replaced4 (V (Proc.devRef .tc main_v33_13)) (V (Proc.devRef .tc main_while1b_v77)) (V (Proc.devRef .tc main_while1b_v49))) _).trans (update4 _ _ _ k hc rfl rfl rfl n h i j)
  unfold s1_13 while1Ops0_13
  after_results_entrywise [cast_eq]

/-- Stretch 14 of loop 1's body, applied. -/
def s1_14 : Valuation τ sig (Elt F) := after while1Ops0_14 V
theorem s1_14_keep (r : Ref sig .tc) (h : r ∉ while1Ops0_14_W := by decide) : s1_14 V (Proc.devRef .tc r) = V (Proc.devRef .tc r) :=
  after_of_writes_sub while1Ops0_14 V while1Ops0_14_writes h

theorem s1_14_put (hc : Counts1 V k) (n : Fin 32) (h : Fin 8) (i j : Fin 128) :
    (s1_14 V (Proc.devRef .tc main_while1b_v86) : S32x8x128x128.Idx → Elt F .f32) (ix4 n h i j) = if n = k then (V (Proc.devRef .tc main_while1b_v62) : S8x128x128.Idx → Elt F .f32) (ix3 h i j) else (V (Proc.devRef .tc main_v33_14) : S32x8x128x128.Idx → Elt F .f32) (ix4 n h i j) := by
  refine (congrFun (?_ : _ = replaced4 (V (Proc.devRef .tc main_v33_14)) (V (Proc.devRef .tc main_while1b_v62)) (V (Proc.devRef .tc main_while1b_v49))) _).trans (update4 _ _ _ k hc rfl rfl rfl n h i j)
  unfold s1_14 while1Ops0_14
  after_results_entrywise [cast_eq]

/-- Stretch 15 of loop 1's body, applied. -/
def s1_15 : Valuation τ sig (Elt F) := after while1Ops0_15 V
theorem s1_15_keep (r : Ref sig .tc) (h : r ∉ while1Ops0_15_W := by decide) : s1_15 V (Proc.devRef .tc r) = V (Proc.devRef .tc r) :=
  after_of_writes_sub while1Ops0_15 V while1Ops0_15_writes h

theorem s1_15_put (hc : Counts1 V k) (n : Fin 32) (h : Fin 8) (i j : Fin 128) :
    (s1_15 V (Proc.devRef .tc main_while1b_v87) : S32x8x128x128.Idx → Elt F .f32) (ix4 n h i j) = if n = k then (V (Proc.devRef .tc main_while1b_v73) : S8x128x128.Idx → Elt F .f32) (ix3 h i j) else (V (Proc.devRef .tc main_v33_15) : S32x8x128x128.Idx → Elt F .f32) (ix4 n h i j) := by
  refine (congrFun (?_ : _ = replaced4 (V (Proc.devRef .tc main_v33_15)) (V (Proc.devRef .tc main_while1b_v73)) (V (Proc.devRef .tc main_while1b_v49))) _).trans (update4 _ _ _ k hc rfl rfl rfl n h i j)
  unfold s1_15 while1Ops0_15
  after_results_entrywise [cast_eq]

/-- Stretch 16 of loop 1's body, applied. -/
def s1_16 : Valuation τ sig (Elt F) := after while1Ops0_16 V
theorem s1_16_keep (r : Ref sig .tc) (h : r ∉ while1Ops0_16_W := by decide) : s1_16 V (Proc.devRef .tc r) = V (Proc.devRef .tc r) :=
  after_of_writes_sub while1Ops0_16 V while1Ops0_16_writes h

theorem s1_16_put (hc : Counts1 V k) (n : Fin 32) (h : Fin 8) (j : Fin 128) :
    (s1_16 V (Proc.devRef .tc main_while1b_v88) : S32x8x128.Idx → Elt F .f32) (ix3 n h j) = if n = k then (V (Proc.devRef .tc main_while1b_v69) : S8x128.Idx → Elt F .f32) (ix2 h j) else (V (Proc.devRef .tc main_v33_16) : S32x8x128.Idx → Elt F .f32) (ix3 n h j) := by
  refine (congrFun (?_ : _ = replaced3 (V (Proc.devRef .tc main_v33_16)) (V (Proc.devRef .tc main_while1b_v69)) (V (Proc.devRef .tc main_while1b_v49))) _).trans (update3 _ _ _ k hc rfl rfl n h j)
  unfold s1_16 while1Ops0_16
  after_results_entrywise [cast_eq]

/-- Stretch 17 of loop 1's body, applied. -/
def s1_17 : Valuation τ sig (Elt F) := after while1Ops0_17 V
theorem s1_17_keep (r : Ref sig .tc) (h : r ∉ while1Ops0_17_W := by decide) : s1_17 V (Proc.devRef .tc r) = V (Proc.devRef .tc r) :=
  after_of_writes_sub while1Ops0_17 V while1Ops0_17_writes h
theorem s1_17_main_v33_10 : s1_17 V (Proc.devRef .tc main_v33_10) = V (Proc.devRef .tc main_while1b_v81) := by
  unfold s1_17 while1Ops0_17
  after_results
  rfl
theorem s1_17_main_v33_11 : s1_17 V (Proc.devRef .tc main_v33_11) = V (Proc.devRef .tc main_while1b_v83) := by
  unfold s1_17 while1Ops0_17
  after_results
  rfl
theorem s1_17_main_v33_12 : s1_17 V (Proc.devRef .tc main_v33_12) = V (Proc.devRef .tc main_while1b_v84) := by
  unfold s1_17 while1Ops0_17
  after_results
  rfl
theorem s1_17_main_v33_13 : s1_17 V (Proc.devRef .tc main_v33_13) = V (Proc.devRef .tc main_while1b_v85) := by
  unfold s1_17 while1Ops0_17
  after_results
  rfl
theorem s1_17_main_v33_14 : s1_17 V (Proc.devRef .tc main_v33_14) = V (Proc.devRef .tc main_while1b_v86) := by
  unfold s1_17 while1Ops0_17
  after_results
  rfl
theorem s1_17_main_v33_15 : s1_17 V (Proc.devRef .tc main_v33_15) = V (Proc.devRef .tc main_while1b_v87) := by
  unfold s1_17 while1Ops0_17
  after_results
  rfl
theorem s1_17_main_v33_16 : s1_17 V (Proc.devRef .tc main_v33_16) = V (Proc.devRef .tc main_while1b_v88) := by
  unfold s1_17 while1Ops0_17
  after_results
  rfl

end Cert.ReferenceIdeal.Scan
-- ==== Proof.Ref.Trip1.lean ====
/- One trip of the backward loop: from what the carried arrays hold to what they hold after it. -/
module

public import proofs.«01_k».proof.Proof.Ref.Steps1
public import proofs.«01_k».proof.Proof.Ref.Run
public import proofs.«01_k».proof.Proof.Spec

@[expose] public section

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]
open Cert.Delta

variable (V : Valuation τ sig (Elt Ideal)) (k : Fin 32) (x : Fin 8 → Chunk) (S D : Fin 8 → M)

theorem rev_toInt : ∀ k : Fin 32, ((32#32 - Scf.iv 0#32 1#32 k.val) - 1#32).toInt = k.rev.val := by decide +kernel

/-- What trip `k` of the backward loop finds in the carried arrays: the counter, chunk `31 - k` of every stack, and the
    gradient of the state. -/
structure Reads1 : Prop where
  ctr : V (Proc.devRef .tc main_v33_9) = fun _ => Scf.iv 0#32 1#32 k.val
  o : ∀ h i j, (V (Proc.devRef .tc main_v33_0) : S32x8x128x128.Idx → Elt Ideal .f32) (ix4 k.rev h i j) = (x h).o i j
  s : ∀ h i j, (V (Proc.devRef .tc main_v33_1) : S32x8x128x128.Idx → Elt Ideal .f32) (ix4 k.rev h i j) = S h i j
  w : ∀ h i j, (V (Proc.devRef .tc main_v33_2) : S32x8x128x128.Idx → Elt Ideal .f32) (ix4 k.rev h i j) = (x h).w i j
  q : ∀ h i j, (V (Proc.devRef .tc main_v33_3) : S32x8x128x128.Idx → Elt Ideal .f32) (ix4 k.rev h i j) = (x h).q i j
  v : ∀ h i j, (V (Proc.devRef .tc main_v33_4) : S32x8x128x128.Idx → Elt Ideal .f32) (ix4 k.rev h i j) = vnew (x h) (S h) i j
  a : ∀ h i j, (V (Proc.devRef .tc main_v33_5) : S32x8x128x128.Idx → Elt Ideal .f32) (ix4 k.rev h i j) = (x h).a i j
  g : ∀ h j, (V (Proc.devRef .tc main_v33_6) : S32x8x128.Idx → Elt Ideal .f32) (ix3 k.rev h j) = decay (x h) j
  g1 : ∀ h i j, (V (Proc.devRef .tc main_v33_7) : S32x8x1x128.Idx → Elt Ideal .f32) (ix4 k.rev h i j) = decay (x h) j
  k : ∀ h i j, (V (Proc.devRef .tc main_v33_8) : S32x8x128x128.Idx → Elt Ideal .f32) (ix4 k.rev h i j) = (x h).k i j
  d : ∀ h i j, (V (Proc.devRef .tc main_v33_10) : S8x128x128.Idx → Elt Ideal .f32) (ix3 h i j) = D h i j

/-- The chunk's blocks, as the arithmetic finds them. -/
structure At1 : Prop where
  o : ∀ h i j, (V (Proc.devRef .tc main_while1b_v50) : S8x128x128.Idx → Elt Ideal .f32) (ix3 h i j) = (x h).o i j
  s : ∀ h i j, (V (Proc.devRef .tc main_while1b_v51) : S8x128x128.Idx → Elt Ideal .f32) (ix3 h i j) = S h i j
  w : ∀ h i j, (V (Proc.devRef .tc main_while1b_v52) : S8x128x128.Idx → Elt Ideal .f32) (ix3 h i j) = (x h).w i j
  q : ∀ h i j, (V (Proc.devRef .tc main_while1b_v53) : S8x128x128.Idx → Elt Ideal .f32) (ix3 h i j) = (x h).q i j
  v : ∀ h i j, (V (Proc.devRef .tc main_while1b_v54) : S8x128x128.Idx → Elt Ideal .f32) (ix3 h i j) = vnew (x h) (S h) i j
  a : ∀ h i j, (V (Proc.devRef .tc main_while1b_v55) : S8x128x128.Idx → Elt Ideal .f32) (ix3 h i j) = (x h).a i j
  g : ∀ h j, (V (Proc.devRef .tc main_while1b_v56) : S8x128.Idx → Elt Ideal .f32) (ix2 h j) = decay (x h) j
  g1 : ∀ h i j, (V (Proc.devRef .tc main_while1b_v57) : S8x1x128.Idx → Elt Ideal .f32) (ix3 h i j) = decay (x h) j
  k : ∀ h i j, (V (Proc.devRef .tc main_while1b_v58) : S8x128x128.Idx → Elt Ideal .f32) (ix3 h i j) = (x h).k i j
  d : ∀ h i j, (V (Proc.devRef .tc main_v33_10) : S8x128x128.Idx → Elt Ideal .f32) (ix3 h i j) = D h i j

variable {V k x S D}

set_option maxRecDepth 16384 in
theorem s1_10_v72 (H : At1 V x S D) (h : Fin 8) (i j : Fin 128) : (s1_10 V (Proc.devRef .tc main_while1b_v72) : S8x128x128.Idx → Elt Ideal .f32) (ix3 h i j) = gu (x h) (D h) i j := by
  unfold s1_10 while1Ops0_10
  after_results
  pointwise
  simp only [H.d, H.k, H.o, H.a]
  rfl

set_option maxRecDepth 16384 in
theorem s1_10_v82 (H : At1 V x S D) (h : Fin 8) (i j : Fin 128) : (s1_10 V (Proc.devRef .tc main_while1b_v82) : S8x128x128.Idx → Elt Ideal .f32) (ix3 h i j) = gw (x h) (S h) (D h) i j := by
  unfold s1_10 while1Ops0_10
  after_results
  pointwise
  simp only [H.d, H.k, H.o, H.a, H.s]
  rfl

set_option maxRecDepth 16384 in
theorem s1_10_v77 (H : At1 V x S D) (h : Fin 8) (i j : Fin 128) : (s1_10 V (Proc.devRef .tc main_while1b_v77) : S8x128x128.Idx → Elt Ideal .f32) (ix3 h i j) = gq (x h) (S h) i j := by
  unfold s1_10 while1Ops0_10
  after_results
  pointwise
  simp only [H.o, H.s]
  rfl

set_option maxRecDepth 16384 in
theorem s1_10_v62 (H : At1 V x S D) (h : Fin 8) (i j : Fin 128) : (s1_10 V (Proc.devRef .tc main_while1b_v62) : S8x128x128.Idx → Elt Ideal .f32) (ix3 h i j) = gk (x h) (S h) (D h) i j := by
  unfold s1_10 while1Ops0_10
  after_results
  pointwise
  simp only [H.d, H.v]
  rfl

set_option maxRecDepth 16384 in
theorem s1_10_v73 (H : At1 V x S D) (h : Fin 8) (i j : Fin 128) : (s1_10 V (Proc.devRef .tc main_while1b_v73) : S8x128x128.Idx → Elt Ideal .f32) (ix3 h i j) = ga (x h) (S h) i j := by
  unfold s1_10 while1Ops0_10
  after_results
  pointwise
  simp only [H.o, H.v]
  rfl

set_option maxRecDepth 16384 in
theorem s1_10_v69 (H : At1 V x S D) (h : Fin 8) (j : Fin 128) : (s1_10 V (Proc.devRef .tc main_while1b_v69) : S8x128.Idx → Elt Ideal .f32) (ix2 h j) = gg (x h) (S h) (D h) j := by
  unfold s1_10 while1Ops0_10
  after_results
  pointwise
  simp only [Finset.univ_unique, Finset.sum_singleton, H.s, H.d, H.g]
  rfl

set_option maxRecDepth 16384 in
theorem s1_10_v81 (H : At1 V x S D) (h : Fin 8) (i j : Fin 128) : (s1_10 V (Proc.devRef .tc main_while1b_v81) : S8x128x128.Idx → Elt Ideal .f32) (ix3 h i j) = back (x h) (D h) i j := by
  unfold s1_10 while1Ops0_10
  after_results
  pointwise
  simp only [H.d, H.g1, H.o, H.q, H.k, H.a, H.w]
  rfl

set_option maxRecDepth 8192 in
theorem s1_0_v49 (V : Valuation τ sig (Elt Ideal)) (e : V (Proc.devRef .tc main_v33_9) = fun _ => Scf.iv 0#32 1#32 k.val) :
    ((s1_0 V (Proc.devRef .tc main_while1b_v49) : S_.Idx → BitVec 32) (Shape.Idx.first h_S_)).toInt = k.rev.val := by
  unfold s1_0 while1Ops0
  after_results
  rw [e]
  exact rev_toInt k

theorem ctr1 (H : Reads1 V k x S D) : ((s1_0 V (Proc.devRef .tc main_while1b_v49) : S_.Idx → BitVec 32) (Shape.Idx.first h_S_)).toInt = k.rev.val :=
  s1_0_v49 V H.ctr

/-- What each stretch of the trip's operations leaves alone. -/
theorem keeps1 (V : Valuation τ sig (Elt Ideal)) (r : Ref sig .tc) :
    (r ∉ while1Ops0_W → s1_0 V (Proc.devRef .tc r) = V (Proc.devRef .tc r))
      ∧ (r ∉ while1Ops0_1_W → s1_1 V (Proc.devRef .tc r) = V (Proc.devRef .tc r))
      ∧ (r ∉ while1Ops0_2_W → s1_2 V (Proc.devRef .tc r) = V (Proc.devRef .tc r))
      ∧ (r ∉ while1Ops0_3_W → s1_3 V (Proc.devRef .tc r) = V (Proc.devRef .tc r))
      ∧ (r ∉ while1Ops0_4_W → s1_4 V (Proc.devRef .tc r) = V (Proc.devRef .tc r))
      ∧ (r ∉ while1Ops0_5_W → s1_5 V (Proc.devRef .tc r) = V (Proc.devRef .tc r))
      ∧ (r ∉ while1Ops0_6_W → s1_6 V (Proc.devRef .tc r) = V (Proc.devRef .tc r))
      ∧ (r ∉ while1Ops0_7_W → s1_7 V (Proc.devRef .tc r) = V (Proc.devRef .tc r))
      ∧ (r ∉ while1Ops0_8_W → s1_8 V (Proc.devRef .tc r) = V (Proc.devRef .tc r))
      ∧ (r ∉ while1Ops0_9_W → s1_9 V (Proc.devRef .tc r) = V (Proc.devRef .tc r))
      ∧ (r ∉ while1Ops0_10_W → s1_10 V (Proc.devRef .tc r) = V (Proc.devRef .tc r))
      ∧ (r ∉ while1Ops0_11_W → s1_11 V (Proc.devRef .tc r) = V (Proc.devRef .tc r))
      ∧ (r ∉ while1Ops0_12_W → s1_12 V (Proc.devRef .tc r) = V (Proc.devRef .tc r))
      ∧ (r ∉ while1Ops0_13_W → s1_13 V (Proc.devRef .tc r) = V (Proc.devRef .tc r))
      ∧ (r ∉ while1Ops0_14_W → s1_14 V (Proc.devRef .tc r) = V (Proc.devRef .tc r))
      ∧ (r ∉ while1Ops0_15_W → s1_15 V (Proc.devRef .tc r) = V (Proc.devRef .tc r))
      ∧ (r ∉ while1Ops0_16_W → s1_16 V (Proc.devRef .tc r) = V (Proc.devRef .tc r))
      ∧ (r ∉ while1Ops0_17_W → s1_17 V (Proc.devRef .tc r) = V (Proc.devRef .tc r)) :=
  ⟨(s1_0_keep V r ·), (s1_1_keep V r ·), (s1_2_keep V r ·), (s1_3_keep V r ·), (s1_4_keep V r ·), (s1_5_keep V r ·), (s1_6_keep V r ·), (s1_7_keep V r ·), (s1_8_keep V r ·), (s1_9_keep V r ·), (s1_10_keep V r ·), (s1_11_keep V r ·), (s1_12_keep V r ·), (s1_13_keep V r ·), (s1_14_keep V r ·), (s1_15_keep V r ·), (s1_16_keep V r ·), (s1_17_keep V r ·)⟩

theorem reads1_at (H : Reads1 V k x S D) : At1 (s1_9 (s1_8 (s1_7 (s1_6 (s1_5 (s1_4 (s1_3 (s1_2 (s1_1 (s1_0 V)))))))))) x S D := by
  have hc : ∀ X : Valuation τ sig (Elt Ideal), X (Proc.devRef .tc main_while1b_v49) = s1_0 V (Proc.devRef .tc main_while1b_v49) →
      ((X (Proc.devRef .tc main_while1b_v49) : S_.Idx → BitVec 32) (Shape.Idx.first h_S_)).toInt = k.rev.val := fun X e => by
    rw [e]; exact ctr1 H
  refine ⟨?_, ?_, ?_, ?_, ?_, ?_, ?_, ?_, ?_, ?_⟩
  · intro h i j; simp (disch := decide) only [keeps1 _ _]; rw [s1_1_get _ k.rev (hc _ (by rfl))]; simp (disch := decide) only [keeps1 _ _]; exact H.o h i j
  · intro h i j; simp (disch := decide) only [keeps1 _ _]; rw [s1_2_get _ k.rev (hc _ (by simp (disch := decide) only [keeps1 _ _]))]; simp (disch := decide) only [keeps1 _ _]; exact H.s h i j
  · intro h i j; simp (disch := decide) only [keeps1 _ _]; rw [s1_3_get _ k.rev (hc _ (by simp (disch := decide) only [keeps1 _ _]))]; simp (disch := decide) only [keeps1 _ _]; exact H.w h i j
  · intro h i j; simp (disch := decide) only [keeps1 _ _]; rw [s1_4_get _ k.rev (hc _ (by simp (disch := decide) only [keeps1 _ _]))]; simp (disch := decide) only [keeps1 _ _]; exact H.q h i j
  · intro h i j; simp (disch := decide) only [keeps1 _ _]; rw [s1_5_get _ k.rev (hc _ (by simp (disch := decide) only [keeps1 _ _]))]; simp (disch := decide) only [keeps1 _ _]; exact H.v h i j
  · intro h i j; simp (disch := decide) only [keeps1 _ _]; rw [s1_6_get _ k.rev (hc _ (by simp (disch := decide) only [keeps1 _ _]))]; simp (disch := decide) only [keeps1 _ _]; exact H.a h i j
  · intro h j; simp (disch := decide) only [keeps1 _ _]; rw [s1_7_get _ k.rev (hc _ (by simp (disch := decide) only [keeps1 _ _]))]; simp (disch := decide) only [keeps1 _ _]; exact H.g h j
  · intro h i j; simp (disch := decide) only [keeps1 _ _]; rw [s1_8_get _ k.rev (hc _ (by simp (disch := decide) only [keeps1 _ _]))]; simp (disch := decide) only [keeps1 _ _]; exact H.g1 h i j
  · intro h i j; rw [s1_9_get _ k.rev (hc _ (by simp (disch := decide) only [keeps1 _ _]))]; simp (disch := decide) only [keeps1 _ _]; exact H.k h i j
  · intro h i j; simp (disch := decide) only [keeps1 _ _]; exact H.d h i j

theorem body1_eq (V : Valuation τ sig (Elt Ideal)) : afterL bodyI1 V = (s1_17 (s1_16 (s1_15 (s1_14 (s1_13 (s1_12 (s1_11 (s1_10 (s1_9 (s1_8 (s1_7 (s1_6 (s1_5 (s1_4 (s1_3 (s1_2 (s1_1 (s1_0 V)))))))))))))))))) := rfl

/-- The state's gradient after the trip. -/
theorem trip1_10 (H : Reads1 V k x S D) (h : Fin 8) (i j : Fin 128) : (afterL bodyI1 V (Proc.devRef .tc main_v33_10) : S8x128x128.Idx → Elt Ideal .f32) (ix3 h i j) = back (x h) (D h) i j := by
  rw [body1_eq, s1_17_main_v33_10]; simp (disch := decide) only [keeps1 _ _]
  exact s1_10_v81 (reads1_at H) h i j

/-- The stack of the gradients of `u`. -/
theorem trip1_11 (H : Reads1 V k x S D) (n : Fin 32) (h : Fin 8) (i j : Fin 128) : (afterL bodyI1 V (Proc.devRef .tc main_v33_11) : S32x8x128x128.Idx → Elt Ideal .f32) (ix4 n h i j)
    = if n = k.rev then gu (x h) (D h) i j else (V (Proc.devRef .tc main_v33_11) : S32x8x128x128.Idx → Elt Ideal .f32) (ix4 n h i j) := by
  rw [body1_eq, s1_17_main_v33_11]; simp (disch := decide) only [keeps1 _ _]; rw [s1_11_put _ k.rev (by unfold Counts1; simp (disch := decide) only [keeps1 _ _]; exact ctr1 H)]
  refine if_congr Iff.rfl ?_ ?_
  · exact s1_10_v72 (reads1_at H) h i j
  · simp (disch := decide) only [keeps1 _ _]

/-- The stack of the gradients of `w`. -/
theorem trip1_12 (H : Reads1 V k x S D) (n : Fin 32) (h : Fin 8) (i j : Fin 128) : (afterL bodyI1 V (Proc.devRef .tc main_v33_12) : S32x8x128x128.Idx → Elt Ideal .f32) (ix4 n h i j)
    = if n = k.rev then gw (x h) (S h) (D h) i j else (V (Proc.devRef .tc main_v33_12) : S32x8x128x128.Idx → Elt Ideal .f32) (ix4 n h i j) := by
  rw [body1_eq, s1_17_main_v33_12]; simp (disch := decide) only [keeps1 _ _]; rw [s1_12_put _ k.rev (by unfold Counts1; simp (disch := decide) only [keeps1 _ _]; exact ctr1 H)]
  refine if_congr Iff.rfl ?_ ?_
  · simp (disch := decide) only [keeps1 _ _]; exact s1_10_v82 (reads1_at H) h i j
  · simp (disch := decide) only [keeps1 _ _]

/-- The stack of the gradients of `q`. -/
theorem trip1_13 (H : Reads1 V k x S D) (n : Fin 32) (h : Fin 8) (i j : Fin 128) : (afterL bodyI1 V (Proc.devRef .tc main_v33_13) : S32x8x128x128.Idx → Elt Ideal .f32) (ix4 n h i j)
    = if n = k.rev then gq (x h) (S h) i j else (V (Proc.devRef .tc main_v33_13) : S32x8x128x128.Idx → Elt Ideal .f32) (ix4 n h i j) := by
  rw [body1_eq, s1_17_main_v33_13]; simp (disch := decide) only [keeps1 _ _]; rw [s1_13_put _ k.rev (by unfold Counts1; simp (disch := decide) only [keeps1 _ _]; exact ctr1 H)]
  refine if_congr Iff.rfl ?_ ?_
  · simp (disch := decide) only [keeps1 _ _]; exact s1_10_v77 (reads1_at H) h i j
  · simp (disch := decide) only [keeps1 _ _]

/-- The stack of the gradients of `k`. -/
theorem trip1_14 (H : Reads1 V k x S D) (n : Fin 32) (h : Fin 8) (i j : Fin 128) : (afterL bodyI1 V (Proc.devRef .tc main_v33_14) : S32x8x128x128.Idx → Elt Ideal .f32) (ix4 n h i j)
    = if n = k.rev then gk (x h) (S h) (D h) i j else (V (Proc.devRef .tc main_v33_14) : S32x8x128x128.Idx → Elt Ideal .f32) (ix4 n h i j) := by
  rw [body1_eq, s1_17_main_v33_14]; simp (disch := decide) only [keeps1 _ _]; rw [s1_14_put _ k.rev (by unfold Counts1; simp (disch := decide) only [keeps1 _ _]; exact ctr1 H)]
  refine if_congr Iff.rfl ?_ ?_
  · simp (disch := decide) only [keeps1 _ _]; exact s1_10_v62 (reads1_at H) h i j
  · simp (disch := decide) only [keeps1 _ _]

/-- The stack of the gradients of `a`. -/
theorem trip1_15 (H : Reads1 V k x S D) (n : Fin 32) (h : Fin 8) (i j : Fin 128) : (afterL bodyI1 V (Proc.devRef .tc main_v33_15) : S32x8x128x128.Idx → Elt Ideal .f32) (ix4 n h i j)
    = if n = k.rev then ga (x h) (S h) i j else (V (Proc.devRef .tc main_v33_15) : S32x8x128x128.Idx → Elt Ideal .f32) (ix4 n h i j) := by
  rw [body1_eq, s1_17_main_v33_15]; simp (disch := decide) only [keeps1 _ _]; rw [s1_15_put _ k.rev (by unfold Counts1; simp (disch := decide) only [keeps1 _ _]; exact ctr1 H)]
  refine if_congr Iff.rfl ?_ ?_
  · simp (disch := decide) only [keeps1 _ _]; exact s1_10_v73 (reads1_at H) h i j
  · simp (disch := decide) only [keeps1 _ _]

/-- The stack of the gradients of `g`. -/
theorem trip1_16 (H : Reads1 V k x S D) (n : Fin 32) (h : Fin 8) (j : Fin 128) : (afterL bodyI1 V (Proc.devRef .tc main_v33_16) : S32x8x128.Idx → Elt Ideal .f32) (ix3 n h j)
    = if n = k.rev then gg (x h) (S h) (D h) j else (V (Proc.devRef .tc main_v33_16) : S32x8x128.Idx → Elt Ideal .f32) (ix3 n h j) := by
  rw [body1_eq, s1_17_main_v33_16, s1_16_put _ k.rev (by unfold Counts1; simp (disch := decide) only [keeps1 _ _]; exact ctr1 H)]
  refine if_congr Iff.rfl ?_ ?_
  · simp (disch := decide) only [keeps1 _ _]; exact s1_10_v69 (reads1_at H) h j
  · simp (disch := decide) only [keeps1 _ _]

/-- A trip leaves every buffer alone that none of its operations writes. -/
theorem body1_keep (V : Valuation τ sig (Elt Ideal)) (r : Ref sig .tc) (h : r ∉ while1Ops0_W ++ while1Ops0_1_W ++ while1Ops0_2_W ++ while1Ops0_3_W ++ while1Ops0_4_W ++ while1Ops0_5_W ++ while1Ops0_6_W ++ while1Ops0_7_W ++ while1Ops0_8_W ++ while1Ops0_9_W ++ while1Ops0_10_W ++ while1Ops0_11_W ++ while1Ops0_12_W ++ while1Ops0_13_W ++ while1Ops0_14_W ++ while1Ops0_15_W ++ while1Ops0_16_W ++ while1Ops0_17_W) :
    afterL bodyI1 V (Proc.devRef .tc r) = V (Proc.devRef .tc r) := by
  simp only [List.mem_append, not_or] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h
  rw [body1_eq, s1_17_keep _ r h17, s1_16_keep _ r h16, s1_15_keep _ r h15, s1_14_keep _ r h14, s1_13_keep _ r h13, s1_12_keep _ r h12, s1_11_keep _ r h11, s1_10_keep _ r h10, s1_9_keep _ r h9, s1_8_keep _ r h8, s1_7_keep _ r h7, s1_6_keep _ r h6, s1_5_keep _ r h5, s1_4_keep _ r h4, s1_3_keep _ r h3, s1_2_keep _ r h2, s1_1_keep _ r h1, s1_0_keep _ r h0]

end Cert.ReferenceIdeal.Scan
-- ==== Proof.Ref.Value.lean ====
/- What the reference computes: after its two loops, the gradients of the recurrence, chunk by chunk. -/
module

public import proofs.«01_k».proof.Proof.Ref.Trip0
public import proofs.«01_k».proof.Proof.Ref.Trip1

@[expose] public section

noncomputable section

namespace Cert.ReferenceIdeal.Scan

open Idealize.ShloMosaic Idealize.ShloMosaic.TcCoe
open Idealize.ShloMosaic.StableHlo Idealize.ShloMosaic.Pipeline
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

open Cert.Delta

/-- A row of the tokens, split into its chunk and its row there. -/
theorem row_div (n : Fin 32) (i : Fin 128) : (row n.val i).val / 128 = n.val := by
  have : (row n.val i).val = n.val * 128 + i.val := Nat.mod_eq_of_lt (by omega)
  omega
theorem row_mod (n : Fin 32) (i : Fin 128) : (row n.val i).val % 128 = i.val := by
  have : (row n.val i).val = n.val * 128 + i.val := Nat.mod_eq_of_lt (by omega)
  omega

section Host

variable (V : Valuation τ sig (Elt Ideal))

set_option maxRecDepth 16384 in
theorem entry_0 (n : Fin 32) (h : Fin 8) (i j : Fin 128) : (after main_part0_ops0 V (Proc.devRef .tc main_v20_0) : S32x8x128x128.Idx → Elt Ideal .f32) (ix4 n h i j) = (V (Proc.devRef .tc main_arg0) : S8x4096x128.Idx → Elt Ideal .f32) (ix3 h (row n.val i) j) := by
  unfold main_part0_ops0
  after_results
  simp only [id_eq]
  pointwise
  rw [row_eq]

set_option maxRecDepth 16384 in
theorem entry_1 (n : Fin 32) (h : Fin 8) (i j : Fin 128) : (after main_part0_ops0 V (Proc.devRef .tc main_v20_1) : S32x8x128x128.Idx → Elt Ideal .f32) (ix4 n h i j) = (V (Proc.devRef .tc main_arg1) : S8x4096x128.Idx → Elt Ideal .f32) (ix3 h (row n.val i) j) := by
  unfold main_part0_ops0
  after_results
  simp only [id_eq]
  pointwise
  rw [row_eq]

set_option maxRecDepth 16384 in
theorem entry_2 (n : Fin 32) (h : Fin 8) (i j : Fin 128) : (after main_part0_ops0 V (Proc.devRef .tc main_v20_2) : S32x8x128x128.Idx → Elt Ideal .f32) (ix4 n h i j) = (V (Proc.devRef .tc main_arg2) : S8x4096x128.Idx → Elt Ideal .f32) (ix3 h (row n.val i) j) := by
  unfold main_part0_ops0
  after_results
  simp only [id_eq]
  pointwise
  rw [row_eq]

set_option maxRecDepth 16384 in
theorem entry_3 (n : Fin 32) (h : Fin 8) (i j : Fin 128) : (after main_part0_ops0 V (Proc.devRef .tc main_v20_3) : S32x8x128x128.Idx → Elt Ideal .f32) (ix4 n h i j) = (V (Proc.devRef .tc main_arg3) : S8x4096x128.Idx → Elt Ideal .f32) (ix3 h (row n.val i) j) := by
  unfold main_part0_ops0
  after_results
  simp only [id_eq]
  pointwise
  rw [row_eq]

set_option maxRecDepth 16384 in
theorem entry_4 (n : Fin 32) (h : Fin 8) (i j : Fin 128) : (after main_part0_ops0 V (Proc.devRef .tc main_v20_4) : S32x8x128x128.Idx → Elt Ideal .f32) (ix4 n h i j) = (V (Proc.devRef .tc main_arg4) : S8x4096x128.Idx → Elt Ideal .f32) (ix3 h (row n.val i) j) := by
  unfold main_part0_ops0
  after_results
  simp only [id_eq]
  pointwise
  rw [row_eq]

set_option maxRecDepth 16384 in
theorem entry_5 (n : Fin 32) (h : Fin 8) (j : Fin 128) : (after main_part0_ops0 V (Proc.devRef .tc main_v20_5) : S32x8x128.Idx → Elt Ideal .f32) (ix3 n h j) = (V (Proc.devRef .tc main_arg5) : S8x4096x128.Idx → Elt Ideal .f32) (ix3 h (row n.val 127) j) := by
  unfold main_part0_ops0
  after_results
  simp only [id_eq]
  pointwise
  exact congrArg (fun r => (V (Proc.devRef .tc main_arg5) : S8x4096x128.Idx → Elt Ideal .f32) (ix3 h r j)) (row_eq n 127 (by change _ + 127 < _; omega))

set_option maxRecDepth 16384 in
theorem entry_7 (h : Fin 8) (i j : Fin 128) : (after main_part0_ops0 V (Proc.devRef .tc main_v20_7) : S8x128x128.Idx → Elt Ideal .f32) (ix3 h i j) = (0 : EReal) := by
  unfold main_part0_ops0
  after_results
  simp only [id_eq]
  pointwise

set_option maxRecDepth 16384 in
theorem entry_v3 (n : Fin 32) (h : Fin 8) (i j : Fin 128) : (after main_part0_ops0 V (Proc.devRef .tc main_v3) : S32x8x128x128.Idx → Elt Ideal .f32) (ix4 n h i j) = (V (Proc.devRef .tc main_arg1) : S8x4096x128.Idx → Elt Ideal .f32) (ix3 h (row n.val i) j) := by
  unfold main_part0_ops0
  after_results
  pointwise
  rw [row_eq]

set_option maxRecDepth 16384 in
theorem entry_v5 (n : Fin 32) (h : Fin 8) (i j : Fin 128) : (after main_part0_ops0 V (Proc.devRef .tc main_v5) : S32x8x128x128.Idx → Elt Ideal .f32) (ix4 n h i j) = (V (Proc.devRef .tc main_arg2) : S8x4096x128.Idx → Elt Ideal .f32) (ix3 h (row n.val i) j) := by
  unfold main_part0_ops0
  after_results
  pointwise
  rw [row_eq]

set_option maxRecDepth 16384 in
theorem entry_v9 (n : Fin 32) (h : Fin 8) (i j : Fin 128) : (after main_part0_ops0 V (Proc.devRef .tc main_v9) : S32x8x128x128.Idx → Elt Ideal .f32) (ix4 n h i j) = (V (Proc.devRef .tc main_arg4) : S8x4096x128.Idx → Elt Ideal .f32) (ix3 h (row n.val i) j) := by
  unfold main_part0_ops0
  after_results
  pointwise
  rw [row_eq]

set_option maxRecDepth 16384 in
theorem entry_v7 (n : Fin 32) (h : Fin 8) (i j : Fin 128) : (after main_part0_ops0 V (Proc.devRef .tc main_v7) : S32x8x128x128.Idx → Elt Ideal .f32) (ix4 n h i j) = (V (Proc.devRef .tc main_arg3) : S8x4096x128.Idx → Elt Ideal .f32) (ix3 h (row n.val i) j) := by
  unfold main_part0_ops0
  after_results
  pointwise
  rw [row_eq]

set_option maxRecDepth 16384 in
theorem mid_0 (n : Fin 32) (h : Fin 8) (i j : Fin 128) : (afterL midI V (Proc.devRef .tc main_v33_0) : S32x8x128x128.Idx → Elt Ideal .f32) (ix4 n h i j) = (V (Proc.devRef .tc main_arg6) : S4096x1024.Idx → Elt Ideal .f32) (ix2 (row n.val i) (col h j)) := by
  simp only [afterL_cons, afterL_nil]
  unfold main_part0_ops1 main_part1_ops0
  after_results
  simp only [id_eq]
  pointwise
  rw [row_eq]
  rfl

set_option maxRecDepth 16384 in
theorem mid_1  : afterL midI V (Proc.devRef .tc main_v33_1) = V (Proc.devRef .tc main_v20_9) := by
  simp only [afterL_cons, afterL_nil]
  unfold main_part0_ops1 main_part1_ops0
  after_results
  rfl

set_option maxRecDepth 16384 in
theorem mid_2  : afterL midI V (Proc.devRef .tc main_v33_2) = V (Proc.devRef .tc main_v3) := by
  simp only [afterL_cons, afterL_nil]
  unfold main_part0_ops1 main_part1_ops0
  after_results
  rfl

set_option maxRecDepth 16384 in
theorem mid_3  : afterL midI V (Proc.devRef .tc main_v33_3) = V (Proc.devRef .tc main_v5) := by
  simp only [afterL_cons, afterL_nil]
  unfold main_part0_ops1 main_part1_ops0
  after_results
  rfl

set_option maxRecDepth 16384 in
theorem mid_4  : afterL midI V (Proc.devRef .tc main_v33_4) = V (Proc.devRef .tc main_v20_10) := by
  simp only [afterL_cons, afterL_nil]
  unfold main_part0_ops1 main_part1_ops0
  after_results
  rfl

set_option maxRecDepth 16384 in
theorem mid_5  : afterL midI V (Proc.devRef .tc main_v33_5) = V (Proc.devRef .tc main_v9) := by
  simp only [afterL_cons, afterL_nil]
  unfold main_part0_ops1 main_part1_ops0
  after_results
  rfl

set_option maxRecDepth 16384 in
theorem mid_6  : afterL midI V (Proc.devRef .tc main_v33_6) = V (Proc.devRef .tc main_v20_11) := by
  simp only [afterL_cons, afterL_nil]
  unfold main_part0_ops1 main_part1_ops0
  after_results
  rfl

set_option maxRecDepth 16384 in
theorem mid_7  : afterL midI V (Proc.devRef .tc main_v33_7) = V (Proc.devRef .tc main_v20_12) := by
  simp only [afterL_cons, afterL_nil]
  unfold main_part0_ops1 main_part1_ops0
  after_results
  rfl

set_option maxRecDepth 16384 in
theorem mid_8  : afterL midI V (Proc.devRef .tc main_v33_8) = V (Proc.devRef .tc main_v7) := by
  simp only [afterL_cons, afterL_nil]
  unfold main_part0_ops1 main_part1_ops0
  after_results
  rfl

set_option maxRecDepth 16384 in
theorem mid_10 (h : Fin 8) (i j : Fin 128) : (afterL midI V (Proc.devRef .tc main_v33_10) : S8x128x128.Idx → Elt Ideal .f32) (ix3 h i j) = (0 : EReal) := by
  simp only [afterL_cons, afterL_nil]
  unfold main_part0_ops1 main_part1_ops0
  after_results
  simp only [id_eq]
  pointwise

set_option maxRecDepth 16384 in
theorem post_u (n : Fin 32) (h : Fin 8) (i j : Fin 128) : (afterL postI V (Proc.devRef .tc main_v47) : S8x4096x128.Idx → Elt Ideal .f32) (ix3 h (row n.val i) j) = (V (Proc.devRef .tc main_v33_11) : S32x8x128x128.Idx → Elt Ideal .f32) (ix4 n h i j) := by
  simp only [afterL_cons, afterL_nil]
  unfold main_part1_ops1
  after_results
  pointwise
  exact congrArg₂ (fun a b => (V (Proc.devRef .tc main_v33_11) : S32x8x128x128.Idx → Elt Ideal .f32) (ix4 a h b j)) (Fin.ext (row_div n i)) (Fin.ext (row_mod n i))

set_option maxRecDepth 16384 in
theorem post_w (n : Fin 32) (h : Fin 8) (i j : Fin 128) : (afterL postI V (Proc.devRef .tc main_v45) : S8x4096x128.Idx → Elt Ideal .f32) (ix3 h (row n.val i) j) = (V (Proc.devRef .tc main_v33_12) : S32x8x128x128.Idx → Elt Ideal .f32) (ix4 n h i j) := by
  simp only [afterL_cons, afterL_nil]
  unfold main_part1_ops1
  after_results
  pointwise
  exact congrArg₂ (fun a b => (V (Proc.devRef .tc main_v33_12) : S32x8x128x128.Idx → Elt Ideal .f32) (ix4 a h b j)) (Fin.ext (row_div n i)) (Fin.ext (row_mod n i))

set_option maxRecDepth 16384 in
theorem post_q (n : Fin 32) (h : Fin 8) (i j : Fin 128) : (afterL postI V (Proc.devRef .tc main_v43) : S8x4096x128.Idx → Elt Ideal .f32) (ix3 h (row n.val i) j) = (V (Proc.devRef .tc main_v33_13) : S32x8x128x128.Idx → Elt Ideal .f32) (ix4 n h i j) := by
  simp only [afterL_cons, afterL_nil]
  unfold main_part1_ops1
  after_results
  pointwise
  exact congrArg₂ (fun a b => (V (Proc.devRef .tc main_v33_13) : S32x8x128x128.Idx → Elt Ideal .f32) (ix4 a h b j)) (Fin.ext (row_div n i)) (Fin.ext (row_mod n i))

set_option maxRecDepth 16384 in
theorem post_k (n : Fin 32) (h : Fin 8) (i j : Fin 128) : (afterL postI V (Proc.devRef .tc main_v41) : S8x4096x128.Idx → Elt Ideal .f32) (ix3 h (row n.val i) j) = (V (Proc.devRef .tc main_v33_14) : S32x8x128x128.Idx → Elt Ideal .f32) (ix4 n h i j) := by
  simp only [afterL_cons, afterL_nil]
  unfold main_part1_ops1
  after_results
  pointwise
  exact congrArg₂ (fun a b => (V (Proc.devRef .tc main_v33_14) : S32x8x128x128.Idx → Elt Ideal .f32) (ix4 a h b j)) (Fin.ext (row_div n i)) (Fin.ext (row_mod n i))

set_option maxRecDepth 16384 in
theorem post_a (n : Fin 32) (h : Fin 8) (i j : Fin 128) : (afterL postI V (Proc.devRef .tc main_v39) : S8x4096x128.Idx → Elt Ideal .f32) (ix3 h (row n.val i) j) = (V (Proc.devRef .tc main_v33_15) : S32x8x128x128.Idx → Elt Ideal .f32) (ix4 n h i j) := by
  simp only [afterL_cons, afterL_nil]
  unfold main_part1_ops1
  after_results
  pointwise
  exact congrArg₂ (fun a b => (V (Proc.devRef .tc main_v33_15) : S32x8x128x128.Idx → Elt Ideal .f32) (ix4 a h b j)) (Fin.ext (row_div n i)) (Fin.ext (row_mod n i))

set_option maxRecDepth 16384 in
theorem post_g0 (h : Fin 8) (r : Fin 4096) (j : Fin 128) : (afterL postI V (Proc.devRef .tc main_v37) : S8x4096x128.Idx → Elt Ideal .f32) (ix3 h r j) = if r.val % 128 = 127 then (V (Proc.devRef .tc main_v33_16) : S32x8x128.Idx → Elt Ideal .f32) (ix3 ⟨r.val / 128, by omega⟩ h j) else (0 : EReal) := by
  simp only [afterL_cons, afterL_nil]
  unfold main_part1_ops1
  after_results
  pointwise
  have hr := r.isLt
  by_cases hh : r.val % 128 = 127
  · exact (dif_pos (by omega)).trans (if_pos hh).symm
  · exact (dif_neg (by omega)).trans (if_neg hh).symm

theorem post_g (n : Fin 32) (h : Fin 8) (i j : Fin 128) : (afterL postI V (Proc.devRef .tc main_v37) : S8x4096x128.Idx → Elt Ideal .f32) (ix3 h (row n.val i) j) = if i = 127 then (V (Proc.devRef .tc main_v33_16) : S32x8x128.Idx → Elt Ideal .f32) (ix3 n h j) else (0 : EReal) := by
  rw [post_g0]
  have e3 : i = 127 ↔ i.val = 127 := Fin.ext_iff
  refine if_congr (by rw [row_mod, e3]) ?_ rfl
  exact congrArg (fun a => (V (Proc.devRef .tc main_v33_16) : S32x8x128.Idx → Elt Ideal .f32) (ix3 a h j)) (Fin.ext (row_div n i))

end Host

variable (m : (ℓ : Loc nD τ sig) → Buf (Elt Ideal) ℓ) (c : Dev nD)

theorem condOps0_keep (V : Valuation τ sig (Elt Ideal)) (r : Ref sig .tc) (h : r ∉ condOps0_W := by decide) : after condOps0 V (Proc.devRef .tc r) = V (Proc.devRef .tc r) :=
  after_of_writes_sub condOps0 V condOps0_writes h
theorem condOps1_keep (V : Valuation τ sig (Elt Ideal)) (r : Ref sig .tc) (h : r ∉ condOps1_W := by decide) : after condOps1 V (Proc.devRef .tc r) = V (Proc.devRef .tc r) :=
  after_of_writes_sub condOps1 V condOps1_writes h
theorem midI_keep (V : Valuation τ sig (Elt Ideal)) (r : Ref sig .tc) (h : r ∉ main_part0_ops1_W := by decide) (h' : r ∉ main_part1_ops0_W := by decide) : afterL midI V (Proc.devRef .tc r) = V (Proc.devRef .tc r) := by
  simp only [afterL_cons, afterL_nil]
  rw [after_of_writes_sub main_part1_ops0 _ main_part1_ops0_writes h', after_of_writes_sub main_part0_ops1 _ main_part0_ops1_writes h]
theorem preI_keep (r : Ref sig .tc) (h : r ∉ main_part0_ops0_W := by decide) : E0 m c (Proc.devRef .tc r) = launchContents m c (Proc.devRef .tc r) := by
  show after main_part0_ops0 (launchContents m c) (Proc.devRef .tc r) = _
  rw [after_of_writes_sub main_part0_ops0 _ main_part0_ops0_writes h]
theorem postI_keep (V : Valuation τ sig (Elt Ideal)) (r : Ref sig .tc) (h : r ∉ main_part1_ops1_W) : afterL postI V (Proc.devRef .tc r) = V (Proc.devRef .tc r) := by
  simp only [afterL_cons, afterL_nil]
  rw [after_of_writes_sub main_part1_ops1 _ main_part1_ops1_writes h]

/-- Loop 0 leaves every buffer alone that neither its condition nor its body writes. -/
theorem A0_keep (r : Ref sig .tc) (h : r ∉ condOps0_W := by decide) (h' : r ∉ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W := by decide) : ∀ k, A0 m k c (Proc.devRef .tc r) = E0 m c (Proc.devRef .tc r)
  | 0 => rfl
  | k + 1 => by
    show afterL bodyI0 (after condOps0 (A0 m k c)) _ = _
    rw [body0_keep _ r h', condOps0_keep _ r h, A0_keep r h h' k]

/-- Loop 1 leaves every buffer alone that neither its condition nor its body writes. -/
theorem A1_keep (r : Ref sig .tc) (h : r ∉ condOps1_W := by decide) (h' : r ∉ while1Ops0_W ++ while1Ops0_1_W ++ while1Ops0_2_W ++ while1Ops0_3_W ++ while1Ops0_4_W ++ while1Ops0_5_W ++ while1Ops0_6_W ++ while1Ops0_7_W ++ while1Ops0_8_W ++ while1Ops0_9_W ++ while1Ops0_10_W ++ while1Ops0_11_W ++ while1Ops0_12_W ++ while1Ops0_13_W ++ while1Ops0_14_W ++ while1Ops0_15_W ++ while1Ops0_16_W ++ while1Ops0_17_W := by decide) : ∀ k, A1 m k c (Proc.devRef .tc r) = E1 m c (Proc.devRef .tc r)
  | 0 => rfl
  | k + 1 => by
    show afterL bodyI1 (after condOps1 (A1 m k c)) _ = _
    rw [body1_keep _ r h', condOps1_keep _ r h, A1_keep r h h' k]

/-- An argument is still what it was when the program ends. -/
theorem fin_keep (r : Ref sig .tc) (h0 : r ∉ main_part0_ops0_W) (h1 : r ∉ condOps0_W) (h2 : r ∉ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W)
    (h3 : r ∉ main_part0_ops1_W) (h4 : r ∉ main_part1_ops0_W) (h5 : r ∉ condOps1_W) (h6 : r ∉ while1Ops0_W ++ while1Ops0_1_W ++ while1Ops0_2_W ++ while1Ops0_3_W ++ while1Ops0_4_W ++ while1Ops0_5_W ++ while1Ops0_6_W ++ while1Ops0_7_W ++ while1Ops0_8_W ++ while1Ops0_9_W ++ while1Ops0_10_W ++ while1Ops0_11_W ++ while1Ops0_12_W ++ while1Ops0_13_W ++ while1Ops0_14_W ++ while1Ops0_15_W ++ while1Ops0_16_W ++ while1Ops0_17_W)
    (h7 : r ∉ main_part1_ops1_W) : Fin1 m c (Proc.devRef .tc r) = launchContents m c (Proc.devRef .tc r) := by
  show afterL postI (after condOps1 (A1 m 32 c)) _ = _
  rw [postI_keep _ r h7, condOps1_keep _ r h5, A1_keep m c r h5 h6]
  show afterL midI (after condOps0 (A0 m 32 c)) _ = _
  rw [midI_keep _ r h3 h4, condOps0_keep _ r h1, A0_keep m c r h1 h2, preI_keep m c r h0]

/-- Chunk `n` of head `h` of the arguments at launch. -/
def ch (h : Fin 8) (n : ℕ) : Chunk :=
  chunkOf (launchContents m c (Proc.devRef .tc main_arg0)) (launchContents m c (Proc.devRef .tc main_arg1)) (launchContents m c (Proc.devRef .tc main_arg2))
    (launchContents m c (Proc.devRef .tc main_arg3)) (launchContents m c (Proc.devRef .tc main_arg4)) (launchContents m c (Proc.devRef .tc main_arg5))
    (launchContents m c (Proc.devRef .tc main_arg6)) h n

/-- What the forward loop has computed after `k` trips. -/
structure Inv0 (k : ℕ) : Prop where
  st : ∀ h i j, ((A0 m k c) (Proc.devRef .tc main_v20_7) : S8x128x128.Idx → Elt Ideal .f32) (ix3 h i j) = state (ch m c h) k i j
  saved : ∀ n : Fin 32, n.val < k → ∀ h i j, ((A0 m k c) (Proc.devRef .tc main_v20_9) : S32x8x128x128.Idx → Elt Ideal .f32) (ix4 n h i j) = state (ch m c h) n.val i j
  vals : ∀ n : Fin 32, n.val < k → ∀ h i j, ((A0 m k c) (Proc.devRef .tc main_v20_10) : S32x8x128x128.Idx → Elt Ideal .f32) (ix4 n h i j) = vnew (ch m c h n.val) (state (ch m c h) n.val) i j
  decays : ∀ n : Fin 32, n.val < k → ∀ h j, ((A0 m k c) (Proc.devRef .tc main_v20_11) : S32x8x128.Idx → Elt Ideal .f32) (ix3 n h j) = decay (ch m c h n.val) j
  decays1 : ∀ n : Fin 32, n.val < k → ∀ h i j, ((A0 m k c) (Proc.devRef .tc main_v20_12) : S32x8x1x128.Idx → Elt Ideal .f32) (ix4 n h i j) = decay (ch m c h n.val) j

theorem reads0 (k : Fin 32) (I : Inv0 m c k.val) :
    Reads0 (after condOps0 (A0 m k.val c)) k (fun h => ch m c h k.val) (fun h => state (ch m c h) k.val) := by
  refine ⟨?_, ?_, ?_, ?_, ?_, ?_, ?_, ?_⟩
  · rw [condOps0_keep _ main_v20_6]; exact A0_ctr m c k.val
  · intro h i j; rw [condOps0_keep _ main_v20_0, A0_keep m c main_v20_0]; exact entry_0 (launchContents m c) k h i j
  · intro h i j; rw [condOps0_keep _ main_v20_1, A0_keep m c main_v20_1]; exact entry_1 (launchContents m c) k h i j
  · intro h i j; rw [condOps0_keep _ main_v20_2, A0_keep m c main_v20_2]; exact entry_2 (launchContents m c) k h i j
  · intro h i j; rw [condOps0_keep _ main_v20_3, A0_keep m c main_v20_3]; exact entry_3 (launchContents m c) k h i j
  · intro h i j; rw [condOps0_keep _ main_v20_4, A0_keep m c main_v20_4]; exact entry_4 (launchContents m c) k h i j
  · intro h j; rw [condOps0_keep _ main_v20_5, A0_keep m c main_v20_5]; exact entry_5 (launchContents m c) k h j
  · intro h i j; rw [condOps0_keep _ main_v20_7]; exact I.st h i j

theorem inv0 : ∀ k, k ≤ 32 → Inv0 m c k
  | 0, _ => ⟨fun h i j => entry_7 (launchContents m c) h i j, fun n hn => absurd hn (Nat.not_lt_zero _), fun n hn => absurd hn (Nat.not_lt_zero _),
      fun n hn => absurd hn (Nat.not_lt_zero _), fun n hn => absurd hn (Nat.not_lt_zero _)⟩
  | k + 1, hk => by
    have I := inv0 k (by omega)
    have R := reads0 m c ⟨k, hk⟩ I
    have eA : A0 m (k + 1) c = afterL bodyI0 (after condOps0 (A0 m k c)) := rfl
    have hn : ∀ n : Fin 32, n.val < k + 1 → n ≠ ⟨k, hk⟩ → n.val < k := fun n hn hne =>
      lt_of_le_of_ne (Nat.lt_succ_iff.mp hn) (fun e => hne (Fin.ext e))
    refine ⟨fun h i j => ?_, fun n hn' h i j => ?_, fun n hn' h i j => ?_, fun n hn' h j => ?_, fun n hn' h i j => ?_⟩
    · rw [eA]; exact trip0_state R h i j
    · rw [eA, trip0_9 R n h i j]
      by_cases e : n = ⟨k, hk⟩
      · subst e; rw [if_pos rfl]
      · rw [if_neg e, condOps0_keep _ main_v20_9]; exact I.saved n (hn n hn' e) h i j
    · rw [eA, trip0_10 R n h i j]
      by_cases e : n = ⟨k, hk⟩
      · subst e; rw [if_pos rfl]
      · rw [if_neg e, condOps0_keep _ main_v20_10]; exact I.vals n (hn n hn' e) h i j
    · rw [eA, trip0_11 R n h j]
      by_cases e : n = ⟨k, hk⟩
      · subst e; rw [if_pos rfl]
      · rw [if_neg e, condOps0_keep _ main_v20_11]; exact I.decays n (hn n hn' e) h j
    · rw [eA, trip0_12 R n h i j]
      by_cases e : n = ⟨k, hk⟩
      · subst e; rw [if_pos rfl]
      · rw [if_neg e, condOps0_keep _ main_v20_12]; exact I.decays1 n (hn n hn' e) h i j

/-- What the backward loop finds at entry in the stacks that it reads. -/
theorem e1_of (r : Ref sig .tc) (h1 : r ∉ condOps0_W) : after condOps0 (A0 m 32 c) (Proc.devRef .tc r) = A0 m 32 c (Proc.devRef .tc r) := condOps0_keep _ r h1

/-- What the backward loop has computed after `k` trips. -/
structure Inv1 (k : ℕ) : Prop where
  st : ∀ h i j, ((A1 m k c) (Proc.devRef .tc main_v33_10) : S8x128x128.Idx → Elt Ideal .f32) (ix3 h i j) = cost (ch m c h) k i j
  u : ∀ n : Fin 32, 31 - n.val < k → ∀ h i j, ((A1 m k c) (Proc.devRef .tc main_v33_11) : S32x8x128x128.Idx → Elt Ideal .f32) (ix4 n h i j) = gu (ch m c h n.val) (cost (ch m c h) (31 - n.val)) i j
  w : ∀ n : Fin 32, 31 - n.val < k → ∀ h i j, ((A1 m k c) (Proc.devRef .tc main_v33_12) : S32x8x128x128.Idx → Elt Ideal .f32) (ix4 n h i j) = gw (ch m c h n.val) (state (ch m c h) n.val) (cost (ch m c h) (31 - n.val)) i j
  q : ∀ n : Fin 32, 31 - n.val < k → ∀ h i j, ((A1 m k c) (Proc.devRef .tc main_v33_13) : S32x8x128x128.Idx → Elt Ideal .f32) (ix4 n h i j) = gq (ch m c h n.val) (state (ch m c h) n.val) i j
  key : ∀ n : Fin 32, 31 - n.val < k → ∀ h i j, ((A1 m k c) (Proc.devRef .tc main_v33_14) : S32x8x128x128.Idx → Elt Ideal .f32) (ix4 n h i j) = gk (ch m c h n.val) (state (ch m c h) n.val) (cost (ch m c h) (31 - n.val)) i j
  a : ∀ n : Fin 32, 31 - n.val < k → ∀ h i j, ((A1 m k c) (Proc.devRef .tc main_v33_15) : S32x8x128x128.Idx → Elt Ideal .f32) (ix4 n h i j) = ga (ch m c h n.val) (state (ch m c h) n.val) i j
  g : ∀ n : Fin 32, 31 - n.val < k → ∀ h j, ((A1 m k c) (Proc.devRef .tc main_v33_16) : S32x8x128.Idx → Elt Ideal .f32) (ix3 n h j) = gg (ch m c h n.val) (state (ch m c h) n.val) (cost (ch m c h) (31 - n.val)) j

theorem reads1 (k : Fin 32) (I : Inv1 m c k.val) :
    Reads1 (after condOps1 (A1 m k.val c)) k (fun h => ch m c h k.rev.val) (fun h => state (ch m c h) k.rev.val) (fun h => cost (ch m c h) k.val) := by
  have I0 := inv0 m c 32 le_rfl
  have eE : E1 m c = afterL midI (after condOps0 (A0 m 32 c)) := rfl
  refine ⟨?_, ?_, ?_, ?_, ?_, ?_, ?_, ?_, ?_, ?_, ?_⟩
  · rw [condOps1_keep _ main_v33_9]; exact A1_ctr m c k.val
  · intro h i j; rw [condOps1_keep _ main_v33_0, A1_keep m c main_v33_0, eE, mid_0, condOps0_keep _ main_arg6, A0_keep m c main_arg6, preI_keep m c main_arg6]; rfl
  · intro h i j; rw [condOps1_keep _ main_v33_1, A1_keep m c main_v33_1, eE, mid_1, condOps0_keep _ main_v20_9]; exact I0.saved k.rev k.rev.isLt h i j
  · intro h i j; rw [condOps1_keep _ main_v33_2, A1_keep m c main_v33_2, eE, mid_2, condOps0_keep _ main_v3, A0_keep m c main_v3]; exact entry_v3 (launchContents m c) k.rev h i j
  · intro h i j; rw [condOps1_keep _ main_v33_3, A1_keep m c main_v33_3, eE, mid_3, condOps0_keep _ main_v5, A0_keep m c main_v5]; exact entry_v5 (launchContents m c) k.rev h i j
  · intro h i j; rw [condOps1_keep _ main_v33_4, A1_keep m c main_v33_4, eE, mid_4, condOps0_keep _ main_v20_10]; exact I0.vals k.rev k.rev.isLt h i j
  · intro h i j; rw [condOps1_keep _ main_v33_5, A1_keep m c main_v33_5, eE, mid_5, condOps0_keep _ main_v9, A0_keep m c main_v9]; exact entry_v9 (launchContents m c) k.rev h i j
  · intro h j; rw [condOps1_keep _ main_v33_6, A1_keep m c main_v33_6, eE, mid_6, condOps0_keep _ main_v20_11]; exact I0.decays k.rev k.rev.isLt h j
  · intro h i j; rw [condOps1_keep _ main_v33_7, A1_keep m c main_v33_7, eE, mid_7, condOps0_keep _ main_v20_12]; exact I0.decays1 k.rev k.rev.isLt h i j
  · intro h i j; rw [condOps1_keep _ main_v33_8, A1_keep m c main_v33_8, eE, mid_8, condOps0_keep _ main_v7, A0_keep m c main_v7]; exact entry_v7 (launchContents m c) k.rev h i j
  · intro h i j; rw [condOps1_keep _ main_v33_10]; exact I.st h i j

theorem inv1 : ∀ k, k ≤ 32 → Inv1 m c k
  | 0, _ => ⟨fun h i j => mid_10 (after condOps0 (A0 m 32 c)) h i j, fun n hn => absurd hn (Nat.not_lt_zero _), fun n hn => absurd hn (Nat.not_lt_zero _), fun n hn => absurd hn (Nat.not_lt_zero _), fun n hn => absurd hn (Nat.not_lt_zero _), fun n hn => absurd hn (Nat.not_lt_zero _), fun n hn => absurd hn (Nat.not_lt_zero _)⟩
  | k + 1, hk => by
    have I := inv1 k (by omega)
    have R := reads1 m c ⟨k, hk⟩ I
    have eA : A1 m (k + 1) c = afterL bodyI1 (after condOps1 (A1 m k c)) := rfl
    have er : (Fin.rev (⟨k, hk⟩ : Fin 32)).val = 31 - k := by rw [Fin.val_rev]; show 32 - (k + 1) = 31 - k; omega
    have hn : ∀ n : Fin 32, 31 - n.val < k + 1 → n ≠ Fin.rev ⟨k, hk⟩ → 31 - n.val < k := fun n hn hne => by
      refine lt_of_le_of_ne (Nat.lt_succ_iff.mp hn) (fun e => hne (Fin.ext ?_))
      rw [er]; omega
    have hk' : ∀ n : Fin 32, n = Fin.rev ⟨k, hk⟩ → 31 - n.val = k := fun n e => by rw [e, er]; omega
    refine ⟨fun h i j => ?_, fun n hn' h i j => ?_, fun n hn' h i j => ?_, fun n hn' h i j => ?_, fun n hn' h i j => ?_, fun n hn' h i j => ?_, fun n hn' h j => ?_⟩
    · rw [eA, trip1_10 R h i j]
      show back (ch m c h (Fin.rev (⟨k, hk⟩ : Fin 32)).val) (cost (ch m c h) k) i j = back (ch m c h (31 - k)) (cost (ch m c h) k) i j
      rw [er]
    · rw [eA, trip1_11 R n h i j]
      by_cases e : n = Fin.rev ⟨k, hk⟩
      · rw [if_pos e, hk' n e, e]
      · rw [if_neg e, condOps1_keep _ main_v33_11]; exact I.u n (hn n hn' e) h i j
    · rw [eA, trip1_12 R n h i j]
      by_cases e : n = Fin.rev ⟨k, hk⟩
      · rw [if_pos e, hk' n e, e]
      · rw [if_neg e, condOps1_keep _ main_v33_12]; exact I.w n (hn n hn' e) h i j
    · rw [eA, trip1_13 R n h i j]
      by_cases e : n = Fin.rev ⟨k, hk⟩
      · rw [if_pos e, e]
      · rw [if_neg e, condOps1_keep _ main_v33_13]; exact I.q n (hn n hn' e) h i j
    · rw [eA, trip1_14 R n h i j]
      by_cases e : n = Fin.rev ⟨k, hk⟩
      · rw [if_pos e, hk' n e, e]
      · rw [if_neg e, condOps1_keep _ main_v33_14]; exact I.key n (hn n hn' e) h i j
    · rw [eA, trip1_15 R n h i j]
      by_cases e : n = Fin.rev ⟨k, hk⟩
      · rw [if_pos e, e]
      · rw [if_neg e, condOps1_keep _ main_v33_15]; exact I.a n (hn n hn' e) h i j
    · rw [eA, trip1_16 R n h j]
      by_cases e : n = Fin.rev ⟨k, hk⟩
      · rw [if_pos e, hk' n e, e]
      · rw [if_neg e, condOps1_keep _ main_v33_16]; exact I.g n (hn n hn' e) h j

/-- The reference's gradient of `u`. -/
theorem res_u (n : Fin 32) (h : Fin 8) (i j : Fin 128) : (Fin1 m c (Proc.devRef .tc main_v47) : S8x4096x128.Idx → Elt Ideal .f32) (ix3 h (row n.val i) j) = gu (ch m c h n.val) (cost (ch m c h) (31 - n.val)) i j := by
  show (afterL postI (after condOps1 (A1 m 32 c)) (Proc.devRef .tc main_v47) : S8x4096x128.Idx → Elt Ideal .f32) (ix3 h (row n.val i) j) = _
  rw [post_u, condOps1_keep _ main_v33_11]
  exact (inv1 m c 32 le_rfl).u n (by omega) h i j

/-- The reference's gradient of `w`. -/
theorem res_w (n : Fin 32) (h : Fin 8) (i j : Fin 128) : (Fin1 m c (Proc.devRef .tc main_v45) : S8x4096x128.Idx → Elt Ideal .f32) (ix3 h (row n.val i) j) = gw (ch m c h n.val) (state (ch m c h) n.val) (cost (ch m c h) (31 - n.val)) i j := by
  show (afterL postI (after condOps1 (A1 m 32 c)) (Proc.devRef .tc main_v45) : S8x4096x128.Idx → Elt Ideal .f32) (ix3 h (row n.val i) j) = _
  rw [post_w, condOps1_keep _ main_v33_12]
  exact (inv1 m c 32 le_rfl).w n (by omega) h i j

/-- The reference's gradient of `q`. -/
theorem res_q (n : Fin 32) (h : Fin 8) (i j : Fin 128) : (Fin1 m c (Proc.devRef .tc main_v43) : S8x4096x128.Idx → Elt Ideal .f32) (ix3 h (row n.val i) j) = gq (ch m c h n.val) (state (ch m c h) n.val) i j := by
  show (afterL postI (after condOps1 (A1 m 32 c)) (Proc.devRef .tc main_v43) : S8x4096x128.Idx → Elt Ideal .f32) (ix3 h (row n.val i) j) = _
  rw [post_q, condOps1_keep _ main_v33_13]
  exact (inv1 m c 32 le_rfl).q n (by omega) h i j

/-- The reference's gradient of `k`. -/
theorem res_k (n : Fin 32) (h : Fin 8) (i j : Fin 128) : (Fin1 m c (Proc.devRef .tc main_v41) : S8x4096x128.Idx → Elt Ideal .f32) (ix3 h (row n.val i) j) = gk (ch m c h n.val) (state (ch m c h) n.val) (cost (ch m c h) (31 - n.val)) i j := by
  show (afterL postI (after condOps1 (A1 m 32 c)) (Proc.devRef .tc main_v41) : S8x4096x128.Idx → Elt Ideal .f32) (ix3 h (row n.val i) j) = _
  rw [post_k, condOps1_keep _ main_v33_14]
  exact (inv1 m c 32 le_rfl).key n (by omega) h i j

/-- The reference's gradient of `a`. -/
theorem res_a (n : Fin 32) (h : Fin 8) (i j : Fin 128) : (Fin1 m c (Proc.devRef .tc main_v39) : S8x4096x128.Idx → Elt Ideal .f32) (ix3 h (row n.val i) j) = ga (ch m c h n.val) (state (ch m c h) n.val) i j := by
  show (afterL postI (after condOps1 (A1 m 32 c)) (Proc.devRef .tc main_v39) : S8x4096x128.Idx → Elt Ideal .f32) (ix3 h (row n.val i) j) = _
  rw [post_a, condOps1_keep _ main_v33_15]
  exact (inv1 m c 32 le_rfl).a n (by omega) h i j

/-- The reference's gradient of `g`: the chunk's last row alone. -/
theorem res_g (n : Fin 32) (h : Fin 8) (i j : Fin 128) : (Fin1 m c (Proc.devRef .tc main_v37) : S8x4096x128.Idx → Elt Ideal .f32) (ix3 h (row n.val i) j) = if i = 127 then gg (ch m c h n.val) (state (ch m c h) n.val) (cost (ch m c h) (31 - n.val)) j else (0 : EReal) := by
  show (afterL postI (after condOps1 (A1 m 32 c)) (Proc.devRef .tc main_v37) : S8x4096x128.Idx → Elt Ideal .f32) (ix3 h (row n.val i) j) = _
  rw [post_g, condOps1_keep _ main_v33_16]
  exact if_congr Iff.rfl ((inv1 m c 32 le_rfl).g n (by omega) h j) rfl

end Cert.ReferenceIdeal.Scan
-- ==== Proof.Lin.Dw.lean ====
/- The gradient of the in-projection's weights: the frame of its call, and the value over the extended reals, four row blocks a column block. -/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Quiescent

@[expose] public section

set_option maxRecDepth 16384

noncomputable section

namespace Cert.Kernel2Ideal.Value

open Idealize.ShloMosaic Idealize.ShloMosaic.TcCoe Idealize.ShloMosaic.Tactic Idealize.SL.Sem
open Cert.Kernel2Ideal.Gen

/-- The gradient of a product's right factor: the left factor, transposed, times the product's cotangent. -/
def grad (A : S4096x1024.Idx → EReal) (B : S4096x8320.Idx → EReal) : S1024x8320.Idx → EReal :=
  fun x => ∑ k : Fin 4096, A (ix2 k (x 0)) * B (ix2 k (x 1))

/-- The product of one grid step's blocks. -/
def part (a : Vec Ideal S1024x1024 .bf16) (b : Vec Ideal S1024x1664 .bf16) : S1024x1664.Idx → EReal :=
  fun x => (∑ k : Fin 1024, a (ix2 k (x 0)) * b (ix2 k (x 1)) : EReal)

/-- One grid step adds the product of its blocks. -/
theorem pay_apply (acc : Vec Ideal S1024x1664 .f32) (a : Vec Ideal S1024x1024 .bf16) (b : Vec Ideal S1024x1664 .bf16) (i : Fin 1024) (j : Fin 1664) :
    k0_pay2 acc a b (ix2 i j) = (acc (ix2 i j) + part a b (ix2 i j) : EReal) := by
  unfold_payloads
  pointwise [part]

/-- The accumulator begins at zero. -/
theorem zero_apply (i : Fin 1024) (j : Fin 1664) : k0_pay1 (F := Ideal) (ix2 i j) = (0 : EReal) := by
  unfold_payloads
  pointwise

variable (m : (ℓ : Loc nD τ sig) → Buf (Elt Ideal) ℓ) (c : Dev nD)

/-- Which blocks a grid step reads and writes. -/
theorem idx (t : Fin cfg0.N) : win0_0.index t = ![t.val % 4, 0] ∧ win0_1.index t = ![t.val % 4, t.val / 4] ∧ win0_2.index t = ![0, t.val / 4] :=
  (by decide +kernel : ∀ t : Fin grid0.N, win0_0.index t = ![t.val % 4, 0] ∧ win0_1.index t = ![t.val % 4, t.val / 4] ∧ win0_2.index t = ![0, t.val / 4]) t

/-- The array after the run is the whole product over the 4096 rows. -/
theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  have hm : t.val % 4 = 3 := (flush0_2 t).mp hf
  refine (Pipeline.eq_sum_fin_of_reset_step_apply_of_flush (M := EReal) (fun n h => outsAt0 m c n h) 4 (fun _ => 0)
    (fun t => part (iblk m c 0 t) (iblk m c 1 t))
    (fun t h i => ?_) (fun t h i => ?_) t hm y).trans ?_
  · rw [outsAt0_A m c t h]
    obtain ⟨i, j, rfl⟩ : ∃ (a : Fin 1024) (b : Fin 1664), i = ix2 a b := ⟨i 0, i 1, eq_ix2 i⟩
    refine (congrFun (out_A_2_eq ..) _).trans ((pay_apply _ _ _ i j).trans ?_)
    exact congrArg (· + _) (zero_apply i j)
  · rw [outsAt0_B m c t h]
    obtain ⟨i, j, rfl⟩ : ∃ (a : Fin 1024) (b : Fin 1664), i = ix2 a b := ⟨i 0, i 1, eq_ix2 i⟩
    exact (congrFun (out_B_2_eq ..) _).trans (pay_apply _ _ _ i j)
  · refine (zero_add _).trans ?_
    unfold grad part
    refine Fin.sum_mul_add_congr fun s k hl => ?_
    have hN : 4 * (t.val / 4) + s.val < cfg0.N := Pipeline.run_point_lt_of_flush t hm s
    obtain ⟨e0, e1, -⟩ := idx ⟨4 * (t.val / 4) + s.val, hN⟩
    obtain ⟨-, -, e2⟩ := idx t
    have hs := s.isLt
    have d0 : (4 * (t.val / 4) + s.val) % 4 = s.val := by omega
    have d1 : (4 * (t.val / 4) + s.val) / 4 = t.val / 4 := by omega
    simp only [d0, d1] at e0 e1
    congr 1
    · blk_ext [iblk, e0, e2]
    · blk_ext [iblk, e1, e2]

end Cert.Kernel2Ideal.Value

namespace Cert.Reference2Ideal.Value

open Cert.Reference2Ideal.Gen
open Idealize.ShloMosaic Idealize.ShloMosaic.TcCoe Idealize.ShloMosaic.Tactic Idealize.SL.Sem

/-- The reference's term is the same product. -/
theorem res (A : FVec Ideal S4096x1024 .bf16) (B : FVec Ideal S4096x8320 .bf16) :
    transpose S1024x8320 [1, 0] (Host.dotGeneral dot_S4096x8320_S4096x1024_S8320x1024_0_0_1_1_n_n none (extf .f32 B bitsLt_bf16_f32) (extf .f32 A bitsLt_bf16_f32))
      transposes_S8320x1024_S1024x8320_1_0 = (Cert.Kernel2Ideal.Value.grad A B : FVec Ideal S1024x8320 .f32) := by
  funext x
  obtain ⟨i, j, rfl⟩ : ∃ (a : Fin 1024) (b : Fin 8320), x = ix2 a b := ⟨x 0, x 1, eq_ix2 x⟩
  pointwise [Cert.Kernel2Ideal.Value.grad]
  exact Finset.sum_congr rfl fun k _ => mul_comm _ _

end Cert.Reference2Ideal.Value

namespace Cert.Proof

open Idealize.ShloMosaic Idealize.SL.Sem

theorem frame_kernel2 : Cert.quiescent_Kernel2 (hKernel2 := Cert.Kernel2.Gen.facts) := fun m g _ => Cert.Kernel2.Gen.frame m g

theorem frame_ideal2 : Cert.quiescent_Kernel2Ideal (hKernel2Ideal := Cert.Kernel2Ideal.Gen.facts) := fun m g _ => Cert.Kernel2Ideal.Gen.frame m g

theorem frame_reference2 : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run m g)

theorem equal2 : Cert.algebraic_Kernel2Ideal_Reference2Ideal (hKernel2Ideal := Cert.Kernel2Ideal.Gen.facts)
    (hReference2Ideal := Cert.Reference2Ideal.Gen.facts) := fun m g m' g' _ hag =>
  ⟨fun c => Cert.Kernel2Ideal.Value.grad (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    (θ_run Cert.Kernel2Ideal.defs _ _).mono (fun r h c => ⟨(h c).1.trans (Cert.Kernel2Ideal.Value.arr m c), (h c).2⟩) (Cert.Kernel2Ideal.Value.run_blocks m g),
    (θ_run Cert.Reference2Ideal.defs _ _).mono (fun r h c => ⟨(h c).1.trans (by
      rw [(hag c).1, (hag c).2]; exact Cert.Reference2Ideal.Value.res _ _), (h c).2⟩) (Cert.Reference2Ideal.Value.run m' g')⟩

end Cert.Proof

end
-- ==== Proof.Lin.DxRun.lean ====
/- The cotangent of the in-projection's input: what a grid step of its call leaves in the accumulator and in the two results' buffers. -/
module

public import proofs.«01_k».proof.Proof.Gen.Kernel3Ideal.Value

@[expose] public section

set_option maxRecDepth 16384

noncomputable section

namespace Cert.Kernel3Ideal.Value

open Idealize.ShloMosaic Idealize.ShloMosaic.TcCoe Idealize.ShloMosaic.Tactic Idealize.SL.Sem
open Cert.Kernel3Ideal.Gen

variable {F : FTy → Type} [FloatOps F]
variable (m : (ℓ : Loc nD τ sig) → Buf (Elt F) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

theorem hsc : Memref.IsWhole scM0_0 := Memref.isWhole_whole (κ := .tc) _

/-- What the grid step before left. -/
abbrev prev (t : Fin cfg0.N) : Vec F S1024x1024 .f32 × Vec F S1x1024 .f32 × Vec F S1024x1024 .f32 :=
  outsAt0 m c (t.val - 1) (Nat.lt_of_le_of_lt (Nat.sub_le _ _) t.isLt)

/-- The first step of a row block starts the accumulator. -/
theorem acc_A (t : Fin cfg0.N) (h0 : t.val % 5 = 0) :
    (outsAt0 m c t.val t.isLt).2.2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  try sl_unfold_words
  rw [View.canon_cons_unit_zero (S := S1024x1024) hz2, View.readCov_unit_zero (S := S1024x1024) _ hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- A later step adds to the accumulator. -/
theorem acc_B (t : Fin cfg0.N) (h0 : ¬t.val % 5 = 0) (h1 : ¬t.val % 5 = 4) :
    (outsAt0 m c t.val t.isLt).2.2 = k0_pay2 (prev m c t).2.2 (iblk m c 0 t) (iblk m c 1 t) := by
  rw [outsAt0_B m c t h0 h1]
  dsimp only
  unfold sout0_B_0
  rw [View.read_writes_eq_canon _ _ _ (fun y => scover0_B_0 (y := y) ..)]
  unfold kernelRun0_B
  dsimp only
  try sl_unfold_words
  rw [View.canon_unit_zero (S := S1024x1024) hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- A later step adds to the accumulator. -/
theorem acc_C (t : Fin cfg0.N) (h1 : t.val % 5 = 4) (h2 : t.val < 5) :
    (outsAt0 m c t.val t.isLt).2.2 = k0_pay2 (prev m c t).2.2 (iblk m c 0 t) (iblk m c 1 t) := by
  rw [outsAt0_C m c t (by omega) h1 h2 (by omega)]
  dsimp only
  unfold sout0_C_0
  rw [View.read_writes_eq_canon _ _ _ (fun y => scover0_C_0 (y := y) ..)]
  unfold kernelRun0_C
  dsimp only
  try sl_unfold_words
  rw [View.canon_unit_zero (S := S1024x1024) hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- A later step adds to the accumulator. -/
theorem acc_D (t : Fin cfg0.N) (h1 : t.val % 5 = 4) (h2 : ¬t.val < 5) :
    (outsAt0 m c t.val t.isLt).2.2 = k0_pay2 (prev m c t).2.2 (iblk m c 0 t) (iblk m c 1 t) := by
  rw [outsAt0_D m c t (by omega) h1 h2 (by omega)]
  dsimp only
  unfold sout0_D_0
  rw [View.read_writes_eq_canon _ _ _ (fun y => scover0_D_0 (y := y) ..)]
  unfold kernelRun0_D
  dsimp only
  try sl_unfold_words
  rw [View.canon_unit_zero (S := S1024x1024) hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- The last step of a row block stores the cotangent of its rows. -/
theorem dx_C (t : Fin cfg0.N) (h1 : t.val % 5 = 4) (h2 : t.val < 5) :
    (outsAt0 m c t.val t.isLt).1 = k0_pay7 (iblk m c 2 t) (iblk m c 3 t) (k0_pay2 (prev m c t).2.2 (iblk m c 0 t) (iblk m c 1 t)) (iblk m c 4 t) := by
  rw [outsAt0_C m c t (by omega) h1 h2 (by omega)]
  dsimp only
  unfold out0_C_5
  rw [View.read_writes_eq_canon _ _ _ (fun y => cover0_C_5 (y := y) ..)]
  unfold kernelRun0_C
  dsimp only
  try sl_unfold_words
  rw [View.canon_unit_zero (S := S1024x1024) hz2, View.readCov_unit_zero (S := S1024x1024) _ hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- The last step of a row block stores the cotangent of its rows. -/
theorem dx_D (t : Fin cfg0.N) (h1 : t.val % 5 = 4) (h2 : ¬t.val < 5) :
    (outsAt0 m c t.val t.isLt).1 = k0_pay7 (iblk m c 2 t) (iblk m c 3 t) (k0_pay2 (prev m c t).2.2 (iblk m c 0 t) (iblk m c 1 t)) (iblk m c 4 t) := by
  rw [outsAt0_D m c t (by omega) h1 h2 (by omega)]
  dsimp only
  unfold out0_D_5
  rw [View.read_writes_eq_canon _ _ _ (fun y => cover0_D_5 (y := y) ..)]
  unfold kernelRun0_D
  dsimp only
  try sl_unfold_words
  rw [View.canon_unit_zero (S := S1024x1024) hz2, View.readCov_unit_zero (S := S1024x1024) _ hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- The first row block stores its part of the gain's gradient. -/
theorem dg_C (t : Fin cfg0.N) (h1 : t.val % 5 = 4) (h2 : t.val < 5) :
    (outsAt0 m c t.val t.isLt).2.1 = k0_pay6 (iblk m c 2 t) (k0_pay2 (prev m c t).2.2 (iblk m c 0 t) (iblk m c 1 t)) := by
  rw [outsAt0_C m c t (by omega) h1 h2 (by omega)]
  dsimp only
  unfold out0_C_6
  rw [View.read_writes_eq_canon _ _ _ (fun y => cover0_C_6 (y := y) ..)]
  unfold kernelRun0_C
  dsimp only
  try sl_unfold_words
  rw [View.canon_unit_zero (S := S1x1024) hz2, View.readCov_unit_zero (S := S1024x1024) _ hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- A later row block adds its part of the gain's gradient. -/
theorem dg_D (t : Fin cfg0.N) (h1 : t.val % 5 = 4) (h2 : ¬t.val < 5) :
    (outsAt0 m c t.val t.isLt).2.1 = k0_pay3 (k0_pay6 (iblk m c 2 t) (k0_pay2 (prev m c t).2.2 (iblk m c 0 t) (iblk m c 1 t))) (prev m c t).2.1 := by
  rw [outsAt0_D m c t (by omega) h1 h2 (by omega)]
  dsimp only
  unfold out0_D_6
  rw [View.read_writes_eq_canon _ _ _ (fun y => cover0_D_6 (y := y) ..)]
  unfold kernelRun0_D
  dsimp only
  try sl_unfold_words
  rw [View.canon_unit_zero (S := S1x1024) hz2, View.readCov_unit_zero (S := S1024x1024) _ hz2]
  simp only [View.readAt_eq_ld, (hs0_0 t).read_unread, (hs0_1 t).read_unread, (hs0_2 t).read_unread, (hs0_3 t).read_unread, (hs0_4 t).read_unread, (hs0_6 t).read_unread,
    hsc.read_unread, View.ld_unit_zero (S := ⟨2, _⟩) hz2, View.ld_unit_zero (S := ⟨3, _⟩) hz3, shapeCast_self]

/-- Any other step keeps the gain's gradient. -/
theorem dg_keep (t : Fin cfg0.N) (h1 : ¬t.val % 5 = 4) : (outsAt0 m c t.val t.isLt).2.1 = (prev m c t).2.1 := by
  by_cases h0 : t.val % 5 = 0
  · rw [outsAt0_A m c t h0 h1]; rfl
  · rw [outsAt0_B m c t h0 h1]; rfl

end Cert.Kernel3Ideal.Value

end
-- ==== Proof.Lin.Dx.lean ====
/- The cotangent of the in-projection's input and the gradient of its norm's gain: the frame of their call, and the values over the extended reals. -/
module

public import proofs.«01_k».proof.Defs
public import proofs.«01_k».proof.Proof.Gen.Kernel3
public import proofs.«01_k».proof.Proof.Gen.Kernel3.Frame
public import proofs.«01_k».proof.Proof.Lin.DxRun
public import proofs.«01_k».proof.Proof.Gen.Reference3Ideal.Run
public import Idealize.ShloMosaic.Lib.Pointwise
public import Idealize.ShloMosaic.Lib.Pipeline.ValueKit
public import Idealize.ShloMosaic.Lib.Quiescent

@[expose] public section

set_option maxRecDepth 16384

noncomputable section

namespace Cert.Kernel3Ideal.Value

open Idealize.ShloMosaic Idealize.ShloMosaic.TcCoe Idealize.ShloMosaic.Tactic Idealize.SL.Sem
open Cert.Kernel3Ideal.Gen

/-- The cotangent of a product's left factor: the product's cotangent times the right factor, transposed. -/
def dh (dp : S4096x8320.Idx → EReal) (w : S1x1024x8320.Idx → EReal) (i : Fin 4096) (j : Fin 1024) : EReal :=
  ∑ k : Fin 8320, dp (ix2 i k) * w (ix3 0 j k)

/-- The mean of a row's squares, with the norm's epsilon. -/
def ms (x : Fin 1024 → EReal) : EReal := Ideal.div (∑ k, x k * x k) (Ideal.ofBits .f32 0x44800000#32) + Ideal.ofBits .f32 0x358637BD#32

/-- What a row's mean square passes back, for each of a square's two factors. -/
def back (x g d : Fin 1024 → EReal) : EReal :=
  Ideal.div ((∑ k, x k * (d k * g k)) * (Ideal.ofBits .f32 0xBF000000#32 * Ideal.div (Ideal.rsqrt (ms x)) (ms x))) (Ideal.ofBits .f32 0x44800000#32)

/-- The cotangent of a row `x` of the norm's input, at column `j`: what comes past the norm, and what comes through it. -/
def row (x g d : Fin 1024 → EReal) (r : EReal) (j : Fin 1024) : EReal :=
  r + (d j * g j * Ideal.rsqrt (ms x) + x j * back x g d + back x g d * x j)

/-- The cotangent of the norm's input. -/
def dx (dp : S4096x8320.Idx → EReal) (w : S1x1024x8320.Idx → EReal) (x : S4096x1024.Idx → EReal) (g : S1x1024.Idx → EReal) (r : S4096x1024.Idx → EReal) :
    S4096x1024.Idx → EReal :=
  fun y => row (fun k => x (ix2 (y 0) k)) (fun k => g (ix2 0 k)) (dh dp w (y 0)) (r y) (y 1)

/-- One row's part of the gain's gradient. -/
def gain (x d : Fin 1024 → EReal) (j : Fin 1024) : EReal := x j * Ideal.rsqrt (ms x) * d j

/-- The gradient of the norm's gain. -/
def dgain (dp : S4096x8320.Idx → EReal) (w : S1x1024x8320.Idx → EReal) (x : S4096x1024.Idx → EReal) : S1x1024.Idx → EReal :=
  fun y => ∑ i : Fin 4096, gain (fun k => x (ix2 i k)) (dh dp w i) (y 1)

/-- The product of one grid step's blocks. -/
def part (a : Vec Ideal S1024x1664 .bf16) (b : Vec Ideal S1x1024x1664 .bf16) : S1024x1024.Idx → EReal :=
  fun y => (∑ k : Fin 1664, a (ix2 (y 0) k) * b (ix3 0 (y 1) k) : EReal)

theorem pay_apply (acc : Vec Ideal S1024x1024 .f32) (a : Vec Ideal S1024x1664 .bf16) (b : Vec Ideal S1x1024x1664 .bf16) (i j : Fin 1024) :
    k0_pay2 acc a b (ix2 i j) = (acc (ix2 i j) + part a b (ix2 i j) : EReal) := by
  unfold_payloads
  pointwise [part]

theorem zero_apply (i j : Fin 1024) : k0_pay1 (F := Ideal) (ix2 i j) = (0 : EReal) := by
  unfold_payloads
  pointwise

theorem gain_apply (x d : Vec Ideal S1024x1024 .f32) (j : Fin 1024) :
    k0_pay6 x d (ix2 0 j) = (∑ i : Fin 1024, gain (fun k => x (ix2 i k)) (fun k => d (ix2 i k)) j : EReal) := by
  unfold_payloads
  pointwise [gain, ms]

theorem add_apply (p o : Vec Ideal S1x1024 .f32) (j : Fin 1024) : k0_pay3 p o (ix2 0 j) = (o (ix2 0 j) + p (ix2 0 j) : EReal) := by
  unfold_payloads
  pointwise

theorem row_apply (x d r : Vec Ideal S1024x1024 .f32) (g : Vec Ideal S1x1024 .f32) (i j : Fin 1024) :
    k0_pay7 x g d r (ix2 i j) = row (fun k => x (ix2 i k)) (fun k => g (ix2 0 k)) (fun k => d (ix2 i k)) (r (ix2 i j)) j := by
  unfold_payloads
  pointwise [row, back, ms]
  simp only [Finset.univ_unique, Finset.sum_singleton]

variable (m : (ℓ : Loc nD τ sig) → Buf (Elt Ideal) ℓ) (c : Dev nD)

/-- Which blocks a grid step reads and writes. -/
theorem idx (t : Fin cfg0.N) : win0_0.index t = ![t.val / 5, t.val % 5] ∧ win0_1.index t = ![0, 0, t.val % 5] ∧ win0_2.index t = ![t.val / 5, 0]
    ∧ win0_3.index t = ![0, 0] ∧ win0_4.index t = ![t.val / 5, 0] ∧ win0_5.index t = ![t.val / 5, 0] ∧ win0_6.index t = ![0, 0] :=
  (by decide +kernel : ∀ t : Fin grid0.N, win0_0.index t = ![t.val / 5, t.val % 5] ∧ win0_1.index t = ![0, 0, t.val % 5] ∧ win0_2.index t = ![t.val / 5, 0]
    ∧ win0_3.index t = ![0, 0] ∧ win0_4.index t = ![t.val / 5, 0] ∧ win0_5.index t = ![t.val / 5, 0] ∧ win0_6.index t = ![0, 0]) t

/-- The array's row of a block's row. -/
def at0 (t : Fin cfg0.N) (i : Fin 1024) : Fin 4096 :=
  ⟨1024 * (t.val / 5) + i.val, by have := lt_of_lt_of_eq t.isLt (show cfg0.N = 20 from N_0); have := i.isLt; omega⟩

/-- Every step but a row block's first adds to the accumulator. -/
theorem acc_step (t : Fin cfg0.N) (h : ¬t.val % 5 = 0) : (outsAt0 m c t.val t.isLt).2.2 = k0_pay2 (prev m c t).2.2 (iblk m c 0 t) (iblk m c 1 t) := by
  by_cases h1 : t.val % 5 = 4
  · by_cases h2 : t.val < 5
    · exact acc_C m c t h1 h2
    · exact acc_D m c t h1 h2
  · exact acc_B m c t h h1

/-- A row block's last step leaves the whole product in the accumulator. -/
theorem acc_eq (t : Fin cfg0.N) (hm : t.val % 5 = 4) (i j : Fin 1024) :
    (outsAt0 m c t.val t.isLt).2.2 (ix2 i j) = dh (m ((c : Thread nD τ).loc main_arg0)) (m ((c : Thread nD τ).loc main_arg1)) (at0 t i) j := by
  refine (Pipeline.eq_sum_fin_of_reset_step_apply_of_flush (M := EReal) (fun n h => (outsAt0 m c n h).2.2) 5 (fun _ => 0)
    (fun t => part (iblk m c 0 t) (iblk m c 1 t))
    (fun t h y => ?_) (fun t h y => ?_) t hm (ix2 i j)).trans ?_
  · obtain ⟨i, j, rfl⟩ : ∃ a b : Fin 1024, y = ix2 a b := ⟨y 0, y 1, eq_ix2 y⟩
    refine (congrFun (acc_A m c t h) _).trans ((pay_apply _ _ _ i j).trans ?_)
    exact congrArg (· + _) (zero_apply i j)
  · obtain ⟨i, j, rfl⟩ : ∃ a b : Fin 1024, y = ix2 a b := ⟨y 0, y 1, eq_ix2 y⟩
    exact (congrFun (acc_step m c t h) _).trans (pay_apply _ _ _ i j)
  · refine (zero_add _).trans ?_
    unfold dh part
    refine Fin.sum_mul_add_congr fun s k hl => ?_
    have hN : 5 * (t.val / 5) + s.val < cfg0.N := Pipeline.run_point_lt_of_flush t hm s
    obtain ⟨e0, e1, -⟩ := idx ⟨5 * (t.val / 5) + s.val, hN⟩
    have hs := s.isLt
    have d0 : (5 * (t.val / 5) + s.val) % 5 = s.val := by omega
    have d1 : (5 * (t.val / 5) + s.val) / 5 = t.val / 5 := by omega
    simp only [d0, d1] at e0 e1
    congr 1
    · blk_ext [iblk, e0, at0]
    · blk_ext [iblk, e1]

/-- A row block's last step stores the cotangent of its rows. -/
theorem dx_eq (t : Fin cfg0.N) (hm : t.val % 5 = 4) :
    (outsAt0 m c t.val t.isLt).1 = k0_pay7 (iblk m c 2 t) (iblk m c 3 t) (outsAt0 m c t.val t.isLt).2.2 (iblk m c 4 t) := by
  rw [acc_step m c t (by omega)]
  by_cases h2 : t.val < 5
  · exact dx_C m c t hm h2
  · exact dx_D m c t hm h2

/-- The array of the first result after the run. -/
theorem arr5 : (dats m 0 c).arrAt 5 cfg0.N = dx (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hm : t.val % 5 = 4 := (flush0_5 t).mp hf
  rw [dx_eq m c t hm]
  obtain ⟨i, j, rfl⟩ : ∃ a b : Fin 1024, y = ix2 a b := ⟨y 0, y 1, eq_ix2 y⟩
  obtain ⟨-, -, e2, e3, e4, e5, -⟩ := idx t
  refine (row_apply _ _ _ _ i j).trans ?_
  have hy : ((cfg0.win 5).blk t).view.emb (ix2 i j) = ix2 (at0 t i) j := by blk_ext [e5, at0]
  refine Eq.trans ?_ (congrArg (dx _ _ _ _ _) hy.symm)
  unfold dx
  congr 1
  · funext k; blk_ext [iblk, e2, at0]
  · funext k; blk_ext [iblk, e3]
  · funext k; exact acc_eq m c t hm i k
  · blk_ext [iblk, e4, at0]

/-- A row block's part of the gain's gradient. -/
def grow (t : Fin cfg0.N) (j : Fin 1024) : EReal :=
  ∑ i : Fin 1024, gain (fun k => m ((c : Thread nD τ).loc main_arg2) (ix2 (at0 t i) k))
    (dh (m ((c : Thread nD τ).loc main_arg0)) (m ((c : Thread nD τ).loc main_arg1)) (at0 t i)) j

theorem grow_at (t : Fin cfg0.N) (s : Fin 4) (h : t.val / 5 = s.val) (j : Fin 1024) :
    grow m c t j = ∑ i : Fin 1024, gain (fun k => m ((c : Thread nD τ).loc main_arg2) (ix2 ⟨s.val * 1024 + i.val, by have := s.isLt; have := i.isLt; omega⟩ k))
      (dh (m ((c : Thread nD τ).loc main_arg0)) (m ((c : Thread nD τ).loc main_arg1)) ⟨s.val * 1024 + i.val, by have := s.isLt; have := i.isLt; omega⟩) j := by
  refine Finset.sum_congr rfl fun i _ => ?_
  have e : at0 t i = ⟨s.val * 1024 + i.val, by have := s.isLt; have := i.isLt; omega⟩ := Fin.ext (by simp only [at0]; omega)
  rw [e]

theorem grow_eq (t : Fin cfg0.N) (hm : t.val % 5 = 4) (j : Fin 1024) :
    k0_pay6 (iblk m c 2 t) (outsAt0 m c t.val t.isLt).2.2 (ix2 0 j) = grow m c t j := by
  refine (gain_apply _ _ j).trans (Finset.sum_congr rfl fun i _ => ?_)
  obtain ⟨-, -, e2, -⟩ := idx t
  congr 1
  · funext k; blk_ext [iblk, e2, at0]
  · funext k; exact acc_eq m c t hm i k

theorem dg_first (h : 4 < cfg0.N) (j : Fin 1024) : (outsAt0 m c 4 h).2.1 (ix2 0 j) = grow m c ⟨4, h⟩ j := by
  refine Eq.trans (congrFun ?_ _) (grow_eq m c ⟨4, h⟩ rfl j)
  rw [acc_step m c ⟨4, h⟩ (by dsimp only; omega)]
  exact dg_C m c ⟨4, h⟩ rfl (by dsimp only; omega)

theorem dg_next (n : ℕ) (h : n + 5 < cfg0.N) (hn : n % 5 = 4) (j : Fin 1024) :
    (outsAt0 m c (n + 5) h).2.1 (ix2 0 j) = (outsAt0 m c n (by omega)).2.1 (ix2 0 j) + grow m c ⟨n + 5, h⟩ j := by
  have e : (prev m c ⟨n + 5, h⟩).2.1 = (outsAt0 m c n (by omega)).2.1 :=
    (dg_keep m c ⟨n + 4, by omega⟩ (by dsimp only; omega)).trans ((dg_keep m c ⟨n + 3, by omega⟩ (by dsimp only; omega)).trans
      ((dg_keep m c ⟨n + 2, by omega⟩ (by dsimp only; omega)).trans (dg_keep m c ⟨n + 1, by omega⟩ (by dsimp only; omega))))
  refine (congrFun (dg_D m c ⟨n + 5, h⟩ (by dsimp only; omega) (by dsimp only; omega)) _).trans ((add_apply _ _ j).trans ?_)
  rw [← acc_step m c ⟨n + 5, h⟩ (by dsimp only; omega), e]
  exact congrArg (_ + ·) (grow_eq m c ⟨n + 5, h⟩ (by dsimp only; omega) j)

/-- The array of the second result after the run. -/
theorem arr6 : (dats m 0 c).arrAt 6 cfg0.N = dgain (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  rw [after0_6]
  have hm : t.val % 20 = 19 := (flush0_6 t).mp hf
  have hN := lt_of_lt_of_eq t.isLt (show cfg0.N = 20 from N_0)
  obtain ⟨a, j, rfl⟩ : ∃ (a : Fin 1) (b : Fin 1024), y = ix2 a b := ⟨y 0, y 1, eq_ix2 y⟩
  obtain rfl : a = 0 := Subsingleton.elim _ _
  obtain ⟨-, -, -, -, -, -, e6⟩ := idx t
  have hy : ((cfg0.win 6).blk t).view.emb (ix2 0 j) = ix2 0 j := by blk_ext [e6]
  refine Eq.trans ?_ (congrArg (dgain _ _ _) hy.symm)
  clear hy e6
  obtain ⟨n, hn⟩ := t
  obtain rfl : n = 19 := by dsimp only at hm hN; omega
  refine (dg_next m c 14 hn rfl j).trans ?_
  rw [dg_next m c 9 _ rfl j, dg_next m c 4 _ rfl j, dg_first m c _ j]
  unfold dgain
  refine Eq.trans ?_ (Fin.sum_mul_add_congr (S := 4) (n := 1024)
    (F := fun s i => gain (fun k => m ((c : Thread nD τ).loc main_arg2) (ix2 ⟨s.val * 1024 + i.val, by have := s.isLt; have := i.isLt; omega⟩ k))
      (dh (m ((c : Thread nD τ).loc main_arg0)) (m ((c : Thread nD τ).loc main_arg1)) ⟨s.val * 1024 + i.val, by have := s.isLt; have := i.isLt; omega⟩) j)
    fun s i hl => rfl)
  rw [Fin.sum_univ_four, grow_at m c ⟨4, _⟩ 0 (show (4 : ℕ) / 5 = 0 by decide), grow_at m c ⟨4 + 5, _⟩ 1 (show (9 : ℕ) / 5 = 1 by decide), grow_at m c ⟨9 + 5, _⟩ 2 (show (14 : ℕ) / 5 = 2 by decide), grow_at m c ⟨14 + 5, _⟩ 3 (show (19 : ℕ) / 5 = 3 by decide)]

end Cert.Kernel3Ideal.Value

namespace Cert.Reference3Ideal.Value

open Cert.Reference3Ideal.Gen
open Idealize.ShloMosaic Idealize.ShloMosaic.TcCoe Idealize.ShloMosaic.Tactic Idealize.SL.Sem
open Cert.Kernel3Ideal.Value (dh ms back row dx gain dgain)

variable (dp : FVec Ideal S4096x8320 .bf16) (w : FVec Ideal S1x1024x8320 .bf16) (x : FVec Ideal S4096x1024 .f32) (g : FVec Ideal S1x1024 .f32) (dr : FVec Ideal S4096x1024 .f32)

theorem ms_apply (i : Fin 4096) : (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))) (ix2 i 0) = ms fun k => x (ix2 i k) := by
  pointwise [ms]

theorem dh_apply (i : Fin 4096) (j : Fin 1024) : (Host.dotGeneral dot_S4096x8320_S1024x8320_S4096x1024_1_1_0_0_n_n none (extf .f32 dp bitsLt_bf16_f32) (extf .f32 (shapeCast _ w shapeCasts_S1x1024x8320_S1024x8320) bitsLt_bf16_f32)) (ix2 i j) = dh dp w i j := by
  pointwise [dh]

theorem back_apply (M : FVec Ideal S4096x1 .f32) (D : FVec Ideal S4096x1024 .f32) (i : Fin 4096) :
    (Host.reduceAdd (Host.divf (mulf (shapeCast _ (Host.reduceAdd (mulf x (mulf D (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt M) M))) (broadcastInDim S4096x1 ![] bcast_S_S4096x1 (constant S_ .f32 0x44800000#32))) (constant S_ .f32 0x00000000#32) reducesTo_S4096x1_S4096_d1 h_S_) (ix1 i) = Ideal.div ((∑ k, x (ix2 i k) * (D (ix2 i k) * g (ix2 0 k))) * (Ideal.ofBits .f32 0xBF000000#32 * Ideal.div (Ideal.rsqrt (M (ix2 i 0))) (M (ix2 i 0)))) (Ideal.ofBits .f32 0x44800000#32) := by
  pointwise
  simp only [Finset.univ_unique, Finset.sum_singleton]
  rfl

theorem row_apply (M : FVec Ideal S4096x1 .f32) (D : FVec Ideal S4096x1024 .f32) (R : FVec Ideal S4096 .f32) (i : Fin 4096) (j : Fin 1024) :
    (addf (addf (addf dr (mulf (mulf D (broadcastInDim S4096x1024 ![0, 1] bcast_S1x1024_S4096x1024_0_1 g)) (broadcastInDim S4096x1024 ![0, 1] bcast_S4096x1_S4096x1024_0_1 (Host.rsqrt M)))) (mulf x (broadcastInDim S4096x1024 ![0] bcast_S4096_S4096x1024_0 R))) (mulf (broadcastInDim S4096x1024 ![0] bcast_S4096_S4096x1024_0 R) x)) (ix2 i j) = (dr (ix2 i j) + D (ix2 i j) * g (ix2 0 j) * Ideal.rsqrt (M (ix2 i 0)) + x (ix2 i j) * R (ix1 i) + R (ix1 i) * x (ix2 i j) : EReal) := by
  pointwise

theorem gain_apply (M : FVec Ideal S4096x1 .f32) (D : FVec Ideal S4096x1024 .f32) (j : Fin 1024) :
    (shapeCast _ (Host.reduceAdd (mulf (mulf x (broadcastInDim S4096x1024 ![0, 1] bcast_S4096x1_S4096x1024_0_1 (Host.rsqrt M))) D) (constant S_ .f32 0x00000000#32) reducesTo_S4096x1024_S1024_d0 h_S_) shapeCasts_S1024_S1x1024) (ix2 0 j) = (∑ i : Fin 4096, x (ix2 i j) * Ideal.rsqrt (M (ix2 i 0)) * D (ix2 i j) : EReal) := by
  pointwise

theorem res0 : (addf (addf (addf dr (mulf (mulf (Host.dotGeneral dot_S4096x8320_S1024x8320_S4096x1024_1_1_0_0_n_n none (extf .f32 dp bitsLt_bf16_f32) (extf .f32 (shapeCast _ w shapeCasts_S1x1024x8320_S1024x8320) bitsLt_bf16_f32)) (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x (broadcastInDim S4096x1024 ![0] bcast_S4096_S4096x1024_0 (Host.reduceAdd (Host.divf (mulf (shapeCast _ (Host.reduceAdd (mulf x (mulf (Host.dotGeneral dot_S4096x8320_S1024x8320_S4096x1024_1_1_0_0_n_n none (extf .f32 dp bitsLt_bf16_f32) (extf .f32 (shapeCast _ w shapeCasts_S1x1024x8320_S1024x8320) bitsLt_bf16_f32)) (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf (Host.dotGeneral dot_S4096x8320_S1024x8320_S4096x1024_1_1_0_0_n_n none (extf .f32 dp bitsLt_bf16_f32) (extf .f32 (shapeCast _ w shapeCasts_S1x1024x8320_S1024x8320) bitsLt_bf16_f32)) (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) = (dx dp w x g dr : FVec Ideal S4096x1024 .f32) := by
  funext y
  obtain ⟨i, j, rfl⟩ : ∃ (a : Fin 4096) (b : Fin 1024), y = ix2 a b := ⟨y 0, y 1, eq_ix2 y⟩
  refine (row_apply x g dr _ _ _ i j).trans ?_
  rw [back_apply x g _ _ i, ms_apply x i, dh_apply dp w i j]
  simp only [dh_apply]
  exact (add_assoc _ _ _).trans ((add_assoc _ _ _).trans (congrArg (_ + ·) (add_assoc _ _ _).symm))

theorem res1 : (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x8320_S1024x8320_S4096x1024_1_1_0_0_n_n none (extf .f32 dp bitsLt_bf16_f32) (extf .f32 (shapeCast _ w shapeCasts_S1x1024x8320_S1024x8320) bitsLt_bf16_f32))) (constant S_ .f32 0x00000000#32) reducesTo_S4096x1024_S1024_d0 h_S_) shapeCasts_S1024_S1x1024) = (dgain dp w x : FVec Ideal S1x1024 .f32) := by
  funext y
  obtain ⟨a, j, rfl⟩ : ∃ (a : Fin 1) (b : Fin 1024), y = ix2 a b := ⟨y 0, y 1, eq_ix2 y⟩
  obtain rfl : a = 0 := Subsingleton.elim _ _
  refine (gain_apply _ _ _ j).trans ?_
  exact Finset.sum_congr rfl fun i _ => by rw [ms_apply x i, dh_apply dp w i j]; rfl

end Cert.Reference3Ideal.Value

namespace Cert.Proof

open Idealize.ShloMosaic Idealize.SL.Sem

theorem frame_kernel3 : Cert.quiescent_Kernel3 (hKernel3 := Cert.Kernel3.Gen.facts) := fun m g _ => Cert.Kernel3.Gen.frame m g

theorem frame_ideal3 : Cert.quiescent_Kernel3Ideal (hKernel3Ideal := Cert.Kernel3Ideal.Gen.facts) := fun m g _ => Cert.Kernel3Ideal.Gen.frame m g

theorem frame_reference3 : Cert.quiescent_Reference3Ideal (hReference3Ideal := Cert.Reference3Ideal.Gen.facts) :=
  fun m g _ => (θ_run Cert.Reference3Ideal.defs _ _).mono
    (fun r h => ⟨fun c => (h c).2.2, sem_eq_zero_of_no_sems (by decide) r.2⟩) (Cert.Reference3Ideal.Value.run m g)

theorem equal3 : Cert.algebraic_Kernel3Ideal_Reference3Ideal (hKernel3Ideal := Cert.Kernel3Ideal.Gen.facts)
    (hReference3Ideal := Cert.Reference3Ideal.Gen.facts) := fun m g m' g' _ hag =>
  ⟨fun c => Cert.Kernel3Ideal.Value.dx (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Kernel3Ideal.Value.dgain (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    (θ_run Cert.Kernel3Ideal.defs _ _).mono (fun r h c => ⟨(h c).1.trans (Cert.Kernel3Ideal.Value.arr5 m c), (h c).2.1.trans (Cert.Kernel3Ideal.Value.arr6 m c), (h c).2.2⟩)
      (Cert.Kernel3Ideal.Value.run_blocks m g),
    (θ_run Cert.Reference3Ideal.defs _ _).mono (fun r h c => ⟨(h c).1.trans (by
        unfold Cert.Reference3Ideal.Value.res_main_v39
        rw [(hag c).1, (hag c).2.1, (hag c).2.2.1, (hag c).2.2.2.1, (hag c).2.2.2.2]; exact Cert.Reference3Ideal.Value.res0 _ _ _ _ _),
      (h c).2.1.trans (by rw [(hag c).1, (hag c).2.1, (hag c).2.2.1]; exact Cert.Reference3Ideal.Value.res1 _ _ _), (h c).2.2⟩)
      (Cert.Reference3Ideal.Value.run m' g')⟩

end Cert.Proof

end
-- ==== Proof.Lin.FwdRun.lean ====
/- The in-projection's call: its windows' blocks, and its body's run on any staging buffers — at a row block's first point, where the
   normalised rows are stored and multiplied, and at its other points, where the rows held from the first are multiplied again. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel4Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The branch is taken at a row block's first column block. -/
abbrev first (i : grid0.Coords) : Prop := (Scalar.cmpi .ne (Scalar.extui (Scalar.cmpi .eq (BitVec.ofNat 32 (i 1).val) 0#32)) 0#32) = 1#1

theorem first_iff (t : Fin cfg0.N) : first (grid0.coords t) ↔ t.val % 5 = 0 := by
  have ht : t.val < 20 := Nat.lt_of_lt_of_eq t.isLt N_0
  have e1 : (grid0.coords t 1).val = t.val / 1 % 5 := Pipeline.Grid.coords_val t 1 (by decide) rfl
  simp only [first, e1]
  word_cmp

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1x1024x1664 .bf16) (harg4 : arg4.IsWhole) (arg5 : Memref sig .tc .vmem S1024x1664 .f32) (harg5 : arg5.IsWhole)
  (arg6 : Memref sig .tc .vmem S1024x1024 .bf16) (harg6 : arg6.IsWhole)
  (x0 : Vec F S1024x1024 .f32) (x1 : Vec F S1x1024 .f32) (x2 : Vec F S1x1024x1664 .bf16)

set_option maxHeartbeats 1000000 in
/-- A row block's first point stores the normalised rows, and their product with the weights' block. -/
theorem run_first (hc : first i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_inproj_fwd i arg2 harg2 arg3 harg3 arg4 harg4 arg5 harg5 arg6 harg6) K := by
  simp only [cc0_inproj_fwd_eq_skeleton]; unfold cc0_inproj_fwd_skel
  unfold owns
  iintro ⟨⟨%f0, %hf0, H0⟩, ⟨%f1, %hf1, H1⟩, ⟨%f2, %hf2, H2⟩, ⟨%d3, %f3, %hf3, H3⟩, ⟨%d4, %f4, %hf4, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S1024x1664.size (by sl_kernel_rfl) y)]
    try sl_unfold_words
    rw [View.canon_unit_zero (S := S1024x1664) hz2, View.readCov_unit_zero (S := S1024x1024) _ hz2]
    simp only [View.readAt_eq_ld, harg2.read_unread, harg3.read_unread, harg4.read_unread, View.ld_unit_zero (S := S1024x1024) hz2, View.ld_unit_zero (S := S1x1024) hz2,
      View.ld_unit_zero (S := S1x1024x1664) hz3, shapeCast_self]
  · iexists _; isplitr
    swap; · iexact H4
    ipureintro
    rw [View.read_writes_eq_canon _ _ _ (fun y => View.cover_of_tiledL _ S1024x1024.size (by sl_kernel_rfl) y)]
    try sl_unfold_words
    rw [View.canon_unit_zero (S := S1024x1024) hz2]
    simp only [View.readAt_eq_ld, harg2.read_unread, harg3.read_unread, View.ld_unit_zero (S := S1024x1024) hz2, View.ld_unit_zero (S := S1x1024) hz2, shapeCast_self]

set_option maxHeartbeats 1000000 in
/-- Any other point multiplies the rows `h` its last buffer holds, and leaves them there. -/
theorem run_next (h : Vec F S1024x1024 .bf16) (hc : ¬first i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 h x2) ∗ owns (c : Thread nD τ) arg6 fullShare h) -∗ K ⟨⟩))
      ⊢ wp frame (wpE (defs₀ (F := F)) Variants.none c none) E (cc0_inproj_fwd i arg2 harg2 arg3 harg3 arg4 harg4 arg5 harg5 arg6 harg6) K := by
  simp only [cc0_inproj_fwd_eq_skeleton]; unfold cc0_inproj_fwd_skel
  unfold owns
  iintro ⟨⟨%f0, %hf0, H0⟩, ⟨%f1, %hf1, H1⟩, ⟨%f2, %hf2, H2⟩, ⟨%d3, %f3, %hf3, H3⟩, ⟨%f4, %hf4, H4⟩, Hk⟩
  obtain rfl := harg4.eq_unread hf2; obtain rfl := harg6.eq_unread hf4
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S1024x1664.size (by sl_kernel_rfl) y)]
    try sl_unfold_words
    rw [View.canon_unit_zero (S := S1024x1664) hz2]
    simp only [View.readAt_eq_ld, harg4.read_unread, harg6.read_unread, View.ld_unit_zero (S := S1024x1024) hz2,
      View.ld_unit_zero (S := S1x1024x1664) hz3, shapeCast_self]
  · iexists _; isplitr; · ipureintro; exact harg6.read_unread _
    iexact H4

end Cert.Kernel4Ideal.Value

end
-- ==== Proof.Lin.FwdFrame.lean ====
/- The in-projection's call over any floats: what its buffers hold point by point, its launch, and its frame. -/
module

public import proofs.«01_k».proof.Proof.Lin.FwdRun
public import Idealize.ShloMosaic.Lib.Claim

@[expose] public section

set_option maxRecDepth 16384

noncomputable section

namespace Cert.Kernel4Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: as launched. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The normalised rows of the point's row block. -/
def rows (c : Dev nD) (t : Fin cfg0.N) : Vec F S1024x1024 .bf16 := k0_pay1 (iblk m c 0 t) (iblk m c 1 t)

/-- Which blocks a grid point reads and writes. -/
theorem idx (t : Fin cfg0.N) : win0_0.index t = ![t.val / 5, 0] ∧ win0_1.index t = ![0, 0] ∧ win0_2.index t = ![0, 0, t.val % 5]
    ∧ win0_3.index t = ![t.val / 5, t.val % 5] ∧ win0_4.index t = ![t.val / 5, 0] :=
  (by decide +kernel : ∀ t : Fin grid0.N, win0_0.index t = ![t.val / 5, 0] ∧ win0_1.index t = ![0, 0] ∧ win0_2.index t = ![0, 0, t.val % 5]
    ∧ win0_3.index t = ![t.val / 5, t.val % 5] ∧ win0_4.index t = ![t.val / 5, 0]) t

/-- They are the same throughout the row block. -/
theorem rows_prev (c : Dev nD) (t : Fin cfg0.N) (h : ¬t.val % 5 = 0) : rows m c t = rows m c ⟨t.val - 1, Nat.lt_of_le_of_lt (Nat.sub_le _ _) t.isLt⟩ := by
  obtain ⟨e0, -⟩ := idx t
  obtain ⟨f0, -⟩ := idx ⟨t.val - 1, Nat.lt_of_le_of_lt (Nat.sub_le _ _) t.isLt⟩
  have d : (t.val - 1) / 5 = t.val / 5 := by omega
  simp only [d] at f0
  unfold rows
  congr 1
  funext y
  blk_ext [iblk, e0, f0]

/-- What each point leaves in the buffers: the inputs' blocks, the product of the row block's normalised rows with the weights' block, and the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rows m c t) (iblk m c 2 t) := by dsimp only [dats]
theorem after4 (c : Dev nD) (t : Fin cfg0.N) : (dats m 0 c).after 4 t = rows m c t := by dsimp only [dats]

/-- An input's buffer holds its block at every point. -/
theorem before_in (c : Dev nD) (t : Fin cfg0.N) :
    (∀ d, (dats m 0 c).before 0 t d = iblk m c 0 t) ∧ (∀ d, (dats m 0 c).before 1 t d = iblk m c 1 t) ∧ ∀ d, (dats m 0 c).before 2 t d = iblk m c 2 t := by
  refine ⟨fun d => ?_, fun d => ?_, fun d => ?_⟩
  · exact ((dats m 0 c).before_in_eq_fetched 0 rfl (fun _ => rfl) (fun _ _ _ => rfl)
      (fun t => by rw [after0]; unfold Dat.blockOf iblk; rw [A_eq]) t d).trans (by unfold Dat.fetched Dat.blockOf iblk; rw [A_eq]; rfl)
  · exact ((dats m 0 c).before_in_eq_fetched 1 rfl (fun _ => rfl) (fun _ _ _ => rfl)
      (fun t => by rw [after1]; unfold Dat.blockOf iblk; rw [A_eq]) t d).trans (by unfold Dat.fetched Dat.blockOf iblk; rw [A_eq]; rfl)
  · exact ((dats m 0 c).before_in_eq_fetched 2 rfl (fun _ => rfl) (fun _ _ _ => rfl)
      (fun t => by rw [after2]; unfold Dat.blockOf iblk; rw [A_eq]) t d).trans (by unfold Dat.fetched Dat.blockOf iblk; rw [A_eq]; rfl)

/-! ## The rows' buffer -/

/-- Where nothing has been stored into it since it was last written back. -/
def freshTab (n : ℕ) : Bool := n % 5 == 0
theorem freshTab_step : ∀ t : Fin cfg0.N, freshTab (t.val + 1) = ((cfg0.win 4).flush t || (cfg0.idle 4 (cfg0.grid.coords t) && freshTab t.val)) := by decide +kernel
theorem fresh_eq (t : Fin cfg0.N) : cfg0.fresh 4 t.val = freshTab t.val :=
  Pipeline.Cfg.fresh_tab cfg0 4 freshTab rfl freshTab_step t.val (Nat.le_of_lt t.isLt)
theorem idle_first : ∀ t : Fin cfg0.N, t.val % 5 = 0 → cfg0.idle 4 (grid0.coords t) = false := by decide +kernel
theorem idle_next : ∀ t : Fin cfg0.N, ¬t.val % 5 = 0 → cfg0.idle 4 (grid0.coords t) = true := by decide +kernel

theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 5 = 0
  · rw [idle_first t h] at hi
    exact absurd hi Bool.false_ne_true
  · exact rows_prev m c t h

/-- Past the row block's first point the buffer holds the rows. -/
theorem before4 (c : Dev nD) (t : Fin cfg0.N) (h : ¬t.val % 5 = 0) (d) : (dats m 0 c).before 4 t d = rows m c t := by
  rw [Dat.before_out_traj _ 4 rfl (fun _ _ => rfl) (carry m c) t.val t rfl d, if_neg (by rw [fresh_eq]; unfold freshTab; simpa using h), rows_prev m c t h]
  dsimp only [dats]

/-- It is left with them: where it is written back, and where it is kept. -/
theorem leaves4 (c : Dev nD) (t : Fin cfg0.N) : owns (c : Thread nD τ) (win0_4.stage (cfg0.slots t 4)) fullShare (rows m c t) ⊢ ((dats m 0 c).leavesExact 4 t : sProp 𝕄) := by
  by_cases h : t.val % 5 = 0
  · unfold Dat.leavesExact
    rw [idle_first t h, after4]
  · by_cases h4 : t.val % 5 = 4
    · unfold Dat.leavesExact
      rw [idle_next t h, (flush0_4 t).mpr h4, after4]
    · rw [Dat.leavesExact_idle (dats m 0 c) 4 t (idle_next t h) (Bool.eq_false_iff.mpr fun e => h4 ((flush0_4 t).mp e))]
      simp only [before4 m c t h]
      iintro H
      iexists rows m c t
      iexact H

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  obtain ⟨b0, b1, b2⟩ := before_in m c t
  unfold bodyPre bodyPost bodyAt0
  simp only [b0, b1, b2]
  rw [show (dats m 0 c).Φ t.succ = (dats m 0 c).Φ t.castSucc from rfl,
    show (dats m 0 c).owesAt () t.succ = (dats m 0 c).owesAt () t.castSucc from rfl, after0, after1, after2, after3]
  by_cases h : t.val % 5 = 0
  · iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4 m c t)
    iexact H4
  · simp only [before4 m c t h]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (iblk m c 0 t) (iblk m c 1 t) (iblk m c 2 t) (rows m c t) (fun e => h ((first_iff t).mp e)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4 m c t)
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every execution ends, with the arrays at what the points leave and the machine at rest. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

/-- The results are what the points leave; the arguments are as launched. -/
theorem run_blocks : θ_run defs (onTc (τ := τ) (main (F := F))) ⟨m, fun _ => 0, ρ⟩ fun r => (∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => ⟨(h.1 c).1 3, (h.1 c).1 4,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run_blocks m ρ)

end Cert.Kernel4Ideal.Value

end
-- ==== Proof.Lin.Fwd.lean ====
/- The in-projection of the normalised rows: the frame of its call, and its two results over the extended reals. -/
module

public import proofs.«01_k».proof.Defs
public import proofs.«01_k».proof.Proof.Gen.Kernel4
public import proofs.«01_k».proof.Proof.Gen.Kernel4Ideal
public import proofs.«01_k».proof.Proof.Lin.FwdFrame
public import proofs.«01_k».proof.Proof.Gen.Reference4Ideal.Run
public import Idealize.ShloMosaic.Lib.Pointwise
public import Idealize.ShloMosaic.Lib.Pipeline.ValueKit
public import Idealize.ShloMosaic.Lib.Quiescent

@[expose] public section

set_option maxRecDepth 16384

noncomputable section

namespace Cert.Kernel4Ideal.Value

open Idealize.ShloMosaic Idealize.ShloMosaic.TcCoe Idealize.ShloMosaic.Tactic Idealize.SL.Sem
open Cert.Kernel4Ideal.Gen

/-- A row over the root of its mean square (and the norm's epsilon), times the gain. -/
def normRow (x g : Fin 1024 → EReal) (j : Fin 1024) : EReal :=
  x j * Ideal.rsqrt (Ideal.div (∑ k, x k * x k) (Ideal.ofBits .f32 0x44800000#32) + Ideal.ofBits .f32 0x358637BD#32) * g j

/-- The normalised rows. -/
def normed (x : S4096x1024.Idx → EReal) (g : S1x1024.Idx → EReal) : S4096x1024.Idx → EReal :=
  fun y => normRow (fun k => x (ix2 (y 0) k)) (fun k => g (ix2 0 k)) (y 1)

/-- Their projections. -/
def proj (x : S4096x1024.Idx → EReal) (g : S1x1024.Idx → EReal) (w : S1x1024x8320.Idx → EReal) : S4096x8320.Idx → EReal :=
  fun y => ∑ k : Fin 1024, normed x g (ix2 (y 0) k) * w (ix3 0 k (y 1))

theorem norm_apply (x : Vec Ideal S1024x1024 .f32) (g : Vec Ideal S1x1024 .f32) (i j : Fin 1024) :
    k0_pay1 x g (ix2 i j) = normRow (fun k => x (ix2 i k)) (fun k => g (ix2 0 k)) j := by
  unfold_payloads
  pointwise [normRow]

theorem prod_apply (h : Vec Ideal S1024x1024 .bf16) (w : Vec Ideal S1x1024x1664 .bf16) (i : Fin 1024) (j : Fin 1664) :
    k0_pay2 h w (ix2 i j) = (∑ k : Fin 1024, h (ix2 i k) * w (ix3 0 k j) : EReal) := by
  unfold_payloads
  pointwise

variable (m : (ℓ : Loc nD τ sig) → Buf (Elt Ideal) ℓ) (c : Dev nD)

/-- The array's row of a block's row. -/
def at0 (t : Fin cfg0.N) (i : Fin 1024) : Fin 4096 :=
  ⟨1024 * (t.val / 5) + i.val, by have := lt_of_lt_of_eq t.isLt (show cfg0.N = 20 from N_0); have := i.isLt; omega⟩

theorem rows_eq (t : Fin cfg0.N) (i j : Fin 1024) :
    rows m c t (ix2 i j) = normed (m ((c : Thread nD τ).loc main_arg0)) (m ((c : Thread nD τ).loc main_arg1)) (ix2 (at0 t i) j) := by
  obtain ⟨e0, e1, -⟩ := idx t
  refine (norm_apply _ _ i j).trans ?_
  unfold normed
  congr 1
  · funext k; blk_ext [iblk, e0, at0]
  · funext k; blk_ext [iblk, e1]

/-- The array of the first result after the run. -/
theorem arr3 : (dats m 0 c).arrAt 3 cfg0.N = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after3]
  obtain ⟨i, j, rfl⟩ : ∃ (a : Fin 1024) (b : Fin 1664), y = ix2 a b := ⟨y 0, y 1, eq_ix2 y⟩
  obtain ⟨-, -, e2, e3, -⟩ := idx t
  refine (prod_apply _ _ i j).trans ?_
  unfold proj
  refine Finset.sum_congr rfl fun k _ => ?_
  congr 1
  · refine (rows_eq m c t i k).trans (congrArg (normed _ _) ?_)
    blk_ext [e3, at0]
  · blk_ext [iblk, e2, e3]

/-- The array of the second result after the run. -/
theorem arr4 : (dats m 0 c).arrAt 4 cfg0.N = normed (m ((c : Thread nD τ).loc main_arg0)) (m ((c : Thread nD τ).loc main_arg1)) := by
  refine (dats m 0 c).arrAt_eq_of_covers 4 _ (by decide +kernel) fun t hf y => ?_
  blk_simp
  rw [after4]
  obtain ⟨i, j, rfl⟩ : ∃ a b : Fin 1024, y = ix2 a b := ⟨y 0, y 1, eq_ix2 y⟩
  obtain ⟨-, -, -, -, e4⟩ := idx t
  refine (rows_eq m c t i j).trans (congrArg (normed _ _) ?_)
  blk_ext [e4, at0]

/-- Over the machine's words the two programs' tables are the same. -/
theorem body (a) : Cert.Kernel4.defs₀ (F := Bits) .tc (0 : Fin 1) a = Cert.Kernel4Ideal.defs₀ (F := Bits) .tc (0 : Fin 1) a := rfl

theorem bodies : Cert.Kernel4.defs₀ (F := Bits) = Cert.Kernel4Ideal.defs₀ (F := Bits) := by
  funext κ l
  cases κ with
  | tc => obtain rfl : l = (0 : Fin 1) := Subsingleton.elim (α := Fin 1) _ _; exact funext body
  | scScalar _ => rfl
  | scVector _ _ => rfl

theorem table : Cert.Kernel4.defs (F := Bits) = Cert.Kernel4Ideal.defs (F := Bits) :=
  congrArg (Idealize.ShloMosaic.Pipeline.defs (Cert.Kernel4Ideal.pcfgs (F := Bits))) bodies

end Cert.Kernel4Ideal.Value

namespace Cert.Reference4Ideal.Value

open Cert.Reference4Ideal.Gen
open Idealize.ShloMosaic Idealize.ShloMosaic.TcCoe Idealize.ShloMosaic.Tactic Idealize.SL.Sem
open Cert.Kernel4Ideal.Value (normRow normed proj)

variable (x : FVec Ideal S4096x1024 .f32) (g : FVec Ideal S1x1024 .f32) (w : FVec Ideal S1x1024x8320 .bf16)

theorem norm_apply (i : Fin 4096) (j : Fin 1024) : (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (ix2 i j) = normRow (fun k => x (ix2 i k)) (fun k => g (ix2 0 k)) j := by
  pointwise [normRow]

theorem prod_apply (h : FVec Ideal S4096x1024 .f32) (i : Fin 4096) (j : Fin 8320) :
    (Host.dotGeneral dot_S4096x1024_S1024x8320_S4096x8320_1_0_0_1_n_n none h (extf .f32 (shapeCast _ w shapeCasts_S1x1024x8320_S1024x8320) bitsLt_bf16_f32)) (ix2 i j)
      = (∑ k : Fin 1024, h (ix2 i k) * w (ix3 0 k j) : EReal) := by
  pointwise

theorem res0 : (Host.dotGeneral dot_S4096x1024_S1024x8320_S4096x8320_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (extf .f32 (shapeCast _ w shapeCasts_S1x1024x8320_S1024x8320) bitsLt_bf16_f32))
    = (proj x g w : FVec Ideal S4096x8320 .f32) := by
  funext y
  obtain ⟨i, j, rfl⟩ : ∃ (a : Fin 4096) (b : Fin 8320), y = ix2 a b := ⟨y 0, y 1, eq_ix2 y⟩
  refine (prod_apply w _ i j).trans ?_
  exact Finset.sum_congr rfl fun k _ => congrArg (· * _) (norm_apply x g i k)

theorem res1 : (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32) = (normed x g : FVec Ideal S4096x1024 .bf16) := by
  funext y
  obtain ⟨i, j, rfl⟩ : ∃ (a : Fin 4096) (b : Fin 1024), y = ix2 a b := ⟨y 0, y 1, eq_ix2 y⟩
  exact norm_apply x g i j

end Cert.Reference4Ideal.Value

namespace Cert.Proof

open Idealize.ShloMosaic Idealize.SL.Sem

theorem frame_kernel4 : Cert.quiescent_Kernel4 (hKernel4 := Cert.Kernel4.Gen.facts) := fun m g _ => by
  rw [Cert.Kernel4Ideal.Value.table]
  exact (θ_run Cert.Kernel4Ideal.defs _ _).mono (fun _ h => h) (Cert.Kernel4Ideal.Value.frame (F := Bits) m g)

theorem frame_ideal4 : Cert.quiescent_Kernel4Ideal (hKernel4Ideal := Cert.Kernel4Ideal.Gen.facts) := fun m g _ => Cert.Kernel4Ideal.Value.frame m g

theorem frame_reference4 : Cert.quiescent_Reference4Ideal (hReference4Ideal := Cert.Reference4Ideal.Gen.facts) :=
  fun m g _ => (θ_run Cert.Reference4Ideal.defs _ _).mono
    (fun r h => ⟨fun c => (h c).2.2, sem_eq_zero_of_no_sems (by decide) r.2⟩) (Cert.Reference4Ideal.Value.run m g)

theorem equal4 : Cert.algebraic_Kernel4Ideal_Reference4Ideal (hKernel4Ideal := Cert.Kernel4Ideal.Gen.facts)
    (hReference4Ideal := Cert.Reference4Ideal.Gen.facts) := fun m g m' g' _ hag =>
  ⟨fun c => Cert.Kernel4Ideal.Value.proj (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    fun c => Cert.Kernel4Ideal.Value.normed (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(h.1 c).1.trans (Cert.Kernel4Ideal.Value.arr3 m c), (h.1 c).2.1.trans (Cert.Kernel4Ideal.Value.arr4 m c), (h.1 c).2.2⟩)
      (Cert.Kernel4Ideal.Value.run_blocks m g),
    (θ_run Cert.Reference4Ideal.defs _ _).mono (fun r h c => ⟨(h c).1.trans (by
        rw [(hag c).1, (hag c).2.1, (hag c).2.2]; exact Cert.Reference4Ideal.Value.res0 _ _ _),
      (h c).2.1.trans (by rw [(hag c).1, (hag c).2.1]; exact Cert.Reference4Ideal.Value.res1 _ _), (h c).2.2⟩)
      (Cert.Reference4Ideal.Value.run m' g')⟩

end Cert.Proof

end
-- ==== Proof.Lin.Wg.lean ====
/- The gradients of the GLU's and of the out-projection's weights, one call for both: its frame, and the value over the extended reals, four row blocks. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Quiescent

@[expose] public section

set_option maxRecDepth 16384

noncomputable section

namespace Cert.Kernel5Ideal.Value

open Idealize.ShloMosaic Idealize.ShloMosaic.TcCoe Idealize.ShloMosaic.Tactic Idealize.SL.Sem
open Cert.Kernel5Ideal.Gen

/-- The gradient of a product's right factor: the left factor, transposed, times the product's cotangent. -/
def grad (A : S4096x1024.Idx → EReal) (B : S4096x1024.Idx → EReal) : S1024x1024.Idx → EReal :=
  fun x => ∑ k : Fin 4096, A (ix2 k (x 0)) * B (ix2 k (x 1))

/-- The product of one grid step's blocks. -/
def part (a : Vec Ideal S1024x1024 .bf16) (b : Vec Ideal S1024x1024 .bf16) : S1024x1024.Idx → EReal :=
  fun x => (∑ k : Fin 1024, a (ix2 k (x 0)) * b (ix2 k (x 1)) : EReal)

/-- One grid step adds the product of its blocks. -/
theorem pay_apply (acc : Vec Ideal S1024x1024 .f32) (a : Vec Ideal S1024x1024 .bf16) (b : Vec Ideal S1024x1024 .bf16) (i : Fin 1024) (j : Fin 1024) :
    k0_pay2 acc a b (ix2 i j) = (acc (ix2 i j) + part a b (ix2 i j) : EReal) := by
  unfold_payloads
  pointwise [part]

/-- The accumulator begins at zero. -/
theorem zero_apply (i : Fin 1024) (j : Fin 1024) : k0_pay1 (F := Ideal) (ix2 i j) = (0 : EReal) := by
  unfold_payloads
  pointwise

variable (m : (ℓ : Loc nD τ sig) → Buf (Elt Ideal) ℓ) (c : Dev nD)

/-- Which blocks a grid step reads and writes. -/
theorem idx (t : Fin cfg0.N) : win0_0.index t = ![t.val % 4, 0] ∧ win0_1.index t = ![t.val % 4, 0] ∧ win0_2.index t = ![0, 0] :=
  (by decide +kernel : ∀ t : Fin grid0.N, win0_0.index t = ![t.val % 4, 0] ∧ win0_1.index t = ![t.val % 4, 0] ∧ win0_2.index t = ![0, 0]) t

/-- The array after the run is the whole product over the 4096 rows. -/
theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  have hm : t.val % 4 = 3 := (flush0_2 t).mp hf
  refine (Pipeline.eq_sum_fin_of_reset_step_apply_of_flush (M := EReal) (fun n h => outsAt0 m c n h) 4 (fun _ => 0)
    (fun t => part (iblk m c 0 t) (iblk m c 1 t))
    (fun t h i => ?_) (fun t h i => ?_) t hm y).trans ?_
  · rw [outsAt0_A m c t h]
    obtain ⟨i, j, rfl⟩ : ∃ (a : Fin 1024) (b : Fin 1024), i = ix2 a b := ⟨i 0, i 1, eq_ix2 i⟩
    refine (congrFun (out_A_2_eq ..) _).trans ((pay_apply _ _ _ i j).trans ?_)
    exact congrArg (· + _) (zero_apply i j)
  · rw [outsAt0_B m c t h]
    obtain ⟨i, j, rfl⟩ : ∃ (a : Fin 1024) (b : Fin 1024), i = ix2 a b := ⟨i 0, i 1, eq_ix2 i⟩
    exact (congrFun (out_B_2_eq ..) _).trans (pay_apply _ _ _ i j)
  · refine (zero_add _).trans ?_
    unfold grad part
    refine Fin.sum_mul_add_congr fun s k hl => ?_
    have hN : 4 * (t.val / 4) + s.val < cfg0.N := Pipeline.run_point_lt_of_flush t hm s
    obtain ⟨e0, e1, -⟩ := idx ⟨4 * (t.val / 4) + s.val, hN⟩
    obtain ⟨-, -, e2⟩ := idx t
    have hs := s.isLt
    have d0 : (4 * (t.val / 4) + s.val) % 4 = s.val := by omega
    have d1 : (4 * (t.val / 4) + s.val) / 4 = t.val / 4 := by omega
    simp only [d0, d1] at e0 e1
    congr 1
    · blk_ext [iblk, e0, e2]
    · blk_ext [iblk, e1, e2]

end Cert.Kernel5Ideal.Value

namespace Cert.Reference5Ideal.Value

open Cert.Reference5Ideal.Gen
open Idealize.ShloMosaic Idealize.ShloMosaic.TcCoe Idealize.ShloMosaic.Tactic Idealize.SL.Sem

/-- The reference's term is the same product. -/
theorem res (A : FVec Ideal S4096x1024 .bf16) (B : FVec Ideal S4096x1024 .bf16) :
    transpose S1024x1024 [1, 0] (Host.dotGeneral dot_S4096x1024_S4096x1024_S1024x1024_0_0_1_1_n_n none (extf .f32 B bitsLt_bf16_f32) (extf .f32 A bitsLt_bf16_f32))
      transposes_S1024x1024_S1024x1024_1_0 = (Cert.Kernel5Ideal.Value.grad A B : FVec Ideal S1024x1024 .f32) := by
  funext x
  obtain ⟨i, j, rfl⟩ : ∃ (a : Fin 1024) (b : Fin 1024), x = ix2 a b := ⟨x 0, x 1, eq_ix2 x⟩
  pointwise [Cert.Kernel5Ideal.Value.grad]
  exact Finset.sum_congr rfl fun k _ => mul_comm _ _

end Cert.Reference5Ideal.Value

namespace Cert.Proof

open Idealize.ShloMosaic Idealize.SL.Sem

theorem frame_kernel5 : Cert.quiescent_Kernel5 (hKernel5 := Cert.Kernel5.Gen.facts) := fun m g _ => Cert.Kernel5.Gen.frame m g

theorem frame_ideal5 : Cert.quiescent_Kernel5Ideal (hKernel5Ideal := Cert.Kernel5Ideal.Gen.facts) := fun m g _ => Cert.Kernel5Ideal.Gen.frame m g

theorem frame_reference5 : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run m g)

theorem equal5 : Cert.algebraic_Kernel5Ideal_Reference5Ideal (hKernel5Ideal := Cert.Kernel5Ideal.Gen.facts)
    (hReference5Ideal := Cert.Reference5Ideal.Gen.facts) := fun m g m' g' _ hag =>
  ⟨fun c => Cert.Kernel5Ideal.Value.grad (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    (θ_run Cert.Kernel5Ideal.defs _ _).mono (fun r h c => ⟨(h c).1.trans (Cert.Kernel5Ideal.Value.arr m c), (h c).2⟩) (Cert.Kernel5Ideal.Value.run_blocks m g),
    (θ_run Cert.Reference5Ideal.defs _ _).mono (fun r h c => ⟨(h c).1.trans (by
      rw [(hag c).1, (hag c).2]; exact Cert.Reference5Ideal.Value.res _ _), (h c).2⟩) (Cert.Reference5Ideal.Value.run m' g')⟩

end Cert.Proof

end
-- ==== Proof.Grad.Conv.lean ====
/- The gradient of the causal convolution, its activation and the heads' normalisation: the frame of their call, and the values over the
   extended reals, twenty-four column blocks. -/
module

public import proofs.«01_k».proof.Defs
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pointwise
public import Idealize.ShloMosaic.Lib.WordCmp
public import Idealize.ShloMosaic.Lib.Pipeline.ValueKit
public import Idealize.ShloMosaic.Lib.Quiescent

@[expose] public section

set_option maxRecDepth 16384

noncomputable section

namespace Cert.Kernel6Ideal.Value

open Idealize.ShloMosaic Idealize.ShloMosaic.TcCoe Idealize.ShloMosaic.Tactic Idealize.SL.Sem
open Cert.Kernel6Ideal.Gen

/-- A column's entry some rows earlier, zero before the first. -/
def lag (s : ℕ) (f : Fin 4096 → EReal) (t : Fin 4096) : EReal := if s ≤ t.val then f ⟨t.val - s, by omega⟩ else 0

/-- A column's entry some rows later, zero behind the last. -/
def lead (s : ℕ) (f : Fin 4096 → EReal) (t : Fin 4096) : EReal := if h : t.val + s < 4096 then f ⟨t.val + s, h⟩ else 0

/-- The convolution of one column. -/
def mix (p : Fin 4096 → EReal) (w : Fin 4 → EReal) (t : Fin 4096) : EReal :=
  w 3 * p t + w 2 * lag 1 p t + w 1 * lag 2 p t + w 0 * lag 3 p t

/-- The logistic function as a quotient. -/
def gate (z : EReal) : EReal := Ideal.div 1 (1 + Ideal.exp (-z))

/-- A head's squared length and the norm's epsilon. -/
def len (y : Fin 128 → EReal) : EReal := (∑ k, y k * y k) + Ideal.ofBits .f32 0x358637BD#32

/-- What each component takes from the derivative of the length. -/
def tie (y g : Fin 128 → EReal) : EReal :=
  (∑ k, y k * g k) * (Ideal.ofBits .f32 0xBF000000#32 * Ideal.div (Ideal.rsqrt (len y)) (len y))

/-- The gradient through the normalisation. -/
def unnorm (y g : Fin 128 → EReal) (j : Fin 128) : EReal := g j * Ideal.rsqrt (len y) + y j * tie y g + tie y g * y j

/-- The gradient through the activation. -/
def back (z d : EReal) : EReal := d * gate z + z * d * (gate z * (1 - gate z))

/-- Both, for one row of one head; the first sixteen heads are normalised. -/
def head (b : ℕ) (z g : Fin 128 → EReal) (j : Fin 128) : EReal :=
  back (z j) (if b < 16 then unnorm (fun k => z k * gate (z k)) g j else g j)

/-- A column among the wider array's. -/
def wide (n : Fin 3072) : Fin 8320 := ⟨n.val, by omega⟩

/-- A column of the same head. -/
def peer (n : Fin 3072) (k : Fin 128) : Fin 3072 := ⟨128 * (n.val / 128) + k.val, by omega⟩

section Arrays

variable (A : S4096x8320.Idx → EReal) (W : S4x3072.Idx → EReal) (G0 G1 G2 : S8x4096x128.Idx → EReal)

/-- The convolution, one entry. -/
def pre (t : Fin 4096) (n : Fin 3072) : EReal := mix (fun r => A (ix2 r (wide n))) (fun a => W (ix2 a n)) t

/-- A head's gradient: the three arguments one after another. -/
def cot (b : ℕ) (t : Fin 4096) (k : Fin 128) : EReal :=
  if b < 8 then G0 (ix3 ⟨b % 8, by omega⟩ t k) else if b < 16 then G1 (ix3 ⟨b % 8, by omega⟩ t k) else G2 (ix3 ⟨b % 8, by omega⟩ t k)

/-- The gradient of the convolution's entry. -/
def dpre (n : Fin 3072) (t : Fin 4096) : EReal :=
  head (n.val / 128) (fun k => pre A W t (peer n k)) (cot G0 G1 G2 (n.val / 128) t) ⟨n.val % 128, by omega⟩

/-- The gradient by the convolution's input. -/
def dx : S4096x3072.Idx → EReal := fun x =>
  lead 3 (fun r => W (ix2 0 (x 1)) * dpre A W G0 G1 G2 (x 1) r) (x 0) + lead 2 (fun r => W (ix2 1 (x 1)) * dpre A W G0 G1 G2 (x 1) r) (x 0)
    + lead 1 (fun r => W (ix2 2 (x 1)) * dpre A W G0 G1 G2 (x 1) r) (x 0) + W (ix2 3 (x 1)) * dpre A W G0 G1 G2 (x 1) (x 0)

/-- The gradient by its weights. -/
def dw : S4x3072.Idx → EReal := fun x =>
  ∑ t, dpre A W G0 G1 G2 (x 1) t * lag (3 - (x 0).val) (fun r => A (ix2 r (wide (x 1)))) t

end Arrays

theorem one_sub_one : (1 : EReal) - 1 = 0 := EReal.sub_self (by decide) (by decide)

theorem pick_ge {s t : ℕ} (hs : s < 4096) (ht : t < 4096) (x y : EReal) :
    Scalar.select (IntOp.cmpi .sge (BitVec.ofNat 32 t) (BitVec.ofNat 32 s)) x y = if s ≤ t then x else y := by
  rw [WordCmp.cmpi_sge_ofNat (show t < 2 ^ (32 - 1) by omega) (show s < 2 ^ (32 - 1) by omega), WordCmp.select_decide]

theorem pick_lt {α : Type} {s t : ℕ} (hs : s < 4096) (ht : t < 4096) (x y : α) :
    Scalar.select (IntOp.cmpi .slt (BitVec.ofNat 32 t) (BitVec.ofNat 32 s)) x y = if t < s then x else y := by
  rw [WordCmp.cmpi_slt_ofNat (show t < 2 ^ (32 - 1) by omega) (show s < 2 ^ (32 - 1) by omega), WordCmp.select_decide]

/-- A rotation by few rows whose first rows are cleared. -/
theorem lag_eq {s : ℕ} (hs : s < 4096) (f : Fin 4096 → EReal) (t : Fin 4096) (h) :
    Scalar.select (IntOp.cmpi .sge (BitVec.ofNat 32 t.val) (BitVec.ofNat 32 s)) (f ⟨(t.val + 4096 - s) % 4096, h⟩) 0 = lag s f t := by
  rw [pick_ge hs t.isLt]
  unfold lag
  split_ifs
  · exact congrArg f (Fin.ext (show (t.val + 4096 - s) % 4096 = t.val - s by omega))
  · rfl

/-- A rotation the other way whose last rows are cleared. -/
theorem lead_eq {s : ℕ} (hs : s < 4096) (f : Fin 4096 → EReal) (t : Fin 4096) {n : ℕ} (hn : n + s = 4096) (h0 : 0 < s) (h) :
    Scalar.select (IntOp.cmpi .slt (BitVec.ofNat 32 t.val) (BitVec.ofNat 32 n)) (f ⟨(t.val + 4096 - n) % 4096, h⟩) 0 = lead s f t := by
  have ht := t.isLt
  rw [pick_lt (by omega) ht]
  unfold lead
  by_cases c : t.val < n
  · rw [if_pos c, dif_pos (by omega)]
    exact congrArg f (Fin.ext (show (t.val + 4096 - n) % 4096 = t.val + s by omega))
  · rw [if_neg c, dif_neg (by omega)]

theorem lag1 (p : Vec Ideal S4096x128 .f32) (t : Fin 4096) (j : Fin 128) : k0_pay4 p (ix2 t j) = lag 1 (fun r => p (ix2 r j)) t := by
  unfold_payloads
  pointwise
  exact lag_eq (by norm_num) (fun r => p (ix2 r j)) t _

theorem lag2 (p : Vec Ideal S4096x128 .f32) (t : Fin 4096) (j : Fin 128) : k0_pay5 p (ix2 t j) = lag 2 (fun r => p (ix2 r j)) t := by
  unfold_payloads
  pointwise
  exact lag_eq (by norm_num) (fun r => p (ix2 r j)) t _

theorem lag3 (p : Vec Ideal S4096x128 .f32) (t : Fin 4096) (j : Fin 128) : k0_pay6 p (ix2 t j) = lag 3 (fun r => p (ix2 r j)) t := by
  unfold_payloads
  pointwise
  exact lag_eq (by norm_num) (fun r => p (ix2 r j)) t _

theorem conv_apply (p : Vec Ideal S4096x128 .f32) (a b c d : Vec Ideal S1x128 .f32) (t : Fin 4096) (j : Fin 128) :
    k0_pay7 p a b c d (ix2 t j) = mix (fun r => p (ix2 r j)) ![a (ix2 0 j), b (ix2 0 j), c (ix2 0 j), d (ix2 0 j)] t := by
  unfold k0_pay7
  pointwise [mix]
  rw [lag1, lag2, lag3]

theorem act_apply (z : FVec Ideal S4096x128 .f32) (t : Fin 4096) (j : Fin 128) :
    k0_pay13 z k0_pay8 (ix2 t j) = (z (ix2 t j) * gate (z (ix2 t j)) : EReal) := by
  unfold_payloads
  pointwise [gate]
  rw [zero_sub]

/-- The derivative of the logistic function in its two forms. -/
theorem slope_eq (z : EReal) : Ideal.div 1 ((1 + Ideal.exp (-z)) * (1 + Ideal.exp (-z))) * Ideal.exp (-z) = gate z * (1 - gate z) := by
  unfold gate
  generalize -z = w
  induction w with
  | bot =>
    rw [show Ideal.exp ⊥ = 0 from rfl, mul_zero, add_zero, ← EReal.coe_one, Ideal.div_coe one_ne_zero]
    norm_num [← EReal.coe_mul, ← EReal.coe_sub]
    exact one_sub_one.symm
  | top =>
    rw [show Ideal.exp ⊤ = ⊤ from rfl, EReal.add_top_of_ne_bot (by decide)]
    simp [Ideal.div]
  | coe r =>
    have h : (0 : ℝ) < 1 + Real.exp r := by positivity
    rw [show Ideal.exp (r : EReal) = (Real.exp r : EReal) from rfl, ← EReal.coe_one, ← EReal.coe_add, ← EReal.coe_mul, Ideal.div_coe h.ne', Ideal.div_coe (mul_pos h h).ne']
    norm_cast
    field_simp
    ring

theorem qk_eq (i : grid0.Coords) : (k0_pay3 i : Ideal .f32) = (if (i 0).val < 16 then 1 else 0 : EReal) := by
  have hi : (i 0).val < 24 := (i 0).isLt
  unfold k0_pay3
  dsimp only
  rw [show Scalar.cmpi .slt (BitVec.ofNat 32 (i 0).val) 16#32 = IntOp.cmpi .slt (BitVec.ofNat 32 (i 0).val) 16#32 from rfl, WordCmp.cmpi_slt_ofNat (show (i 0).val < 2 ^ (32 - 1) by omega) (show 16 < 2 ^ (32 - 1) by norm_num)]
  split_ifs with h
  · simp [h, Scalar.extui]
  · simp [h, Scalar.extui]

theorem cot_apply (i : grid0.Coords) (g0 g1 g2 : Vec Ideal S1x4096x128 .f32) (t : Fin 4096) (j : Fin 128) :
    k0_pay17 (BitVec.ofNat 32 (i 0).val) g0 g1 g2 (ix2 t j)
      = (if (i 0).val < 8 then g0 (ix3 0 t j) else if (i 0).val < 16 then g1 (ix3 0 t j) else g2 (ix3 0 t j) : EReal) := by
  have hi : (i 0).val < 24 := (i 0).isLt
  unfold k0_pay17
  dsimp only
  refine (congrFun (pick_lt (s := 8) (t := (i 0).val) (by norm_num) (by omega) _ _) _).trans ?_
  split_ifs with h h'
  · pointwise
  · refine (congrFun (pick_lt (s := 16) (t := (i 0).val) (by norm_num) (by omega) _ _) _).trans ?_
    rw [if_pos h']
    pointwise
  · refine (congrFun (pick_lt (s := 16) (t := (i 0).val) (by norm_num) (by omega) _ _) _).trans ?_
    rw [if_neg h']
    pointwise

theorem zero_at (x : S4096x128.Idx) : (k0_pay8 x : Ideal .f32) = (0 : EReal) := by
  unfold k0_pay8
  exact Ideal.ofBits_zero_f32

/-- The activation's gradient as the kernel spells it. -/
theorem back_eq (z d : EReal) :
    d * Ideal.div 1 (1 + Ideal.exp (0 - z)) + (0 - (0 - z * d * Ideal.div 1 ((1 + Ideal.exp (0 - z)) * (1 + Ideal.exp (0 - z)))) * Ideal.exp (0 - z))
      = back z d := by
  unfold back
  rw [← slope_eq, ← mul_assoc]
  simp only [zero_sub, neg_mul, neg_neg]
  rfl

theorem head_apply (i : grid0.Coords) (z : FVec Ideal S4096x128 .f32) (g0 g1 g2 : Vec Ideal S1x4096x128 .f32) (t : Fin 4096) (j : Fin 128) :
    k0_pay20 z (k0_pay9 z k0_pay8) (k0_pay11 z k0_pay8) (k0_pay12 z k0_pay8) (k0_pay13 z k0_pay8) (k0_pay16 z k0_pay8)
        (k0_pay18 (BitVec.ofNat 32 (i 0).val) (k0_pay3 i) z k0_pay8 g0 g1 g2) (k0_pay19 (BitVec.ofNat 32 (i 0).val) (k0_pay3 i) z k0_pay8 g0 g1 g2) (ix2 t j)
      = head (i 0).val (fun k => z (ix2 t k)) (fun k => k0_pay17 (BitVec.ofNat 32 (i 0).val) g0 g1 g2 (ix2 t k)) j := by
  unfold k0_pay20 k0_pay9 k0_pay11 k0_pay12 k0_pay10 k0_pay16 k0_pay15 k0_pay14 k0_pay18 k0_pay19 k0_pay15 k0_pay14 k0_pay9
  pointwise [act_apply, qk_eq, zero_at]
  refine (back_eq _ _).trans (congrArg (back _) ?_)
  split_ifs with h
  · simp only [mul_one, one_sub_one, add_zero, Fin.sum_univ_one]
    rfl
  · simp

theorem hz2 : (![0, 0] : Fin 2 → Nat) = fun _ => 0 := funext fun a => by fin_cases a <;> rfl

theorem hz3 : (![0, 0, 0] : Fin 3 → Nat) = fun _ => 0 := funext fun a => by fin_cases a <;> rfl

section Block

variable (i : grid0.Coords) (p : Vec Ideal S4096x128 .f32) (w : Vec Ideal S4x128 .f32) (g0 g1 g2 : Vec Ideal S1x4096x128 .f32)

/-- The gradient before the convolution, of one block. -/
def inner (t : Fin 4096) (j : Fin 128) : EReal :=
  head (i 0).val (fun k => mix (fun r => p (ix2 r k)) (fun a => w (ix2 a k)) t)
    (fun k => if (i 0).val < 8 then g0 (ix3 0 t k) else if (i 0).val < 16 then g1 (ix3 0 t k) else g2 (ix3 0 t k)) j

theorem inner_apply (t : Fin 4096) (j : Fin 128) : k0_pay35 i p w g0 g1 g2 (ix2 t j) = inner i p w g0 g1 g2 t j := by
  unfold k0_pay35 k0_pay28 k0_pay29 k0_pay30 k0_pay31 k0_pay32 k0_pay33 k0_pay34 k0_pay27
  refine (head_apply i _ _ _ _ t j).trans ?_
  unfold inner
  congr 1
  · funext k
    unfold k0_pay26
    refine (conv_apply _ _ _ _ _ t k).trans ?_
    rw [View.ld_unit_zero (S := S4096x128) hz2]
    congr 1
    funext a
    fin_cases a <;> pointwise
  · funext k
    refine (cot_apply i _ _ _ t k).trans ?_
    rw [View.ld_unit_zero (S := S1x4096x128) hz3, View.ld_unit_zero (S := S1x4096x128) hz3, View.ld_unit_zero (S := S1x4096x128) hz3]

theorem rot_apply {n s : ℕ} (hn : n + s = 4096) (h0 : 0 < s) (h1 : 0 < n) (q : FVec Ideal S4096x128 .f32) (t : Fin 4096) (j : Fin 128) :
    select (cmpi .slt (iota .tc S4096x128 32 [0] iota_S4096x128_d0_w32) (broadcast S4096x128 (BitVec.ofNat 32 n)))
      (dynamicRotate 0 (BitVec.ofNat 32 n) none q rotates_S4096x128_d0) (broadcast S4096x128 (Scalar.ofBits (F := Ideal) .f32 0x00000000#32)) (ix2 t j)
      = lead s (fun r => q (ix2 r j)) t := by
  rw [← lead_eq (by omega) (fun r => q (ix2 r j)) t hn h0 (Nat.mod_lt _ (by norm_num))]
  pointwise
  simp only [BitVec.toNat_ofNat, show n % 2 ^ 32 % 4096 = n by omega]

theorem out5_apply (t : Fin 4096) (j : Fin 128) :
    out0_5 i p w g0 g1 g2 (ix2 t j) = (lead 3 (fun r => w (ix2 0 j) * inner i p w g0 g1 g2 r j) t + lead 2 (fun r => w (ix2 1 j) * inner i p w g0 g1 g2 r j) t
      + lead 1 (fun r => w (ix2 2 j) * inner i p w g0 g1 g2 r j) t + w (ix2 3 j) * inner i p w g0 g1 g2 t j : EReal) := by
  unfold out0_5
  rw [View.canon_unit_zero (S := S4096x128) hz2]
  have e (r : Fin 4096) (k : Fin 128) := inner_apply i p w g0 g1 g2 r k
  unfold k0_pay2 k0_pay23 k0_pay24
  unfold k0_pay35 at e ⊢
  generalize k0_pay20 (F := Ideal) _ _ _ _ _ _ _ _ = d at e ⊢
  generalize inner i p w g0 g1 g2 = f at e ⊢
  have l (r : Fin 4096) (a : Vec Ideal S1x128 .f32) : mulf (F := Ideal) (broadcastTo S4096x128 a broadcasts_S1x128_S4096x128) d (ix2 r j) = (a (ix2 0 j) * f r j : EReal) := by
    pointwise [e]
  refine congrArg₂ (fun a b : EReal => a + b) (congrArg₂ (fun a b : EReal => a + b) (congrArg₂ (fun a b : EReal => a + b)
    ((rot_apply (n := 4093) (s := 3) (by norm_num) (by norm_num) (by norm_num) _ t j).trans ?_)
    ((rot_apply (n := 4094) (s := 2) (by norm_num) (by norm_num) (by norm_num) _ t j).trans ?_))
    ((rot_apply (n := 4095) (s := 1) (by norm_num) (by norm_num) (by norm_num) _ t j).trans ?_)) ((l t _).trans ?_)
  · exact congrArg (fun q => lead 3 q t) (funext fun r => (l r _).trans (by pointwise))
  · exact congrArg (fun q => lead 2 q t) (funext fun r => (l r _).trans (by pointwise))
  · exact congrArg (fun q => lead 1 q t) (funext fun r => (l r _).trans (by pointwise))
  · pointwise

theorem colsum (d q : FVec Ideal S4096x128 .f32) (a : Fin 1) (k : Fin 128) :
    shapeCast S1x128 (multiReduction .add [0] S128 (mulf d q) 0x00000000#32 reduces_S4096x128_S128 (.inl rfl) rfl) shapeCasts_S128_S1x128 (ix2 a k)
      = (∑ t, d (ix2 t k) * q (ix2 t k) : EReal) := by
  pointwise

theorem row1_emb (a : Fin 1) (k : Fin 128) : r0_1.emb (ix2 a k) = (ix2 0 k : S4x128.Idx) := by blk_ext
theorem row2_emb (a : Fin 1) (k : Fin 128) : r0_2.emb (ix2 a k) = (ix2 1 k : S4x128.Idx) := by blk_ext
theorem row3_emb (a : Fin 1) (k : Fin 128) : r0_3.emb (ix2 a k) = (ix2 2 k : S4x128.Idx) := by blk_ext
theorem row4_emb (a : Fin 1) (k : Fin 128) : r0_4.emb (ix2 a k) = (ix2 3 k : S4x128.Idx) := by blk_ext

theorem out6_apply (a : Fin 4) (j : Fin 128) :
    out0_6 i p w g0 g1 g2 (ix2 a j) = (∑ t, inner i p w g0 g1 g2 t j * lag (3 - a.val) (fun r => p (ix2 r j)) t : EReal) := by
  unfold out0_6
  have e (r : Fin 4096) (k : Fin 128) := inner_apply i p w g0 g1 g2 r k
  refine View.canon_apply_of_pieces (Val := Elt Ideal) (e := .f32) (fun x : S4x128.Idx => (∑ t, inner i p w g0 g1 g2 t (x 1) * lag (3 - (x 0).val) (fun r => p (ix2 r (x 1))) t : EReal)) _ ?_ (ix2 a j) (cover0_6 ..)
  unfold k0_pay1 k0_pay25 k0_pay22 k0_pay21
  unfold k0_pay35 at e ⊢
  generalize k0_pay20 (F := Ideal) _ _ _ _ _ _ _ _ = d at e ⊢
  generalize inner i p w g0 g1 g2 = f at e ⊢
  intro q hq x
  simp only [List.mem_cons, List.not_mem_nil, or_false] at hq
  rcases hq with rfl | rfl | rfl | rfl
  · obtain ⟨a, k, rfl⟩ : ∃ (a : Fin 1) (b : Fin 128), x = ix2 a b := ⟨x 0, x 1, eq_ix2 x⟩
    refine (colsum d _ a k).trans (Finset.sum_congr rfl fun t _ => ?_)
    rw [row4_emb, e, View.ld_unit_zero (S := S4096x128) hz2]
    rfl
  · obtain ⟨a, k, rfl⟩ : ∃ (a : Fin 1) (b : Fin 128), x = ix2 a b := ⟨x 0, x 1, eq_ix2 x⟩
    refine (colsum d _ a k).trans (Finset.sum_congr rfl fun t _ => ?_)
    rw [row3_emb, e, lag1, View.ld_unit_zero (S := S4096x128) hz2]
    rfl
  · obtain ⟨a, k, rfl⟩ : ∃ (a : Fin 1) (b : Fin 128), x = ix2 a b := ⟨x 0, x 1, eq_ix2 x⟩
    refine (colsum d _ a k).trans (Finset.sum_congr rfl fun t _ => ?_)
    rw [row2_emb, e, lag2, View.ld_unit_zero (S := S4096x128) hz2]
    rfl
  · obtain ⟨a, k, rfl⟩ : ∃ (a : Fin 1) (b : Fin 128), x = ix2 a b := ⟨x 0, x 1, eq_ix2 x⟩
    refine (colsum d _ a k).trans (Finset.sum_congr rfl fun t _ => ?_)
    rw [row1_emb, e, lag3, View.ld_unit_zero (S := S4096x128) hz2]
    rfl

end Block

variable (m : (ℓ : Loc nD τ sig) → Buf (Elt Ideal) ℓ) (c : Dev nD)

/-- Which blocks a grid step reads and writes. -/
theorem idx (t : Fin cfg0.N) : win0_0.index t = ![0, t.val] ∧ win0_1.index t = ![0, t.val] ∧ win0_5.index t = ![0, t.val] ∧ win0_6.index t = ![0, t.val]
    ∧ (grid0.coords t 0).val = t.val ∧ (t.val < 8 → win0_2.index t = ![t.val % 8, 0, 0]) ∧ (8 ≤ t.val → t.val < 16 → win0_3.index t = ![t.val % 8, 0, 0])
    ∧ (16 ≤ t.val → win0_4.index t = ![t.val % 8, 0, 0]) :=
  (by decide +kernel : ∀ t : Fin grid0.N, win0_0.index t = ![0, t.val] ∧ win0_1.index t = ![0, t.val] ∧ win0_5.index t = ![0, t.val] ∧ win0_6.index t = ![0, t.val]
    ∧ (grid0.coords t 0).val = t.val ∧ (t.val < 8 → win0_2.index t = ![t.val % 8, 0, 0]) ∧ (8 ≤ t.val → t.val < 16 → win0_3.index t = ![t.val % 8, 0, 0])
    ∧ (16 ≤ t.val → win0_4.index t = ![t.val % 8, 0, 0])) t

/-- The array's column of a block's. -/
def at0 (t : Fin cfg0.N) (j : Fin 128) : Fin 3072 :=
  ⟨128 * t.val + j.val, by have := lt_of_lt_of_eq t.isLt (show cfg0.N = 24 from N_0); have := j.isLt; omega⟩

theorem inner_eq (t : Fin cfg0.N) (r : Fin 4096) (j : Fin 128) :
    inner (grid0.coords t) (iblk m c 0 t) (iblk m c 1 t) (iblk m c 2 t) (iblk m c 3 t) (iblk m c 4 t) r j
      = dpre (m ((c : Thread nD τ).loc main_arg0)) (m ((c : Thread nD τ).loc main_arg1)) (m ((c : Thread nD τ).loc main_arg2))
        (m ((c : Thread nD τ).loc main_arg3)) (m ((c : Thread nD τ).loc main_arg4)) (at0 t j) r := by
  obtain ⟨e0, e1, -, -, ec, e2, e3, e4⟩ := idx t
  have hd : (at0 t j).val / 128 = t.val := by show (128 * t.val + j.val) / 128 = t.val; omega
  have hm : (at0 t j).val % 128 = j.val := by show (128 * t.val + j.val) % 128 = j.val; omega
  unfold inner dpre
  simp only [hd, hm, ec]
  congr 1
  · funext k
    unfold pre
    congr 1
    · funext q; blk_ext [iblk, e0, wide, peer, hd]
    · funext q; blk_ext [iblk, e1, peer, hd]
  · funext k
    unfold cot
    split_ifs with h h'
    · have e := e2 h; blk_ext [iblk, e]
    · have e := e3 (by omega) h'; blk_ext [iblk, e]
    · have e := e4 (by omega); blk_ext [iblk, e]

/-- The array of the first result after the run. -/
theorem arr5 : (dats m 0 c).arrAt 5 cfg0.N = dx (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5]
  obtain ⟨i, j, rfl⟩ : ∃ (a : Fin 4096) (b : Fin 128), y = ix2 a b := ⟨y 0, y 1, eq_ix2 y⟩
  obtain ⟨-, e1, e5, -⟩ := idx t
  refine (out5_apply _ _ _ _ _ _ i j).trans ?_
  simp only [inner_eq]
  have w (a : Fin 4) : iblk m c 1 t (ix2 a j) = (m ((c : Thread nD τ).loc main_arg1) (ix2 a (at0 t j)) : EReal) := by blk_ext [iblk, e1, at0]
  simp only [w]
  refine (show _ = dx _ _ _ _ _ (ix2 i (at0 t j)) from rfl).trans (congrArg (dx _ _ _ _ _) ?_)
  blk_ext [e5, at0]

/-- The array of the second result after the run. -/
theorem arr6 : (dats m 0 c).arrAt 6 cfg0.N = dw (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  blk_simp
  rw [after0_6]
  obtain ⟨i, j, rfl⟩ : ∃ (a : Fin 4) (b : Fin 128), y = ix2 a b := ⟨y 0, y 1, eq_ix2 y⟩
  obtain ⟨e0, -, -, e6, -⟩ := idx t
  refine (out6_apply _ _ _ _ _ _ i j).trans ?_
  simp only [inner_eq]
  have p (r : Fin 4096) : iblk m c 0 t (ix2 r j) = (m ((c : Thread nD τ).loc main_arg0) (ix2 r (wide (at0 t j))) : EReal) := by blk_ext [iblk, e0, at0, wide]
  simp only [p]
  refine (show _ = dw _ _ _ _ _ (ix2 i (at0 t j)) from rfl).trans (congrArg (dw _ _ _ _ _) ?_)
  blk_ext [e6, at0]

end Cert.Kernel6Ideal.Value

namespace Cert.Reference6Ideal.Value

open Cert.Reference6Ideal.Gen
open Idealize.ShloMosaic Idealize.ShloMosaic.TcCoe Idealize.ShloMosaic.Tactic Idealize.SL.Sem Idealize.ShloMosaic.StableHlo
open Cert.Kernel6Ideal.Value (lag lead mix gate len tie unnorm back head wide peer pre cot dpre dx dw)

variable (V : Valuation τ sig (Elt Ideal))

/-- The five arguments. -/
abbrev inA : S4096x8320.Idx → EReal := V (Proc.devRef .tc main_arg0)
abbrev inW : S4x3072.Idx → EReal := V (Proc.devRef .tc main_arg1)
abbrev in0 : S8x4096x128.Idx → EReal := V (Proc.devRef .tc main_arg2)
abbrev in1 : S8x4096x128.Idx → EReal := V (Proc.devRef .tc main_arg3)
abbrev in2 : S8x4096x128.Idx → EReal := V (Proc.devRef .tc main_arg4)

theorem v2_apply (i : Fin 4099) (n : Fin 3072) :
    res_main_v2 V (ix2 i n) = (if h : i.val < 3 then 0 else inA V (ix2 ⟨i.val - 3, by omega⟩ (wide n)) : EReal) := by
  unfold res_main_v2
  pointwise
  rfl

/-- The rows behind the three zero rows. -/
theorem padded (s : ℕ) (t : Fin 4096) (n : Fin 3072) (hs : s ≤ 3) (h : t.val + (3 - s) < 4099) :
    res_main_v2 V (ix2 ⟨t.val + (3 - s), h⟩ n) = lag s (fun r => inA V (ix2 r (wide n))) t := by
  refine (v2_apply V _ n).trans ?_
  dsimp only
  unfold lag
  by_cases c : s ≤ t.val
  · rw [if_pos c, dif_neg (by omega)]
    exact congrArg (fun r => inA V (ix2 r (wide n))) (Fin.ext (show t.val + (3 - s) - 3 = t.val - s by omega))
  · rw [if_neg c, dif_pos (by omega)]

theorem v6_apply (t : Fin 4096) (n : Fin 3072) : res_main_v6 V (ix2 t n) = lag 3 (fun r => inA V (ix2 r (wide n))) t := by
  unfold res_main_v6
  pointwise
  exact padded V 3 t n (by omega) (by omega)

theorem v14_apply (t : Fin 4096) (n : Fin 3072) : res_main_v14 V (ix2 t n) = lag 2 (fun r => inA V (ix2 r (wide n))) t := by
  unfold res_main_v14
  pointwise
  exact (congrArg (res_main_v2 V) (by congr 2; exact Nat.add_comm _ _)).trans (padded V 2 t n (by omega) (by omega))

theorem v21_apply (t : Fin 4096) (n : Fin 3072) : res_main_v21 V (ix2 t n) = lag 1 (fun r => inA V (ix2 r (wide n))) t := by
  unfold res_main_v21
  pointwise
  exact (congrArg (res_main_v2 V) (by congr 2; exact Nat.add_comm _ _)).trans (padded V 1 t n (by omega) (by omega))

theorem v28_apply (t : Fin 4096) (n : Fin 3072) : res_main_v28 V (ix2 t n) = inA V (ix2 t (wide n)) := by
  unfold res_main_v28
  pointwise
  refine (v2_apply V _ n).trans ?_
  rw [dif_neg (by dsimp only; omega)]
  exact congrArg (fun r => inA V (ix2 r (wide n))) (Fin.ext (show 3 + t.val - 3 = t.val by omega))

theorem v7_apply (a : Fin 1) (n : Fin 3072) : res_main_v7 V (ix2 a n) = inW V (ix2 0 n) := by
  unfold res_main_v7
  pointwise

theorem v15_apply (a : Fin 1) (n : Fin 3072) : res_main_v15 V (ix2 a n) = inW V (ix2 1 n) := by
  unfold res_main_v15
  pointwise

theorem v22_apply (a : Fin 1) (n : Fin 3072) : res_main_v22 V (ix2 a n) = inW V (ix2 2 n) := by
  unfold res_main_v22
  pointwise

theorem v29_apply (a : Fin 1) (n : Fin 3072) : res_main_v29 V (ix2 a n) = inW V (ix2 3 n) := by
  unfold res_main_v29
  pointwise

theorem v32_apply (t : Fin 4096) (n : Fin 3072) : res_main_v32 V (ix2 t n) = pre (inA V) (inW V) t n := by
  unfold res_main_v32
  pointwise [v6_apply, v14_apply, v21_apply, v28_apply, v7_apply, v15_apply, v22_apply, v29_apply]
  show _ = inW V (ix2 3 n) * inA V (ix2 t (wide n)) + inW V (ix2 2 n) * lag 1 (fun r => inA V (ix2 r (wide n))) t
    + inW V (ix2 1 n) * lag 2 (fun r => inA V (ix2 r (wide n))) t + inW V (ix2 0 n) * lag 3 (fun r => inA V (ix2 r (wide n))) t
  ac_rfl

theorem gate_apply (t : Fin 4096) (n : Fin 3072) : res_main_v33_2 V (ix2 t n) = gate (pre (inA V) (inW V) t n) := by
  unfold res_main_v33_2
  pointwise [v32_apply]
  rfl

theorem act_apply (t : Fin 4096) (n : Fin 3072) : res_main_v33_0 V (ix2 t n) = (pre (inA V) (inW V) t n * gate (pre (inA V) (inW V) t n) : EReal) := by
  unfold res_main_v33_0
  pointwise [v32_apply, gate_apply]

theorem one_term (x : EReal) : (∑ _ : Fin 1, x) = x := by simp

/-- The activations of the head a column lies in. -/
abbrev acts (t : Fin 4096) (n : Fin 3072) (k : Fin 128) : EReal := pre (inA V) (inW V) t (peer n k) * gate (pre (inA V) (inW V) t (peer n k))

/-- The cotangent of the head a column lies in. -/
abbrev cots (t : Fin 4096) (n : Fin 3072) : Fin 128 → EReal := cot (in0 V) (in1 V) (in2 V) (n.val / 128) t

section Heads

variable (t : Fin 4096) (n : Fin 3072) (h : Fin 8)

theorem cot0 (e : n.val / 128 = h.val) (k : Fin 128) : cots V t n k = in0 V (ix3 h t k) := by
  unfold cots cot
  rw [if_pos (by omega)]
  exact congrArg (fun r => in0 V (ix3 r t k)) (Fin.ext (show n.val / 128 % 8 = h.val by omega))

theorem cot1 (e : n.val / 128 = 8 + h.val) (k : Fin 128) : cots V t n k = in1 V (ix3 h t k) := by
  unfold cots cot
  rw [if_neg (by omega), if_pos (by omega)]
  exact congrArg (fun r => in1 V (ix3 r t k)) (Fin.ext (show n.val / 128 % 8 = h.val by omega))

theorem cot2 (e : n.val / 128 = 16 + h.val) (k : Fin 128) : cots V t n k = in2 V (ix3 h t k) := by
  unfold cots cot
  rw [if_neg (by omega), if_neg (by omega)]
  exact congrArg (fun r => in2 V (ix3 r t k)) (Fin.ext (show n.val / 128 % 8 = h.val by omega))

theorem v38_apply (e : n.val / 128 = h.val) (k : Fin 128) : res_main_v38 V (ix3 h t k) = acts V t n k := by
  unfold res_main_v38
  pointwise [act_apply]
  have q : (⟨h.val * 128 + k.val, by omega⟩ : Fin 3072) = peer n k := Fin.ext (show h.val * 128 + k.val = 128 * (n.val / 128) + k.val by omega)
  rw [q]

theorem v51_apply (e : n.val / 128 = 8 + h.val) (k : Fin 128) : res_main_v51 V (ix3 h t k) = acts V t n k := by
  unfold res_main_v51
  pointwise [act_apply]
  have q : (⟨1024 + (h.val * 128 + k.val), by omega⟩ : Fin 3072) = peer n k := Fin.ext (show 1024 + (h.val * 128 + k.val) = 128 * (n.val / 128) + k.val by omega)
  rw [q]

theorem v43_apply (e : n.val / 128 = h.val) (k : Fin 1) : res_main_v43 V (ix3 h t k) = len (acts V t n) := by
  unfold res_main_v43
  pointwise [v38_apply V t n h e, len]

theorem v56_apply (e : n.val / 128 = 8 + h.val) (k : Fin 1) : res_main_v56 V (ix3 h t k) = len (acts V t n) := by
  unfold res_main_v56
  pointwise [v51_apply V t n h e, len]

theorem v88_apply (e : n.val / 128 = h.val) (k : Fin 128) : res_main_v88 V (ix3 h t k) = tie (acts V t n) (cots V t n) := by
  unfold res_main_v88 res_main_v44
  pointwise [v38_apply V t n h e, v43_apply V t n h e]
  refine (one_term _).trans ?_
  unfold tie
  simp only [cot0 V t n h e]

theorem v74_apply (e : n.val / 128 = 8 + h.val) (k : Fin 128) : res_main_v74 V (ix3 h t k) = tie (acts V t n) (cots V t n) := by
  unfold res_main_v74 res_main_v57
  pointwise [v51_apply V t n h e, v56_apply V t n h e]
  refine (one_term _).trans ?_
  unfold tie
  simp only [cot1 V t n h e]

end Heads

section Parts

variable (t : Fin 4096) (n : Fin 3072) (h : Fin 8) (k : Fin 128) (hk : k.val = n.val % 128) (y r d : EReal)

include hk

theorem part0 (e : n.val / 128 = h.val) (hy : y = acts V t n k) (hr : r = len (acts V t n)) (hd : d = tie (acts V t n) (cots V t n)) :
    in0 V (ix3 h t k) * Ideal.rsqrt r + y * d + d * y
      = if n.val / 128 < 16 then unnorm (acts V t n) (cots V t n) ⟨n.val % 128, by omega⟩ else cots V t n ⟨n.val % 128, by omega⟩ := by
  have q : (⟨n.val % 128, by omega⟩ : Fin 128) = k := Fin.ext hk.symm
  rw [if_pos (by omega), q, hy, hr, hd, ← cot0 V t n h e]
  rfl

theorem part1 (e : n.val / 128 = 8 + h.val) (hy : y = acts V t n k) (hr : r = len (acts V t n)) (hd : d = tie (acts V t n) (cots V t n)) :
    in1 V (ix3 h t k) * Ideal.rsqrt r + y * d + d * y
      = if n.val / 128 < 16 then unnorm (acts V t n) (cots V t n) ⟨n.val % 128, by omega⟩ else cots V t n ⟨n.val % 128, by omega⟩ := by
  have q : (⟨n.val % 128, by omega⟩ : Fin 128) = k := Fin.ext hk.symm
  rw [if_pos (by omega), q, hy, hr, hd, ← cot1 V t n h e]
  rfl

theorem part2 (e : n.val / 128 = 16 + h.val) : in2 V (ix3 h t k)
      = if n.val / 128 < 16 then unnorm (acts V t n) (cots V t n) ⟨n.val % 128, by omega⟩ else cots V t n ⟨n.val % 128, by omega⟩ := by
  have q : (⟨n.val % 128, by omega⟩ : Fin 128) = k := Fin.ext hk.symm
  rw [if_neg (by omega), q, cot2 V t n h e]

end Parts

/-- The cotangent of the activations. -/
theorem v95_apply (t : Fin 4096) (n : Fin 3072) :
    res_main_v95 V (ix2 t n) = (if n.val / 128 < 16 then unnorm (acts V t n) (cots V t n) ⟨n.val % 128, by omega⟩
      else cots V t n ⟨n.val % 128, by omega⟩ : EReal) := by
  have hn := n.isLt
  unfold res_main_v95 res_main_v44 res_main_v57
  pointwise
  by_cases a : n.val < 1024
  · exact (dif_pos a).trans (part0 V t n _ _ rfl _ _ _ rfl (v38_apply V t n _ rfl _) (v43_apply V t n _ rfl _) (v88_apply V t n _ rfl _))
  · refine (dif_neg a).trans ?_
    by_cases b : n.val - 1024 < 1024
    · have e : n.val / 128 = 8 + (⟨(n.val - 1024) / 128, by omega⟩ : Fin 8).val := by dsimp only; omega
      exact (dif_pos b).trans (part1 V t n _ _ (by dsimp only; omega) _ _ _ e (v51_apply V t n _ e _) (v56_apply V t n _ e _) (v74_apply V t n _ e _))
    · refine (dif_neg b).trans (part2 V t n _ _ ?_ ?_) <;> dsimp only <;> omega

/-- The cotangent of the convolution's result. -/
theorem v96_apply (t : Fin 4096) (n : Fin 3072) : res_main_v96 V (ix2 t n) = dpre (inA V) (inW V) (in0 V) (in1 V) (in2 V) n t := by
  have q : peer n ⟨n.val % 128, by omega⟩ = n := Fin.ext (show 128 * (n.val / 128) + n.val % 128 = n.val by omega)
  unfold res_main_v96
  pointwise [v32_apply, gate_apply, v95_apply]
  unfold dpre head back
  simp only [q]

theorem ahead (f : Fin 4096 → EReal) (s : ℕ) (t : Fin 4096) (P : Prop) [Decidable P] (r : P → Fin 4096) (hP : P ↔ t.val + s < 4096)
    (hr : ∀ h, (r h).val = t.val + s) : (if h : P then f (r h) else 0) = lead s f t := by
  unfold lead
  by_cases h : P
  · rw [dif_pos h, dif_pos (hP.mp h)]
    exact congrArg f (Fin.ext (hr h))
  · rw [dif_neg h, dif_neg (fun x => h (hP.mpr x))]

theorem v135_apply (t : Fin 4096) (n : Fin 3072) (h : 3 + t.val < 4099) :
    res_main_v135 V (ix2 ⟨3 + t.val, h⟩ n) = dx (inA V) (inW V) (in0 V) (in1 V) (in2 V) (ix2 t n) := by
  unfold res_main_v135
  pointwise [v96_apply, v7_apply, v15_apply, v22_apply, v29_apply]
  show _ = lead 3 (fun r => inW V (ix2 0 n) * dpre (inA V) (inW V) (in0 V) (in1 V) (in2 V) n r) t
    + lead 2 (fun r => inW V (ix2 1 n) * dpre (inA V) (inW V) (in0 V) (in1 V) (in2 V) n r) t
    + lead 1 (fun r => inW V (ix2 2 n) * dpre (inA V) (inW V) (in0 V) (in1 V) (in2 V) n r) t
    + inW V (ix2 3 n) * dpre (inA V) (inW V) (in0 V) (in1 V) (in2 V) n t
  generalize dpre (inA V) (inW V) (in0 V) (in1 V) (in2 V) n = d
  rw [ahead (fun r => inW V (ix2 2 n) * d r) 1 t _ _ (by omega) (by intro h; dsimp only; omega)]
  rw [ahead (fun r => inW V (ix2 1 n) * d r) 2 t _ _ (by omega) (by intro h; dsimp only; omega)]
  rw [ahead (fun r => inW V (ix2 0 n) * d r) 3 t _ _ (by omega) (by intro h; dsimp only; omega)]
  ac_rfl

/-- The gradient by the convolution's input. -/
theorem res_dx : truncf .bf16 (extractStridedSlice S4096x3072 ![3, 0] (res_main_v135 V) slices_S4099x3072_S4096x3072_3_0) bitsLt_bf16_f32
    = (dx (inA V) (inW V) (in0 V) (in1 V) (in2 V) : FVec Ideal S4096x3072 .bf16) := by
  funext x
  obtain ⟨t, n, rfl⟩ : ∃ (a : Fin 4096) (b : Fin 3072), x = ix2 a b := ⟨x 0, x 1, eq_ix2 x⟩
  pointwise [v135_apply]

/-- The gradient by its weights. -/
theorem res_dw : addf (addf (addf (pad S4x3072 ![3, 0] ![0, 0] ![0, 0] (broadcastInDim S1x3072 ![1] bcast_S3072_S1x3072_1 (Host.reduceAdd (shapeCast _ (Host.reduceAdd (mulf (res_main_v96 V) (res_main_v28 V)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_300_000 h_S_) (pad S4x3072 ![2, 0] ![1, 0] ![0, 0] (broadcastInDim S1x3072 ![1] bcast_S3072_S1x3072_1 (Host.reduceAdd (shapeCast _ (Host.reduceAdd (mulf (res_main_v96 V) (res_main_v21 V)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_210_000 h_S_)) (pad S4x3072 ![1, 0] ![2, 0] ![0, 0] (broadcastInDim S1x3072 ![1] bcast_S3072_S1x3072_1 (Host.reduceAdd (shapeCast _ (Host.reduceAdd (mulf (res_main_v96 V) (res_main_v14 V)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_120_000 h_S_)) (pad S4x3072 ![0, 0] ![3, 0] ![0, 0] (broadcastInDim S1x3072 ![1] bcast_S3072_S1x3072_1 (Host.reduceAdd (shapeCast _ (Host.reduceAdd (mulf (res_main_v96 V) (res_main_v6 V)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_030_000 h_S_)
    = (dw (inA V) (inW V) (in0 V) (in1 V) (in2 V) : FVec Ideal S4x3072 .f32) := by
  funext x
  obtain ⟨a, n, rfl⟩ : ∃ (a : Fin 4) (b : Fin 3072), x = ix2 a b := ⟨x 0, x 1, eq_ix2 x⟩
  pointwise [v96_apply, v6_apply, v14_apply, v21_apply, v28_apply]
  match a with
  | 0 =>
    rw [dif_neg (by decide), dif_neg (by decide), dif_neg (by decide), dif_pos (by decide), one_term, zero_add, zero_add, zero_add]
    rfl
  | 1 =>
    rw [dif_neg (by decide), dif_neg (by decide), dif_pos (by decide), dif_neg (by decide), one_term, zero_add, zero_add, add_zero]
    rfl
  | 2 =>
    rw [dif_neg (by decide), dif_pos (by decide), dif_neg (by decide), dif_neg (by decide), one_term, zero_add, add_zero, add_zero]
    rfl
  | 3 =>
    rw [dif_pos (by decide), dif_neg (by decide), dif_neg (by decide), dif_neg (by decide), one_term, add_zero, add_zero, add_zero]
    rfl

end Cert.Reference6Ideal.Value

namespace Cert.Proof

open Idealize.ShloMosaic Idealize.SL.Sem

theorem same {α β γ δ ε ζ : Type} (f : α → β → γ → δ → ε → ζ) {a a' b b' c c' d d' e e'} (h1 : a' = a) (h2 : b' = b) (h3 : c' = c) (h4 : d' = d)
    (h5 : e' = e) : f a' b' c' d' e' = f a b c d e := by
  rw [h1, h2, h3, h4, h5]

theorem frame_kernel6 : Cert.quiescent_Kernel6 (hKernel6 := Cert.Kernel6.Gen.facts) := fun m g _ => Cert.Kernel6.Gen.frame m g

theorem frame_ideal6 : Cert.quiescent_Kernel6Ideal (hKernel6Ideal := Cert.Kernel6Ideal.Gen.facts) := fun m g _ => Cert.Kernel6Ideal.Gen.frame m g

theorem frame_reference6 : Cert.quiescent_Reference6Ideal (hReference6Ideal := Cert.Reference6Ideal.Gen.facts) :=
  fun m g _ => (θ_run Cert.Reference6Ideal.defs _ _).mono
    (fun r h => ⟨fun c => (h c).2.2, sem_eq_zero_of_no_sems (by decide) r.2⟩) (Cert.Reference6Ideal.Value.run m g)

theorem equal6 : Cert.algebraic_Kernel6Ideal_Reference6Ideal (hKernel6Ideal := Cert.Kernel6Ideal.Gen.facts)
    (hReference6Ideal := Cert.Reference6Ideal.Gen.facts) := fun m g m' g' _ hag =>
  ⟨fun c => Cert.Kernel6Ideal.Value.dx (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)),
    fun c => Cert.Kernel6Ideal.Value.dw (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)),
    (θ_run Cert.Kernel6Ideal.defs _ _).mono (fun r h c => ⟨(h c).1.trans (Cert.Kernel6Ideal.Value.arr5 m c), (h c).2.1.trans (Cert.Kernel6Ideal.Value.arr6 m c), (h c).2.2⟩)
      (Cert.Kernel6Ideal.Value.run_blocks m g),
    (θ_run Cert.Reference6Ideal.defs _ _).mono (fun r h c => ⟨(h c).1.trans ((Cert.Reference6Ideal.Value.res_dx (StableHlo.launchContents m' c)).trans
      (same Cert.Kernel6Ideal.Value.dx (hag c).1 (hag c).2.1 (hag c).2.2.1 (hag c).2.2.2.1 (hag c).2.2.2.2)), (h c).2.1.trans ((Cert.Reference6Ideal.Value.res_dw (StableHlo.launchContents m' c)).trans
      (same Cert.Kernel6Ideal.Value.dw (hag c).1 (hag c).2.1 (hag c).2.2.1 (hag c).2.2.2.1 (hag c).2.2.2.2)), (h c).2.2⟩) (Cert.Reference6Ideal.Value.run m' g')⟩

end Cert.Proof

end
-- ==== Proof.Grad.Gates.lean ====
/- The gates of the delta rule and their decay summed within each chunk: the frames of their call, and the values over the extended reals. -/
module

public import proofs.«01_k».proof.Defs
public import proofs.«01_k».proof.Proof.Grad.Conv
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run

@[expose] public section

set_option maxRecDepth 16384

noncomputable section

open Idealize.ShloMosaic Idealize.ShloMosaic.TcCoe Idealize.ShloMosaic.Tactic Idealize.SL.Sem
open Cert.Kernel6Ideal.Value (gate hz2 hz3)

namespace Cert.Kernel18Ideal.Value

open Cert.Kernel18Ideal.Gen

/-- The decay's logarithm from its column of the projection, its rate and its bias. -/
def decay (p a b : EReal) : EReal := -Ideal.exp a * (max (p + b) 0 + Ideal.log (1 + Ideal.exp (-max (p + b) (-(p + b)))))

/-- A chunk's sum up to its row `r`. -/
def upto (f : Fin 128 → EReal) (r : Fin 128) : EReal := ∑ k, if k ≤ r then f k else 0

/-- The same as a window of 128 rows that ends at row `r`, the rows before the first being zero. -/
theorem upto_window (f : Fin 128 → EReal) (r : Fin 128) :
    ∑ n : Fin 128, (if h : 127 ≤ r.val + n.val then f ⟨r.val + n.val - 127, by omega⟩ else 0) = upto f r := by
  unfold upto
  rw [← Equiv.sum_comp (Equiv.addRight (r + 1)) fun k => if k ≤ r then f k else 0]
  refine Finset.sum_congr rfl fun n _ => ?_
  have v : (Equiv.addRight (r + 1) n).val = (n.val + r.val + 1) % 128 := by simp [Fin.val_add, ← Nat.add_assoc]
  by_cases h : 127 ≤ r.val + n.val
  · have e : Equiv.addRight (r + 1) n = ⟨r.val + n.val - 127, by omega⟩ := Fin.ext (v.trans (show _ = r.val + n.val - 127 by omega))
    rw [dif_pos h, e, if_pos (Fin.le_def.mpr (show r.val + n.val - 127 ≤ r.val by omega))]
  · rw [dif_neg h, if_neg fun k => by have := Fin.le_def.mp k; omega]

/-- The same out of 512 rows, those of the row's chunk that are not after it. -/
theorem upto_mask (f : Fin 512 → EReal) (q : Fin 4) (r : Fin 128) :
    ∑ j : Fin 512, (if q.val = j.val / 128 ∧ j.val ≤ 128 * q.val + r.val then f j else 0) = upto (fun k => f ⟨128 * q.val + k.val, by omega⟩) r := by
  rw [← Equiv.sum_comp (finProdFinEquiv : Fin 4 × Fin 128 ≃ Fin 512), Fintype.sum_prod_type]
  have e (p : Fin 4) (k : Fin 128) : (finProdFinEquiv : Fin 4 × Fin 128 ≃ Fin 512) (p, k) = ⟨128 * p.val + k.val, by omega⟩ :=
    Fin.ext (show k.val + 128 * p.val = 128 * p.val + k.val by omega)
  simp only [e]
  rw [Finset.sum_eq_single q]
  · refine Finset.sum_congr rfl fun k _ => ?_
    by_cases h : k ≤ r
    · rw [if_pos h, if_pos ⟨by omega, by have := Fin.le_def.mp h; omega⟩]
    · rw [if_neg h, if_neg fun w => h (Fin.le_def.mpr (by omega))]
  · intro p _ n
    refine Finset.sum_eq_zero fun k _ => ?_
    rw [if_neg fun w => n (Fin.ext (by omega))]
  · simp

/-- A row's chunk, as the body divides. -/
theorem word : ∀ n : Fin 512, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 n.val) 128#32) 0#32))
      (IntOp.subi (IntOp.divsi ArithUnit.vector (BitVec.ofNat 32 n.val) 128#32) 1#32)
      (IntOp.divsi ArithUnit.vector (BitVec.ofNat 32 n.val) 128#32) = BitVec.ofNat 32 (n.val / 128) := by
  decide +kernel

/-- Which rows the mask keeps. -/
theorem mask (i j : Fin 512) (x : EReal) : Scalar.select (IntOp.andi (IntOp.cmpi .eq (BitVec.ofNat 32 (i.val / 128)) (BitVec.ofNat 32 (j.val / 128)))
    (IntOp.cmpi .sge (BitVec.ofNat 32 i.val) (BitVec.ofNat 32 j.val))) x 0 = if i.val / 128 = j.val / 128 ∧ j.val ≤ i.val then x else 0 := by
  rw [WordCmp.cmpi_sge_ofNat (show i.val < 2 ^ (32 - 1) by omega) (show j.val < 2 ^ (32 - 1) by omega)]
  have e : (BitVec.ofNat 32 (i.val / 128) = BitVec.ofNat 32 (j.val / 128)) ↔ i.val / 128 = j.val / 128 := by
    constructor
    · intro h
      have := congrArg BitVec.toNat h
      simp only [BitVec.toNat_ofNat] at this
      omega
    · exact fun h => by rw [h]
  have b : (BitVec.ofNat 32 (i.val / 128) == BitVec.ofNat 32 (j.val / 128)) = decide (i.val / 128 = j.val / 128) := by
    rw [Bool.eq_iff_iff]
    simp [e]
  by_cases h : i.val / 128 = j.val / 128 <;> by_cases k : j.val ≤ i.val <;>
    simp [IntOp.cmpi, IntOp.andi, Scalar.select, b, h, k]

variable (p : Vec Ideal S512x128 .f32) (v : Vec Ideal S8x128 .f32)

theorem beta_apply (i : Fin 512) (l : Fin 128) : k0_pay40 p v (ix2 i l) = gate (p (ix2 i l)) := by
  unfold k0_pay40 k0_pay8
  rw [View.ld_unit_zero (S := S512x128) hz2]
  pointwise [zero_sub]
  rfl

theorem decay_apply (i : Fin 512) (l : Fin 128) : k0_pay9 (View.ld p r0_0) (View.ld v r0_1) (View.ld v r0_2) (ix2 i l)
    = decay (p (ix2 i l)) (v (ix2 0 l)) (v (ix2 1 l)) := by
  unfold k0_pay9
  rw [View.ld_unit_zero (S := S512x128) hz2]
  pointwise [zero_sub]
  rfl

theorem sum_apply (q : Fin 4) (r : Fin 128) (l : Fin 128) (i : Fin 512) (hi : i.val = 128 * q.val + r.val) : k0_pay42 p v (ix2 i l)
    = upto (fun k => decay (p (ix2 ⟨128 * q.val + k.val, by omega⟩ l)) (v (ix2 0 l)) (v (ix2 1 l))) r := by
  unfold k0_pay42 k0_pay12 k0_pay10 k0_pay11
  pointwise [decay_apply, word, mask]
  rw [show i.val / 128 = q.val by omega, hi]
  simp only [ite_mul, one_mul, zero_mul]
  exact upto_mask (fun j => decay (p (ix2 j l)) (v (ix2 0 l)) (v (ix2 1 l))) q r

/-- A sum over the lanes of which one is kept. -/
theorem pick (f : Fin 128 → EReal) (n : ℕ) (hn : n < 128) : ∑ l : Fin 128, Scalar.select (IntOp.cmpi .eq (BitVec.ofNat 32 l.val) (BitVec.ofNat 32 n)) (f l) 0 = f ⟨n, hn⟩ := by
  have e (l : Fin 128) : (BitVec.ofNat 32 l.val == BitVec.ofNat 32 n) = decide (l = ⟨n, hn⟩) := by
    rw [Bool.eq_iff_iff]
    simp only [beq_iff_eq, decide_eq_true_eq]
    constructor
    · intro h
      have := congrArg BitVec.toNat h
      simp only [BitVec.toNat_ofNat] at this
      exact Fin.ext (show l.val = n by omega)
    · rintro rfl
      rfl
  rw [Finset.sum_eq_single ⟨n, hn⟩ (fun l _ h => by simp [IntOp.cmpi, Scalar.select, e, h]) (by simp)]
  simp [IntOp.cmpi, Scalar.select]

theorem out2 (h : Fin 8) (i : Fin 512) (j : Fin 128) : out0_2 p v (ix3 h i j) = gate (p (ix2 i ⟨h.val, by omega⟩)) := by
  unfold out0_2 k0_pay41
  refine View.canon_apply_of_pieces (Val := Elt Ideal) (e := .f32) (fun y : S8x512x128.Idx => gate (p (ix2 (y 1) ⟨(y 0).val, lt_of_lt_of_le (y 0).isLt (by decide)⟩))) _ ?_ _ (cover0_2 _ _ _ _ _ _ _ _ _)
  simp only [List.forall_mem_cons, List.not_mem_nil, false_imp_iff, implies_true, and_true]
  unfold k0_pay6 k0_pay4 k0_pay2 k0_pay39 k0_pay37 k0_pay35 k0_pay33 k0_pay31 k0_pay22 k0_pay21 k0_pay20 k0_pay19 k0_pay18 k0_pay17 k0_pay16 k0_pay15 k0_pay14 k0_pay13
  refine ⟨?_, ?_, ?_, ?_, ?_, ?_, ?_, ?_⟩
  all_goals
    intro x
    obtain ⟨a, i, j, rfl⟩ : ∃ (a : Fin 1) (i : Fin 512) (j : Fin 128), x = ix3 a i j := ⟨x 0, x 1, x 2, eq_ix3 x⟩
    dsimp only
    pointwise [beta_apply]
    refine (pick _ _ (by decide)).trans (congrArg gate (congrArg p ?_))
    blk_ext

theorem out3 (h : Fin 8) (i : Fin 512) (j : Fin 128) : out0_3 p v (ix3 h i j) = k0_pay42 p v (ix2 i ⟨8 + h.val, by omega⟩) := by
  unfold out0_3 k0_pay41
  refine View.canon_apply_of_pieces (Val := Elt Ideal) (e := .f32) (fun y : S8x512x128.Idx => k0_pay42 p v (ix2 (y 1) ⟨8 + (y 0).val, Nat.add_lt_of_lt_sub' (lt_of_lt_of_le (y 0).isLt (by decide))⟩)) _ ?_ _
    (cover0_3 _ _ _ _ _ _ _ _ _)
  simp only [List.forall_mem_cons, List.not_mem_nil, false_imp_iff, implies_true, and_true]
  unfold k0_pay7 k0_pay5 k0_pay3 k0_pay1 k0_pay38 k0_pay36 k0_pay34 k0_pay32 k0_pay30 k0_pay29 k0_pay28 k0_pay27 k0_pay26 k0_pay25 k0_pay24 k0_pay23
  refine ⟨?_, ?_, ?_, ?_, ?_, ?_, ?_, ?_⟩
  all_goals
    intro x
    obtain ⟨a, i, j, rfl⟩ : ∃ (a : Fin 1) (i : Fin 512) (j : Fin 128), x = ix3 a i j := ⟨x 0, x 1, x 2, eq_ix3 x⟩
    dsimp only
    pointwise
    refine (pick _ _ (by decide)).trans (congrArg (k0_pay42 p v) ?_)
    blk_ext

/-- The gates' array: each head's, on all of its lanes. -/
def betas (P : S4096x8320.Idx → EReal) : S8x4096x128.Idx → EReal := fun y => gate (P (ix2 (y 1) ⟨8192 + (y 0).val, by have : (y 0).val < 8 := (y 0).isLt; omega⟩))

/-- The summed decays' array, chunk by chunk. -/
def sums (P : S4096x8320.Idx → EReal) (A B : S8.Idx → EReal) : S8x4096x128.Idx → EReal := fun y =>
  upto (fun k => decay (P (ix2 ⟨(y 1).val / 128 * 128 + k.val, by have : (y 1).val < 4096 := (y 1).isLt; omega⟩ ⟨8200 + (y 0).val, by have : (y 0).val < 8 := (y 0).isLt; omega⟩))
    (A (ix1 (y 0))) (B (ix1 (y 0)))) ⟨(y 1).val % 128, Nat.mod_lt _ (by decide)⟩

theorem betas_apply (P : S4096x8320.Idx → EReal) (h : Fin 8) (t : Fin 4096) (j : Fin 128) :
    betas P (ix3 h t j) = gate (P (ix2 t ⟨8192 + h.val, by omega⟩)) := rfl

theorem sums_apply (P : S4096x8320.Idx → EReal) (A B : S8.Idx → EReal) (h : Fin 8) (t : Fin 4096) (j : Fin 128) : sums P A B (ix3 h t j)
    = upto (fun k => decay (P (ix2 ⟨t.val / 128 * 128 + k.val, by omega⟩ ⟨8200 + h.val, by omega⟩)) (A (ix1 h)) (B (ix1 h))) ⟨t.val % 128, Nat.mod_lt _ (by decide)⟩ := rfl

section Arrays

variable (m : (ℓ : Loc nD τ sig) → Buf (Elt Ideal) ℓ) (c : Dev nD)

abbrev inP : S4096x8320.Idx → EReal := m ((c : Thread nD τ).loc main_arg0)
abbrev inA : S8.Idx → EReal := m ((c : Thread nD τ).loc main_arg1)
abbrev inB : S8.Idx → EReal := m ((c : Thread nD τ).loc main_arg2)

/-- The packed parameters: the rates' logarithms in the first row, the biases in the second, on the lanes 8 to 15. -/
def packed : FVec Ideal S8x128 .f32 :=
  pad S8x128 ![0, 8] ![6, 112] ![0, 0] (concatenate S2x8 0 [⟨S1x8, broadcastInDim S1x8 ![1] bcast_S8_S1x8_1 (inA m c)⟩,
      ⟨S1x8, broadcastInDim S1x8 ![1] bcast_S8_S1x8_1 (inB m c)⟩] concatenates_S1x8_S1x8_S2x8_d0)
    (sitofp .f32 (constantI S_ 32 0#32)) pads_S2x8_S8x128_060_81120 h_S_

theorem V_main_v3 : V m c main_v3 = packed m c := by
  unfold V packed
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results_simp
  rfl

theorem packed_a (h : Fin 8) : packed m c (ix2 0 ⟨8 + h.val, by omega⟩) = inA m c (ix1 h) := by
  unfold packed
  pointwise

theorem packed_b (h : Fin 8) : packed m c (ix2 1 ⟨8 + h.val, by omega⟩) = inB m c (ix1 h) := by
  unfold packed
  pointwise

/-- Which blocks a grid step reads and writes. -/
theorem idx : ∀ t : Fin grid0.N, win0_0.index t = ![t.val, 64] ∧ win0_1.index t = ![0, 0] ∧ win0_2.index t = ![0, t.val, 0] ∧ win0_3.index t = ![0, t.val, 0] := by
  decide +kernel

theorem step (t : Fin cfg0.N) : t.val < 8 := lt_of_lt_of_eq t.isLt (show cfg0.N = 8 from N_0)

theorem blk0 (t : Fin cfg0.N) (i : Fin 512) (l : Fin 128) : iblk m c 0 t (ix2 i l) = inP m c (ix2 ⟨512 * t.val + i.val, by have := step t; omega⟩ ⟨8192 + l.val, by omega⟩) := by
  obtain ⟨e, -⟩ := idx t
  refine Eq.trans ?_ (congrFun (V_main_arg0 m c) _)
  blk_ext [iblk, e]

theorem blk1 (t : Fin cfg0.N) (a : Fin 8) (l : Fin 128) : iblk m c 1 t (ix2 a l) = packed m c (ix2 a l) := by
  obtain ⟨-, e, -⟩ := idx t
  refine Eq.trans ?_ (congrFun (V_main_v3 m c) _)
  blk_ext [iblk, e]

theorem arr2 : (dats m 0 c).arrAt 2 cfg0.N = betas (inP m c) := by
  refine (dats m 0 c).arrAt_eq_of_covers 2 _ (by decide +kernel) fun t hf y => ?_
  blk_simp
  obtain ⟨h, i, j, rfl⟩ : ∃ (h : Fin 8) (i : Fin 512) (j : Fin 128), y = ix3 h i j := ⟨y 0, y 1, y 2, eq_ix3 y⟩
  obtain ⟨-, -, e, -⟩ := idx t
  rw [after0_2, out2, blk0]
  refine (show _ = betas (inP m c) (ix3 h ⟨512 * t.val + i.val, by have := step t; omega⟩ j) from rfl).trans (congrArg (betas (inP m c)) ?_)
  blk_ext [e]

theorem arr3 : (dats m 0 c).arrAt 3 cfg0.N = sums (inP m c) (inA m c) (inB m c) := by
  refine (dats m 0 c).arrAt_eq_of_covers 3 _ (by decide +kernel) fun t hf y => ?_
  blk_simp
  obtain ⟨h, i, j, rfl⟩ : ∃ (h : Fin 8) (i : Fin 512) (j : Fin 128), y = ix3 h i j := ⟨y 0, y 1, y 2, eq_ix3 y⟩
  obtain ⟨-, -, -, e⟩ := idx t
  have n := step t
  rw [after0_3, out3, sum_apply _ _ ⟨i.val / 128, by omega⟩ ⟨i.val % 128, Nat.mod_lt _ (by decide)⟩ _ i (by dsimp only; omega)]
  simp only [blk0, blk1, packed_a, packed_b]
  refine Eq.trans ?_ (congrArg (sums (inP m c) (inA m c) (inB m c)) (show ix3 h ⟨512 * t.val + i.val, by omega⟩ j = _ by blk_ext [e]))
  rw [sums_apply]
  congr 1
  · funext k
    congr 2
    congr 1 <;> refine Fin.ext ?_ <;> dsimp only <;> omega
  · refine Fin.ext ?_
    dsimp only
    omega

/-- The run: the results' arrays, the arguments unchanged. -/
theorem run_values (ρ : Dev nD → PrngReg) : θ_run defs (onTc (τ := τ) (main (F := Ideal))) ⟨m, fun _ => 0, ρ⟩ fun r => ∀ c : Dev nD,
    r.2.mem ((c : Thread nD τ).loc main_v4_0) = betas (inP m c) ∧ r.2.mem ((c : Thread nD τ).loc main_v4_1) = sums (inP m c) (inA m c) (inB m c)
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr2 m c), (h c).2.1.trans (arr3 m c), (h c).2.2⟩) (run_blocks m ρ)

end Arrays

end Cert.Kernel18Ideal.Value

namespace Cert.Reference18Ideal.Value

open Cert.Reference18Ideal.Gen
open Cert.Kernel18Ideal.Value (decay upto upto_window betas betas_apply sums sums_apply)

variable (m : (ℓ : Loc nD τ sig) → Buf (Elt Ideal) ℓ) (c : Dev nD)

abbrev inP : S4096x8320.Idx → EReal := m ((c.tc : Thread nD τ).loc main_arg0)
abbrev inA : S8.Idx → EReal := m ((c.tc : Thread nD τ).loc main_arg1)
abbrev inB : S8.Idx → EReal := m ((c.tc : Thread nD τ).loc main_arg2)

theorem foldl_add {ι : Type} (f : ι → EReal) : ∀ (l : List ι) (z : EReal), l.foldl (fun r n => r + f n) z = z + (l.map f).sum
  | [], z => (add_zero z).symm
  | n :: l, z => by rw [List.foldl_cons, foldl_add f l, List.map_cons, List.sum_cons, add_assoc]

/-- A sum over windows as a sum over the places of each. -/
theorem window_sum {s t : Shape} (window strides lo hi : Fin s.rank → ℕ) (h : s.ReduceWindows window strides lo hi t) (x : s.Idx → EReal) (z : EReal) (j : t.Idx) :
    Ideal.hostReduceWindowAdd window strides lo hi h x z j = z + ∑ w : (⟨s.rank, window⟩ : Shape).Idx,
      if g : ∀ a, lo a ≤ (j (a.cast h.1.symm)).val * strides a + (w a).val ∧ (j (a.cast h.1.symm)).val * strides a + (w a).val - lo a < s.size a
        then x (fun a => ⟨_, (g a).2⟩) else z := by
  refine Eq.trans (foldl_add _ _ z) ?_
  rw [← Fin.sum_univ_def, ← Equiv.sum_comp (Shape.rowMajor ⟨s.rank, window⟩).symm]
  exact congrArg (z + ·) (Finset.sum_congr rfl fun n _ => dite_congr rfl (fun _ => rfl) fun _ => rfl)

/-- The running sum along a chunk's rows. -/
theorem running (x : FVec Ideal S32x128x8 .f32) (z : FVec Ideal S_ .f32) (hz : ∀ i, z i = (0 : EReal)) (q : Fin 32) (r : Fin 128) (h : Fin 8) :
    Host.reduceWindowAdd ![1, 128, 1] ![1, 1, 1] ![0, 127, 0] ![0, 0, 0] x z reduceWindows_S32x128x8_S32x128x8_w1s1p0_0_w128s1p127_0_w1s1p0_0 h_S_ (ix3 q r h)
      = upto (fun k => x (ix3 q k h)) r := by
  refine (window_sum ![1, 128, 1] ![1, 1, 1] ![0, 127, 0] ![0, 0, 0] reduceWindows_S32x128x8_S32x128x8_w1s1p0_0_w128s1p127_0_w1s1p0_0 x _ _).trans ?_
  rw [hz, zero_add]
  refine (sum_idx3 (n0 := 1) (n1 := 128) (n2 := 1) _).trans ((Fin.sum_univ_one _).trans (Eq.trans ?_ (upto_window (fun k => x (ix3 q k h)) r)))
  refine Finset.sum_congr rfl fun n _ => (Fin.sum_univ_one _).trans ?_
  by_cases g : 127 ≤ r.val + n.val
  · rw [dif_pos g]
    refine (dif_pos fun a => ?_).trans (congrArg x (funext fun a => Fin.ext ?_))
    · fin_cases a
      · exact ⟨Nat.zero_le _, show q.val * 1 + 0 - 0 < 32 by omega⟩
      · exact ⟨show 127 ≤ r.val * 1 + n.val by omega, show r.val * 1 + n.val - 127 < 128 by omega⟩
      · exact ⟨Nat.zero_le _, show h.val * 1 + 0 - 0 < 8 by omega⟩
    · fin_cases a
      · show q.val * 1 + 0 - 0 = q.val
        omega
      · show r.val * 1 + n.val - 127 = r.val + n.val - 127
        omega
      · show h.val * 1 + 0 - 0 = h.val
        omega
  · rw [dif_neg g]
    exact (dif_neg fun k => g (by have := (k 1).1; change 127 ≤ r.val * 1 + n.val at this; omega))

/-- A log-decay's summands, before the sum. -/
def arg : FVec Ideal S4096x8 .f32 :=
  addf (extractStridedSlice S4096x8 ![0, 8200] (inP m c) slices_S4096x8320_S4096x8_0_8200)
    (broadcastInDim S4096x8 ![0, 1] bcast_S1x8_S4096x8_0_1 (broadcastInDim S1x8 ![1] bcast_S8_S1x8_1 (inB m c)))

def zeros : FVec Ideal S4096x8 .f32 := broadcastInDim S4096x8 ![] bcast_S_S4096x8 (constant S_ .f32 0x00000000#32)

def summand : FVec Ideal S4096x8 .f32 :=
  mulf (broadcastInDim S4096x8 ![0, 1] bcast_S1x8_S4096x8_0_1 (broadcastInDim S1x8 ![1] bcast_S8_S1x8_1 (Host.negf (Host.exp (inA m c)))))
    (select (cmpf .une (subf (arg m c) zeros) (subf (arg m c) zeros)) (addf (arg m c) zeros)
      (addf (maximumf (arg m c) zeros) (Host.log1p (Host.exp (Host.negf (Host.absf (subf (arg m c) zeros)))))))

theorem summand_apply (t : Fin 4096) (h : Fin 8) : summand m c (ix2 t h) = decay (inP m c (ix2 t ⟨8200 + h.val, by omega⟩)) (inA m c (ix1 h)) (inB m c (ix1 h)) := by
  unfold summand arg zeros
  pointwise
  rw [if_neg (not_not_intro rfl)]
  rfl

/-- The two results. -/
def ref2 : FVec Ideal S8x4096x128 .f32 :=
  broadcastInDim S8x4096x128 ![0, 1, 2] bcast_S8x4096x1_S8x4096x128_0_1_2 (broadcastInDim S8x4096x1 ![0, 1] bcast_S8x4096_S8x4096x1_0_1
    (transpose S8x4096 [1, 0] (Host.divf (broadcastInDim S4096x8 ![] bcast_S_S4096x8 (constant S_ .f32 0x3F800000#32))
      (addf (broadcastInDim S4096x8 ![] bcast_S_S4096x8 (constant S_ .f32 0x3F800000#32))
        (Host.exp (Host.negf (extractStridedSlice S4096x8 ![0, 8192] (inP m c) slices_S4096x8320_S4096x8_0_8192))))) transposes_S4096x8_S8x4096_1_0))

def ref3 : FVec Ideal S8x4096x128 .f32 :=
  broadcastInDim S8x4096x128 ![0, 1, 2] bcast_S8x4096x1_S8x4096x128_0_1_2 (broadcastInDim S8x4096x1 ![0, 1] bcast_S8x4096_S8x4096x1_0_1
    (transpose S8x4096 [1, 0] (shapeCast _ (Host.reduceWindowAdd ![1, 128, 1] ![1, 1, 1] ![0, 127, 0] ![0, 0, 0] (shapeCast _ (summand m c) shapeCasts_S4096x8_S32x128x8)
      (broadcastInDim S_ ![] bcast_S_S_ (constant S_ .f32 0x00000000#32)) reduceWindows_S32x128x8_S32x128x8_w1s1p0_0_w128s1p127_0_w1s1p0_0 h_S_)
      shapeCasts_S32x128x8_S4096x8) transposes_S4096x8_S8x4096_1_0))

theorem ref2_eq : ref2 m c = betas (inP m c) := by
  funext y
  obtain ⟨h, t, j, rfl⟩ : ∃ h t j, y = ix3 h t j := ⟨y 0, y 1, y 2, eq_ix3 y⟩
  rw [betas_apply]
  unfold ref2
  pointwise
  rfl

theorem ref3_eq : ref3 m c = sums (inP m c) (inA m c) (inB m c) := by
  funext y
  obtain ⟨h, t, j, rfl⟩ : ∃ h t j, y = ix3 h t j := ⟨y 0, y 1, y 2, eq_ix3 y⟩
  rw [sums_apply]
  unfold ref3
  pointwise
  refine (running _ _ (fun i => by pointwise) _ _ h).trans (congrArg (fun f => upto f _) (funext fun k => ?_))
  pointwise [summand_apply]

/-- The run: the results' arrays, the arguments unchanged. -/
theorem run_values (ρ : Dev nD → PrngReg) : θ_run defs (onTc (τ := τ) (main (F := Ideal))) ⟨m, fun _ => 0, ρ⟩ fun r => ∀ c : Dev nD,
    r.2.mem ((c.tc : Thread nD τ).loc main_v22) = betas (inP m c) ∧ r.2.mem ((c.tc : Thread nD τ).loc main_v25) = sums (inP m c) (inA m c) (inB m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (ref2_eq m c), (h c).2.1.trans (ref3_eq m c), (h c).2.2⟩) (run m ρ)

end Cert.Reference18Ideal.Value

namespace Cert.Proof

theorem frame_kernel18 : quiescent_Kernel18 (hKernel18 := Kernel18.Gen.facts) := fun m g _ => Kernel18.Gen.frame m g

theorem frame_ideal18 : quiescent_Kernel18Ideal (hKernel18Ideal := Kernel18Ideal.Gen.facts) := fun m g _ => Kernel18Ideal.Gen.frame m g

theorem frame_reference18 : quiescent_Reference18Ideal (hReference18Ideal := Reference18Ideal.Gen.facts) :=
  fun m g _ => (θ_run Reference18Ideal.defs _ _).mono
    (fun r h => ⟨fun c => (h c).2.2, sem_eq_zero_of_no_sems (by decide) r.2⟩) (Reference18Ideal.Value.run m g)

theorem equal18 : algebraic_Kernel18Ideal_Reference18Ideal (hKernel18Ideal := Kernel18Ideal.Gen.facts)
    (hReference18Ideal := Reference18Ideal.Gen.facts) := fun m g m' g' _ hag =>
  ⟨_, _, Kernel18Ideal.Value.run_values m g,
    (θ_run Reference18Ideal.defs _ _).mono (fun r h c => by
      obtain ⟨a0, a1, a2⟩ := hag c
      have e0 : Reference18Ideal.Value.inP m' c = Kernel18Ideal.Value.inP m c := a0
      have e1 : Reference18Ideal.Value.inA m' c = Kernel18Ideal.Value.inA m c := a1
      have e2 : Reference18Ideal.Value.inB m' c = Kernel18Ideal.Value.inB m c := a2
      exact ⟨(h c).1.trans (by rw [e0]), (h c).2.1.trans (by rw [e0, e1, e2]), (h c).2.2⟩) (Reference18Ideal.Value.run_values m' g')⟩

end Cert.Proof

end
-- ==== Proof.Grad.Loss.lean ====
/- The loss and its gradient: the frame of their call, and the values over the extended reals, eight row blocks. -/
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Quiescent

@[expose] public section

set_option maxRecDepth 16384

noncomputable section

namespace Cert.Kernel7Ideal.Value

open Idealize.ShloMosaic Idealize.ShloMosaic.TcCoe Idealize.ShloMosaic.Tactic Idealize.SL.Sem
open Cert.Kernel7Ideal.Gen

/-- The sum of the squared differences of the rows, times one number. -/
def loss (A B : S4096x1024.Idx → EReal) : S8x128.Idx → EReal :=
  fun _ => (∑ r : Fin 4096, ∑ k : Fin 1024, (A (ix2 r k) - B (ix2 r k)) * (A (ix2 r k) - B (ix2 r k))) * ((1 / 2048 : ℝ) : EReal)

/-- Its derivative by the first array. -/
def slope (A B : S4096x1024.Idx → EReal) : S4096x1024.Idx → EReal := fun x => (A x - B x) * ((1 / 1024 : ℝ) : EReal)

theorem bits2048 : Ideal.ofBits .f32 0x3A000000#32 = ((1 / 2048 : ℝ) : EReal) := by
  simp [Ideal.ofBits, Ideal.ieee, -EReal.coe_mul]; norm_num

theorem bits1024 : Ideal.ofBits .f32 0x3A800000#32 = ((1 / 1024 : ℝ) : EReal) := by
  simp [Ideal.ofBits, Ideal.ieee, -EReal.coe_mul]; norm_num

theorem bitsD : Ideal.ofBits .f32 0x44800000#32 = ((1024 : ℝ) : EReal) := by
  simp [Ideal.ofBits, Ideal.ieee, -EReal.coe_mul]; norm_num

theorem bitsHalf : Ideal.ofBits .f32 0x3F000000#32 = ((1 / 2 : ℝ) : EReal) := by
  simp [Ideal.ofBits, Ideal.ieee, -EReal.coe_mul]; norm_num

theorem bitsTwo : Ideal.ofBits .f32 0x40000000#32 = ((2 : ℝ) : EReal) := by
  simp [Ideal.ofBits, Ideal.ieee, -EReal.coe_mul]; norm_num

/-- A square is not negative, at the infinities either. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A positive real number goes into a finite sum of non-negative terms. -/
theorem sum_mul_real {n : ℕ} (f : Fin n → EReal) (hf : ∀ k, 0 ≤ f k) {a : ℝ} (ha : 0 ≤ a) :
    (∑ k, f k) * (a : EReal) = ∑ k, f k * (a : EReal) := by
  induction n with
  | zero => simp
  | succ n ih =>
    rw [Fin.sum_univ_succ, Fin.sum_univ_succ, ← ih _ fun k => hf k.succ]
    exact EReal.right_distrib_of_nonneg (hf 0) (Finset.sum_nonneg fun k _ => hf k.succ)

/-- The squares of one grid step's rows, times the number. -/
def part (a b : Vec Ideal S512x1024 .f32) : EReal :=
  (∑ r : Fin 512, ∑ k : Fin 1024, ((a (ix2 r k) - b (ix2 r k) : EReal) * (a (ix2 r k) - b (ix2 r k) : EReal))) * ((1 / 2048 : ℝ) : EReal)

theorem pay2_apply (a b : Vec Ideal S512x1024 .f32) (i : Fin 512) (j : Fin 1024) :
    k0_pay2 a b (ix2 i j) = ((a (ix2 i j) - b (ix2 i j)) * ((1 / 1024 : ℝ) : EReal) : EReal) := by
  unfold_payloads
  pointwise
  exact congrArg _ bits1024

theorem pay3_apply (a b : Vec Ideal S512x1024 .f32) (i : Fin 8) (j : Fin 128) : k0_pay3 a b (ix2 i j) = part a b := by
  unfold_payloads
  pointwise
  exact congrArg _ bits2048

theorem pay4_apply (a b : Vec Ideal S512x1024 .f32) (v : Vec Ideal S8x128 .f32) (i : Fin 8) (j : Fin 128) :
    k0_pay4 a b v (ix2 i j) = (v (ix2 i j) + part a b : EReal) := by
  rw [← pay3_apply a b i j]
  unfold k0_pay4
  pointwise

section
variable {F : FTy → Type} [FloatOps F]

theorem hz2 : (![0, 0] : Fin 2 → Nat) = fun _ => 0 := funext fun a => by fin_cases a <;> rfl

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x128 .f32) (harg4 : arg4.IsWhole)
variable (x0 x1 : Vec F S512x1024 .f32)

theorem out_A_2_eq (hc0 : cond0_0 i) (hc1 : ¬cond0_1 i) :
    out0_A_2 c i arg1 harg1 arg2 harg2 arg3 harg3 arg4 harg4 hc0 hc1 x0 x1 = k0_pay2 x0 x1 := by
  unfold out0_A_2
  rw [View.read_writes_eq_canon _ _ _ (cover0_A_2 c i arg1 harg1 arg2 harg2 arg3 harg3 arg4 harg4 hc0 hc1 x0 x1)]
  unfold kernelRun0_A
  dsimp only
  rw [View.canon_unit_zero hz2]
  simp only [View.readAt_eq_ld, harg1.read_unread, harg2.read_unread, View.ld_unit_zero (S := S512x1024) hz2]

theorem out_A_3_eq (hc0 : cond0_0 i) (hc1 : ¬cond0_1 i) :
    out0_A_3 c i arg1 harg1 arg2 harg2 arg3 harg3 arg4 harg4 hc0 hc1 x0 x1 = k0_pay3 x0 x1 := by
  unfold out0_A_3
  rw [View.read_writes_eq_canon _ _ _ (cover0_A_3 c i arg1 harg1 arg2 harg2 arg3 harg3 arg4 harg4 hc0 hc1 x0 x1)]
  unfold kernelRun0_A
  dsimp only
  rw [View.canon_unit_zero hz2]
  simp only [View.readAt_eq_ld, harg1.read_unread, harg2.read_unread, View.ld_unit_zero (S := S512x1024) hz2]

theorem out_B_2_eq (hc0 : ¬cond0_0 i) (hc1 : cond0_1 i) (xo : Vec F S8x128 .f32) :
    out0_B_2 c i arg1 harg1 arg2 harg2 arg3 harg3 arg4 harg4 hc0 hc1 x0 x1 xo = k0_pay2 x0 x1 := by
  unfold out0_B_2
  rw [View.read_writes_eq_canon _ _ _ (cover0_B_2 c i arg1 harg1 arg2 harg2 arg3 harg3 arg4 harg4 hc0 hc1 x0 x1 xo)]
  unfold kernelRun0_B
  dsimp only
  rw [View.canon_unit_zero hz2]
  simp only [View.readAt_eq_ld, harg1.read_unread, harg2.read_unread, View.ld_unit_zero (S := S512x1024) hz2]

theorem out_B_3_eq (hc0 : ¬cond0_0 i) (hc1 : cond0_1 i) (xo : Vec F S8x128 .f32) :
    out0_B_3 c i arg1 harg1 arg2 harg2 arg3 harg3 arg4 harg4 hc0 hc1 x0 x1 xo = k0_pay4 x0 x1 xo := by
  unfold out0_B_3
  rw [View.read_writes_eq_canon _ _ _ (cover0_B_3 c i arg1 harg1 arg2 harg2 arg3 harg3 arg4 harg4 hc0 hc1 x0 x1 xo)]
  unfold kernelRun0_B
  dsimp only
  rw [View.canon_unit_zero hz2]
  simp only [View.readAt_eq_ld, harg1.read_unread, harg2.read_unread, harg4.read_unread, View.ld_unit_zero (S := S512x1024) hz2, View.ld_unit_zero (S := S8x128) hz2]

end

variable (m : (ℓ : Loc nD τ sig) → Buf (Elt Ideal) ℓ) (c : Dev nD)

/-- Which blocks a grid step reads and writes. -/
theorem idx (t : Fin cfg0.N) : win0_0.index t = ![t.val % 8, 0] ∧ win0_1.index t = ![t.val % 8, 0] ∧ win0_2.index t = ![t.val % 8, 0] ∧ win0_3.index t = ![0, 0] :=
  (by decide +kernel : ∀ t : Fin grid0.N, win0_0.index t = ![t.val % 8, 0] ∧ win0_1.index t = ![t.val % 8, 0] ∧ win0_2.index t = ![t.val % 8, 0] ∧ win0_3.index t = ![0, 0]) t

/-- Every grid step leaves the gradient of its rows. -/
theorem step2 (t : Fin cfg0.N) : (outsAt0 m c t.val t.isLt).1 = k0_pay2 (iblk m c 0 t) (iblk m c 1 t) := by
  have hN : t.val < 8 := lt_of_lt_of_eq t.isLt (show cfg0.N = 8 from N_0)
  by_cases h : t.val % 8 = 0
  · rw [outsAt0_A m c t h (by omega)]; dsimp only; rw [out_A_2_eq]
  · rw [outsAt0_B m c t h (by omega)]; dsimp only; rw [out_B_2_eq]

theorem arr2 : (dats m 0 c).arrAt 2 cfg0.N = slope (m ((c : Thread nD τ).loc main_arg0)) (m ((c : Thread nD τ).loc main_arg1)) := by
  refine (dats m 0 c).arrAt_eq_of_covers 2 _ (by decide +kernel) fun t hf y => ?_
  blk_simp
  rw [after0_2, step2]
  obtain ⟨i, j, rfl⟩ : ∃ (a : Fin 512) (b : Fin 1024), y = ix2 a b := ⟨y 0, y 1, eq_ix2 y⟩
  refine (pay2_apply _ _ i j).trans ?_
  unfold slope
  congr 2

theorem arr3 : (dats m 0 c).arrAt 3 cfg0.N = loss (m ((c : Thread nD τ).loc main_arg0)) (m ((c : Thread nD τ).loc main_arg1)) := by
  refine (dats m 0 c).arrAt_eq_of_covers 3 _ (by decide +kernel) fun t hf y => ?_
  blk_simp
  rw [after0_3]
  have hN : t.val < 8 := lt_of_lt_of_eq t.isLt (show cfg0.N = 8 from N_0)
  have hm : t.val % 8 = 7 := (flush0_3 t).mp hf
  refine (Pipeline.eq_sum_fin_of_reset_step_apply_of_flush (M := EReal) (fun n h => (outsAt0 m c n h).2) 8 (fun _ => 0)
    (fun t _ => part (iblk m c 0 t) (iblk m c 1 t))
    (fun t h i => ?_) (fun t h i => ?_) t hm y).trans ?_
  · have hN : t.val < 8 := lt_of_lt_of_eq t.isLt (show cfg0.N = 8 from N_0)
    rw [outsAt0_A m c t h (by omega)]
    obtain ⟨i, j, rfl⟩ : ∃ (a : Fin 8) (b : Fin 128), i = ix2 a b := ⟨i 0, i 1, eq_ix2 i⟩
    dsimp only
    rw [out_A_3_eq]
    exact (pay3_apply _ _ i j).trans (zero_add _).symm
  · rw [outsAt0_B m c t h (by omega)]
    obtain ⟨i, j, rfl⟩ : ∃ (a : Fin 8) (b : Fin 128), i = ix2 a b := ⟨i 0, i 1, eq_ix2 i⟩
    dsimp only
    rw [out_B_3_eq]
    exact pay4_apply _ _ _ i j
  · refine (zero_add _).trans ?_
    unfold loss part
    refine (sum_mul_real _ (fun s => Finset.sum_nonneg fun r _ => Finset.sum_nonneg fun k _ => sq_nonneg _) (by norm_num)).symm.trans (congrArg (· * _) ?_)
    refine Fin.sum_mul_add_congr fun s r hl => ?_
    have hN : 8 * (t.val / 8) + s.val < cfg0.N := Pipeline.run_point_lt_of_flush t hm s
    obtain ⟨e0, e1, -⟩ := idx ⟨8 * (t.val / 8) + s.val, hN⟩
    obtain ⟨-, -, -, e3⟩ := idx t
    have d : (8 * (t.val / 8) + s.val) % 8 = s.val := by omega
    simp only [d] at e0 e1
    refine Finset.sum_congr rfl fun k _ => ?_
    congr 2
    · blk_ext [iblk, e0, e3]
    · blk_ext [iblk, e1, e3]
    · blk_ext [iblk, e0, e3]
    · blk_ext [iblk, e1, e3]

end Cert.Kernel7Ideal.Value

namespace Cert.Reference7Ideal.Value

open Cert.Reference7Ideal.Gen
open Idealize.ShloMosaic Idealize.ShloMosaic.TcCoe Idealize.ShloMosaic.Tactic Idealize.SL.Sem
open Cert.Kernel7Ideal.Value (bitsD bitsHalf bitsTwo sum_mul_real sq_nonneg)

/-- The reference's loss, in every place of the array it is copied to. -/
theorem res_loss (A B : FVec Ideal S4096x1024 .f32) :
    broadcastInDim S8x128 ![] bcast_S_S8x128 (mulf (constant S_ .f32 0x3F000000#32) (Host.reduceAdd (Host.divf (Host.reduceAdd (mulf (subf A B) (subf A B)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))
      = (Cert.Kernel7Ideal.Value.loss A B : FVec Ideal S8x128 .f32) := by
  funext x
  obtain ⟨i, j, rfl⟩ : ∃ (a : Fin 8) (b : Fin 128), x = ix2 a b := ⟨x 0, x 1, eq_ix2 x⟩
  pointwise [Cert.Kernel7Ideal.Value.loss]
  rw [bitsD, bitsHalf, mul_comm]
  simp only [Ideal.div_coe (show (1024 : ℝ) ≠ 0 by norm_num)]
  rw [← sum_mul_real _ (fun r => Finset.sum_nonneg fun k _ => sq_nonneg _) (by norm_num), mul_assoc, ← EReal.coe_mul]
  congr 2
  norm_num

/-- The reference's gradient. -/
theorem res_slope (A B : FVec Ideal S4096x1024 .f32) :
    mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf A B))
      = (Cert.Kernel7Ideal.Value.slope A B : FVec Ideal S4096x1024 .f32) := by
  funext x
  obtain ⟨i, j, rfl⟩ : ∃ (a : Fin 4096) (b : Fin 1024), x = ix2 a b := ⟨x 0, x 1, eq_ix2 x⟩
  pointwise [Cert.Kernel7Ideal.Value.slope]
  rw [bitsD, bitsHalf, bitsTwo, Ideal.div_coe (show (1024 : ℝ) ≠ 0 by norm_num), ← EReal.coe_mul, ← mul_assoc, ← EReal.coe_mul, mul_comm]
  congr 2
  norm_num

end Cert.Reference7Ideal.Value

namespace Cert.Proof

open Idealize.ShloMosaic Idealize.SL.Sem

theorem frame_kernel7 : Cert.quiescent_Kernel7 (hKernel7 := Cert.Kernel7.Gen.facts) := fun m g _ => Cert.Kernel7.Gen.frame m g

theorem frame_ideal7 : Cert.quiescent_Kernel7Ideal (hKernel7Ideal := Cert.Kernel7Ideal.Gen.facts) := fun m g _ => Cert.Kernel7Ideal.Gen.frame m g

theorem frame_reference7 : Cert.quiescent_Reference7Ideal (hReference7Ideal := Cert.Reference7Ideal.Gen.facts) :=
  fun m g _ => (θ_run Cert.Reference7Ideal.defs _ _).mono
    (fun r h => ⟨fun c => (h c).2.2, sem_eq_zero_of_no_sems (by decide) r.2⟩) (Cert.Reference7Ideal.Value.run m g)

theorem equal7 : Cert.algebraic_Kernel7Ideal_Reference7Ideal (hKernel7Ideal := Cert.Kernel7Ideal.Gen.facts)
    (hReference7Ideal := Cert.Reference7Ideal.Gen.facts) := fun m g m' g' _ hag =>
  ⟨fun c => Cert.Kernel7Ideal.Value.loss (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    fun c => Cert.Kernel7Ideal.Value.slope (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run Cert.Kernel7Ideal.defs _ _).mono (fun r h c => ⟨(h c).2.1.trans (Cert.Kernel7Ideal.Value.arr3 m c), (h c).1.trans (Cert.Kernel7Ideal.Value.arr2 m c), (h c).2.2⟩)
      (Cert.Kernel7Ideal.Value.run_blocks m g),
    (θ_run Cert.Reference7Ideal.defs _ _).mono (fun r h c => ⟨(h c).1.trans (by
      rw [(hag c).1, (hag c).2]; exact Cert.Reference7Ideal.Value.res_loss _ _), (h c).2.1.trans (by
      rw [(hag c).1, (hag c).2]; exact Cert.Reference7Ideal.Value.res_slope _ _), (h c).2.2⟩) (Cert.Reference7Ideal.Value.run m' g')⟩

end Cert.Proof

end
-- ==== Proof.Grad.Mix.lean ====
/- The end of a layer, forward: the heads' norm, the gated unit, the merge, the out-projection and the norm after it: the frame of their call, and
   the values over the extended reals, sixteen row blocks. -/
module

public import proofs.«01_k».proof.Defs
public import proofs.«01_k».proof.Proof.Grad.Conv
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run

@[expose] public section

set_option maxRecDepth 16384

noncomputable section

open Idealize.ShloMosaic Idealize.ShloMosaic.TcCoe Idealize.ShloMosaic.Tactic Idealize.SL.Sem
open Cert.Kernel6Ideal.Value (gate hz2 hz3)

namespace Cert.Kernel16Ideal.Value

open Cert.Kernel16Ideal.Gen

/-- The smooth rectifier in its form with a hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- A row over the root of its mean square, times a gain. -/
def unit {n : ℕ} (w : BitVec 32) (o g : Fin n → EReal) (j : Fin n) : EReal :=
  o j * Ideal.rsqrt (Ideal.div (∑ k, o k * o k) (Ideal.ofBits .f32 w) + Ideal.ofBits .f32 0x358637BD#32) * g j

/-- The weights. -/
structure Wts where
  (d bg np : Fin 1024 → EReal) (hn : Fin 128 → EReal) (wg wo : Fin 1024 → Fin 1024 → EReal)

/-- A row of the activations. -/
structure Row where
  (za u zb ra rb o y x : Fin 1024 → EReal)

variable (W : Wts) (R : Row)

/-- The recurrent branch's output, heads normalised. -/
def normed (j : Fin 1024) : EReal :=
  unit 0x43000000#32 (fun k : Fin 128 => R.o ⟨128 * (j.val / 128) + k.val, by omega⟩) W.hn ⟨j.val % 128, by omega⟩

/-- The state space branch before its gates. -/
def skip (j : Fin 1024) : EReal := gelu (R.y j + W.d j * R.u j)

/-- Both branches, gated and merged. -/
def merged (j : Fin 1024) : EReal :=
  gate (R.ra j) * (normed W R j * (R.za j * gate (R.za j)))
    + gate (R.rb j) * (skip W R j * gate ((∑ k, skip W R k * W.wg k j) + W.bg j) * (R.zb j * gate (R.zb j)))

/-- The layer's output. -/
def post (j : Fin 1024) : EReal := R.x j + unit 0x44800000#32 (fun n => ∑ k, merged W R k * W.wo k n) W.np j

section
variable (za u zb ra rb o y x : Vec Ideal S256x1024 .f32) (d bg np : Vec Ideal S1x1024 .f32) (hn : Vec Ideal S1x128 .f32) (wg wo : Vec Ideal S1x1024x1024 .bf16)

/-- The weights that a block holds. -/
abbrev wts : Wts :=
  ⟨fun j => d (ix2 0 j), fun j => bg (ix2 0 j), fun j => np (ix2 0 j), fun k => hn (ix2 0 k), fun k j => wg (ix3 0 k j), fun k j => wo (ix3 0 k j)⟩

/-- A row of a block. -/
abbrev row (i : Fin 256) : Row :=
  ⟨fun j => za (ix2 i j), fun j => u (ix2 i j), fun j => zb (ix2 i j), fun j => ra (ix2 i j), fun j => rb (ix2 i j), fun j => o (ix2 i j), fun j => y (ix2 i j), fun j => x (ix2 i j)⟩

theorem pay2 (i : Fin 256) (j : Fin 1024) : k0_pay2 y u d (ix2 i j) = gelu (y (ix2 i j) + d (ix2 0 j) * u (ix2 i j)) := by
  unfold k0_pay2
  pointwise
  generalize (y (ix2 i j) + d (ix2 0 j) * u (ix2 i j) : EReal) = z
  unfold gelu
  ac_rfl

theorem pay3 (i : Fin 256) (j : Fin 1024) :
    k0_pay3 y u d wg bg (ix2 i j) = (∑ k, gelu (y (ix2 i k) + d (ix2 0 k) * u (ix2 i k)) * wg (ix3 0 k j) : EReal) + bg (ix2 0 j) := by
  unfold k0_pay3
  pointwise [pay2]

/-- A head of a block's row. -/
abbrev part (s : ℕ) (hs : s + 128 ≤ 1024) (i : Fin 256) (k : Fin 128) : EReal :=
  unit 0x43000000#32 (fun k : Fin 128 => o (ix2 i ⟨s + k.val, by omega⟩)) (fun k => hn (ix2 0 k)) k

theorem part_eq {s s' : ℕ} {hs hs'} {i : Fin 256} {k k' : Fin 128} (h : s = s') (e : k.val = k'.val) : part o hn s hs i k = part o hn s' hs' i k' := by
  subst h
  rw [Fin.ext e]

theorem pay4 (i : Fin 256) (k : Fin 128) : k0_pay4 o hn (ix2 i k) = part o hn 0 (by decide) i k := by
  unfold k0_pay4 part unit
  pointwise

theorem pay9 (i : Fin 256) (k : Fin 128) : k0_pay9 hn (k0_pay7 o) (k0_pay8 o) (ix2 i k) = part o hn 384 (by decide) i k := by
  unfold k0_pay9 k0_pay8 k0_pay7 part unit
  pointwise

theorem pay5 (i : Fin 256) (k : Fin 128) : k0_pay5 o hn (ix2 i k) = part o hn 128 (by decide) i k := by
  unfold k0_pay5 part unit
  pointwise

theorem pay6 (i : Fin 256) (k : Fin 128) : k0_pay6 o hn (ix2 i k) = part o hn 256 (by decide) i k := by
  unfold k0_pay6 part unit
  pointwise

theorem pay10 (i : Fin 256) (k : Fin 128) : k0_pay10 o hn (ix2 i k) = part o hn 512 (by decide) i k := by
  unfold k0_pay10 part unit
  pointwise

theorem pay11 (i : Fin 256) (k : Fin 128) : k0_pay11 o hn (ix2 i k) = part o hn 640 (by decide) i k := by
  unfold k0_pay11 part unit
  pointwise

theorem pay12 (i : Fin 256) (k : Fin 128) : k0_pay12 o hn (ix2 i k) = part o hn 768 (by decide) i k := by
  unfold k0_pay12 part unit
  pointwise

/-- The recurrent branch of a block. -/
abbrev left : FVec Ideal S256x1024 .f32 :=
  k0_pay17 za ra hn (k0_pay4 o hn) (k0_pay5 o hn) (k0_pay6 o hn) (k0_pay9 hn (k0_pay7 o) (k0_pay8 o)) (k0_pay10 o hn) (k0_pay11 o hn) (k0_pay12 o hn)
    (k0_pay13 o) (k0_pay14 o) k0_pay15

theorem pick {p : Prop} [Decidable p] {a : p → EReal} {b : ¬p → EReal} {z : EReal} (h : ∀ q, a q = z) (g : ∀ q, b q = z) : dite p a b = z := by
  split
  exacts [h _, g _]

theorem pay17 (i : Fin 256) (j : Fin 1024) : left za ra o hn (ix2 i j)
    = (gate (ra (ix2 i j)) * (part o hn (128 * (j.val / 128)) (by omega) i ⟨j.val % 128, by omega⟩ * (za (ix2 i j) * gate (za (ix2 i j)))) : EReal) := by
  unfold left k0_pay17 k0_pay15 k0_pay14 k0_pay13
  pointwise [pay4, pay5, pay6, pay9, pay10, pay11, pay12, zero_sub]
  refine congrArg₂ (HMul.hMul : EReal → EReal → EReal) rfl (congrArg₂ (HMul.hMul : EReal → EReal → EReal) ?_ rfl)
  repeat refine pick (fun _ => part_eq o hn (by omega) (by dsimp only; omega)) fun _ => ?_
  refine Eq.trans ?_ (part_eq o hn (s := 896) (hs := by decide) (k := ⟨j.val - 896, by omega⟩) (by omega) (by dsimp only; omega))
  unfold part unit
  simp only [Nat.sub_sub, Nat.reduceAdd]

theorem pay16 (s g : FVec Ideal S256x1024 .f32) (i : Fin 256) (j : Fin 1024) :
    k0_pay16 s g zb (ix2 i j) = (s (ix2 i j) * gate (g (ix2 i j)) * (zb (ix2 i j) * gate (zb (ix2 i j))) : EReal) := by
  unfold k0_pay16 gate
  pointwise [zero_sub]

theorem pay18 (i : Fin 256) (j : Fin 1024) : k0_pay18 rb (ix2 i j) = Ideal.exp (-rb (ix2 i j)) := by
  unfold k0_pay18
  pointwise [zero_sub]

/-- What a grid step stores. -/
abbrev store : FVec Ideal S256x1024 .f32 :=
  k0_pay1 (k0_pay16 (k0_pay2 y u d) (k0_pay3 y u d wg bg) zb) (left za ra o hn) (k0_pay18 rb) wo x np

theorem store_apply (i : Fin 256) (j : Fin 1024) :
    store za u zb ra rb o y x d bg np hn wg wo (ix2 i j) = post (wts d bg np hn wg wo) (row za u zb ra rb o y x i) j := by
  unfold store k0_pay1 post unit merged normed skip
  pointwise [pay16, pay17, pay18, pay2, pay3]
  unfold gate
  rfl

end

variable (m : (ℓ : Loc nD τ sig) → Buf (Elt Ideal) ℓ) (c : Dev nD)

/-- What a grid step leaves in the result's buffer. -/
theorem outs (t : Fin cfg0.N) : outsAt0 m c t = store (X0_0 m c t) (X0_1 m c t) (X0_2 m c t) (X0_3 m c t) (X0_4 m c t) (iblk m c 5 t) (iblk m c 6 t)
    (iblk m c 7 t) (iblk m c 9 t) (iblk m c 11 t) (iblk m c 13 t) (iblk m c 8 t) (iblk m c 10 t) (iblk m c 12 t) := by
  unfold outsAt0 out0_A_14
  rw [View.read_writes_eq_canon _ _ _ (fun z => cover0_A_14 (y := z) ..)]
  unfold kernelRun0_A
  dsimp only
  rw [View.canon_unit_zero hz2]
  unfold kernelRun0_A.sl.r_19 kernelRun0_A.sl.r_20 kernelRun0_A.sl.r_21 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, (hs0_12 t).read_unread, (hs0_13 t).read_unread, View.ld_unit_zero (S := S256x1024) hz2, View.ld_unit_zero (S := S1x1024) hz2,
    View.ld_unit_zero (S := S1x128) hz2, View.ld_unit_zero (S := S1x1024x1024) hz3]

/-- Which blocks a grid step reads and writes. -/
theorem idx : ∀ t : Fin grid0.N, (win0_0.index t = ![t.val, 3] ∧ win0_1.index t = ![t.val, 4] ∧ win0_2.index t = ![t.val, 5] ∧ win0_3.index t = ![t.val, 6]
    ∧ win0_4.index t = ![t.val, 7]) ∧ (win0_5.index t = ![t.val, 0] ∧ win0_6.index t = ![t.val, 0] ∧ win0_7.index t = ![t.val, 0] ∧ win0_14.index t = ![t.val, 0])
    ∧ win0_8.index t = ![0, 0] ∧ win0_9.index t = ![0, 0] ∧ win0_10.index t = ![0, 0, 0] ∧ win0_11.index t = ![0, 0] ∧ win0_12.index t = ![0, 0, 0]
    ∧ win0_13.index t = ![0, 0] := by
  decide +kernel

section
variable (A : S4096x8320.Idx → EReal) (o y x : S4096x1024.Idx → EReal) (hn : S1x128.Idx → EReal) (d : S1x1024.Idx → EReal) (wg : S1x1024x1024.Idx → EReal)
  (bg : S1x1024.Idx → EReal) (wo : S1x1024x1024.Idx → EReal) (np : S1x1024.Idx → EReal)

/-- A column of the projection's fourth to eighth part. -/
def col (s : Fin 5) (j : Fin 1024) : Fin 8320 := ⟨3072 + 1024 * s.val + j.val, by omega⟩

/-- A row of the arrays. -/
abbrev line (t : Fin 4096) : Row :=
  ⟨fun j => A (ix2 t (col 0 j)), fun j => A (ix2 t (col 1 j)), fun j => A (ix2 t (col 2 j)), fun j => A (ix2 t (col 3 j)), fun j => A (ix2 t (col 4 j)),
    fun j => o (ix2 t j), fun j => y (ix2 t j), fun j => x (ix2 t j)⟩

/-- The result. -/
def mix : S4096x1024.Idx → EReal := fun i => post (wts d bg np hn wg wo) (line A o y x (i 0)) (i 1)
end

/-- The result's array after the run. -/
theorem arr14 : (dats m 0 c).arrAt 14 cfg0.N = mix (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp
  rw [after0_14, outs]
  obtain ⟨⟨e0, e1, e2, e3, e4⟩, ⟨e5, e6, e7, e14⟩, e8, e9, e10, e11, e12, e13⟩ := idx t
  obtain ⟨i, j, rfl⟩ : ∃ (i : Fin 256) (j : Fin 1024), y = ix2 i j := ⟨y 0, y 1, eq_ix2 y⟩
  refine (store_apply _ _ _ _ _ _ _ _ _ _ _ _ _ _ i j).trans ?_
  have n : t.val < 16 := lt_of_lt_of_eq t.isLt (show cfg0.N = 16 from N_0)
  have w : wts (iblk m c 9 t) (iblk m c 11 t) (iblk m c 13 t) (iblk m c 8 t) (iblk m c 10 t) (iblk m c 12 t)
      = wts (m ((c : Thread nD τ).loc main_arg5)) (m ((c : Thread nD τ).loc main_arg7)) (m ((c : Thread nD τ).loc main_arg9)) (m ((c : Thread nD τ).loc main_arg4))
        (m ((c : Thread nD τ).loc main_arg6)) (m ((c : Thread nD τ).loc main_arg8)) := by
    dsimp only [wts]
    congr 1
    · funext k; blk_ext [iblk, e9]
    · funext k; blk_ext [iblk, e11]
    · funext k; blk_ext [iblk, e13]
    · funext k; blk_ext [iblk, e8]
    · funext k l; blk_ext [iblk, e10]
    · funext k l; blk_ext [iblk, e12]
  have r : row (X0_0 m c t) (X0_1 m c t) (X0_2 m c t) (X0_3 m c t) (X0_4 m c t) (iblk m c 5 t) (iblk m c 6 t) (iblk m c 7 t) i
      = line (m ((c : Thread nD τ).loc main_arg0)) (m ((c : Thread nD τ).loc main_arg1)) (m ((c : Thread nD τ).loc main_arg2)) (m ((c : Thread nD τ).loc main_arg3))
        ⟨256 * t.val + i.val, by omega⟩ := by
    dsimp only [row, line]
    congr 1
    · funext k; unfold X0_0 Pipeline.Window.fill; rw [dif_pos (moved0_0 t _)]; blk_ext [iblk, e0, col]
    · funext k; unfold X0_1 Pipeline.Window.fill; rw [dif_pos (moved0_1 t _)]; blk_ext [iblk, e1, col]
    · funext k; unfold X0_2 Pipeline.Window.fill; rw [dif_pos (moved0_2 t _)]; blk_ext [iblk, e2, col]
    · funext k; unfold X0_3 Pipeline.Window.fill; rw [dif_pos (moved0_3 t _)]; blk_ext [iblk, e3, col]
    · funext k; unfold X0_4 Pipeline.Window.fill; rw [dif_pos (moved0_4 t _)]; blk_ext [iblk, e4, col]
    · funext k; blk_ext [iblk, e5]
    · funext k; blk_ext [iblk, e6]
    · funext k; blk_ext [iblk, e7]
  rw [w, r]
  refine Eq.trans ?_ (congrArg (mix _ _ _ _ _ _ _ _ _ _) (?_ : ix2 ⟨256 * t.val + i.val, by omega⟩ j = _))
  · rfl
  · blk_ext [e14]

end Cert.Kernel16Ideal.Value

namespace Cert.Reference16Ideal.Value

open Cert.Reference16Ideal.Gen
open Cert.Kernel16Ideal.Value (gelu unit normed skip merged post wts col line mix)

variable (m : (ℓ : Loc nD τ sig) → Buf (Elt Ideal) ℓ) (c : Dev nD)

abbrev in0 : S4096x8320.Idx → EReal := m ((c.tc : Thread nD τ).loc main_arg0)
abbrev in1 : S4096x1024.Idx → EReal := m ((c.tc : Thread nD τ).loc main_arg1)
abbrev in2 : S4096x1024.Idx → EReal := m ((c.tc : Thread nD τ).loc main_arg2)
abbrev in3 : S4096x1024.Idx → EReal := m ((c.tc : Thread nD τ).loc main_arg3)
abbrev in4 : S1x128.Idx → EReal := m ((c.tc : Thread nD τ).loc main_arg4)
abbrev in5 : S1x1024.Idx → EReal := m ((c.tc : Thread nD τ).loc main_arg5)
abbrev in6 : S1x1024x1024.Idx → EReal := m ((c.tc : Thread nD τ).loc main_arg6)
abbrev in7 : S1x1024.Idx → EReal := m ((c.tc : Thread nD τ).loc main_arg7)
abbrev in8 : S1x1024x1024.Idx → EReal := m ((c.tc : Thread nD τ).loc main_arg8)
abbrev in9 : S1x1024.Idx → EReal := m ((c.tc : Thread nD τ).loc main_arg9)

/-- The parts of the projection behind the heads. -/
abbrev tail : FVec Ideal S4096x5120 .f32 := extractStridedSlice S4096x5120 ![0, 3072] (in0 m c) slices_S4096x8320_S4096x5120_0_3072
def za : FVec Ideal S4096x1024 .f32 := extractStridedSlice S4096x1024 ![0, 0] (tail m c) slices_S4096x5120_S4096x1024_0_0
def uu : FVec Ideal S4096x1024 .f32 := extractStridedSlice S4096x1024 ![0, 1024] (tail m c) slices_S4096x5120_S4096x1024_0_1024
def zb : FVec Ideal S4096x1024 .f32 := extractStridedSlice S4096x1024 ![0, 2048] (tail m c) slices_S4096x5120_S4096x1024_0_2048
def ra : FVec Ideal S4096x1024 .f32 := extractStridedSlice S4096x1024 ![0, 3072] (tail m c) slices_S4096x5120_S4096x1024_0_3072
def rb : FVec Ideal S4096x1024 .f32 := extractStridedSlice S4096x1024 ![0, 4096] (tail m c) slices_S4096x5120_S4096x1024_0_4096

/-- The logistic function of an array. -/
def logis (z : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf z)))

/-- The smooth rectifier of an array. -/
def smooth (z : FVec Ideal S4096x1024 .f32) : FVec Ideal S4096x1024 .f32 :=
  mulf z (mulf (broadcastInDim S4096x1024 ![] bcast_S_S4096x1024 (constant S_ .f32 0x3F000000#32)) (addf (broadcastInDim S4096x1024 ![] bcast_S_S4096x1024
    (constant S_ .f32 0x3F800000#32)) (Host.tanh (mulf (broadcastInDim S4096x1024 ![] bcast_S_S4096x1024 (constant S_ .f32 0x3F4C422A#32)) (addf z
    (mulf (broadcastInDim S4096x1024 ![] bcast_S_S4096x1024 (constant S_ .f32 0x3D372713#32)) (mulf (mulf z z) z)))))))

/-- An array times a weight matrix. -/
def times (y : FVec Ideal S4096x1024 .f32) (w : FVec Ideal S1x1024x1024 .bf16) : FVec Ideal S4096x1024 .f32 :=
  Host.dotGeneral dot_S4096x1024_S1024x1024_S4096x1024_1_0_0_1_n_n none y (extf .f32 (shapeCast _ w shapeCasts_S1x1024x1024_S1024x1024) bitsLt_bf16_f32)

/-- The state space branch before its gates. -/
def ssm : FVec Ideal S4096x1024 .f32 :=
  smooth (addf (in2 m c) (mulf (broadcastInDim S4096x1024 ![0, 1] bcast_S1x1024_S4096x1024_0_1 (in5 m c)) (uu m c)))

/-- The heads of the recurrent branch. -/
def heads (y : FVec Ideal S4096x1024 .f32) : FVec Ideal S4096x8x128 .f32 := shapeCast _ y shapeCasts_S4096x1024_S4096x8x128

/-- Heads normalised. -/
def scaled (y : FVec Ideal S4096x8x128 .f32) (g : FVec Ideal S1x128 .f32) : FVec Ideal S4096x8x128 .f32 :=
  mulf (mulf y (broadcastInDim S4096x8x128 ![0, 1, 2] bcast_S4096x8x1_S4096x8x128_0_1_2 (Host.rsqrt (addf (Host.divf (broadcastInDim S4096x8x1 ![0, 1]
    bcast_S4096x8_S4096x8x1_0_1 (Host.reduceAdd (mulf y y) (constant S_ .f32 0x00000000#32) reducesTo_S4096x8x128_S4096x8_d2 h_S_)) (broadcastInDim S4096x8x1 ![]
    bcast_S_S4096x8x1 (constant S_ .f32 0x43000000#32))) (broadcastInDim S4096x8x1 ![] bcast_S_S4096x8x1 (constant S_ .f32 0x358637BD#32))))))
    (broadcastInDim S4096x8x128 ![0, 1, 2] bcast_S1x1x128_S4096x8x128_0_1_2 (broadcastInDim S1x1x128 ![2] bcast_S128_S1x1x128_2 (shapeCast _ g shapeCasts_S1x128_S128)))

/-- The heads put back in columns. -/
def flat (y : FVec Ideal S4096x8x128 .f32) : FVec Ideal S4096x1024 .f32 := shapeCast _ y shapeCasts_S4096x8x128_S4096x1024

/-- Both branches, gated and merged. -/
def both : FVec Ideal S4096x1024 .f32 :=
  addf (mulf (logis (ra m c)) (mulf (flat (scaled (heads (in1 m c)) (in4 m c))) (mulf (za m c) (logis (za m c)))))
    (mulf (logis (rb m c)) (mulf (mulf (ssm m c) (logis (addf (times (ssm m c) (in6 m c)) (broadcastInDim S4096x1024 ![0, 1] bcast_S1x1024_S4096x1024_0_1 (in7 m c)))))
      (mulf (zb m c) (logis (zb m c)))))

/-- Rows normalised, added to the residual. -/
def close (y x : FVec Ideal S4096x1024 .f32) (g : FVec Ideal S1x1024 .f32) : FVec Ideal S4096x1024 .f32 :=
  addf x (mulf (mulf y (broadcastInDim S4096x1024 ![0, 1] bcast_S4096x1_S4096x1024_0_1 (Host.rsqrt (addf (Host.divf (broadcastInDim S4096x1 ![0] bcast_S4096_S4096x1_0
    (Host.reduceAdd (mulf y y) (constant S_ .f32 0x00000000#32) reducesTo_S4096x1024_S4096_d1 h_S_)) (broadcastInDim S4096x1 ![] bcast_S_S4096x1
    (constant S_ .f32 0x44800000#32))) (broadcastInDim S4096x1 ![] bcast_S_S4096x1 (constant S_ .f32 0x358637BD#32))))))
    (broadcastInDim S4096x1024 ![0, 1] bcast_S1x1024_S4096x1024_0_1 g))

theorem v84_eq : res_main_v84 m c = close (times (both m c) (in8 m c)) (in3 m c) (in9 m c) := rfl

variable (t : Fin 4096) (j : Fin 1024)

/-- The row that a time's values come from. -/
abbrev at0 := line (in0 m c) (in1 m c) (in2 m c) (in3 m c) t

abbrev ws := wts (in5 m c) (in7 m c) (in9 m c) (in4 m c) (in6 m c) (in8 m c)

theorem logis_apply (z : FVec Ideal S4096x1024 .f32) : logis z (ix2 t j) = gate (z (ix2 t j)) := by
  unfold logis gate
  pointwise

theorem times_apply (y : FVec Ideal S4096x1024 .f32) (w : FVec Ideal S1x1024x1024 .bf16) : times y w (ix2 t j) = (∑ k, y (ix2 t k) * w (ix3 0 k j) : EReal) := by
  unfold times
  pointwise

theorem za_apply : za m c (ix2 t j) = (at0 m c t).za j := by
  unfold za
  pointwise
  exact congrArg (fun k => in0 m c (ix2 t k)) (Fin.ext (show 3072 + j.val = 3072 + 1024 * 0 + j.val by omega))

theorem uu_apply : uu m c (ix2 t j) = (at0 m c t).u j := by
  unfold uu
  pointwise
  exact congrArg (fun k => in0 m c (ix2 t k)) (Fin.ext (show 3072 + (1024 + j.val) = 3072 + 1024 * 1 + j.val by omega))

theorem zb_apply : zb m c (ix2 t j) = (at0 m c t).zb j := by
  unfold zb
  pointwise
  exact congrArg (fun k => in0 m c (ix2 t k)) (Fin.ext (show 3072 + (2048 + j.val) = 3072 + 1024 * 2 + j.val by omega))

theorem ra_apply : ra m c (ix2 t j) = (at0 m c t).ra j := by
  unfold ra
  pointwise
  exact congrArg (fun k => in0 m c (ix2 t k)) (Fin.ext (show 3072 + (3072 + j.val) = 3072 + 1024 * 3 + j.val by omega))

theorem rb_apply : rb m c (ix2 t j) = (at0 m c t).rb j := by
  unfold rb
  pointwise
  exact congrArg (fun k => in0 m c (ix2 t k)) (Fin.ext (show 3072 + (4096 + j.val) = 3072 + 1024 * 4 + j.val by omega))

theorem smooth_apply (z : FVec Ideal S4096x1024 .f32) : smooth z (ix2 t j) = gelu (z (ix2 t j)) := by
  unfold smooth gelu
  pointwise

theorem ssm_apply : ssm m c (ix2 t j) = skip (ws m c) (at0 m c t) j := by
  unfold ssm skip
  pointwise [smooth_apply, uu_apply]

theorem heads_apply (y : FVec Ideal S4096x1024 .f32) (h : Fin 8) (k : Fin 128) : heads y (ix3 t h k) = y (ix2 t ⟨128 * h.val + k.val, by omega⟩) := by
  unfold heads
  pointwise
  exact congrArg (fun k => y (ix2 t k)) (Fin.ext (show h.val * 128 + k.val = 128 * h.val + k.val by omega))

theorem scaled_apply (y : FVec Ideal S4096x8x128 .f32) (g : FVec Ideal S1x128 .f32) (h : Fin 8) (k : Fin 128) :
    scaled y g (ix3 t h k) = unit 0x43000000#32 (fun k => y (ix3 t h k)) (fun k => g (ix2 0 k)) k := by
  unfold scaled unit
  pointwise

theorem flat_apply (y : FVec Ideal S4096x8x128 .f32) : flat y (ix2 t j) = y (ix3 t ⟨j.val / 128, by omega⟩ ⟨j.val % 128, by omega⟩) := by
  unfold flat
  pointwise

theorem both_apply : both m c (ix2 t j) = merged (ws m c) (at0 m c t) j := by
  unfold both merged normed
  pointwise [logis_apply, za_apply, zb_apply, ra_apply, rb_apply, ssm_apply, times_apply, flat_apply, scaled_apply, heads_apply]

theorem close_apply (y x : FVec Ideal S4096x1024 .f32) (g : FVec Ideal S1x1024 .f32) :
    close y x g (ix2 t j) = (x (ix2 t j) + unit 0x44800000#32 (fun n => y (ix2 t n)) (fun n => g (ix2 0 n)) j : EReal) := by
  unfold close unit
  pointwise

/-- The reference's result. -/
theorem res_eq : res_main_v84 m c = mix (in0 m c) (in1 m c) (in2 m c) (in3 m c) (in4 m c) (in5 m c) (in6 m c) (in7 m c) (in8 m c) (in9 m c) := by
  rw [v84_eq]
  funext x
  obtain ⟨t, j, rfl⟩ : ∃ (t : Fin 4096) (j : Fin 1024), x = ix2 t j := ⟨x 0, x 1, eq_ix2 x⟩
  refine (close_apply t j _ _ _).trans ?_
  simp only [times_apply, both_apply]
  rfl

end Cert.Reference16Ideal.Value

namespace Cert.Proof

theorem frame_kernel16 : quiescent_Kernel16 (hKernel16 := Kernel16.Gen.facts) := fun m g _ => Kernel16.Gen.frame m g

theorem frame_ideal16 : quiescent_Kernel16Ideal (hKernel16Ideal := Kernel16Ideal.Gen.facts) := fun m g _ => Kernel16Ideal.Gen.frame m g

theorem frame_reference16 : quiescent_Reference16Ideal (hReference16Ideal := Reference16Ideal.Gen.facts) :=
  fun m g _ => (θ_run Reference16Ideal.defs _ _).mono
    (fun r h => ⟨fun c => (h c).2, sem_eq_zero_of_no_sems (by decide) r.2⟩) (Reference16Ideal.Value.run m g)

theorem equal16 : algebraic_Kernel16Ideal_Reference16Ideal (hKernel16Ideal := Kernel16Ideal.Gen.facts)
    (hReference16Ideal := Reference16Ideal.Gen.facts) := fun m g m' g' _ hag =>
  ⟨fun c => Kernel16Ideal.Value.mix (m ((c.tc : Thread Kernel16Ideal.nD Kernel16Ideal.τ).loc Kernel16Ideal.main_arg0)) (m (c.tc.loc Kernel16Ideal.main_arg1))
      (m (c.tc.loc Kernel16Ideal.main_arg2)) (m (c.tc.loc Kernel16Ideal.main_arg3)) (m (c.tc.loc Kernel16Ideal.main_arg4)) (m (c.tc.loc Kernel16Ideal.main_arg5))
      (m (c.tc.loc Kernel16Ideal.main_arg6)) (m (c.tc.loc Kernel16Ideal.main_arg7)) (m (c.tc.loc Kernel16Ideal.main_arg8)) (m (c.tc.loc Kernel16Ideal.main_arg9)),
    (θ_run Kernel16Ideal.defs _ _).mono (fun r h c => ⟨(h c).1.trans (Kernel16Ideal.Value.arr14 m c), (h c).2⟩) (Kernel16Ideal.Value.run_blocks m g),
    (θ_run Reference16Ideal.defs _ _).mono (fun r h c => by
      refine ⟨(h c).1.trans ((Reference16Ideal.Value.res_eq m' c).trans ?_), (h c).2⟩
      obtain ⟨e0, e1, e2, e3, e4, e5, e6, e7, e8, e9⟩ := hag c
      dsimp only [Reference16Ideal.Value.in0, Reference16Ideal.Value.in1, Reference16Ideal.Value.in2, Reference16Ideal.Value.in3, Reference16Ideal.Value.in4,
        Reference16Ideal.Value.in5, Reference16Ideal.Value.in6, Reference16Ideal.Value.in7, Reference16Ideal.Value.in8, Reference16Ideal.Value.in9]
      rw [e0, e1, e2, e3, e4, e5, e6, e7, e8, e9]) (Reference16Ideal.Value.run m' g')⟩

end Cert.Proof

end
-- ==== Proof.Grad.Ssm.lean ====
/- The backward pass of the S5 discretisation: its frames, and the gradients of the eigenvalues' parts, of the steps' logarithms and
   of the input's matrices, by the rules of the division, the exponential, the cosine and the sine. -/
module

public import proofs.«01_k».proof.Defs
public import proofs.«01_k».proof.Proof.Grad.Conv
public import proofs.«01_k».proof.Proof.Gen.Kernel14
public import proofs.«01_k».proof.Proof.Gen.Kernel14.Frame
public import proofs.«01_k».proof.Proof.Gen.Kernel14Ideal.Frame
public import proofs.«01_k».proof.Proof.Gen.Reference14Ideal.Run

@[expose] public section

set_option maxRecDepth 16384

noncomputable section

open Idealize.ShloMosaic Idealize.ShloMosaic.TcCoe Idealize.ShloMosaic.Tactic Idealize.SL.Sem
open Cert.Kernel6Ideal.Value (hz2 hz3)

namespace Cert.Kernel14Ideal.Value

open Cert.Kernel14Ideal.Gen

/-- The nine arguments of one layer. -/
structure Layer where
  A : Fin 64 → Fin 64 → EReal
  B : Fin 64 → Fin 64 → EReal
  L : Fin 64 → EReal
  br : Fin 64 → Fin 1024 → EReal
  bi : Fin 64 → Fin 1024 → EReal
  p : Fin 64 → Fin 64 → EReal
  q : Fin 64 → Fin 64 → EReal
  a : Fin 64 → Fin 1024 → EReal
  b : Fin 64 → Fin 1024 → EReal

/-- A lane of a state. -/
def lane (s : Fin 64) (k : Fin 16) : Fin 1024 := ⟨s.val * 16 + k.val, by omega⟩

/-- The state of a lane. -/
def state (n : Fin 1024) : Fin 64 := ⟨n.val / 16, by omega⟩

namespace Layer

variable (y : Layer) (g s : Fin 64)

/-- The step, and the discretised eigenvalue. -/
def E : EReal := Ideal.exp (y.L g)
def mag : EReal := Ideal.exp (y.A g s * y.E g)
def cs : EReal := Ideal.cos (y.B g s * y.E g)
def sn : EReal := Ideal.sin (y.B g s * y.E g)
def lr : EReal := y.mag g s * y.cs g s
def li : EReal := y.mag g s * y.sn g s

/-- The input's factor, and its parts. -/
def den : EReal := y.A g s * y.A g s + y.B g s * y.B g s
def inv : EReal := Ideal.div 1 (y.den g s * y.den g s)
def nr : EReal := (y.lr g s - 1) * y.A g s + y.li g s * y.B g s
def ni : EReal := y.li g s * y.A g s - (y.lr g s - 1) * y.B g s
def fr : EReal := Ideal.div (y.nr g s) (y.den g s)
def fi : EReal := Ideal.div (y.ni g s) (y.den g s)

/-- The cotangents of the factor. -/
def X : EReal := ∑ k, (y.b g (lane s k) * y.br g (lane s k) + -y.a g (lane s k) * y.bi g (lane s k))
def Y : EReal := ∑ k, (y.b g (lane s k) * y.bi g (lane s k) + y.a g (lane s k) * y.br g (lane s k))

/-- The cotangents of the divisor, of the numerators and of the eigenvalue. -/
def dd : EReal := -(y.X g s * y.inv g s * y.ni g s) + -(y.Y g s * y.inv g s * y.nr g s)
def u : EReal := Ideal.div (y.X g s) (y.den g s)
def v : EReal := Ideal.div (y.Y g s) (y.den g s)
def ei : EReal := y.q g s + y.u g s * y.A g s + y.v g s * y.B g s
def er : EReal := y.p g s + -y.u g s * y.B g s + y.v g s * y.A g s
def gm : EReal := (y.ei g s * y.sn g s + y.er g s * y.cs g s) * y.mag g s
def gs : EReal := y.mag g s * y.ei g s * y.cs g s
def gc : EReal := -(y.mag g s * y.er g s) * y.sn g s

/-- The five results. -/
def dA : EReal := y.li g s * y.u g s + (y.lr g s - 1) * y.v g s + y.A g s * y.dd g s + y.dd g s * y.A g s + y.gm g s * y.E g
def dB : EReal := (y.lr g s - 1) * -y.u g s + y.li g s * y.v g s + y.B g s * y.dd g s + y.dd g s * y.B g s + y.gs g s * y.E g + y.gc g s * y.E g
def dL : EReal := (∑ s, y.B g s * y.gs g s + ∑ s, y.B g s * y.gc g s + ∑ s, y.A g s * y.gm g s) * y.E g
def dbr (n : Fin 1024) : EReal := y.fi g (state n) * y.b g n + y.fr g (state n) * y.a g n
def dbi (n : Fin 1024) : EReal := y.fr g (state n) * y.b g n + y.fi g (state n) * -y.a g n

end Layer

theorem word : ∀ n : Fin 1024, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 n.val) 16#32) 0#32))
      (IntOp.subi (IntOp.divsi ArithUnit.vector (BitVec.ofNat 32 n.val) 16#32) 1#32)
      (IntOp.divsi ArithUnit.vector (BitVec.ofNat 32 n.val) 16#32) = BitVec.ofNat 32 (n.val / 16) := by
  decide +kernel

/-- The table of the lanes' states. -/
theorem table_apply (r : Fin 64) (n : Fin 1024) : (k0_pay26 : FVec Ideal S64x1024 .f32) (ix2 r n) = (if state n = r then 1 else 0 : EReal) := by
  unfold k0_pay26
  pointwise [word]
  have e : (BitVec.ofNat 32 (n.val / 16) = BitVec.ofNat 32 r.val) ↔ state n = r := by
    constructor
    · intro h
      have := congrArg BitVec.toNat h
      simp only [BitVec.toNat_ofNat] at this
      exact Fin.ext (show n.val / 16 = r.val by omega)
    · rintro rfl
      rfl
  by_cases h : state n = r
  · rw [if_pos h, ← h]
    simp [IntOp.cmpi, Scalar.select, state]
  · rw [if_neg h]
    have : (BitVec.ofNat 32 (n.val / 16) == BitVec.ofNat 32 r.val) = false := by simpa using fun k => h (e.mp k)
    simp [IntOp.cmpi, Scalar.select, this]

theorem expand_apply (f : FVec Ideal S64x64 .f32) (g : Fin 64) (n : Fin 1024) : (k0_pay27 f : FVec Ideal S64x1024 .f32) (ix2 g n) = f (ix2 g (state n)) := by
  unfold k0_pay27
  pointwise [table_apply]
  simp

theorem collect (f : Fin 1024 → EReal) (s : Fin 64) : ∑ n, f n * (if state n = s then 1 else 0) = ∑ k, f (lane s k) := by
  rw [← Equiv.sum_comp (finProdFinEquiv : Fin 64 × Fin 16 ≃ Fin 1024), Fintype.sum_prod_type]
  have e (r : Fin 64) (k : Fin 16) : (finProdFinEquiv : Fin 64 × Fin 16 ≃ Fin 1024) (r, k) = lane r k := Fin.ext (show k.val + 16 * r.val = r.val * 16 + k.val by omega)
  have h (r : Fin 64) (k : Fin 16) : state (lane r k) = r := Fin.ext (show (r.val * 16 + k.val) / 16 = r.val by omega)
  simp only [e, h]
  rw [Finset.sum_eq_single s (fun r _ n => by simp [n]) (by simp)]
  simp

section Body

/-- One grid step's blocks. -/
structure Blocks where
  x0 : Vec Ideal S1x64x64 .f32
  x1 : Vec Ideal S1x64x64 .f32
  x2 : Vec Ideal S1x64x1 .f32
  x3 : Vec Ideal S1x64x1024 .f32
  x4 : Vec Ideal S1x64x1024 .f32
  x5 : Vec Ideal S1x64x64 .f32
  x6 : Vec Ideal S1x64x64 .f32
  x7 : Vec Ideal S1x64x1024 .f32
  x8 : Vec Ideal S1x64x1024 .f32

variable (x : Blocks) (g s : Fin 64) (n : Fin 1024)

/-- Their layer. -/
def lay : Layer :=
  ⟨fun g s => x.x0 (ix3 0 g s), fun g s => x.x1 (ix3 0 g s), fun g => x.x2 (ix3 0 g 0), fun g n => x.x3 (ix3 0 g n), fun g n => x.x4 (ix3 0 g n),
    fun g s => x.x5 (ix3 0 g s), fun g s => x.x6 (ix3 0 g s), fun g n => x.x7 (ix3 0 g n), fun g n => x.x8 (ix3 0 g n)⟩

theorem ld0 (x : Vec Ideal S1x64x64 .f32) : View.ld x r0_0 = x := View.ld_unit_zero (S := S1x64x64) hz3 _ x
theorem ld1 (x : Vec Ideal S1x64x1 .f32) : View.ld x r0_1 = x := View.ld_unit_zero (S := S1x64x1) hz3 _ x
theorem ld2 (x : Vec Ideal S1x64x1024 .f32) : View.ld x r0_2 = x := View.ld_unit_zero (S := S1x64x1024) hz3 _ x

theorem A_apply (x : Vec Ideal S1x64x64 .f32) : k0_pay4 x (ix2 g s) = x (ix3 0 g s) := by
  unfold k0_pay4
  pointwise

theorem B_apply (x : Vec Ideal S1x64x64 .f32) : k0_pay5 x (ix2 g s) = x (ix3 0 g s) := by
  unfold k0_pay5
  pointwise

theorem E_apply (a : Fin 1) : k0_pay8 x.x2 (ix2 g a) = (lay x).E g := by
  unfold k0_pay8
  pointwise
  rfl

theorem mag_apply : k0_pay9 x.x0 x.x2 (ix2 g s) = (lay x).mag g s := by
  unfold k0_pay9
  pointwise [A_apply, E_apply x]
  rfl

theorem cs_apply : k0_pay11 x.x1 x.x2 (ix2 g s) = (lay x).cs g s := by
  unfold k0_pay11 k0_pay10
  pointwise [B_apply, E_apply x]
  rfl

theorem sn_apply : k0_pay12 x.x1 x.x2 (ix2 g s) = (lay x).sn g s := by
  unfold k0_pay12 k0_pay10
  pointwise [B_apply, E_apply x]
  rfl

theorem li_apply : k0_pay17 x.x0 x.x1 x.x2 (ix2 g s) = (lay x).li g s := by
  unfold k0_pay17
  pointwise [mag_apply x]
  exact congrArg _ (sn_apply x g s)

theorem lr_apply : k0_pay19 x.x0 x.x1 x.x2 (ix2 g s) = ((lay x).lr g s - 1 : EReal) := by
  unfold k0_pay19 k0_pay13
  pointwise [mag_apply x, cs_apply x]
  rfl

theorem den_apply : k0_pay18 x.x0 x.x1 (ix2 g s) = (lay x).den g s := by
  unfold k0_pay18
  pointwise [A_apply, B_apply]
  rfl

theorem nr_apply : k0_pay20 x.x0 x.x1 x.x2 (ix2 g s) = (lay x).nr g s := by
  unfold k0_pay20
  pointwise [A_apply, B_apply, li_apply x, lr_apply x]
  rfl

theorem ni_apply : k0_pay24 x.x0 x.x1 x.x2 (ix2 g s) = (lay x).ni g s := by
  unfold k0_pay24
  pointwise [A_apply, B_apply, li_apply x]
  exact congrArg (fun l : EReal => (lay x).li g s * x.x0 (ix3 0 g s) - l * x.x1 (ix3 0 g s)) (lr_apply x g s)

theorem fr_apply : k0_pay69 x.x0 x.x1 x.x2 x.x3 x.x4 x.x5 x.x6 x.x7 x.x8 (ix2 g n) = (lay x).fr g (state n) := by
  unfold k0_pay69 k0_pay21
  simp only [ld0, ld1]
  refine (expand_apply _ g n).trans ?_
  pointwise [nr_apply x, den_apply x]
  rfl

theorem fi_apply : k0_pay70 x.x0 x.x1 x.x2 x.x3 x.x4 x.x5 x.x6 x.x7 x.x8 (ix2 g n) = (lay x).fi g (state n) := by
  unfold k0_pay70 k0_pay66 k0_pay67
  simp only [ld0, ld1]
  refine (expand_apply _ g n).trans ?_
  pointwise [ni_apply x, den_apply x]
  rfl

theorem X_apply : k0_pay39 (k0_pay6 x.x3) (k0_pay7 x.x4) k0_pay26 x.x7 x.x8 (ix2 g s) = (lay x).X g s := by
  unfold k0_pay39 k0_pay34 k0_pay36 k0_pay32 k0_pay31 k0_pay6 k0_pay7
  pointwise [table_apply, zero_sub]
  exact collect _ _

theorem Y_apply : k0_pay40 (k0_pay6 x.x3) (k0_pay7 x.x4) k0_pay26 x.x7 x.x8 (ix2 g s) = (lay x).Y g s := by
  unfold k0_pay40 k0_pay33 k0_pay35 k0_pay32 k0_pay31 k0_pay6 k0_pay7
  pointwise [table_apply]
  exact collect _ _

theorem sn_again : k0_pay15 x.x1 x.x2 (ix2 g s) = (lay x).sn g s := sn_apply x g s

theorem cs_again : k0_pay16 x.x1 x.x2 (ix2 g s) = (lay x).cs g s := cs_apply x g s

theorem lr_again : k0_pay23 x.x0 x.x1 x.x2 (ix2 g s) = ((lay x).lr g s - 1 : EReal) := lr_apply x g s

theorem dd_apply : k0_pay71 x.x0 x.x1 x.x2 x.x3 x.x4 x.x5 x.x6 x.x7 x.x8 (ix2 g s) = (lay x).dd g s := by
  unfold k0_pay71 k0_pay43 k0_pay57 k0_pay58 k0_pay68 k0_pay66 k0_pay67 k0_pay22 k0_pay25
  simp only [ld0, ld1, ld2]
  pointwise [X_apply x, Y_apply x, nr_apply x, ni_apply x, den_apply x, zero_sub]
  rfl

theorem ei_apply : k0_pay72 x.x0 x.x1 x.x2 x.x3 x.x4 x.x5 x.x6 x.x7 x.x8 (ix2 g s) = (lay x).ei g s := by
  unfold k0_pay72 k0_pay46 k0_pay41 k0_pay44 k0_pay55 k0_pay56 k0_pay57 k0_pay58 k0_pay68 k0_pay66 k0_pay30
  simp only [ld0, ld1, ld2]
  pointwise [X_apply x, Y_apply x, den_apply x, A_apply, B_apply]
  rfl

theorem er_apply : k0_pay73 x.x0 x.x1 x.x2 x.x3 x.x4 x.x5 x.x6 x.x7 x.x8 (ix2 g s) = (lay x).er g s := by
  unfold k0_pay73 k0_pay48 k0_pay42 k0_pay41 k0_pay44 k0_pay55 k0_pay56 k0_pay57 k0_pay58 k0_pay68 k0_pay66 k0_pay29
  simp only [ld0, ld1, ld2]
  pointwise [X_apply x, Y_apply x, den_apply x, A_apply, B_apply, zero_sub]
  rfl

theorem gm_apply : k0_pay51 (k0_pay60 x.x0 x.x1 x.x2 x.x3 x.x4 x.x5 x.x6 x.x7 x.x8) (k0_pay61 x.x0 x.x1 x.x2 x.x3 x.x4 x.x5 x.x6 x.x7 x.x8) (k0_pay63 x.x0 x.x1 x.x2 x.x3 x.x4 x.x5 x.x6 x.x7 x.x8) (k0_pay72 x.x0 x.x1 x.x2 x.x3 x.x4 x.x5 x.x6 x.x7 x.x8) (k0_pay73 x.x0 x.x1 x.x2 x.x3 x.x4 x.x5 x.x6 x.x7 x.x8) (ix2 g s) = (lay x).gm g s := by
  unfold k0_pay51 k0_pay60 k0_pay61 k0_pay63
  simp only [ld0, ld1]
  pointwise [mag_apply x, cs_apply x, ei_apply x, er_apply x, sn_again x]
  rfl

theorem gs_apply : k0_pay49 (k0_pay60 x.x0 x.x1 x.x2 x.x3 x.x4 x.x5 x.x6 x.x7 x.x8) (k0_pay64 x.x0 x.x1 x.x2 x.x3 x.x4 x.x5 x.x6 x.x7 x.x8) (k0_pay72 x.x0 x.x1 x.x2 x.x3 x.x4 x.x5 x.x6 x.x7 x.x8) (ix2 g s) = (lay x).gs g s := by
  unfold k0_pay49 k0_pay60 k0_pay64
  simp only [ld0, ld1]
  pointwise [mag_apply x, ei_apply x, cs_again x]
  rfl

theorem gc_apply : k0_pay50 (k0_pay60 x.x0 x.x1 x.x2 x.x3 x.x4 x.x5 x.x6 x.x7 x.x8) (k0_pay62 x.x0 x.x1 x.x2 x.x3 x.x4 x.x5 x.x6 x.x7 x.x8) (k0_pay73 x.x0 x.x1 x.x2 x.x3 x.x4 x.x5 x.x6 x.x7 x.x8) (ix2 g s) = (lay x).gc g s := by
  unfold k0_pay50 k0_pay60 k0_pay62
  simp only [ld0, ld1]
  pointwise [mag_apply x, sn_apply x, er_apply x, zero_sub]
  rfl

theorem out9 (a : Fin 1) : out0_9 x.x0 x.x1 x.x2 x.x3 x.x4 x.x5 x.x6 x.x7 x.x8 (ix3 a g s) = (lay x).dA g s := by
  unfold out0_9 k0_pay53 k0_pay47 k0_pay55 k0_pay57 k0_pay58 k0_pay59 k0_pay65 k0_pay66 k0_pay68 k0_pay41 k0_pay44
  rw [View.canon_unit_zero (S := S1x64x64) hz3]
  simp only [ld0, ld1, ld2]
  pointwise [X_apply x, Y_apply x, den_apply x, li_apply x, lr_apply x, dd_apply x, gm_apply x, E_apply x, A_apply]
  rfl

theorem out10 (a : Fin 1) : out0_10 x.x0 x.x1 x.x2 x.x3 x.x4 x.x5 x.x6 x.x7 x.x8 (ix3 a g s) = (lay x).dB g s := by
  unfold out0_10 k0_pay54 k0_pay45 k0_pay56 k0_pay57 k0_pay58 k0_pay59 k0_pay65 k0_pay66 k0_pay68 k0_pay42 k0_pay41 k0_pay44
  rw [View.canon_unit_zero (S := S1x64x64) hz3]
  simp only [ld0, ld1, ld2]
  pointwise [X_apply x, Y_apply x, den_apply x, li_apply x, dd_apply x, gs_apply x, gc_apply x, E_apply x, lr_again x, B_apply, zero_sub]
  rfl

theorem out11 (a b : Fin 1) : out0_11 x.x0 x.x1 x.x2 x.x3 x.x4 x.x5 x.x6 x.x7 x.x8 (ix3 a g b) = (lay x).dL g := by
  unfold out0_11 k0_pay1 k0_pay52 k0_pay55 k0_pay56 k0_pay59
  rw [View.canon_unit_zero (S := S1x64x1) hz3]
  simp only [ld0, ld1]
  pointwise [gm_apply x, gs_apply x, gc_apply x, E_apply x, A_apply, B_apply]
  rfl

theorem out12 (a : Fin 1) : out0_12 x.x0 x.x1 x.x2 x.x3 x.x4 x.x5 x.x6 x.x7 x.x8 (ix3 a g n) = (lay x).dbr g n := by
  unfold out0_12 k0_pay2 k0_pay38 k0_pay34 k0_pay35 k0_pay32 k0_pay31
  rw [View.canon_unit_zero (S := S1x64x1024) hz3]
  simp only [ld2]
  pointwise [fr_apply x, fi_apply x]
  rfl

theorem out13 (a : Fin 1) : out0_13 x.x0 x.x1 x.x2 x.x3 x.x4 x.x5 x.x6 x.x7 x.x8 (ix3 a g n) = (lay x).dbi g n := by
  unfold out0_13 k0_pay3 k0_pay37 k0_pay33 k0_pay36 k0_pay32 k0_pay31
  rw [View.canon_unit_zero (S := S1x64x1024) hz3]
  simp only [ld2]
  pointwise [fr_apply x, fi_apply x, zero_sub]
  rfl

end Body

section Arrays

/-- A layer of the arrays. -/
def layer (A B : S4x64x64.Idx → EReal) (L : S4x64x1.Idx → EReal) (br bi : S4x64x1024.Idx → EReal) (p q : S4x64x64.Idx → EReal) (a b : S4x64x1024.Idx → EReal)
    (t : Fin 4) : Layer :=
  ⟨fun g s => A (ix3 t g s), fun g s => B (ix3 t g s), fun g => L (ix3 t g 0), fun g n => br (ix3 t g n), fun g n => bi (ix3 t g n),
    fun g s => p (ix3 t g s), fun g s => q (ix3 t g s), fun g n => a (ix3 t g n), fun g n => b (ix3 t g n)⟩

/-- The results' arrays, from the layers. -/
def sqs (f : Layer → Fin 64 → Fin 64 → EReal) (y : Fin 4 → Layer) : S4x64x64.Idx → EReal := fun x => f (y (x 0)) (x 1) (x 2)
def cols (f : Layer → Fin 64 → EReal) (y : Fin 4 → Layer) : S4x64x1.Idx → EReal := fun x => f (y (x 0)) (x 1)
def wides (f : Layer → Fin 64 → Fin 1024 → EReal) (y : Fin 4 → Layer) : S4x64x1024.Idx → EReal := fun x => f (y (x 0)) (x 1) (x 2)

variable (m : (ℓ : Loc nD τ sig) → Buf (Elt Ideal) ℓ) (c : Dev nD)

/-- The layers of the arguments. -/
abbrev args : Fin 4 → Layer := layer (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

/-- Which blocks a grid step reads and writes. -/
theorem idx : ∀ (t : Fin grid0.N), win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0] ∧ win0_11.index t = ![t.val, 0, 0]
    ∧ win0_12.index t = ![t.val, 0, 0] ∧ win0_13.index t = ![t.val, 0, 0] := by
  decide +kernel

theorem lay_eq (t : Fin cfg0.N) (n : t.val < 4) : lay ⟨iblk m c 0 t, iblk m c 1 t, iblk m c 2 t, iblk m c 3 t, iblk m c 4 t, iblk m c 5 t, iblk m c 6 t, iblk m c 7 t, iblk m c 8 t⟩
    = args m c ⟨t.val, n⟩ := by
  obtain ⟨e0, e1, e2, e3, e4, e5, e6, e7, e8, -⟩ := idx t
  unfold lay args layer
  congr 1 <;> first | (funext g s; dsimp only; blk_ext [iblk, e0, e1, e3, e4, e5, e6, e7, e8]) | (funext g; dsimp only; blk_ext [iblk, e2])

theorem step (t : Fin cfg0.N) : t.val < 4 := lt_of_lt_of_eq t.isLt (show cfg0.N = 4 from N_0)

theorem arr9 : (dats m 0 c).arrAt 9 cfg0.N = sqs Layer.dA (args m c) := by
  refine (dats m 0 c).arrAt_eq_of_covers 9 _ (by decide +kernel) fun t hf y => ?_
  blk_simp
  obtain ⟨a, g, s, rfl⟩ : ∃ (a : Fin 1) (g : Fin 64) (s : Fin 64), y = ix3 a g s := ⟨y 0, y 1, y 2, eq_ix3 y⟩
  obtain ⟨-, -, -, -, -, -, -, -, -, e, -⟩ := idx t
  rw [after0_9, out9 ⟨_, _, _, _, _, _, _, _, _⟩, lay_eq m c t (step t)]
  refine (show _ = sqs Layer.dA (args m c) (ix3 ⟨t.val, step t⟩ g s) from rfl).trans (congrArg (sqs Layer.dA (args m c)) ?_)
  blk_ext [e]

theorem arr10 : (dats m 0 c).arrAt 10 cfg0.N = sqs Layer.dB (args m c) := by
  refine (dats m 0 c).arrAt_eq_of_covers 10 _ (by decide +kernel) fun t hf y => ?_
  blk_simp
  obtain ⟨a, g, s, rfl⟩ : ∃ (a : Fin 1) (g : Fin 64) (s : Fin 64), y = ix3 a g s := ⟨y 0, y 1, y 2, eq_ix3 y⟩
  obtain ⟨-, -, -, -, -, -, -, -, -, -, e, -⟩ := idx t
  rw [after0_10, out10 ⟨_, _, _, _, _, _, _, _, _⟩, lay_eq m c t (step t)]
  refine (show _ = sqs Layer.dB (args m c) (ix3 ⟨t.val, step t⟩ g s) from rfl).trans (congrArg (sqs Layer.dB (args m c)) ?_)
  blk_ext [e]

theorem arr11 : (dats m 0 c).arrAt 11 cfg0.N = cols Layer.dL (args m c) := by
  refine (dats m 0 c).arrAt_eq_of_covers 11 _ (by decide +kernel) fun t hf y => ?_
  blk_simp
  obtain ⟨a, g, s, rfl⟩ : ∃ (a : Fin 1) (g : Fin 64) (s : Fin 1), y = ix3 a g s := ⟨y 0, y 1, y 2, eq_ix3 y⟩
  obtain ⟨-, -, -, -, -, -, -, -, -, -, -, e, -⟩ := idx t
  rw [after0_11, out11 ⟨_, _, _, _, _, _, _, _, _⟩, lay_eq m c t (step t)]
  refine (show _ = cols Layer.dL (args m c) (ix3 ⟨t.val, step t⟩ g s) from rfl).trans (congrArg (cols Layer.dL (args m c)) ?_)
  blk_ext [e]

theorem arr12 : (dats m 0 c).arrAt 12 cfg0.N = wides Layer.dbr (args m c) := by
  refine (dats m 0 c).arrAt_eq_of_covers 12 _ (by decide +kernel) fun t hf y => ?_
  blk_simp
  obtain ⟨a, g, s, rfl⟩ : ∃ (a : Fin 1) (g : Fin 64) (s : Fin 1024), y = ix3 a g s := ⟨y 0, y 1, y 2, eq_ix3 y⟩
  obtain ⟨-, -, -, -, -, -, -, -, -, -, -, -, e, -⟩ := idx t
  rw [after0_12, out12 ⟨_, _, _, _, _, _, _, _, _⟩, lay_eq m c t (step t)]
  refine (show _ = wides Layer.dbr (args m c) (ix3 ⟨t.val, step t⟩ g s) from rfl).trans (congrArg (wides Layer.dbr (args m c)) ?_)
  blk_ext [e]

theorem arr13 : (dats m 0 c).arrAt 13 cfg0.N = wides Layer.dbi (args m c) := by
  refine (dats m 0 c).arrAt_eq_of_covers 13 _ (by decide +kernel) fun t hf y => ?_
  blk_simp
  obtain ⟨a, g, s, rfl⟩ : ∃ (a : Fin 1) (g : Fin 64) (s : Fin 1024), y = ix3 a g s := ⟨y 0, y 1, y 2, eq_ix3 y⟩
  obtain ⟨-, -, -, -, -, -, -, -, -, -, -, -, -, e⟩ := idx t
  rw [after0_13, out13 ⟨_, _, _, _, _, _, _, _, _⟩, lay_eq m c t (step t)]
  refine (show _ = wides Layer.dbi (args m c) (ix3 ⟨t.val, step t⟩ g s) from rfl).trans (congrArg (wides Layer.dbi (args m c)) ?_)
  blk_ext [e]

/-- The run: the results' arrays, the arguments unchanged. -/
theorem run_blocks (ρ : Dev nD → PrngReg) : θ_run defs (onTc (τ := τ) (main (F := Ideal))) ⟨m, fun _ => 0, ρ⟩ fun r => ∀ c : Dev nD,
    r.2.mem ((c : Thread nD τ).loc main_v0_0) = sqs Layer.dA (args m c) ∧ r.2.mem ((c : Thread nD τ).loc main_v0_1) = sqs Layer.dB (args m c)
      ∧ r.2.mem ((c : Thread nD τ).loc main_v0_2) = cols Layer.dL (args m c) ∧ r.2.mem ((c : Thread nD τ).loc main_v0_3) = wides Layer.dbr (args m c)
      ∧ r.2.mem ((c : Thread nD τ).loc main_v0_4) = wides Layer.dbi (args m c)
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6) ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_main m ρ)
  have k (w : Fin 14) (i : (cfg0.win w).isOut = false) := ((h c).1 w).trans (((dats m 0 c).arrAt_in w i _).trans (A_eq m c w))
  exact ⟨((h c).1 9).trans (arr9 m c), ((h c).1 10).trans (arr10 m c), ((h c).1 11).trans (arr11 m c), ((h c).1 12).trans (arr12 m c),
    ((h c).1 13).trans (arr13 m c), (k 0 rfl).trans (V_main_arg0 m c), (k 1 rfl).trans (V_main_arg1 m c), (k 2 rfl).trans (V_main_arg2 m c),
    (k 3 rfl).trans (V_main_arg3 m c), (k 4 rfl).trans (V_main_arg4 m c), (k 5 rfl).trans (V_main_arg5 m c), (k 6 rfl).trans (V_main_arg6 m c),
    (k 7 rfl).trans (V_main_arg7 m c), (k 8 rfl).trans (V_main_arg8 m c)⟩

end Arrays

end Cert.Kernel14Ideal.Value

namespace Cert.Reference14Ideal.Value

open Cert.Reference14Ideal.Gen
open Cert.Kernel14Ideal.Value
open Cert.Reference6Ideal.Value (one_term)

variable (m : (ℓ : Loc nD τ sig) → Buf (Elt Ideal) ℓ) (c : Dev nD)

/-- The layers of the arguments. -/
abbrev args : Fin 4 → Layer := layer (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8))

abbrev in3 : S4x64x1024.Idx → EReal := m ((c.tc : Thread nD τ).loc main_arg3)
abbrev in4 : S4x64x1024.Idx → EReal := m ((c.tc : Thread nD τ).loc main_arg4)
abbrev in7 : S4x64x1024.Idx → EReal := m ((c.tc : Thread nD τ).loc main_arg7)
abbrev in8 : S4x64x1024.Idx → EReal := m ((c.tc : Thread nD τ).loc main_arg8)

theorem X_eq (t : Fin 4) (g s : Fin 64) : (∑ k : Fin 16, in8 m c (ix3 t g (lane s k)) * in3 m c (ix3 t g (lane s k))
    + ∑ k : Fin 16, -in7 m c (ix3 t g (lane s k)) * in4 m c (ix3 t g (lane s k))) = (args m c t).X g s :=
  Finset.sum_add_distrib.symm

theorem Y_eq (t : Fin 4) (g s : Fin 64) : (∑ k : Fin 16, in8 m c (ix3 t g (lane s k)) * in4 m c (ix3 t g (lane s k))
    + ∑ k : Fin 16, in7 m c (ix3 t g (lane s k)) * in3 m c (ix3 t g (lane s k))) = (args m c t).Y g s :=
  Finset.sum_add_distrib.symm

theorem dA_eq : res_main_v144 m c = sqs Layer.dA (args m c) := by
  funext x
  obtain ⟨t, g, s, rfl⟩ : ∃ (a : Fin 4) (g s : Fin 64), x = ix3 a g s := ⟨x 0, x 1, x 2, eq_ix3 x⟩
  unfold res_main_v144
  pointwise [one_term]
  simp only [← lane.eq_1, X_eq, Y_eq]
  rfl

theorem dB_eq : res_main_v136 m c = sqs Layer.dB (args m c) := by
  funext x
  obtain ⟨t, g, s, rfl⟩ : ∃ (a : Fin 4) (g s : Fin 64), x = ix3 a g s := ⟨x 0, x 1, x 2, eq_ix3 x⟩
  unfold res_main_v136
  pointwise [one_term]
  simp only [← lane.eq_1, X_eq, Y_eq]
  rfl

theorem dL_eq : res_main_v145 m c = cols Layer.dL (args m c) := by
  funext x
  obtain ⟨t, g, s, rfl⟩ : ∃ (a : Fin 4) (g : Fin 64) (s : Fin 1), x = ix3 a g s := ⟨x 0, x 1, x 2, eq_ix3 x⟩
  obtain rfl : s = 0 := Subsingleton.elim _ _
  unfold res_main_v145
  pointwise [one_term]
  simp only [← lane.eq_1, X_eq, Y_eq]
  rfl

/-- The run: the results' arrays, the arguments unchanged. -/
theorem run_layers (ρ : Dev nD → PrngReg) : θ_run defs (onTc (τ := τ) (main (F := Ideal))) ⟨m, fun _ => 0, ρ⟩ fun r => ∀ c : Dev nD,
    r.2.mem ((c.tc : Thread nD τ).loc main_v144) = sqs Layer.dA (args m c) ∧ r.2.mem ((c.tc : Thread nD τ).loc main_v136) = sqs Layer.dB (args m c)
      ∧ r.2.mem ((c.tc : Thread nD τ).loc main_v145) = cols Layer.dL (args m c) ∧ r.2.mem ((c.tc : Thread nD τ).loc main_v147) = wides Layer.dbr (args m c)
      ∧ r.2.mem ((c.tc : Thread nD τ).loc main_v146) = wides Layer.dbi (args m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)
      ∧ r.2.mem ((c.tc : Thread nD τ).loc main_arg6) = m ((c.tc : Thread nD τ).loc main_arg6) ∧ r.2.mem ((c.tc : Thread nD τ).loc main_arg7) = m ((c.tc : Thread nD τ).loc main_arg7)
      ∧ r.2.mem ((c.tc : Thread nD τ).loc main_arg8) = m ((c.tc : Thread nD τ).loc main_arg8) := by
  have col (n : Fin 1024) (h : n.val / 16 * 16 + n.val % 16 < 1024) : (⟨n.val / 16 * 16 + n.val % 16, h⟩ : Fin 1024) = n :=
    Fin.ext (show n.val / 16 * 16 + n.val % 16 = n.val by omega)
  refine (θ_run defs _ _).mono (fun r h c => ?_) (run m ρ)
  refine ⟨(h c).1.trans (dA_eq m c), (h c).2.1.trans (dB_eq m c), (h c).2.2.1.trans (dL_eq m c), (h c).2.2.2.1.trans ?_, (h c).2.2.2.2.1.trans ?_, (h c).2.2.2.2.2⟩
  · funext x
    obtain ⟨t, g, n, rfl⟩ : ∃ (a : Fin 4) (g : Fin 64) (n : Fin 1024), x = ix3 a g n := ⟨x 0, x 1, x 2, eq_ix3 x⟩
    pointwise [col]
    rfl
  · funext x
    obtain ⟨t, g, n, rfl⟩ : ∃ (a : Fin 4) (g : Fin 64) (n : Fin 1024), x = ix3 a g n := ⟨x 0, x 1, x 2, eq_ix3 x⟩
    pointwise [col]
    rfl

end Cert.Reference14Ideal.Value

namespace Cert.Proof

theorem frame_kernel14 : quiescent_Kernel14 (hKernel14 := Kernel14.Gen.facts) := fun m g _ => Kernel14.Gen.frame m g

theorem frame_ideal14 : quiescent_Kernel14Ideal (hKernel14Ideal := Kernel14Ideal.Gen.facts) := fun m g _ => Kernel14Ideal.Gen.frame m g

theorem frame_reference14 : quiescent_Reference14Ideal (hReference14Ideal := Reference14Ideal.Gen.facts) :=
  fun m g _ => (θ_run Reference14Ideal.defs _ _).mono
    (fun r h => ⟨fun c => (h c).2.2.2.2.2, sem_eq_zero_of_no_sems (by decide) r.2⟩) (Reference14Ideal.Value.run m g)

theorem equal14 : algebraic_Kernel14Ideal_Reference14Ideal (hKernel14Ideal := Kernel14Ideal.Gen.facts)
    (hReference14Ideal := Reference14Ideal.Gen.facts) := fun m g m' g' _ hag =>
  ⟨_, _, _, _, _, Kernel14Ideal.Value.run_blocks m g,
    (θ_run Reference14Ideal.defs _ _).mono (fun r h c => by
      obtain ⟨a0, a1, a2, a3, a4, a5, a6, a7, a8⟩ := hag c
      have e : Reference14Ideal.Value.args m' c = Kernel14Ideal.Value.args m c := by
        unfold Reference14Ideal.Value.args Kernel14Ideal.Value.args
        rw [a0, a1, a2, a3, a4, a5, a6, a7, a8]
      exact e ▸ h c) (Reference14Ideal.Value.run_layers m' g')⟩

end Cert.Proof

end
-- ==== Proof.Grad.Params.lean ====
/- The forward pass of the S5 discretisation: its frames, and the discretised eigenvalues and input matrices. -/
module

public import proofs.«01_k».proof.Defs
public import proofs.«01_k».proof.Proof.Grad.Ssm
public import proofs.«01_k».proof.Proof.Gen.Kernel17
public import proofs.«01_k».proof.Proof.Gen.Kernel17.Frame
public import proofs.«01_k».proof.Proof.Gen.Kernel17Ideal.Frame
public import proofs.«01_k».proof.Proof.Gen.Reference17Ideal.Run

@[expose] public section

set_option maxRecDepth 16384

noncomputable section

open Idealize.ShloMosaic Idealize.ShloMosaic.TcCoe Idealize.ShloMosaic.Tactic Idealize.SL.Sem
open Cert.Kernel6Ideal.Value (hz2 hz3)
open Cert.Kernel14Ideal.Value (Layer layer lane state sqs wides)

namespace Cert.Kernel14Ideal.Value.Layer

variable (y : Layer) (g : Fin 64) (n : Fin 1024)

/-- The discretised input matrix, its two parts. -/
def bbr : EReal := y.fr g (state n) * y.br g n - y.fi g (state n) * y.bi g n
def bbi : EReal := y.fr g (state n) * y.bi g n + y.fi g (state n) * y.br g n

end Cert.Kernel14Ideal.Value.Layer

namespace Cert.Kernel17Ideal.Value

open Cert.Kernel17Ideal.Gen

/-- The layers of five arrays; the forward pass has no cotangents. -/
abbrev layers (A B : S4x64x64.Idx → EReal) (L : S4x64x1.Idx → EReal) (br bi : S4x64x1024.Idx → EReal) : Fin 4 → Layer :=
  layer A B L br bi (fun _ => 0) (fun _ => 0) (fun _ => 0) (fun _ => 0)

section Body

/-- One grid step's blocks. -/
structure Blocks where
  x0 : Vec Ideal S1x64x64 .f32
  x1 : Vec Ideal S1x64x64 .f32
  x2 : Vec Ideal S1x64x1 .f32
  x3 : Vec Ideal S1x64x1024 .f32
  x4 : Vec Ideal S1x64x1024 .f32

variable (x : Blocks) (g s : Fin 64) (n : Fin 1024)

/-- Their layer. -/
def lay : Layer :=
  ⟨fun g s => x.x0 (ix3 0 g s), fun g s => x.x1 (ix3 0 g s), fun g => x.x2 (ix3 0 g 0), fun g n => x.x3 (ix3 0 g n), fun g n => x.x4 (ix3 0 g n),
    fun _ _ => 0, fun _ _ => 0, fun _ _ => 0, fun _ _ => 0⟩

theorem lr_apply : k0_pay9 x.x0 x.x1 x.x2 (ix2 g s) = (lay x).lr g s := by
  unfold k0_pay9 k0_pay8 k0_pay7 k0_pay3 k0_pay4
  pointwise
  rfl

theorem li_apply : k0_pay10 x.x0 x.x1 x.x2 (ix2 g s) = (lay x).li g s := by
  unfold k0_pay10 k0_pay8 k0_pay7 k0_pay3 k0_pay4
  pointwise
  rfl

theorem fr_apply : k0_pay12 x.x0 x.x1 x.x2 (ix2 g s) = (lay x).fr g s := by
  unfold k0_pay12 k0_pay11 k0_pay3 k0_pay4
  pointwise [lr_apply x, li_apply x]
  rfl

theorem fi_apply : k0_pay13 x.x0 x.x1 x.x2 (ix2 g s) = (lay x).fi g s := by
  unfold k0_pay13 k0_pay11 k0_pay3 k0_pay4
  pointwise [lr_apply x, li_apply x]
  rfl

/-- A state's number for each of its lanes. -/
theorem expand_r (f : FVec Ideal S64x64 .f32) : k0_pay16 f (iota .tc S64x1024 32 [1] iota_S64x1024_d1_w32) 16#32 k0_pay14 0#32 (ix2 g n) = f (ix2 g (state n)) :=
  Cert.Kernel14Ideal.Value.expand_apply f g n

theorem expand_i (f : FVec Ideal S64x64 .f32) : k0_pay17 f (iota .tc S64x1024 32 [1] iota_S64x1024_d1_w32) 16#32 k0_pay14 0#32 (ix2 g n) = f (ix2 g (state n)) :=
  Cert.Kernel14Ideal.Value.expand_apply f g n

theorem out5 (a : Fin 1) : out0_5 x.x0 x.x1 x.x2 x.x3 x.x4 (ix3 a g s) = (lay x).lr g s := by
  unfold out0_5 k0_pay20
  rw [View.canon_unit_zero (S := S1x64x64) hz3]
  simp only [View.ld_unit_zero (S := S1x64x64) hz3, View.ld_unit_zero (S := S1x64x1) hz3]
  pointwise [lr_apply x]

theorem out6 (a : Fin 1) : out0_6 x.x0 x.x1 x.x2 x.x3 x.x4 (ix3 a g s) = (lay x).li g s := by
  unfold out0_6 k0_pay21
  rw [View.canon_unit_zero (S := S1x64x64) hz3]
  simp only [View.ld_unit_zero (S := S1x64x64) hz3, View.ld_unit_zero (S := S1x64x1) hz3]
  pointwise [li_apply x]

theorem out7 (a : Fin 1) : out0_7 x.x0 x.x1 x.x2 x.x3 x.x4 (ix3 a g n) = (lay x).bbr g n := by
  unfold out0_7 k0_pay1 k0_pay18 k0_pay22 k0_pay23 k0_pay24 k0_pay25 k0_pay26 k0_pay27 k0_pay5 k0_pay6
  rw [View.canon_unit_zero (S := S1x64x1024) hz3]
  simp only [View.ld_unit_zero (S := S1x64x64) hz3, View.ld_unit_zero (S := S1x64x1) hz3, View.ld_unit_zero (S := S1x64x1024) hz3]
  pointwise
  rw [expand_r, expand_i, fr_apply x, fi_apply x]
  rfl

theorem out8 (a : Fin 1) : out0_8 x.x0 x.x1 x.x2 x.x3 x.x4 (ix3 a g n) = (lay x).bbi g n := by
  unfold out0_8 k0_pay2 k0_pay19 k0_pay22 k0_pay23 k0_pay24 k0_pay25 k0_pay26 k0_pay27 k0_pay5 k0_pay6
  rw [View.canon_unit_zero (S := S1x64x1024) hz3]
  simp only [View.ld_unit_zero (S := S1x64x64) hz3, View.ld_unit_zero (S := S1x64x1) hz3, View.ld_unit_zero (S := S1x64x1024) hz3]
  pointwise
  rw [expand_r, expand_i, fr_apply x, fi_apply x]
  rfl

end Body

section Arrays

variable (m : (ℓ : Loc nD τ sig) → Buf (Elt Ideal) ℓ) (c : Dev nD)

/-- The layers of the arguments. -/
abbrev args : Fin 4 → Layer := layers (m ((c : Thread nD τ).loc main_arg0)) (m ((c : Thread nD τ).loc main_arg1)) (m ((c : Thread nD τ).loc main_arg2))
  (m ((c : Thread nD τ).loc main_arg3)) (m ((c : Thread nD τ).loc main_arg4))

/-- Which blocks a grid step reads and writes. -/
theorem idx : ∀ (t : Fin grid0.N), win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] := by
  decide +kernel

theorem lay_eq (t : Fin cfg0.N) (n : t.val < 4) : lay ⟨iblk m c 0 t, iblk m c 1 t, iblk m c 2 t, iblk m c 3 t, iblk m c 4 t⟩ = args m c ⟨t.val, n⟩ := by
  obtain ⟨e0, e1, e2, e3, e4, -⟩ := idx t
  unfold lay args layers layer
  congr 1 <;> first | (funext g s; dsimp only; blk_ext [iblk, e0, e1, e3, e4]) | (funext g; dsimp only; blk_ext [iblk, e2])

theorem step (t : Fin cfg0.N) : t.val < 4 := lt_of_lt_of_eq t.isLt (show cfg0.N = 4 from N_0)

theorem arr5 : (dats m 0 c).arrAt 5 cfg0.N = sqs Layer.lr (args m c) := by
  refine (dats m 0 c).arrAt_eq_of_covers 5 _ (by decide +kernel) fun t hf y => ?_
  blk_simp
  obtain ⟨a, g, s, rfl⟩ : ∃ (a : Fin 1) (g : Fin 64) (s : Fin 64), y = ix3 a g s := ⟨y 0, y 1, y 2, eq_ix3 y⟩
  obtain ⟨-, -, -, -, -, e, -⟩ := idx t
  rw [after0_5, out5 ⟨_, _, _, _, _⟩, lay_eq m c t (step t)]
  refine (show _ = sqs Layer.lr (args m c) (ix3 ⟨t.val, step t⟩ g s) from rfl).trans (congrArg (sqs Layer.lr (args m c)) ?_)
  blk_ext [e]

theorem arr6 : (dats m 0 c).arrAt 6 cfg0.N = sqs Layer.li (args m c) := by
  refine (dats m 0 c).arrAt_eq_of_covers 6 _ (by decide +kernel) fun t hf y => ?_
  blk_simp
  obtain ⟨a, g, s, rfl⟩ : ∃ (a : Fin 1) (g : Fin 64) (s : Fin 64), y = ix3 a g s := ⟨y 0, y 1, y 2, eq_ix3 y⟩
  obtain ⟨-, -, -, -, -, -, e, -⟩ := idx t
  rw [after0_6, out6 ⟨_, _, _, _, _⟩, lay_eq m c t (step t)]
  refine (show _ = sqs Layer.li (args m c) (ix3 ⟨t.val, step t⟩ g s) from rfl).trans (congrArg (sqs Layer.li (args m c)) ?_)
  blk_ext [e]

theorem arr7 : (dats m 0 c).arrAt 7 cfg0.N = wides Layer.bbr (args m c) := by
  refine (dats m 0 c).arrAt_eq_of_covers 7 _ (by decide +kernel) fun t hf y => ?_
  blk_simp
  obtain ⟨a, g, s, rfl⟩ : ∃ (a : Fin 1) (g : Fin 64) (s : Fin 1024), y = ix3 a g s := ⟨y 0, y 1, y 2, eq_ix3 y⟩
  obtain ⟨-, -, -, -, -, -, -, e, -⟩ := idx t
  rw [after0_7, out7 ⟨_, _, _, _, _⟩, lay_eq m c t (step t)]
  refine (show _ = wides Layer.bbr (args m c) (ix3 ⟨t.val, step t⟩ g s) from rfl).trans (congrArg (wides Layer.bbr (args m c)) ?_)
  blk_ext [e]

theorem arr8 : (dats m 0 c).arrAt 8 cfg0.N = wides Layer.bbi (args m c) := by
  refine (dats m 0 c).arrAt_eq_of_covers 8 _ (by decide +kernel) fun t hf y => ?_
  blk_simp
  obtain ⟨a, g, s, rfl⟩ : ∃ (a : Fin 1) (g : Fin 64) (s : Fin 1024), y = ix3 a g s := ⟨y 0, y 1, y 2, eq_ix3 y⟩
  obtain ⟨-, -, -, -, -, -, -, -, e⟩ := idx t
  rw [after0_8, out8 ⟨_, _, _, _, _⟩, lay_eq m c t (step t)]
  refine (show _ = wides Layer.bbi (args m c) (ix3 ⟨t.val, step t⟩ g s) from rfl).trans (congrArg (wides Layer.bbi (args m c)) ?_)
  blk_ext [e]

/-- The run: the results' arrays, the arguments unchanged. -/
theorem run_blocks (ρ : Dev nD → PrngReg) : θ_run defs (onTc (τ := τ) (main (F := Ideal))) ⟨m, fun _ => 0, ρ⟩ fun r => ∀ c : Dev nD,
    r.2.mem ((c : Thread nD τ).loc main_v0_0) = sqs Layer.lr (args m c) ∧ r.2.mem ((c : Thread nD τ).loc main_v0_1) = sqs Layer.li (args m c)
      ∧ r.2.mem ((c : Thread nD τ).loc main_v0_2) = wides Layer.bbr (args m c) ∧ r.2.mem ((c : Thread nD τ).loc main_v0_3) = wides Layer.bbi (args m c)
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m ρ)
  have k (w : Fin 9) (i : (cfg0.win w).isOut = false) := ((h c).1 w).trans (((dats m 0 c).arrAt_in w i _).trans (A_eq m c w))
  exact ⟨((h c).1 5).trans (arr5 m c), ((h c).1 6).trans (arr6 m c), ((h c).1 7).trans (arr7 m c), ((h c).1 8).trans (arr8 m c),
    (k 0 rfl).trans (V_main_arg0 m c), (k 1 rfl).trans (V_main_arg1 m c), (k 2 rfl).trans (V_main_arg2 m c), (k 3 rfl).trans (V_main_arg3 m c),
    (k 4 rfl).trans (V_main_arg4 m c)⟩

end Arrays

end Cert.Kernel17Ideal.Value

namespace Cert.Reference17Ideal.Value

open Cert.Reference17Ideal.Gen
open Cert.Kernel17Ideal.Value (layers)
open Cert.Reference6Ideal.Value (one_term)

variable (m : (ℓ : Loc nD τ sig) → Buf (Elt Ideal) ℓ) (c : Dev nD)

/-- The layers of the arguments. -/
abbrev args : Fin 4 → Layer := layers (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- The run: the results' arrays, the arguments unchanged. -/
theorem run_layers (ρ : Dev nD → PrngReg) : θ_run defs (onTc (τ := τ) (main (F := Ideal))) ⟨m, fun _ => 0, ρ⟩ fun r => ∀ c : Dev nD,
    r.2.mem ((c.tc : Thread nD τ).loc main_v9) = sqs Layer.lr (args m c) ∧ r.2.mem ((c.tc : Thread nD τ).loc main_v13) = sqs Layer.li (args m c)
      ∧ r.2.mem ((c.tc : Thread nD τ).loc main_v43) = wides Layer.bbr (args m c) ∧ r.2.mem ((c.tc : Thread nD τ).loc main_v44) = wides Layer.bbi (args m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  have col (n : Fin 1024) (h : n.val / 16 * 16 + n.val % 16 < 1024) : (⟨n.val / 16 * 16 + n.val % 16, h⟩ : Fin 1024) = n :=
    Fin.ext (show n.val / 16 * 16 + n.val % 16 = n.val by omega)
  refine (θ_run defs _ _).mono (fun r h c => ?_) (run m ρ)
  refine ⟨(h c).1.trans ?_, (h c).2.1.trans ?_, (h c).2.2.1.trans ?_, (h c).2.2.2.1.trans ?_, (h c).2.2.2.2⟩
  all_goals
    funext x
    obtain ⟨l, g, n, rfl⟩ : ∃ l g n, x = ix3 l g n := ⟨x 0, x 1, x 2, eq_ix3 x⟩
    pointwise [col, one_term]
    rfl

end Cert.Reference17Ideal.Value

namespace Cert.Proof

theorem frame_kernel17 : quiescent_Kernel17 (hKernel17 := Kernel17.Gen.facts) := fun m g _ => Kernel17.Gen.frame m g

theorem frame_ideal17 : quiescent_Kernel17Ideal (hKernel17Ideal := Kernel17Ideal.Gen.facts) := fun m g _ => Kernel17Ideal.Gen.frame m g

theorem frame_reference17 : quiescent_Reference17Ideal (hReference17Ideal := Reference17Ideal.Gen.facts) :=
  fun m g _ => (θ_run Reference17Ideal.defs _ _).mono
    (fun r h => ⟨fun c => (h c).2.2.2.2, sem_eq_zero_of_no_sems (by decide) r.2⟩) (Reference17Ideal.Value.run m g)

theorem equal17 : algebraic_Kernel17Ideal_Reference17Ideal (hKernel17Ideal := Kernel17Ideal.Gen.facts)
    (hReference17Ideal := Reference17Ideal.Gen.facts) := fun m g m' g' _ hag =>
  ⟨_, _, _, _, Kernel17Ideal.Value.run_blocks m g,
    (θ_run Reference17Ideal.defs _ _).mono (fun r h c => by
      obtain ⟨a0, a1, a2, a3, a4⟩ := hag c
      have e : Reference17Ideal.Value.args m' c = Kernel17Ideal.Value.args m c := by
        unfold Reference17Ideal.Value.args Kernel17Ideal.Value.args
        rw [a0, a1, a2, a3, a4]
      exact e ▸ h c) (Reference17Ideal.Value.run_layers m' g')⟩

end Cert.Proof

end
-- ==== Proof.Grad.Prep.lean ====
/- The causal convolution, its activation and the heads' normalisation, forward: the frame of their call, and the values over the extended
   reals, twenty-four column blocks. -/
module

public import proofs.«01_k».proof.Defs
public import proofs.«01_k».proof.Proof.Grad.Conv
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run

@[expose] public section

set_option maxRecDepth 16384

noncomputable section

open Idealize.ShloMosaic Idealize.ShloMosaic.TcCoe Idealize.ShloMosaic.Tactic Idealize.SL.Sem
open Cert.Kernel6Ideal.Value (lag mix gate len wide peer pre one_sub_one qk_eq hz2 hz3)

namespace Cert.Kernel15Ideal.Value

open Cert.Kernel15Ideal.Gen

/-- One row of one head; the first sixteen heads are normalised. -/
def head (b : ℕ) (z : Fin 128 → EReal) (j : Fin 128) : EReal :=
  z j * gate (z j) * if b < 16 then Ideal.rsqrt (len fun k => z k * gate (z k)) else 1

/-- A head's column of the array. -/
def at0 (h : Fin 24) (j : Fin 128) : Fin 3072 := ⟨128 * h.val + j.val, by omega⟩

/-- The heads. -/
def fwd (A : S4096x8320.Idx → EReal) (W : S4x3072.Idx → EReal) : S24x4096x128.Idx → EReal := fun x =>
  head (x 0).val (fun k => pre A W (x 1) (at0 (x 0) k)) (x 2)

theorem fwd_apply (A : S4096x8320.Idx → EReal) (W : S4x3072.Idx → EReal) (h : Fin 24) (t : Fin 4096) (j : Fin 128) :
    fwd A W (ix3 h t j) = head h.val (fun k => pre A W t (at0 h k)) j := rfl

theorem pay_apply (i : grid0.Coords) (z : FVec Ideal S4096x128 .f32) (a : Fin 1) (t : Fin 4096) (j : Fin 128) :
    k0_pay1 (k0_pay2 i) z k0_pay4 (ix3 a t j) = head (i 0).val (fun k => z (ix2 t k)) j := by
  have q : (k0_pay2 i : Ideal .f32) = (if (i 0).val < 16 then 1 else 0 : EReal) := qk_eq i
  unfold k0_pay1 k0_pay4
  pointwise [q, zero_sub]
  unfold head len gate
  split_ifs with h
  · simp only [mul_one, one_sub_one, add_zero]
  · simp

theorem conv_apply (p : Vec Ideal S4096x128 .f32) (w : Vec Ideal S4x128 .f32) (t : Fin 4096) (j : Fin 128) :
    k0_pay3 (View.ld p r0_0) (View.ld w r0_1) (View.ld w r0_2) (View.ld w r0_3) (View.ld w r0_4) (ix2 t j)
      = mix (fun r => p (ix2 r j)) (fun a => w (ix2 a j)) t := by
  refine (Cert.Kernel6Ideal.Value.conv_apply _ _ _ _ _ t j).trans ?_
  rw [View.ld_unit_zero (S := S4096x128) hz2]
  congr 1
  funext a
  fin_cases a <;> pointwise

variable (m : (ℓ : Loc nD τ sig) → Buf (Elt Ideal) ℓ) (c : Dev nD)

/-- Which blocks a grid step reads and writes. -/
theorem idx : ∀ t : Fin grid0.N, win0_0.index t = ![0, t.val] ∧ win0_1.index t = ![0, t.val] ∧ win0_2.index t = ![t.val, 0, 0] ∧ (grid0.coords t 0).val = t.val := by
  decide +kernel

/-- The result's array after the run. -/
theorem arr2 : (dats m 0 c).arrAt 2 cfg0.N = fwd (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, i, j, rfl⟩ : ∃ (a : Fin 1) (i : Fin 4096) (j : Fin 128), y = ix3 a i j := ⟨y 0, y 1, y 2, eq_ix3 y⟩
  obtain ⟨e0, e1, e2, e3⟩ := idx t
  unfold out0_2
  rw [View.canon_unit_zero (S := S1x4096x128) hz3]
  refine (pay_apply _ _ a i j).trans ?_
  have n : t.val < 24 := lt_of_lt_of_eq t.isLt (show cfg0.N = 24 from N_0)
  have z (k : Fin 128) : k0_pay3 (View.ld (iblk m c 0 t) r0_0) (View.ld (iblk m c 1 t) r0_1) (View.ld (iblk m c 1 t) r0_2) (View.ld (iblk m c 1 t) r0_3)
      (View.ld (iblk m c 1 t) r0_4) (ix2 i k) = pre (m ((c : Thread nD τ).loc main_arg0)) (m ((c : Thread nD τ).loc main_arg1)) i (at0 ⟨t.val, n⟩ k) := by
    refine (conv_apply _ _ i k).trans ?_
    unfold pre
    congr 1
    · funext r
      blk_ext [iblk, e0, wide, at0]
    · funext r
      blk_ext [iblk, e1, at0]
  rw [e3]
  refine (congrArg (fun f => head t.val f j) (funext z)).trans ((fwd_apply _ _ ⟨t.val, n⟩ i j).symm.trans (congrArg _ ?_))
  blk_ext [e2]

end Cert.Kernel15Ideal.Value

namespace Cert.Reference15Ideal.Value

open Cert.Reference15Ideal.Gen
open Cert.Kernel15Ideal.Value (head at0 fwd)

variable (m : (ℓ : Loc nD τ sig) → Buf (Elt Ideal) ℓ) (c : Dev nD)

abbrev inA : S4096x8320.Idx → EReal := m ((c.tc : Thread nD τ).loc main_arg0)
abbrev inW : S4x3072.Idx → EReal := m ((c.tc : Thread nD τ).loc main_arg1)

/-- The convolution's input, three zero rows in front. -/
def pad : FVec Ideal S4099x3072 .f32 :=
  concatenate S4099x3072 0 [⟨S3x3072, broadcastInDim S3x3072 ![] bcast_S_S3x3072 (constant S_ .f32 0x00000000#32)⟩,
    ⟨S4096x3072, extractStridedSlice S4096x3072 ![0, 0] (inA m c) slices_S4096x8320_S4096x3072_0_0⟩] concatenates_S3x3072_S4096x3072_S4099x3072_d0

/-- One of its rows over all times. -/
def tap (w : FVec Ideal S1x3072 .f32) : FVec Ideal S4096x3072 .f32 :=
  broadcastInDim S4096x3072 ![0, 1] bcast_S1x3072_S4096x3072_0_1 (broadcastInDim S1x3072 ![1] bcast_S3072_S1x3072_1 (shapeCast _ w shapeCasts_S1x3072_S3072))

/-- The convolution. -/
def conv : FVec Ideal S4096x3072 .f32 :=
  addf (addf (addf (addf (broadcastInDim S4096x3072 ![] bcast_S_S4096x3072 (constant S_ .f32 0x00000000#32))
    (mulf (tap (extractStridedSlice S1x3072 ![0, 0] (inW m c) slices_S4x3072_S1x3072_0_0)) (extractStridedSlice S4096x3072 ![0, 0] (pad m c) slices_S4099x3072_S4096x3072_0_0)))
    (mulf (tap (extractStridedSlice S1x3072 ![1, 0] (inW m c) slices_S4x3072_S1x3072_1_0)) (extractStridedSlice S4096x3072 ![1, 0] (pad m c) slices_S4099x3072_S4096x3072_1_0)))
    (mulf (tap (extractStridedSlice S1x3072 ![2, 0] (inW m c) slices_S4x3072_S1x3072_2_0)) (extractStridedSlice S4096x3072 ![2, 0] (pad m c) slices_S4099x3072_S4096x3072_2_0)))
    (mulf (tap (extractStridedSlice S1x3072 ![3, 0] (inW m c) slices_S4x3072_S1x3072_3_0)) (extractStridedSlice S4096x3072 ![3, 0] (pad m c) slices_S4099x3072_S4096x3072_3_0))

/-- Its activation. -/
def act : FVec Ideal S4096x3072 .f32 :=
  mulf (conv m c) (Host.divf (broadcastInDim S4096x3072 ![] bcast_S_S4096x3072 (constant S_ .f32 0x3F800000#32))
    (addf (broadcastInDim S4096x3072 ![] bcast_S_S4096x3072 (constant S_ .f32 0x3F800000#32)) (Host.exp (Host.negf (conv m c)))))

/-- Eight heads of a third of the columns. -/
def heads (y : FVec Ideal S4096x1024 .f32) : FVec Ideal S8x4096x128 .f32 :=
  transpose S8x4096x128 [1, 0, 2] (shapeCast _ y shapeCasts_S4096x1024_S4096x8x128) transposes_S4096x8x128_S8x4096x128_1_0_2

/-- Heads normalised. -/
def unit (y : FVec Ideal S8x4096x128 .f32) : FVec Ideal S8x4096x128 .f32 :=
  mulf y (broadcastInDim S8x4096x128 ![0, 1, 2] bcast_S8x4096x1_S8x4096x128_0_1_2 (Host.rsqrt (addf (broadcastInDim S8x4096x1 ![0, 1] bcast_S8x4096_S8x4096x1_0_1
    (Host.reduceAdd (mulf y y) (constant S_ .f32 0x00000000#32) reducesTo_S8x4096x128_S8x4096_d2 h_S_)) (broadcastInDim S8x4096x1 ![] bcast_S_S8x4096x1 (constant S_ .f32 0x358637BD#32)))))

theorem v58_eq : res_main_v58 m c = concatenate S24x4096x128 0
    [⟨S8x4096x128, unit (heads (extractStridedSlice S4096x1024 ![0, 0] (act m c) slices_S4096x3072_S4096x1024_0_0))⟩,
     ⟨S8x4096x128, unit (heads (extractStridedSlice S4096x1024 ![0, 1024] (act m c) slices_S4096x3072_S4096x1024_0_1024))⟩,
     ⟨S8x4096x128, heads (extractStridedSlice S4096x1024 ![0, 2048] (act m c) slices_S4096x3072_S4096x1024_0_2048)⟩]
    concatenates_S8x4096x128_S8x4096x128_S8x4096x128_S24x4096x128_d0 := rfl

theorem pad_apply (i : Fin 4099) (n : Fin 3072) :
    pad m c (ix2 i n) = (if h : i.val < 3 then 0 else inA m c (ix2 ⟨i.val - 3, by omega⟩ (wide n)) : EReal) := by
  unfold pad
  pointwise
  rfl

/-- The rows behind the three zero rows. -/
theorem padded (s : ℕ) (t : Fin 4096) (n : Fin 3072) (hs : s ≤ 3) (r : Fin 4099) (h : r.val = t.val + (3 - s)) :
    pad m c (ix2 r n) = lag s (fun r => inA m c (ix2 r (wide n))) t := by
  refine (pad_apply m c _ n).trans ?_
  unfold lag
  by_cases z : s ≤ t.val
  · rw [if_pos z, dif_neg (by omega)]
    exact congrArg (fun r => inA m c (ix2 r (wide n))) (Fin.ext (show r.val - 3 = t.val - s by omega))
  · rw [if_neg z, dif_pos (by omega)]

theorem tap_apply (w : FVec Ideal S1x3072 .f32) (t : Fin 4096) (n : Fin 3072) : tap w (ix2 t n) = w (ix2 0 n) := by
  unfold tap
  pointwise

theorem conv_apply (t : Fin 4096) (n : Fin 3072) : conv m c (ix2 t n) = pre (inA m c) (inW m c) t n := by
  unfold conv
  pointwise [tap_apply]
  rw [padded m c 3 t n (by omega) _ (by dsimp only; omega), padded m c 2 t n (by omega) _ (by dsimp only; omega), padded m c 1 t n (by omega) _ (by dsimp only; omega),
    padded m c 0 t n (by omega) _ (by dsimp only; omega)]
  show _ = inW m c (ix2 3 n) * inA m c (ix2 t (wide n)) + inW m c (ix2 2 n) * lag 1 (fun r => inA m c (ix2 r (wide n))) t
    + inW m c (ix2 1 n) * lag 2 (fun r => inA m c (ix2 r (wide n))) t + inW m c (ix2 0 n) * lag 3 (fun r => inA m c (ix2 r (wide n))) t
  have z : lag 0 (fun r => inA m c (ix2 r (wide n))) t = inA m c (ix2 t (wide n)) := rfl
  rw [z]
  ac_rfl

theorem act_apply (t : Fin 4096) (n : Fin 3072) :
    act m c (ix2 t n) = (pre (inA m c) (inW m c) t n * gate (pre (inA m c) (inW m c) t n) : EReal) := by
  unfold act gate
  pointwise [conv_apply]

theorem heads_apply (y : FVec Ideal S4096x1024 .f32) (h : Fin 8) (t : Fin 4096) (j : Fin 128) : heads y (ix3 h t j) = y (ix2 t ⟨128 * h.val + j.val, by omega⟩) := by
  unfold heads
  pointwise
  exact congrArg (fun k => y (ix2 t k)) (Fin.ext (show h.val * 128 + j.val = 128 * h.val + j.val by omega))

theorem unit_apply (y : FVec Ideal S8x4096x128 .f32) (h : Fin 8) (t : Fin 4096) (j : Fin 128) :
    unit y (ix3 h t j) = (y (ix3 h t j) * Ideal.rsqrt (len fun k => y (ix3 h t k)) : EReal) := by
  unfold unit len
  pointwise

/-- The reference's result. -/
theorem res_eq : res_main_v58 m c = fwd (inA m c) (inW m c) := by
  rw [v58_eq]
  funext x
  obtain ⟨h, t, j, rfl⟩ : ∃ (h : Fin 24) (t : Fin 4096) (j : Fin 128), x = ix3 h t j := ⟨x 0, x 1, x 2, eq_ix3 x⟩
  refine Eq.trans ?_ (Cert.Kernel15Ideal.Value.fwd_apply _ _ h t j).symm
  pointwise [unit_apply, heads_apply, act_apply]
  unfold head
  dsimp only
  have col (x : ℕ) (k : Fin 128) (hx : x < 3072) (e : x = 128 * h.val + k.val) : (⟨x, hx⟩ : Fin 3072) = at0 h k := Fin.ext e
  have n := h.isLt
  by_cases p : h.val < 8
  · have g : h.val < 16 := by omega
    refine (dif_pos p).trans ?_
    rw [if_pos g, col _ j _ rfl]
    rfl
  · refine (dif_neg p).trans ?_
    by_cases q : h.val - 8 < 8
    · have g : h.val < 16 := by omega
      refine (dif_pos q).trans ?_
      rw [if_pos g, col _ j _ (by omega)]
      congr 3
      funext k
      rw [col _ k _ (by omega)]
    · have g : ¬h.val < 16 := by omega
      refine (dif_neg q).trans ?_
      rw [if_neg g, mul_one, col _ j _ (by omega)]

end Cert.Reference15Ideal.Value

namespace Cert.Proof

theorem frame_kernel15 : quiescent_Kernel15 (hKernel15 := Kernel15.Gen.facts) := fun m g _ => Kernel15.Gen.frame m g

theorem frame_ideal15 : quiescent_Kernel15Ideal (hKernel15Ideal := Kernel15Ideal.Gen.facts) := fun m g _ => Kernel15Ideal.Gen.frame m g

theorem frame_reference15 : quiescent_Reference15Ideal (hReference15Ideal := Reference15Ideal.Gen.facts) :=
  fun m g _ => (θ_run Reference15Ideal.defs _ _).mono
    (fun r h => ⟨fun c => (h c).2, sem_eq_zero_of_no_sems (by decide) r.2⟩) (Reference15Ideal.Value.run m g)

theorem equal15 : algebraic_Kernel15Ideal_Reference15Ideal (hKernel15Ideal := Kernel15Ideal.Gen.facts)
    (hReference15Ideal := Reference15Ideal.Gen.facts) := fun m g m' g' _ hag =>
  ⟨fun c => Kernel15Ideal.Value.fwd (m ((c.tc : Thread Kernel15Ideal.nD Kernel15Ideal.τ).loc Kernel15Ideal.main_arg0))
      (m ((c.tc : Thread Kernel15Ideal.nD Kernel15Ideal.τ).loc Kernel15Ideal.main_arg1)),
    (θ_run Kernel15Ideal.defs _ _).mono (fun r h c => ⟨(h c).1.trans (Kernel15Ideal.Value.arr2 m c), (h c).2⟩) (Kernel15Ideal.Value.run_blocks m g),
    (θ_run Reference15Ideal.defs _ _).mono (fun r h c => ⟨(h c).1.trans ((Reference15Ideal.Value.res_eq m' c).trans
      (congrArg₂ Kernel15Ideal.Value.fwd (hag c).1 (hag c).2)), (h c).2⟩) (Reference15Ideal.Value.run m' g')⟩

end Cert.Proof

end
-- ==== Proof.Opt.Step.lean ====
/- One number's step of AdamW over the extended reals, and its two forms: the kernel multiplies by the reciprocals of the
   bias corrections, the reference divides by the corrections. -/
module

public import Idealize.ShloMosaic.PureOps.Ideal
public import Idealize.ShloMosaic.PureOps.IdealRules
public import Idealize.ShloMosaic.Lib.Pointwise

@[expose] public section

noncomputable section

namespace Cert.Opt

open Idealize.ShloMosaic

/-- The kernel's two literals, as the numbers they are named. -/
theorem named1 (κ : String → Option EReal) (h : κ "c1" = some ((8388608 / 5463681 : ℝ) : EReal)) :
    Named.named (F := Ideal) κ "c1" (φ := .f32) 0x3FC48605#32 = ((8388608 / 5463681 : ℝ) : EReal) := IdealRules.named_const.ideal_named_scalar _ _ _ _ h

theorem named2 (κ : String → Option EReal) (h : κ "c2" = some ((268435456 / 2672307 : ℝ) : EReal)) :
    Named.named (F := Ideal) κ "c2" (φ := .f32) 0x42C8E6D3#32 = ((268435456 / 2672307 : ℝ) : EReal) := IdealRules.named_const.ideal_named_scalar _ _ _ _ h

/-- The new first moment of a number with gradient `g`. -/
def newM (g m : EReal) : EReal := Ideal.ofBits .f32 0x3F666666#32 * m + Ideal.ofBits .f32 0x3DCCCCCD#32 * g

/-- Its new second moment. -/
def newV (g v : EReal) : EReal := Ideal.ofBits .f32 0x3F7FBE77#32 * v + Ideal.ofBits .f32 0x3A83126F#32 * (g * g)

/-- What is added to the number, from its value and its new moments. -/
def delta (w a b : EReal) : EReal :=
  Ideal.ofBits .f32 0xBA83126F#32 * (Ideal.div (a * ((8388608 / 5463681 : ℝ) : EReal)) (Ideal.sqrt (b * ((268435456 / 2672307 : ℝ) : EReal)) + Ideal.ofBits .f32 0x322BCC77#32)
    + Ideal.ofBits .f32 0x3C23D70A#32 * w)

theorem bits1 : Ideal.ofBits .f32 0x3F26BD02#32 = ((5463681 / 8388608 : ℝ) : EReal) := by
  simp [Ideal.ofBits, Ideal.ieee, -EReal.coe_mul]; norm_num

theorem bits2 : Ideal.ofBits .f32 0x3C231ACC#32 = ((2672307 / 268435456 : ℝ) : EReal) := by
  simp [Ideal.ofBits, Ideal.ieee, -EReal.coe_mul]; norm_num

/-- Dividing by the first correction is multiplying by its reciprocal. -/
theorem div1 (x : EReal) : Ideal.div x (Ideal.ofBits .f32 0x3F26BD02#32) = x * ((8388608 / 5463681 : ℝ) : EReal) := by
  rw [bits1, Ideal.div_coe (by norm_num)]
  norm_num

/-- And by the second. -/
theorem div2 (x : EReal) : Ideal.div x (Ideal.ofBits .f32 0x3C231ACC#32) = x * ((268435456 / 2672307 : ℝ) : EReal) := by
  rw [bits2, Ideal.div_coe (by norm_num)]
  norm_num

/-- The reference's form of the change is the kernel's. -/
theorem delta_eq (w a b : EReal) :
    Ideal.ofBits .f32 0xBA83126F#32 * (Ideal.div (Ideal.div a (Ideal.ofBits .f32 0x3F26BD02#32))
        (Ideal.sqrt (Ideal.div b (Ideal.ofBits .f32 0x3C231ACC#32)) + Ideal.ofBits .f32 0x322BCC77#32) + Ideal.ofBits .f32 0x3C23D70A#32 * w)
      = delta w a b := by
  rw [div1, div2]; rfl

/-- The sum of two devices' parts. -/
def plus {I : Type} (a b : I → EReal) : I → EReal := fun i => a i + b i

/-- The three results of whole arrays: every element by itself. -/
def firsts {I : Type} (g a : I → EReal) : I → EReal := fun i => newM (g i) (a i)

def seconds {I : Type} (g b : I → EReal) : I → EReal := fun i => newV (g i) (b i)

def deltas {I : Type} (w g a b : I → EReal) : I → EReal := fun i => delta (w i) (newM (g i) (a i)) (newV (g i) (b i))

end Cert.Opt

end
-- ==== Proof.Opt.Layers.lean ====
/- The updates of the state's input and output maps, a layer a grid step: the frames of their calls, and the values over the
   extended reals. -/
module

public import proofs.«01_k».proof.Defs
public import proofs.«01_k».proof.Proof.Opt.Step
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.ShloMosaic.Tactic Idealize.SL.Sem
open Cert.Opt (named1 named2 newM newV delta firsts seconds deltas delta_eq)

theorem Cert.Opt.hz4 : (![0, 0, 0, 0] : Fin 4 → Nat) = fun _ => 0 := funext fun a => by fin_cases a <;> rfl

open Cert.Opt (hz4)

namespace Cert.Kernel11Ideal.Value

open Cert.Kernel11Ideal.Gen

variable (m : (ℓ : Loc nD τ sig) → Buf (Elt Ideal) ℓ) (c : Dev nD)

/-- A grid step's blocks: a layer of every array. -/
theorem idx : ∀ t : Fin grid0.N, win0_0.index t = ![t.val, 0, 0, 0] ∧ win0_1.index t = ![t.val, 0, 0, 0] ∧ win0_2.index t = ![t.val, 0, 0, 0] ∧ win0_3.index t = ![t.val, 0, 0, 0] ∧ win0_4.index t = ![t.val, 0, 0, 0] ∧ win0_5.index t = ![t.val, 0, 0, 0] ∧ win0_6.index t = ![t.val, 0, 0, 0] := by decide +kernel

theorem load (X : Vec Ideal S1x64x64x16 .f32) : View.ld X r0_0 = X := View.ld_unit_zero hz4 _ X

theorem arr4 : (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  rw [canon4_eq]
  obtain ⟨e0, e1, e2, e3, e4, e5, e6⟩ := idx t
  simp only [load]
  unfold E4
  rw [named1 κ rfl, named2 κ rfl]
  show delta _ (newM _ _) (newV _ _) = delta _ (newM _ _) (newV _ _)
  congr 1
  · blk_ext [iblk, e0, e4]
  · congr 1
    · blk_ext [iblk, e1, e4]
    · blk_ext [iblk, e2, e4]
  · congr 1
    · blk_ext [iblk, e1, e4]
    · blk_ext [iblk, e3, e4]

theorem arr5 : (dats m 0 c).arrAt 5 cfg0.N = firsts (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  rw [canon5_eq]
  obtain ⟨e0, e1, e2, e3, e4, e5, e6⟩ := idx t
  simp only [load]
  show newM _ _ = newM _ _
  congr 1
  · blk_ext [iblk, e1, e5]
  · blk_ext [iblk, e2, e5]

theorem arr6 : (dats m 0 c).arrAt 6 cfg0.N = seconds (m ((c : Thread nD τ).loc main_arg1)) (m ((c : Thread nD τ).loc main_arg3)) := by
  refine (dats m 0 c).arrAt_eq_of_covers 6 _ (by decide +kernel) fun t hf y => ?_
  blk_simp
  rw [after0_6]
  unfold out0_6
  rw [canon6_eq]
  obtain ⟨e0, e1, e2, e3, e4, e5, e6⟩ := idx t
  simp only [load]
  show newV _ _ = newV _ _
  congr 1
  · blk_ext [iblk, e1, e6]
  · blk_ext [iblk, e3, e6]

end Cert.Kernel11Ideal.Value

namespace Cert.Proof

theorem preserves11 : preserves_Kernel11_Kernel11Ideal :=
  ⟨IdealRules.named_const.statement _ _ _ _ _ rfl, IdealRules.named_const.statement _ _ _ _ _ rfl⟩

theorem frame_kernel11 : quiescent_Kernel11 (hKernel11 := Kernel11.Gen.facts) := fun m g _ => Kernel11.Gen.frame m g

theorem frame_ideal11 : quiescent_Kernel11Ideal (hKernel11Ideal := Kernel11Ideal.Gen.facts) := fun m g _ => Kernel11Ideal.Gen.frame m g

theorem frame_reference11 : quiescent_Reference11Ideal (hReference11Ideal := Reference11Ideal.Gen.facts) :=
  fun m g _ => (θ_run Reference11Ideal.defs _ _).mono
    (fun r h => ⟨fun c => (h c).2.2.2, sem_eq_zero_of_no_sems (by decide) r.2⟩) (Reference11Ideal.Value.run m g)

theorem equal11 : algebraic_Kernel11Ideal_Reference11Ideal (hKernel11Ideal := Kernel11Ideal.Gen.facts)
    (hReference11Ideal := Reference11Ideal.Gen.facts) := fun m g m' g' _ hag =>
  ⟨_, _, _, (θ_run Kernel11Ideal.defs _ _).mono (fun r h c => ⟨(h c).1.trans (Kernel11Ideal.Value.arr4 m c),
      (h c).2.1.trans (Kernel11Ideal.Value.arr5 m c), (h c).2.2.1.trans (Kernel11Ideal.Value.arr6 m c), (h c).2.2.2⟩)
      (Kernel11Ideal.Value.run_blocks m g),
    (θ_run Reference11Ideal.defs _ _).mono (fun r h c => by
      obtain ⟨a0, a1, a2, a3⟩ := hag c
      rw [← a0, ← a1, ← a2, ← a3]
      exact ⟨(h c).1.trans (funext fun i => delta_eq _ (newM _ _) (newV _ _)), (h c).2⟩) (Reference11Ideal.Value.run m' g')⟩

end Cert.Proof

namespace Cert.Kernel12Ideal.Value

open Cert.Kernel12Ideal.Gen

variable (m : (ℓ : Loc nD τ sig) → Buf (Elt Ideal) ℓ) (c : Dev nD)

/-- A grid step's blocks: a layer of every array. -/
theorem idx : ∀ t : Fin grid0.N, win0_0.index t = ![t.val, 0, 0, 0] ∧ win0_1.index t = ![t.val, 0, 0, 0] ∧ win0_2.index t = ![t.val, 0, 0, 0] ∧ win0_3.index t = ![t.val, 0, 0, 0] ∧ win0_4.index t = ![t.val, 0, 0, 0] ∧ win0_5.index t = ![t.val, 0, 0, 0] ∧ win0_6.index t = ![t.val, 0, 0, 0] := by decide +kernel

theorem load (X : Vec Ideal S1x64x16x64 .f32) : View.ld X r0_0 = X := View.ld_unit_zero hz4 _ X

theorem arr4 : (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  rw [canon4_eq]
  obtain ⟨e0, e1, e2, e3, e4, e5, e6⟩ := idx t
  simp only [load]
  unfold E4
  rw [named1 κ rfl, named2 κ rfl]
  show delta _ (newM _ _) (newV _ _) = delta _ (newM _ _) (newV _ _)
  congr 1
  · blk_ext [iblk, e0, e4]
  · congr 1
    · blk_ext [iblk, e1, e4]
    · blk_ext [iblk, e2, e4]
  · congr 1
    · blk_ext [iblk, e1, e4]
    · blk_ext [iblk, e3, e4]

theorem arr5 : (dats m 0 c).arrAt 5 cfg0.N = firsts (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  rw [canon5_eq]
  obtain ⟨e0, e1, e2, e3, e4, e5, e6⟩ := idx t
  simp only [load]
  show newM _ _ = newM _ _
  congr 1
  · blk_ext [iblk, e1, e5]
  · blk_ext [iblk, e2, e5]

theorem arr6 : (dats m 0 c).arrAt 6 cfg0.N = seconds (m ((c : Thread nD τ).loc main_arg1)) (m ((c : Thread nD τ).loc main_arg3)) := by
  refine (dats m 0 c).arrAt_eq_of_covers 6 _ (by decide +kernel) fun t hf y => ?_
  blk_simp
  rw [after0_6]
  unfold out0_6
  rw [canon6_eq]
  obtain ⟨e0, e1, e2, e3, e4, e5, e6⟩ := idx t
  simp only [load]
  show newV _ _ = newV _ _
  congr 1
  · blk_ext [iblk, e1, e6]
  · blk_ext [iblk, e3, e6]

end Cert.Kernel12Ideal.Value

namespace Cert.Proof

theorem preserves12 : preserves_Kernel12_Kernel12Ideal :=
  ⟨IdealRules.named_const.statement _ _ _ _ _ rfl, IdealRules.named_const.statement _ _ _ _ _ rfl⟩

theorem frame_kernel12 : quiescent_Kernel12 (hKernel12 := Kernel12.Gen.facts) := fun m g _ => Kernel12.Gen.frame m g

theorem frame_ideal12 : quiescent_Kernel12Ideal (hKernel12Ideal := Kernel12Ideal.Gen.facts) := fun m g _ => Kernel12Ideal.Gen.frame m g

theorem frame_reference12 : quiescent_Reference12Ideal (hReference12Ideal := Reference12Ideal.Gen.facts) :=
  fun m g _ => (θ_run Reference12Ideal.defs _ _).mono
    (fun r h => ⟨fun c => (h c).2.2.2, sem_eq_zero_of_no_sems (by decide) r.2⟩) (Reference12Ideal.Value.run m g)

theorem equal12 : algebraic_Kernel12Ideal_Reference12Ideal (hKernel12Ideal := Kernel12Ideal.Gen.facts)
    (hReference12Ideal := Reference12Ideal.Gen.facts) := fun m g m' g' _ hag =>
  ⟨_, _, _, (θ_run Kernel12Ideal.defs _ _).mono (fun r h c => ⟨(h c).1.trans (Kernel12Ideal.Value.arr4 m c),
      (h c).2.1.trans (Kernel12Ideal.Value.arr5 m c), (h c).2.2.1.trans (Kernel12Ideal.Value.arr6 m c), (h c).2.2.2⟩)
      (Kernel12Ideal.Value.run_blocks m g),
    (θ_run Reference12Ideal.defs _ _).mono (fun r h c => by
      obtain ⟨a0, a1, a2, a3⟩ := hag c
      rw [← a0, ← a1, ← a2, ← a3]
      exact ⟨(h c).1.trans (funext fun i => delta_eq _ (newM _ _) (newV _ _)), (h c).2⟩) (Reference12Ideal.Value.run m' g')⟩

end Cert.Proof

end
-- ==== Proof.Opt.Rows.lean ====
/- The updates of the large matrices, a block of 128 rows a grid step: the frames of their calls, and the values over the
   extended reals. -/
module

public import proofs.«01_k».proof.Defs
public import proofs.«01_k».proof.Proof.Opt.Step
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.ShloMosaic.Tactic Idealize.SL.Sem
open Cert.Opt (named1 named2 newM newV delta firsts seconds deltas delta_eq)

namespace Cert.Opt

theorem hz2 : (![0, 0] : Fin 2 → Nat) = fun _ => 0 := funext fun a => by fin_cases a <;> rfl

theorem hz3 : (![0, 0, 0] : Fin 3 → Nat) = fun _ => 0 := funext fun a => by fin_cases a <;> rfl

end Cert.Opt

open Cert.Opt (plus)

namespace Cert.Kernel8Ideal.Value

open Cert.Kernel8Ideal.Gen

/-- The rows of a matrix, 1024 a layer. -/
def rows (X : S4096x2052.Idx → EReal) : S4x1024x2052.Idx → EReal := fun i =>
  X (ix2 ⟨1024 * (i 0).val + (i 1).val, by have h0 : (i 0).val < 4 := (i 0).isLt; have h1 : (i 1).val < 1024 := (i 1).isLt; omega⟩ (i 2))

variable (m : (ℓ : Loc nD τ sig) → Buf (Elt Ideal) ℓ) (c : Dev nD)

/-- A grid step's blocks. -/
theorem idx : ∀ t : Fin grid0.N, win0_0.index t = ![t.val / 8, t.val % 8, 0] ∧ win0_1.index t = ![t.val / 8, t.val % 8, 0] ∧ win0_2.index t = ![t.val / 8, t.val % 8, 0] ∧ win0_3.index t = ![t.val, 0] ∧ win0_4.index t = ![t.val, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by decide +kernel

theorem load2 (X : Vec Ideal S128x2052 .f32) : View.ld X r0_0 = X := View.ld_unit_zero Cert.Opt.hz2 _ X

theorem load3 (X : Vec Ideal S1x128x2052 .f32) : View.ld X r0_1 = X := View.ld_unit_zero Cert.Opt.hz3 _ X

theorem arr5 : (dats m 0 c).arrAt 5 cfg0.N = (rows (plus (m ((c : Thread nD τ).loc main_arg1)) (m ((c : Thread nD τ).loc main_arg2)))) := by
  refine (dats m 0 c).arrAt_eq_of_covers 5 _ (by decide +kernel) fun t hf y => ?_
  blk_simp
  rw [after0_5]
  unfold out0_5
  rw [canon5_eq]
  obtain ⟨e0, e1, e2, e3, e4, e5, e6, e7, e8⟩ := idx t
  simp only [load2, load3]
  show (_ + _ : EReal) = _ + _
  congr 1
  · blk_ext [iblk, e3, e5]
  · blk_ext [iblk, e4, e5]

set_option maxHeartbeats 1000000 in
theorem arr6 : (dats m 0 c).arrAt 6 cfg0.N = deltas (m ((c : Thread nD τ).loc main_arg0)) (rows (plus (m ((c : Thread nD τ).loc main_arg1)) (m ((c : Thread nD τ).loc main_arg2)))) (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  rw [canon6_eq]
  obtain ⟨e0, e1, e2, e3, e4, e5, e6, e7, e8⟩ := idx t
  simp only [load2, load3]
  unfold E6
  rw [named1 κ rfl, named2 κ rfl]
  show delta _ (newM _ _) (newV _ _) = delta _ (newM _ _) (newV _ _)
  congr 1
  · blk_ext [iblk, e0, e6]
  · congr 1
    · show (_ + _ : EReal) = _ + _
      congr 1
      · blk_ext [iblk, e3, e6]
      · blk_ext [iblk, e4, e6]
    · blk_ext [iblk, e1, e6]
  · congr 1
    · show (_ + _ : EReal) = _ + _
      congr 1
      · blk_ext [iblk, e3, e6]
      · blk_ext [iblk, e4, e6]
    · blk_ext [iblk, e2, e6]

theorem arr7 : (dats m 0 c).arrAt 7 cfg0.N = firsts (rows (plus (m ((c : Thread nD τ).loc main_arg1)) (m ((c : Thread nD τ).loc main_arg2)))) (m ((c : Thread nD τ).loc main_arg3)) := by
  refine (dats m 0 c).arrAt_eq_of_covers 7 _ (by decide +kernel) fun t hf y => ?_
  blk_simp
  rw [after0_7]
  unfold out0_7
  rw [canon7_eq]
  obtain ⟨e0, e1, e2, e3, e4, e5, e6, e7, e8⟩ := idx t
  simp only [load2, load3]
  show newM _ _ = newM _ _
  congr 1
  · show (_ + _ : EReal) = _ + _
    congr 1
    · blk_ext [iblk, e3, e7]
    · blk_ext [iblk, e4, e7]
  · blk_ext [iblk, e1, e7]

theorem arr8 : (dats m 0 c).arrAt 8 cfg0.N = seconds (rows (plus (m ((c : Thread nD τ).loc main_arg1)) (m ((c : Thread nD τ).loc main_arg2)))) (m ((c : Thread nD τ).loc main_arg4)) := by
  refine (dats m 0 c).arrAt_eq_of_covers 8 _ (by decide +kernel) fun t hf y => ?_
  blk_simp
  rw [after0_8]
  unfold out0_8
  rw [canon8_eq]
  obtain ⟨e0, e1, e2, e3, e4, e5, e6, e7, e8⟩ := idx t
  simp only [load2, load3]
  show newV _ _ = newV _ _
  congr 1
  · show (_ + _ : EReal) = _ + _
    congr 1
    · blk_ext [iblk, e3, e8]
    · blk_ext [iblk, e4, e8]
  · blk_ext [iblk, e2, e8]

end Cert.Kernel8Ideal.Value

namespace Cert.Proof

theorem lay8 (X : FVec Ideal Reference8Ideal.S4096x2052 .f32) (h) : shapeCast Reference8Ideal.S4x1024x2052 X h = Kernel8Ideal.Value.rows X := by
  funext i
  refine shapeCast_apply _ _ i _ ?_
  rw [Shape.rowMajor_val_two, Shape.rowMajor_val_three]
  show (1024 * (i 0).val + (i 1).val) * 2052 + (i 2).val = ((i 0).val * 1024 + (i 1).val) * 2052 + (i 2).val
  omega

theorem preserves8 : preserves_Kernel8_Kernel8Ideal :=
  ⟨IdealRules.named_const.statement _ _ _ _ _ rfl, IdealRules.named_const.statement _ _ _ _ _ rfl⟩

theorem frame_kernel8 : quiescent_Kernel8 (hKernel8 := Kernel8.Gen.facts) := fun m g _ => Kernel8.Gen.frame m g

theorem frame_ideal8 : quiescent_Kernel8Ideal (hKernel8Ideal := Kernel8Ideal.Gen.facts) := fun m g _ => Kernel8Ideal.Gen.frame m g

theorem frame_reference8 : quiescent_Reference8Ideal (hReference8Ideal := Reference8Ideal.Gen.facts) :=
  fun m g _ => (θ_run Reference8Ideal.defs _ _).mono
    (fun r h => ⟨fun c => (h c).2.2.2.2, sem_eq_zero_of_no_sems (by decide) r.2⟩) (Reference8Ideal.Value.run m g)

theorem equal8 : algebraic_Kernel8Ideal_Reference8Ideal (hKernel8Ideal := Kernel8Ideal.Gen.facts)
    (hReference8Ideal := Reference8Ideal.Gen.facts) := fun m g m' g' _ hag =>
  ⟨_, _, _, _, (θ_run Kernel8Ideal.defs _ _).mono (fun r h c => ⟨(h c).1.trans (Kernel8Ideal.Value.arr5 m c), (h c).2.1.trans (Kernel8Ideal.Value.arr6 m c),
      (h c).2.2.1.trans (Kernel8Ideal.Value.arr7 m c), (h c).2.2.2.1.trans (Kernel8Ideal.Value.arr8 m c), (h c).2.2.2.2⟩)
      (Kernel8Ideal.Value.run_blocks m g),
    (θ_run Reference8Ideal.defs _ _).mono (fun r h c => by
      obtain ⟨a0, a1, a2, a3, a4⟩ := hag c
      obtain ⟨h1, h2, h3, h4, h5⟩ := h c
      rw [lay8] at h1 h2 h3 h4
      rw [← a0, ← a1, ← a2, ← a3, ← a4]
      exact ⟨h1, h2.trans (funext fun i => delta_eq _ (newM _ _) (newV _ _)), h3, h4, h5⟩) (Reference8Ideal.Value.run m' g')⟩

end Cert.Proof

namespace Cert.Kernel9Ideal.Value

open Cert.Kernel9Ideal.Gen

/-- The rows of a matrix, 256 a layer. -/
def rows (X : S1024x1024.Idx → EReal) : S4x256x1024.Idx → EReal := fun i =>
  X (ix2 ⟨256 * (i 0).val + (i 1).val, by have h0 : (i 0).val < 4 := (i 0).isLt; have h1 : (i 1).val < 256 := (i 1).isLt; omega⟩ (i 2))

variable (m : (ℓ : Loc nD τ sig) → Buf (Elt Ideal) ℓ) (c : Dev nD)

/-- A grid step's blocks. -/
theorem idx : ∀ t : Fin grid0.N, win0_0.index t = ![t.val / 2, t.val % 2, 0] ∧ win0_1.index t = ![t.val / 2, t.val % 2, 0] ∧ win0_2.index t = ![t.val / 2, t.val % 2, 0] ∧ win0_3.index t = ![t.val, 0] ∧ win0_4.index t = ![t.val, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] := by decide +kernel

theorem load2 (X : Vec Ideal S128x1024 .f32) : View.ld X r0_0 = X := View.ld_unit_zero Cert.Opt.hz2 _ X

theorem load3 (X : Vec Ideal S1x128x1024 .f32) : View.ld X r0_1 = X := View.ld_unit_zero Cert.Opt.hz3 _ X

theorem arr5 : (dats m 0 c).arrAt 5 cfg0.N = (rows (plus (m ((c : Thread nD τ).loc main_arg1)) (m ((c : Thread nD τ).loc main_arg2)))) := by
  refine (dats m 0 c).arrAt_eq_of_covers 5 _ (by decide +kernel) fun t hf y => ?_
  blk_simp
  rw [after0_5]
  unfold out0_5
  rw [canon5_eq]
  obtain ⟨e0, e1, e2, e3, e4, e5, e6, e7, e8⟩ := idx t
  simp only [load2, load3]
  show (_ + _ : EReal) = _ + _
  congr 1
  · blk_ext [iblk, e3, e5]
  · blk_ext [iblk, e4, e5]

set_option maxHeartbeats 1000000 in
theorem arr6 : (dats m 0 c).arrAt 6 cfg0.N = deltas (m ((c : Thread nD τ).loc main_arg0)) (rows (plus (m ((c : Thread nD τ).loc main_arg1)) (m ((c : Thread nD τ).loc main_arg2)))) (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  rw [canon6_eq]
  obtain ⟨e0, e1, e2, e3, e4, e5, e6, e7, e8⟩ := idx t
  simp only [load2, load3]
  unfold E6
  rw [named1 κ rfl, named2 κ rfl]
  show delta _ (newM _ _) (newV _ _) = delta _ (newM _ _) (newV _ _)
  congr 1
  · blk_ext [iblk, e0, e6]
  · congr 1
    · show (_ + _ : EReal) = _ + _
      congr 1
      · blk_ext [iblk, e3, e6]
      · blk_ext [iblk, e4, e6]
    · blk_ext [iblk, e1, e6]
  · congr 1
    · show (_ + _ : EReal) = _ + _
      congr 1
      · blk_ext [iblk, e3, e6]
      · blk_ext [iblk, e4, e6]
    · blk_ext [iblk, e2, e6]

theorem arr7 : (dats m 0 c).arrAt 7 cfg0.N = firsts (rows (plus (m ((c : Thread nD τ).loc main_arg1)) (m ((c : Thread nD τ).loc main_arg2)))) (m ((c : Thread nD τ).loc main_arg3)) := by
  refine (dats m 0 c).arrAt_eq_of_covers 7 _ (by decide +kernel) fun t hf y => ?_
  blk_simp
  rw [after0_7]
  unfold out0_7
  rw [canon7_eq]
  obtain ⟨e0, e1, e2, e3, e4, e5, e6, e7, e8⟩ := idx t
  simp only [load2, load3]
  show newM _ _ = newM _ _
  congr 1
  · show (_ + _ : EReal) = _ + _
    congr 1
    · blk_ext [iblk, e3, e7]
    · blk_ext [iblk, e4, e7]
  · blk_ext [iblk, e1, e7]

theorem arr8 : (dats m 0 c).arrAt 8 cfg0.N = seconds (rows (plus (m ((c : Thread nD τ).loc main_arg1)) (m ((c : Thread nD τ).loc main_arg2)))) (m ((c : Thread nD τ).loc main_arg4)) := by
  refine (dats m 0 c).arrAt_eq_of_covers 8 _ (by decide +kernel) fun t hf y => ?_
  blk_simp
  rw [after0_8]
  unfold out0_8
  rw [canon8_eq]
  obtain ⟨e0, e1, e2, e3, e4, e5, e6, e7, e8⟩ := idx t
  simp only [load2, load3]
  show newV _ _ = newV _ _
  congr 1
  · show (_ + _ : EReal) = _ + _
    congr 1
    · blk_ext [iblk, e3, e8]
    · blk_ext [iblk, e4, e8]
  · blk_ext [iblk, e2, e8]

end Cert.Kernel9Ideal.Value

namespace Cert.Proof

theorem lay9 (X : FVec Ideal Reference9Ideal.S1024x1024 .f32) (h) : shapeCast Reference9Ideal.S4x256x1024 X h = Kernel9Ideal.Value.rows X := by
  funext i
  refine shapeCast_apply _ _ i _ ?_
  rw [Shape.rowMajor_val_two, Shape.rowMajor_val_three]
  show (256 * (i 0).val + (i 1).val) * 1024 + (i 2).val = ((i 0).val * 256 + (i 1).val) * 1024 + (i 2).val
  omega

theorem preserves9 : preserves_Kernel9_Kernel9Ideal :=
  ⟨IdealRules.named_const.statement _ _ _ _ _ rfl, IdealRules.named_const.statement _ _ _ _ _ rfl⟩

theorem frame_kernel9 : quiescent_Kernel9 (hKernel9 := Kernel9.Gen.facts) := fun m g _ => Kernel9.Gen.frame m g

theorem frame_ideal9 : quiescent_Kernel9Ideal (hKernel9Ideal := Kernel9Ideal.Gen.facts) := fun m g _ => Kernel9Ideal.Gen.frame m g

theorem frame_reference9 : quiescent_Reference9Ideal (hReference9Ideal := Reference9Ideal.Gen.facts) :=
  fun m g _ => (θ_run Reference9Ideal.defs _ _).mono
    (fun r h => ⟨fun c => (h c).2.2.2.2, sem_eq_zero_of_no_sems (by decide) r.2⟩) (Reference9Ideal.Value.run m g)

theorem equal9 : algebraic_Kernel9Ideal_Reference9Ideal (hKernel9Ideal := Kernel9Ideal.Gen.facts)
    (hReference9Ideal := Reference9Ideal.Gen.facts) := fun m g m' g' _ hag =>
  ⟨_, _, _, _, (θ_run Kernel9Ideal.defs _ _).mono (fun r h c => ⟨(h c).1.trans (Kernel9Ideal.Value.arr5 m c), (h c).2.1.trans (Kernel9Ideal.Value.arr6 m c),
      (h c).2.2.1.trans (Kernel9Ideal.Value.arr7 m c), (h c).2.2.2.1.trans (Kernel9Ideal.Value.arr8 m c), (h c).2.2.2.2⟩)
      (Kernel9Ideal.Value.run_blocks m g),
    (θ_run Reference9Ideal.defs _ _).mono (fun r h c => by
      obtain ⟨a0, a1, a2, a3, a4⟩ := hag c
      obtain ⟨h1, h2, h3, h4, h5⟩ := h c
      rw [lay9] at h1 h2 h3 h4
      rw [← a0, ← a1, ← a2, ← a3, ← a4]
      exact ⟨h1, h2.trans (funext fun i => delta_eq _ (newM _ _) (newV _ _)), h3, h4, h5⟩) (Reference9Ideal.Value.run m' g')⟩

end Cert.Proof

end
-- ==== Proof.Opt.Packed.lean ====
/- The update of the small parameters, packed into 96 rows of 1024, in one grid step that reads the first 96 rows of the gradient's
   1216: the frame of its call, and the values over the extended reals. -/
module

public import proofs.«01_k».proof.Defs
public import proofs.«01_k».proof.Proof.Opt.Rows
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run

@[expose] public section

set_option maxRecDepth 16384

noncomputable section

open Idealize.ShloMosaic Idealize.ShloMosaic.TcCoe Idealize.ShloMosaic.Tactic Idealize.SL.Sem
open Cert.Opt (named1 named2 newM newV delta firsts seconds deltas delta_eq)

namespace Cert.Kernel10Ideal.Value

open Cert.Kernel10Ideal.Gen

section
variable {F : FTy → Type} [FloatOps F] [Named F]
variable (c : Dev nD) (i : grid0.Coords) (arg2 : Memref sig .tc .vmem S1x96x1024 .f32) (harg2 : arg2.IsWhole) (arg3 : Memref sig .tc .vmem S1x96x1024 .f32) (harg3 : arg3.IsWhole) (arg4 : Memref sig .tc .vmem S1x96x1024 .f32) (harg4 : arg4.IsWhole) (arg5 : Memref sig .tc .vmem S96x1024 .f32) (harg5 : arg5.IsWhole) (arg6 : Memref sig .tc .vmem S1x96x1024 .f32) (harg6 : arg6.IsWhole) (arg7 : Memref sig .tc .vmem S1x96x1024 .f32) (harg7 : arg7.IsWhole) (arg8 : Memref sig .tc .vmem S1x96x1024 .f32) (harg8 : arg8.IsWhole) (arg9 : Memref sig .tc .vmem S1x96x1024 .f32) (harg9 : arg9.IsWhole)
variable (x0 x1 x2 : Vec F S1x96x1024 .f32) (x3 : Vec F S96x1024 .f32)

theorem out_A_4_eq : out0_A_4 c i arg2 harg2 arg3 harg3 arg4 harg4 arg5 harg5 arg6 harg6 arg7 harg7 arg8 harg8 arg9 harg9 x0 x1 x2 x3 = k0_pay4 x3 := by
  unfold out0_A_4
  rw [View.read_writes_eq_canon _ _ _ (cover0_A_4 c i arg2 harg2 arg3 harg3 arg4 harg4 arg5 harg5 arg6 harg6 arg7 harg7 arg8 harg8 arg9 harg9 x0 x1 x2 x3)]
  unfold kernelRun0_A
  dsimp only
  rw [View.canon_unit_zero Cert.Opt.hz3]
  simp only [View.readAt_eq_ld, harg2.read_unread, harg3.read_unread, harg4.read_unread, harg5.read_unread, View.ld_unit_zero (S := S1x96x1024) Cert.Opt.hz3, View.ld_unit_zero (S := S96x1024) Cert.Opt.hz2]

theorem out_A_5_eq : out0_A_5 c i arg2 harg2 arg3 harg3 arg4 harg4 arg5 harg5 arg6 harg6 arg7 harg7 arg8 harg8 arg9 harg9 x0 x1 x2 x3 = k0_pay1 (k0_pay7 x3 x0 x1 x2) := by
  unfold out0_A_5
  rw [View.read_writes_eq_canon _ _ _ (cover0_A_5 c i arg2 harg2 arg3 harg3 arg4 harg4 arg5 harg5 arg6 harg6 arg7 harg7 arg8 harg8 arg9 harg9 x0 x1 x2 x3)]
  unfold kernelRun0_A
  dsimp only
  rw [View.canon_unit_zero Cert.Opt.hz3]
  unfold kernelRun0_A.sl.r_2
  simp only [View.readAt_eq_ld, harg2.read_unread, harg3.read_unread, harg4.read_unread, harg5.read_unread, View.ld_unit_zero (S := S1x96x1024) Cert.Opt.hz3, View.ld_unit_zero (S := S96x1024) Cert.Opt.hz2]

theorem out_A_6_eq : out0_A_6 c i arg2 harg2 arg3 harg3 arg4 harg4 arg5 harg5 arg6 harg6 arg7 harg7 arg8 harg8 arg9 harg9 x0 x1 x2 x3 = k0_pay2 (k0_pay5 x3 x1) := by
  unfold out0_A_6
  rw [View.read_writes_eq_canon _ _ _ (cover0_A_6 c i arg2 harg2 arg3 harg3 arg4 harg4 arg5 harg5 arg6 harg6 arg7 harg7 arg8 harg8 arg9 harg9 x0 x1 x2 x3)]
  unfold kernelRun0_A
  dsimp only
  rw [View.canon_unit_zero Cert.Opt.hz3]
  unfold kernelRun0_A.sl.r
  simp only [View.readAt_eq_ld, harg2.read_unread, harg3.read_unread, harg4.read_unread, harg5.read_unread, View.ld_unit_zero (S := S1x96x1024) Cert.Opt.hz3, View.ld_unit_zero (S := S96x1024) Cert.Opt.hz2]

theorem out_A_7_eq : out0_A_7 c i arg2 harg2 arg3 harg3 arg4 harg4 arg5 harg5 arg6 harg6 arg7 harg7 arg8 harg8 arg9 harg9 x0 x1 x2 x3 = k0_pay3 (k0_pay6 x3 x2) := by
  unfold out0_A_7
  rw [View.read_writes_eq_canon _ _ _ (cover0_A_7 c i arg2 harg2 arg3 harg3 arg4 harg4 arg5 harg5 arg6 harg6 arg7 harg7 arg8 harg8 arg9 harg9 x0 x1 x2 x3)]
  unfold kernelRun0_A
  dsimp only
  rw [View.canon_unit_zero Cert.Opt.hz3]
  unfold kernelRun0_A.sl.r_1
  simp only [View.readAt_eq_ld, harg2.read_unread, harg3.read_unread, harg4.read_unread, harg5.read_unread, View.ld_unit_zero (S := S1x96x1024) Cert.Opt.hz3, View.ld_unit_zero (S := S96x1024) Cert.Opt.hz2]

end

/-- The rows of the updated matrix. -/
def rows (X : S1216x1024.Idx → EReal) : S1x96x1024.Idx → EReal := fun i =>
  X (ix2 ⟨(i 1).val, by have h1 : (i 1).val < 96 := (i 1).isLt; omega⟩ (i 2))

section
variable (x0 x1 x2 : Vec Ideal S1x96x1024 .f32) (x3 : Vec Ideal S96x1024 .f32) (j : Fin 96) (k : Fin 1024)

theorem pay4 : k0_pay4 x3 (ix3 0 j k) = x3 (ix2 j k) := by
  unfold_payloads
  pointwise

theorem payM : k0_pay2 (k0_pay5 x3 x1) (ix3 0 j k) = newM (x3 (ix2 j k)) (x1 (ix3 0 j k)) := by
  unfold_payloads
  pointwise [newM]

theorem payV : k0_pay3 (k0_pay6 x3 x2) (ix3 0 j k) = newV (x3 (ix2 j k)) (x2 (ix3 0 j k)) := by
  unfold_payloads
  pointwise [newV]

theorem payD : k0_pay1 (k0_pay7 x3 x0 x1 x2) (ix3 0 j k) = delta (x0 (ix3 0 j k)) (newM (x3 (ix2 j k)) (x1 (ix3 0 j k))) (newV (x3 (ix2 j k)) (x2 (ix3 0 j k))) := by
  unfold_payloads
  pointwise [newM, newV, delta]
  rw [named1 κ rfl, named2 κ rfl]
end

variable (m : (ℓ : Loc nD τ sig) → Buf (Elt Ideal) ℓ) (c : Dev nD)

theorem idx : ∀ t : Fin grid0.N, win0_0.index t = ![0, 0, 0] ∧ win0_1.index t = ![0, 0, 0] ∧ win0_2.index t = ![0, 0, 0] ∧ win0_3.index t = ![0, 0] ∧ win0_4.index t = ![0, 0, 0] ∧ win0_5.index t = ![0, 0, 0] ∧ win0_6.index t = ![0, 0, 0] ∧ win0_7.index t = ![0, 0, 0] := by decide +kernel

theorem grad (t : Fin cfg0.N) (j : Fin 96) (k : Fin 1024) : X0_3 m c t (ix2 j k) = rows (m ((c : Thread nD τ).loc main_arg1)) (ix3 0 j k) := by
  obtain ⟨e0, e1, e2, e3, e4, e5, e6, e7⟩ := idx t
  unfold X0_3 Pipeline.Window.fill
  rw [dif_pos (moved0_3 t _)]
  blk_ext [iblk, e3]

theorem in0 (t : Fin cfg0.N) (j : Fin 96) (k : Fin 1024) : iblk m c 0 t (ix3 0 j k) = m ((c : Thread nD τ).loc main_arg0) (ix3 0 j k) := by
  obtain ⟨e0, e1, e2, -⟩ := idx t
  blk_ext [iblk, e0]

theorem in1 (t : Fin cfg0.N) (j : Fin 96) (k : Fin 1024) : iblk m c 1 t (ix3 0 j k) = m ((c : Thread nD τ).loc main_arg2) (ix3 0 j k) := by
  obtain ⟨e0, e1, e2, -⟩ := idx t
  blk_ext [iblk, e1]

theorem in2 (t : Fin cfg0.N) (j : Fin 96) (k : Fin 1024) : iblk m c 2 t (ix3 0 j k) = m ((c : Thread nD τ).loc main_arg3) (ix3 0 j k) := by
  obtain ⟨e0, e1, e2, -⟩ := idx t
  blk_ext [iblk, e2]

theorem arr4 : (dats m 0 c).arrAt 4 cfg0.N = (rows (m ((c : Thread nD τ).loc main_arg1))) := by
  refine (dats m 0 c).arrAt_eq_of_covers 4 _ (by decide +kernel) fun t hf y => ?_
  blk_simp
  rw [after0_4]
  obtain ⟨e0, e1, e2, e3, e4, e5, e6, e7⟩ := idx t
  unfold outsAt0
  dsimp only
  rw [out_A_4_eq]
  obtain ⟨j, k, rfl⟩ : ∃ (j : Fin 96) (k : Fin 1024), y = ix3 0 j k := ⟨y 1, y 2, (eq_ix3 y).trans (congrArg (ix3 · _ _) (Subsingleton.elim (α := Fin 1) _ _))⟩
  refine (pay4 _ j k).trans ?_
  rw [grad m c t j k]
  refine congrArg ((rows (m ((c : Thread nD τ).loc main_arg1)))) ?_
  blk_ext [e4]

theorem arr5 : (dats m 0 c).arrAt 5 cfg0.N = deltas (m ((c : Thread nD τ).loc main_arg0)) (rows (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5]
  obtain ⟨e0, e1, e2, e3, e4, e5, e6, e7⟩ := idx t
  unfold outsAt0
  dsimp only
  rw [out_A_5_eq]
  obtain ⟨j, k, rfl⟩ : ∃ (j : Fin 96) (k : Fin 1024), y = ix3 0 j k := ⟨y 1, y 2, (eq_ix3 y).trans (congrArg (ix3 · _ _) (Subsingleton.elim (α := Fin 1) _ _))⟩
  refine (payD _ _ _ _ j k).trans ?_
  rw [grad m c t j k, in0, in1, in2]
  refine congrArg (deltas (m ((c : Thread nD τ).loc main_arg0)) (rows (m ((c : Thread nD τ).loc main_arg1))) (m ((c : Thread nD τ).loc main_arg2)) (m ((c : Thread nD τ).loc main_arg3))) ?_
  blk_ext [e5]

theorem arr6 : (dats m 0 c).arrAt 6 cfg0.N = firsts (rows (m ((c : Thread nD τ).loc main_arg1))) (m ((c : Thread nD τ).loc main_arg2)) := by
  refine (dats m 0 c).arrAt_eq_of_covers 6 _ (by decide +kernel) fun t hf y => ?_
  blk_simp
  rw [after0_6]
  obtain ⟨e0, e1, e2, e3, e4, e5, e6, e7⟩ := idx t
  unfold outsAt0
  dsimp only
  rw [out_A_6_eq]
  obtain ⟨j, k, rfl⟩ : ∃ (j : Fin 96) (k : Fin 1024), y = ix3 0 j k := ⟨y 1, y 2, (eq_ix3 y).trans (congrArg (ix3 · _ _) (Subsingleton.elim (α := Fin 1) _ _))⟩
  refine (payM _ _ j k).trans ?_
  rw [grad m c t j k, in1]
  refine congrArg (firsts (rows (m ((c : Thread nD τ).loc main_arg1))) (m ((c : Thread nD τ).loc main_arg2))) ?_
  blk_ext [e6]

theorem arr7 : (dats m 0 c).arrAt 7 cfg0.N = seconds (rows (m ((c : Thread nD τ).loc main_arg1))) (m ((c : Thread nD τ).loc main_arg3)) := by
  refine (dats m 0 c).arrAt_eq_of_covers 7 _ (by decide +kernel) fun t hf y => ?_
  blk_simp
  rw [after0_7]
  obtain ⟨e0, e1, e2, e3, e4, e5, e6, e7⟩ := idx t
  unfold outsAt0
  dsimp only
  rw [out_A_7_eq]
  obtain ⟨j, k, rfl⟩ : ∃ (j : Fin 96) (k : Fin 1024), y = ix3 0 j k := ⟨y 1, y 2, (eq_ix3 y).trans (congrArg (ix3 · _ _) (Subsingleton.elim (α := Fin 1) _ _))⟩
  refine (payV _ _ j k).trans ?_
  rw [grad m c t j k, in2]
  refine congrArg (seconds (rows (m ((c : Thread nD τ).loc main_arg1))) (m ((c : Thread nD τ).loc main_arg3))) ?_
  blk_ext [e7]

end Cert.Kernel10Ideal.Value

namespace Cert.Proof

theorem lay10 (X : FVec Ideal Reference10Ideal.S1216x1024 .f32) (hs hc) :
    shapeCast Reference10Ideal.S1x96x1024 (extractStridedSlice Reference10Ideal.S96x1024 ![0, 0] X hs) hc = Kernel10Ideal.Value.rows X := by
  funext i
  obtain ⟨a, j, k, rfl⟩ : ∃ (a : Fin 1) (j : Fin 96) (k : Fin 1024), i = ix3 a j k := ⟨i 0, i 1, i 2, eq_ix3 i⟩
  pointwise [Kernel10Ideal.Value.rows]

theorem preserves10 : preserves_Kernel10_Kernel10Ideal :=
  ⟨IdealRules.named_const.statement _ _ _ _ _ rfl, IdealRules.named_const.statement _ _ _ _ _ rfl⟩

theorem frame_kernel10 : quiescent_Kernel10 (hKernel10 := Kernel10.Gen.facts) := fun m g _ => Kernel10.Gen.frame m g

theorem frame_ideal10 : quiescent_Kernel10Ideal (hKernel10Ideal := Kernel10Ideal.Gen.facts) := fun m g _ => Kernel10Ideal.Gen.frame m g

theorem frame_reference10 : quiescent_Reference10Ideal (hReference10Ideal := Reference10Ideal.Gen.facts) :=
  fun m g _ => (θ_run Reference10Ideal.defs _ _).mono
    (fun r h => ⟨fun c => (h c).2.2.2.2, sem_eq_zero_of_no_sems (by decide) r.2⟩) (Reference10Ideal.Value.run m g)

theorem equal10 : algebraic_Kernel10Ideal_Reference10Ideal (hKernel10Ideal := Kernel10Ideal.Gen.facts)
    (hReference10Ideal := Reference10Ideal.Gen.facts) := fun m g m' g' _ hag =>
  ⟨_, _, _, _, (θ_run Kernel10Ideal.defs _ _).mono (fun r h c => ⟨(h c).1.trans (Kernel10Ideal.Value.arr4 m c), (h c).2.1.trans (Kernel10Ideal.Value.arr5 m c),
      (h c).2.2.1.trans (Kernel10Ideal.Value.arr6 m c), (h c).2.2.2.1.trans (Kernel10Ideal.Value.arr7 m c), (h c).2.2.2.2⟩)
      (Kernel10Ideal.Value.run_blocks m g),
    (θ_run Reference10Ideal.defs _ _).mono (fun r h c => by
      obtain ⟨a0, a1, a2, a3⟩ := hag c
      obtain ⟨h1, h2, h3, h4, h5⟩ := h c
      rw [lay10] at h1 h2 h3 h4
      rw [← a0, ← a1, ← a2, ← a3]
      exact ⟨h1, h2.trans (funext fun i => delta_eq _ (newM _ _) (newV _ _)), h3, h4, h5⟩) (Reference10Ideal.Value.run m' g')⟩

end Cert.Proof

end
-- ==== Proof.Opt.Small.lean ====
/- The update of the convolution's weights, all layers in one grid step: the frame of its call, and the values over the extended
   reals. -/
module

public import proofs.«01_k».proof.Defs
public import proofs.«01_k».proof.Proof.Opt.Step
public import proofs.«01_k».proof.Proof.Opt.Rows
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.ShloMosaic.Tactic Idealize.SL.Sem
open Cert.Opt (named1 named2 newM newV delta firsts seconds deltas delta_eq)

namespace Cert.Kernel13Ideal.Value

open Cert.Kernel13Ideal.Gen

/-- The rows of a matrix, 16 a layer. -/
def rows (X : S16x768.Idx → EReal) : S1x16x768.Idx → EReal := fun i =>
  X (ix2 ⟨16 * (i 0).val + (i 1).val, by have h0 : (i 0).val < 1 := (i 0).isLt; have h1 : (i 1).val < 16 := (i 1).isLt; omega⟩ (i 2))

variable (m : (ℓ : Loc nD τ sig) → Buf (Elt Ideal) ℓ) (c : Dev nD)

/-- A grid step's blocks. -/
theorem idx : ∀ t : Fin grid0.N, win0_0.index t = ![t.val / 1, t.val % 1, 0] ∧ win0_1.index t = ![t.val / 1, t.val % 1, 0] ∧ win0_2.index t = ![t.val / 1, t.val % 1, 0] ∧ win0_3.index t = ![t.val, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] := by decide +kernel

theorem load2 (X : Vec Ideal S16x768 .f32) : View.ld X r0_0 = X := View.ld_unit_zero Cert.Opt.hz2 _ X

theorem load3 (X : Vec Ideal S1x16x768 .f32) : View.ld X r0_1 = X := View.ld_unit_zero Cert.Opt.hz3 _ X

theorem arr4 : (dats m 0 c).arrAt 4 cfg0.N = (rows (m ((c : Thread nD τ).loc main_arg1))) := by
  refine (dats m 0 c).arrAt_eq_of_covers 4 _ (by decide +kernel) fun t hf y => ?_
  blk_simp
  rw [after0_4]
  unfold out0_4
  rw [canon4_eq]
  obtain ⟨e0, e1, e2, e3, e4, e5, e6, e7⟩ := idx t
  simp only [load2, load3]
  unfold E4
  blk_ext [iblk, e3, e4]

set_option maxHeartbeats 1000000 in
theorem arr5 : (dats m 0 c).arrAt 5 cfg0.N = deltas (m ((c : Thread nD τ).loc main_arg0)) (rows (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  rw [canon5_eq]
  obtain ⟨e0, e1, e2, e3, e4, e5, e6, e7⟩ := idx t
  simp only [load2, load3]
  unfold E5
  rw [named1 κ rfl, named2 κ rfl]
  show delta _ (newM _ _) (newV _ _) = delta _ (newM _ _) (newV _ _)
  congr 1
  · blk_ext [iblk, e0, e5]
  · congr 1
    · blk_ext [iblk, e3, e5]
    · blk_ext [iblk, e1, e5]
  · congr 1
    · blk_ext [iblk, e3, e5]
    · blk_ext [iblk, e2, e5]

theorem arr6 : (dats m 0 c).arrAt 6 cfg0.N = firsts (rows (m ((c : Thread nD τ).loc main_arg1))) (m ((c : Thread nD τ).loc main_arg2)) := by
  refine (dats m 0 c).arrAt_eq_of_covers 6 _ (by decide +kernel) fun t hf y => ?_
  blk_simp
  rw [after0_6]
  unfold out0_6
  rw [canon6_eq]
  obtain ⟨e0, e1, e2, e3, e4, e5, e6, e7⟩ := idx t
  simp only [load2, load3]
  show newM _ _ = newM _ _
  congr 1
  · blk_ext [iblk, e3, e6]
  · blk_ext [iblk, e1, e6]

theorem arr7 : (dats m 0 c).arrAt 7 cfg0.N = seconds (rows (m ((c : Thread nD τ).loc main_arg1))) (m ((c : Thread nD τ).loc main_arg3)) := by
  refine (dats m 0 c).arrAt_eq_of_covers 7 _ (by decide +kernel) fun t hf y => ?_
  blk_simp
  rw [after0_7]
  unfold out0_7
  rw [canon7_eq]
  obtain ⟨e0, e1, e2, e3, e4, e5, e6, e7⟩ := idx t
  simp only [load2, load3]
  show newV _ _ = newV _ _
  congr 1
  · blk_ext [iblk, e3, e7]
  · blk_ext [iblk, e2, e7]

end Cert.Kernel13Ideal.Value

namespace Cert.Proof

theorem lay13 (X : FVec Ideal Reference13Ideal.S16x768 .f32) (h) : shapeCast Reference13Ideal.S1x16x768 X h = Kernel13Ideal.Value.rows X := by
  funext i
  refine shapeCast_apply _ _ i _ ?_
  rw [Shape.rowMajor_val_two, Shape.rowMajor_val_three]
  show (16 * (i 0).val + (i 1).val) * 768 + (i 2).val = ((i 0).val * 16 + (i 1).val) * 768 + (i 2).val
  omega

theorem preserves13 : preserves_Kernel13_Kernel13Ideal :=
  ⟨IdealRules.named_const.statement _ _ _ _ _ rfl, IdealRules.named_const.statement _ _ _ _ _ rfl⟩

theorem frame_kernel13 : quiescent_Kernel13 (hKernel13 := Kernel13.Gen.facts) := fun m g _ => Kernel13.Gen.frame m g

theorem frame_ideal13 : quiescent_Kernel13Ideal (hKernel13Ideal := Kernel13Ideal.Gen.facts) := fun m g _ => Kernel13Ideal.Gen.frame m g

theorem frame_reference13 : quiescent_Reference13Ideal (hReference13Ideal := Reference13Ideal.Gen.facts) :=
  fun m g _ => (θ_run Reference13Ideal.defs _ _).mono
    (fun r h => ⟨fun c => (h c).2.2.2.2, sem_eq_zero_of_no_sems (by decide) r.2⟩) (Reference13Ideal.Value.run m g)

theorem equal13 : algebraic_Kernel13Ideal_Reference13Ideal (hKernel13Ideal := Kernel13Ideal.Gen.facts)
    (hReference13Ideal := Reference13Ideal.Gen.facts) := fun m g m' g' _ hag =>
  ⟨_, _, _, _, (θ_run Kernel13Ideal.defs _ _).mono (fun r h c => ⟨(h c).1.trans (Kernel13Ideal.Value.arr4 m c), (h c).2.1.trans (Kernel13Ideal.Value.arr5 m c),
      (h c).2.2.1.trans (Kernel13Ideal.Value.arr6 m c), (h c).2.2.2.1.trans (Kernel13Ideal.Value.arr7 m c), (h c).2.2.2.2⟩)
      (Kernel13Ideal.Value.run_blocks m g),
    (θ_run Reference13Ideal.defs _ _).mono (fun r h c => by
      obtain ⟨a0, a1, a2, a3⟩ := hag c
      obtain ⟨h1, h2, h3, h4, h5⟩ := h c
      rw [lay13] at h1 h2 h3 h4
      rw [← a0, ← a1, ← a2, ← a3]
      exact ⟨h1, h2.trans (funext fun i => delta_eq _ (newM _ _) (newV _ _)), h3, h4, h5⟩) (Reference13Ideal.Value.run m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.State.Run
public import proofs.«01_k».proof.Proof.State.Table
public import proofs.«01_k».proof.Proof.Val.Result
public import proofs.«01_k».proof.Proof.Ref.Value
public import proofs.«01_k».proof.Proof.Lin.Dw
public import proofs.«01_k».proof.Proof.Lin.Dx
public import proofs.«01_k».proof.Proof.Lin.Fwd
public import proofs.«01_k».proof.Proof.Lin.Wg
public import proofs.«01_k».proof.Proof.Grad.Conv
public import proofs.«01_k».proof.Proof.Grad.Gates
public import proofs.«01_k».proof.Proof.Grad.Loss
public import proofs.«01_k».proof.Proof.Grad.Mix
public import proofs.«01_k».proof.Proof.Grad.Params
public import proofs.«01_k».proof.Proof.Grad.Prep
public import proofs.«01_k».proof.Proof.Grad.Ssm
public import proofs.«01_k».proof.Proof.Opt.Layers
public import proofs.«01_k».proof.Proof.Opt.Packed
public import proofs.«01_k».proof.Proof.Opt.Rows
public import proofs.«01_k».proof.Proof.Opt.Small
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.StableHlo
open Cert.Delta

/-- Where a device has an array of the kernel's program, or of the reference. -/
abbrev kloc (c : Dev KernelIdeal.nD) (b : Ref KernelIdeal.sig .tc) := (c.tc : Thread KernelIdeal.nD KernelIdeal.τ).loc b
abbrev rloc (c : Dev ReferenceIdeal.nD) (b : Ref ReferenceIdeal.sig .tc) := (c.tc : Thread ReferenceIdeal.nD ReferenceIdeal.τ).loc b

/-- Two arrays of the results' shape are equal when they agree at every row of every chunk. -/
theorem ext_rows {f g : KernelIdeal.S8x4096x128.Idx → EReal}
    (e : ∀ (n : Fin 32) (h : Fin 8) (i j : Fin 128), f (ix3 h (row n.val i) j) = g (ix3 h (row n.val i) j)) : f = g := by
  funext y
  have h1 : (y 1).val < 4096 := (y 1).isLt
  have hy : y = (ix3 (y 0) (row ((y 1).val / 128) ⟨(y 1).val % 128, Nat.mod_lt _ (by decide)⟩) (y 2) : KernelIdeal.S8x4096x128.Idx) := by
    funext a
    fin_cases a
    · rfl
    · apply Fin.ext
      show (y 1).val = ((y 1).val / 128 * 128 + (y 1).val % 128) % 4096
      omega
    · rfl
  rw [hy]
  exact e ⟨(y 1).val / 128, by omega⟩ (y 0) ⟨(y 1).val % 128, Nat.mod_lt _ (by decide)⟩ (y 2)

section Reference

variable (m : (ℓ : Loc ReferenceIdeal.nD ReferenceIdeal.τ ReferenceIdeal.sig) → Buf (Elt Ideal) ℓ)

/-- The reference leaves its arguments as launched. -/
theorem ref_args {r : (ℓ : Loc ReferenceIdeal.nD ReferenceIdeal.τ ReferenceIdeal.sig) → Buf (Elt Ideal) ℓ}
    (hr : ∀ (c : Dev ReferenceIdeal.nD) (b : Ref ReferenceIdeal.sig .tc), (Proc.devRef .tc b : DevRef ReferenceIdeal.τ ReferenceIdeal.sig).isScoped = false →
      r ((c.tc : Thread ReferenceIdeal.nD ReferenceIdeal.τ).loc b) = ReferenceIdeal.Scan.Fin1 m c (Proc.devRef .tc b)) (c : Dev ReferenceIdeal.nD) :
    r (rloc c ReferenceIdeal.main_arg0) = m (rloc c ReferenceIdeal.main_arg0)
      ∧ r (rloc c ReferenceIdeal.main_arg1) = m (rloc c ReferenceIdeal.main_arg1)
      ∧ r (rloc c ReferenceIdeal.main_arg2) = m (rloc c ReferenceIdeal.main_arg2)
      ∧ r (rloc c ReferenceIdeal.main_arg3) = m (rloc c ReferenceIdeal.main_arg3)
      ∧ r (rloc c ReferenceIdeal.main_arg4) = m (rloc c ReferenceIdeal.main_arg4)
      ∧ r (rloc c ReferenceIdeal.main_arg5) = m (rloc c ReferenceIdeal.main_arg5)
      ∧ r (rloc c ReferenceIdeal.main_arg6) = m (rloc c ReferenceIdeal.main_arg6) :=
  have k (b : Ref ReferenceIdeal.sig .tc) h h0 h1 h2 h3 h4 h5 h6 h7 := (hr c b h).trans (ReferenceIdeal.Scan.fin_keep m c _ h0 h1 h2 h3 h4 h5 h6 h7)
  by refine ⟨?_, ?_, ?_, ?_, ?_, ?_, ?_⟩ <;> apply k <;> decide

end Reference

section Results

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ)
  (hag : ∀ c : Dev KernelIdeal.nD,
      m' (rloc c ReferenceIdeal.main_arg0) = m (kloc c KernelIdeal.main_arg0)
      ∧ m' (rloc c ReferenceIdeal.main_arg1) = m (kloc c KernelIdeal.main_arg1)
      ∧ m' (rloc c ReferenceIdeal.main_arg2) = m (kloc c KernelIdeal.main_arg2)
      ∧ m' (rloc c ReferenceIdeal.main_arg3) = m (kloc c KernelIdeal.main_arg3)
      ∧ m' (rloc c ReferenceIdeal.main_arg4) = m (kloc c KernelIdeal.main_arg4)
      ∧ m' (rloc c ReferenceIdeal.main_arg5) = m (kloc c KernelIdeal.main_arg5)
      ∧ m' (rloc c ReferenceIdeal.main_arg6) = m (kloc c KernelIdeal.main_arg6))
include hag

/-- Equal arguments have equal chunks. -/
theorem ch_eq (c : Dev KernelIdeal.nD) : ReferenceIdeal.Scan.ch m' c = KernelIdeal.State.ch m c := by
  obtain ⟨e0, e1, e2, e3, e4, e5, e6⟩ := hag c
  funext h n
  unfold ReferenceIdeal.Scan.ch KernelIdeal.State.ch
  show chunkOf (m' (rloc c ReferenceIdeal.main_arg0)) (m' (rloc c ReferenceIdeal.main_arg1)) (m' (rloc c ReferenceIdeal.main_arg2)) (m' (rloc c ReferenceIdeal.main_arg3)) (m' (rloc c ReferenceIdeal.main_arg4)) (m' (rloc c ReferenceIdeal.main_arg5)) (m' (rloc c ReferenceIdeal.main_arg6)) h n = _
  rw [e0, e1, e2, e3, e4, e5, e6]

theorem eq_u (c : Dev KernelIdeal.nD) : (ReferenceIdeal.Scan.Fin1 m' c (Proc.devRef .tc ReferenceIdeal.main_v47) : KernelIdeal.S8x4096x128.Idx → EReal)
    = KernelIdeal.State.W3 m g c (Proc.devRef .tc KernelIdeal.main_v5_0) :=
  ext_rows fun n h i j => (ReferenceIdeal.Scan.res_u m' c n h i j).trans (by rw [ch_eq m m' hag c]; exact (KernelIdeal.State.res_u m g c n h i j).symm)
theorem eq_w (c : Dev KernelIdeal.nD) : (ReferenceIdeal.Scan.Fin1 m' c (Proc.devRef .tc ReferenceIdeal.main_v45) : KernelIdeal.S8x4096x128.Idx → EReal)
    = KernelIdeal.State.W3 m g c (Proc.devRef .tc KernelIdeal.main_v5_1) :=
  ext_rows fun n h i j => (ReferenceIdeal.Scan.res_w m' c n h i j).trans (by rw [ch_eq m m' hag c]; exact (KernelIdeal.State.res_w m g c n h i j).symm)
theorem eq_q (c : Dev KernelIdeal.nD) : (ReferenceIdeal.Scan.Fin1 m' c (Proc.devRef .tc ReferenceIdeal.main_v43) : KernelIdeal.S8x4096x128.Idx → EReal)
    = KernelIdeal.State.W3 m g c (Proc.devRef .tc KernelIdeal.main_v5_2) :=
  ext_rows fun n h i j => (ReferenceIdeal.Scan.res_q m' c n h i j).trans (by rw [ch_eq m m' hag c]; exact (KernelIdeal.State.res_q m g c n h i j).symm)
theorem eq_k (c : Dev KernelIdeal.nD) : (ReferenceIdeal.Scan.Fin1 m' c (Proc.devRef .tc ReferenceIdeal.main_v41) : KernelIdeal.S8x4096x128.Idx → EReal)
    = KernelIdeal.State.W3 m g c (Proc.devRef .tc KernelIdeal.main_v5_3) :=
  ext_rows fun n h i j => (ReferenceIdeal.Scan.res_k m' c n h i j).trans (by rw [ch_eq m m' hag c]; exact (KernelIdeal.State.res_k m g c n h i j).symm)
theorem eq_a (c : Dev KernelIdeal.nD) : (ReferenceIdeal.Scan.Fin1 m' c (Proc.devRef .tc ReferenceIdeal.main_v39) : KernelIdeal.S8x4096x128.Idx → EReal)
    = KernelIdeal.State.W3 m g c (Proc.devRef .tc KernelIdeal.main_v5_4) :=
  ext_rows fun n h i j => (ReferenceIdeal.Scan.res_a m' c n h i j).trans (by rw [ch_eq m m' hag c]; exact (KernelIdeal.State.res_a m g c n h i j).symm)
theorem eq_g (c : Dev KernelIdeal.nD) : (ReferenceIdeal.Scan.Fin1 m' c (Proc.devRef .tc ReferenceIdeal.main_v37) : KernelIdeal.S8x4096x128.Idx → EReal)
    = KernelIdeal.State.W3 m g c (Proc.devRef .tc KernelIdeal.main_v5_5) :=
  ext_rows fun n h i j => (ReferenceIdeal.Scan.res_g m' c n h i j).trans (by rw [ch_eq m m' hag c]; exact (KernelIdeal.State.res_g m g c n h i j).symm)

end Results

theorem frame_kernel : Cert.quiescent_Kernel (hKernel := Kernel.Gen.facts) := fun m g _ => by
  rw [KernelIdeal.State.table]
  exact (θ_run KernelIdeal.defs _ _).mono (fun _ h => h) (KernelIdeal.State.frame (F := Bits) m g)

theorem frame_ideal : Cert.quiescent_KernelIdeal (hKernelIdeal := KernelIdeal.Gen.facts) :=
  fun m g _ => (θ_run KernelIdeal.defs _ _).mono (fun _ h => h) (KernelIdeal.State.frame (F := Ideal) m g)

theorem frame_reference : Cert.quiescent_ReferenceIdeal (hReferenceIdeal := ReferenceIdeal.Gen.facts) :=
  fun m g _ => (θ_run ReferenceIdeal.defs _ _).mono
    (fun r h => ⟨fun c => ref_args m h c, sem_eq_zero_of_no_sems (by decide) r.2⟩) (ReferenceIdeal.Scan.run_fold (F := Ideal) m g)

theorem equal : Cert.algebraic_KernelIdeal_ReferenceIdeal (hKernelIdeal := KernelIdeal.Gen.facts) (hReferenceIdeal := ReferenceIdeal.Gen.facts) :=
  fun m g m' g' _ hag => ⟨fun c => KernelIdeal.State.W3 m g c (Proc.devRef .tc KernelIdeal.main_v5_0), fun c => KernelIdeal.State.W3 m g c (Proc.devRef .tc KernelIdeal.main_v5_1), fun c => KernelIdeal.State.W3 m g c (Proc.devRef .tc KernelIdeal.main_v5_2), fun c => KernelIdeal.State.W3 m g c (Proc.devRef .tc KernelIdeal.main_v5_3), fun c => KernelIdeal.State.W3 m g c (Proc.devRef .tc KernelIdeal.main_v5_4), fun c => KernelIdeal.State.W3 m g c (Proc.devRef .tc KernelIdeal.main_v5_5),
    (θ_run KernelIdeal.defs _ _).mono (fun r h c =>
      ⟨h.1 c _ (KernelIdeal.State.mem_uc KernelIdeal.main_v5_0 (by decide)),
       h.1 c _ (KernelIdeal.State.mem_uc KernelIdeal.main_v5_1 (by decide)),
       h.1 c _ (KernelIdeal.State.mem_uc KernelIdeal.main_v5_2 (by decide)),
       h.1 c _ (KernelIdeal.State.mem_uc KernelIdeal.main_v5_3 (by decide)),
       h.1 c _ (KernelIdeal.State.mem_uc KernelIdeal.main_v5_4 (by decide)),
       h.1 c _ (KernelIdeal.State.mem_uc KernelIdeal.main_v5_5 (by decide)),
       KernelIdeal.State.arg_end m g c (h.1 c) KernelIdeal.main_arg0 (by decide) (by decide),
       KernelIdeal.State.arg_end m g c (h.1 c) KernelIdeal.main_arg1 (by decide) (by decide),
       KernelIdeal.State.arg_end m g c (h.1 c) KernelIdeal.main_arg2 (by decide) (by decide),
       KernelIdeal.State.arg_end m g c (h.1 c) KernelIdeal.main_arg3 (by decide) (by decide),
       KernelIdeal.State.arg_end m g c (h.1 c) KernelIdeal.main_arg4 (by decide) (by decide),
       KernelIdeal.State.arg_end m g c (h.1 c) KernelIdeal.main_arg5 (by decide) (by decide),
       KernelIdeal.State.arg_end m g c (h.1 c) KernelIdeal.main_arg6 (by decide) (by decide)⟩)
      (KernelIdeal.State.run_held (F := Ideal) m g),
    (θ_run ReferenceIdeal.defs _ _).mono (fun r h c =>
      ⟨(h c ReferenceIdeal.main_v47 (by decide)).trans (eq_u m g m' hag c),
       (h c ReferenceIdeal.main_v45 (by decide)).trans (eq_w m g m' hag c),
       (h c ReferenceIdeal.main_v43 (by decide)).trans (eq_q m g m' hag c),
       (h c ReferenceIdeal.main_v41 (by decide)).trans (eq_k m g m' hag c),
       (h c ReferenceIdeal.main_v39 (by decide)).trans (eq_a m g m' hag c),
       (h c ReferenceIdeal.main_v37 (by decide)).trans (eq_g m g m' hag c),
       ref_args m' h c⟩)
      (ReferenceIdeal.Scan.run_fold (F := Ideal) m' g')⟩

theorem claim : Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  frame_kernel, frame_ideal, frame_reference,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  trivial, equal, trivial, equal2, trivial, equal3, trivial, equal4, trivial, equal5, trivial, equal6, trivial, equal7,
  preserves8, equal8, preserves9, equal9, preserves10, equal10, preserves11, equal11, preserves12, equal12, preserves13, equal13, trivial, equal14, trivial, equal15, trivial, equal16, trivial, equal17, trivial, equal18⟩

end Cert.Proof

end
